-- ==== Defs.lean ====
def Pre_Kernel [hPre_taps_inside : Cert.Pre_taps_inside.Facts] (m : (ℓ : Loc Cert.Kernel.nD Cert.Kernel.τ Cert.Kernel.sig) → Buf (Elt Bits) ℓ) : Prop :=
  ∀ c : Dev Cert.Kernel.nD,
    (Cert.Pre_taps_inside.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_taps_inside : Cert.Pre_taps_inside.Facts] (m : (ℓ : Loc Cert.KernelIdeal.nD Cert.KernelIdeal.τ Cert.KernelIdeal.sig) → Buf (Elt Ideal) ℓ) : Prop :=
  ∀ c : Dev Cert.KernelIdeal.nD,
    (Cert.Pre_taps_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_taps_inside [hPre_finite_taps_inside : Cert.Pre_finite_taps_inside.Facts] (m : (ℓ : Loc Cert.KernelIdeal.nD Cert.KernelIdeal.τ Cert.KernelIdeal.sig) → Buf (Elt Ideal) ℓ) : Prop :=
  ∀ c : Dev Cert.KernelIdeal.nD,
    (Cert.Pre_finite_taps_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_taps_inside [hPre_finite_taps_inside : Cert.Pre_finite_taps_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_taps_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_taps_inside : Cert.Pre_taps_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_taps_inside : Cert.Pre_taps_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_taps_inside [hKernelIdeal : Cert.KernelIdeal.Facts] [hPre_finite_taps_inside : Cert.Pre_finite_taps_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_taps_inside m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_taps_inside [hReferenceIdeal : Cert.ReferenceIdeal.Facts] [hPre_finite_taps_inside : Cert.Pre_finite_taps_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_taps_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_taps_inside [hKernelIdeal : Cert.KernelIdeal.Facts] [hReferenceIdeal : Cert.ReferenceIdeal.Facts] [hPre_finite_taps_inside : Cert.Pre_finite_taps_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_taps_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v177)) (v1 : (c : Dev Cert.KernelIdeal.nD) → Buf (Elt Ideal) ((c.tc : Thread Cert.KernelIdeal.nD Cert.KernelIdeal.τ).loc Cert.KernelIdeal.main_v178)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_v178) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_v59) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_v308) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_taps_inside : Cert.Pre_taps_inside.Facts) (hPre_finite_taps_inside : Cert.Pre_finite_taps_inside.Facts),
    quiescent_Kernel (hKernel := hKernel) (hPre_taps_inside := hPre_taps_inside)
    ∧ quiescent_KernelIdeal (hKernelIdeal := hKernelIdeal) (hPre_taps_inside := hPre_taps_inside)
    ∧ quiescent_KernelIdeal_pre_finite_taps_inside (hKernelIdeal := hKernelIdeal) (hPre_finite_taps_inside := hPre_finite_taps_inside)
    ∧ quiescent_ReferenceIdeal (hReferenceIdeal := hReferenceIdeal)
    ∧ quiescent_ReferenceIdeal_pre_finite_taps_inside (hReferenceIdeal := hReferenceIdeal) (hPre_finite_taps_inside := hPre_finite_taps_inside)
    ∧ preserves_Kernel_KernelIdeal
    ∧ algebraic_KernelIdeal_ReferenceIdeal_pre_finite_taps_inside (hKernelIdeal := hKernelIdeal) (hReferenceIdeal := hReferenceIdeal) (hPre_finite_taps_inside := hPre_finite_taps_inside)
-- ==== Pre_finite_taps_inside.lean ====
abbrev S4x3x2048x2048 : Shape := ⟨4, ![4, 3, 2048, 2048]⟩
abbrev S4x2 : Shape := ⟨2, ![4, 2]⟩
abbrev S4 : Shape := ⟨1, ![4]⟩
abbrev S_ : Shape := ⟨0, ![]⟩
abbrev S4x1 : Shape := ⟨2, ![4, 1]⟩
abbrev S4x3 : Shape := ⟨2, ![4, 3]⟩
abbrev S4x1x3 : Shape := ⟨3, ![4, 1, 3]⟩
abbrev S4x3x3 : Shape := ⟨3, ![4, 3, 3]⟩
abbrev S4x3x3x1 : Shape := ⟨4, ![4, 3, 3, 1]⟩
abbrev S4x1x3x3 : Shape := ⟨4, ![4, 1, 3, 3]⟩
abbrev S4x3x3x3 : Shape := ⟨4, ![4, 3, 3, 3]⟩
abbrev S256 : Shape := ⟨1, ![256]⟩
abbrev S256x256 : Shape := ⟨2, ![256, 256]⟩
abbrev S65536 : Shape := ⟨1, ![65536]⟩
abbrev S65536x1 : Shape := ⟨2, ![65536, 1]⟩
abbrev S65536x2 : Shape := ⟨2, ![65536, 2]⟩
abbrev S1x65536x2 : Shape := ⟨3, ![1, 65536, 2]⟩
abbrev S4x65536x2 : Shape := ⟨3, ![4, 65536, 2]⟩
abbrev S4x2x2 : Shape := ⟨3, ![4, 2, 2]⟩
abbrev S4x1x2x2 : Shape := ⟨4, ![4, 1, 2, 2]⟩
abbrev S4x65536x1x2 : Shape := ⟨4, ![4, 65536, 1, 2]⟩
abbrev S4x65536x2x2 : Shape := ⟨4, ![4, 65536, 2, 2]⟩
abbrev S4x2x1 : Shape := ⟨3, ![4, 2, 1]⟩
abbrev S4x1x2 : Shape := ⟨3, ![4, 1, 2]⟩
abbrev S4x256x256x2 : Shape := ⟨4, ![4, 256, 256, 2]⟩
abbrev S4x1x256x1 : Shape := ⟨4, ![4, 1, 256, 1]⟩
abbrev S4x256 : Shape := ⟨2, ![4, 256]⟩
abbrev S4x256x1x1 : Shape := ⟨4, ![4, 256, 1, 1]⟩

class Facts : Prop where
  bcast_S_S4 : S_.BroadcastsInDim S4 (![] : Fin 0 → Fin S4.rank)
  slices_S4x2_S4x1_0_0 : S4x2.Slices ![0, 0] S4x1
  shapeCasts_S4x1_S4 : S4x1.ShapeCasts S4
  slices_S4x2_S4x1_0_1 : S4x2.Slices ![0, 1] S4x1
  bcast_S4_S4x1_0 : S4.BroadcastsInDim S4x1 (![0] : Fin 1 → Fin S4x1.rank)
  concatenates_S4x1_S4x1_S4x1_S4x3_d1 : Shape.Concatenates [S4x1, S4x1, S4x1] S4x3 1
  bcast_S4x3_S4x1x3_0_2 : S4x3.BroadcastsInDim S4x1x3 (![0, 2] : Fin 2 → Fin S4x1x3.rank)
  concatenates_S4x1x3_S4x1x3_S4x1x3_S4x3x3_d1 : Shape.Concatenates [S4x1x3, S4x1x3, S4x1x3] S4x3x3 1
  bcast_S4x3x3_S4x3x3x1_0_1_2 : S4x3x3.BroadcastsInDim S4x3x3x1 (![0, 1, 2] : Fin 3 → Fin S4x3x3x1.rank)
  bcast_S4x3x3_S4x1x3x3_0_2_3 : S4x3x3.BroadcastsInDim S4x1x3x3 (![0, 2, 3] : Fin 3 → Fin S4x1x3x3.rank)
  bcast_S4x3x3x1_S4x3x3x3_0_1_2_3 : S4x3x3x1.BroadcastsInDim S4x3x3x3 (![0, 1, 2, 3] : Fin 4 → Fin S4x3x3x3.rank)
  bcast_S4x1x3x3_S4x3x3x3_0_1_2_3 : S4x1x3x3.BroadcastsInDim S4x3x3x3 (![0, 1, 2, 3] : Fin 4 → Fin S4x3x3x3.rank)
  reducesTo_S4x3x3x3_S4x3x3_d2 : S4x3x3x3.ReducesTo [2] S4x3x3
  h_S_ : 0 < S_.numel
  bcast_S_S256 : S_.BroadcastsInDim S256 (![] : Fin 0 → Fin S256.rank)
  bcast_S256_S256x256_0 : S256.BroadcastsInDim S256x256 (![0] : Fin 1 → Fin S256x256.rank)
  bcast_S256_S256x256_1 : S256.BroadcastsInDim S256x256 (![1] : Fin 1 → Fin S256x256.rank)
  shapeCasts_S256x256_S65536 : S256x256.ShapeCasts S65536
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S65536x2_S1x65536x2_1_2 : S65536x2.BroadcastsInDim S1x65536x2 (![1, 2] : Fin 2 → Fin S1x65536x2.rank)
  bcast_S1x65536x2_S4x65536x2_0_1_2 : S1x65536x2.BroadcastsInDim S4x65536x2 (![0, 1, 2] : Fin 3 → Fin S4x65536x2.rank)
  slices_S4x3x3_S4x2x2_0_0_0 : S4x3x3.Slices ![0, 0, 0] S4x2x2
  bcast_S4x2x2_S4x1x2x2_0_2_3 : S4x2x2.BroadcastsInDim S4x1x2x2 (![0, 2, 3] : Fin 3 → Fin S4x1x2x2.rank)
  bcast_S4x65536x2_S4x65536x1x2_0_1_3 : S4x65536x2.BroadcastsInDim S4x65536x1x2 (![0, 1, 3] : Fin 3 → Fin S4x65536x1x2.rank)
  bcast_S4x1x2x2_S4x65536x2x2_0_1_2_3 : S4x1x2x2.BroadcastsInDim S4x65536x2x2 (![0, 1, 2, 3] : Fin 4 → Fin S4x65536x2x2.rank)
  bcast_S4x65536x1x2_S4x65536x2x2_0_1_2_3 : S4x65536x1x2.BroadcastsInDim S4x65536x2x2 (![0, 1, 2, 3] : Fin 4 → Fin S4x65536x2x2.rank)
  reducesTo_S4x65536x2x2_S4x65536x2_d3 : S4x65536x2x2.ReducesTo [3] S4x65536x2
  slices_S4x3x3_S4x2x1_0_0_2 : S4x3x3.Slices ![0, 0, 2] S4x2x1
  shapeCasts_S4x2x1_S4x2 : S4x2x1.ShapeCasts S4x2
  bcast_S4x2_S4x1x2_0_2 : S4x2.BroadcastsInDim S4x1x2 (![0, 2] : Fin 2 → Fin S4x1x2.rank)
  bcast_S4x1x2_S4x65536x2_0_1_2 : S4x1x2.BroadcastsInDim S4x65536x2 (![0, 1, 2] : Fin 3 → Fin S4x65536x2.rank)
  shapeCasts_S4x65536x2_S4x256x256x2 : S4x65536x2.ShapeCasts S4x256x256x2
  transposes_S4x256x256x2_S4x256x256x2_0_2_1_3 : S4x256x256x2.Transposes [0, 2, 1, 3] S4x256x256x2
  slices_S4x256x256x2_S4x1x256x1_0_0_0_0 : S4x256x256x2.Slices ![0, 0, 0, 0] S4x1x256x1
  shapeCasts_S4x1x256x1_S4x256 : S4x1x256x1.ShapeCasts S4x256
  bcast_S_S4x256 : S_.BroadcastsInDim S4x256 (![] : Fin 0 → Fin S4x256.rank)
  slices_S4x256x256x2_S4x256x1x1_0_0_0_1 : S4x256x256x2.Slices ![0, 0, 0, 1] S4x256x1x1
  shapeCasts_S4x256x1x1_S4x256 : S4x256x1x1.ShapeCasts S4x256
  slices_S4x256_S4x1_0_0 : S4x256.Slices ![0, 0] S4x1
  bcast_S4x1_S4x256_0_1 : S4x1.BroadcastsInDim S4x256 (![0, 1] : Fin 2 → Fin S4x256.rank)
  reducesTo_S4_S_d0 : S4.ReducesTo [0] S_
  reducesTo_S4x256_S_d0_1 : S4x256.ReducesTo [0, 1] S_
  bcast_S_S4x3x2048x2048 : S_.BroadcastsInDim S4x3x2048x2048 (![] : Fin 0 → Fin S4x3x2048x2048.rank)
  reducesTo_S4x3x2048x2048_S_d0_1_2_3 : S4x3x2048x2048.ReducesTo [0, 1, 2, 3] S_

variable [Facts]

def fn_part6 {F : FTy → Type} [FloatOps F] (main_arg0 : FVec F S4x3x2048x2048 .f32) (main_v101 : IVec S4x256 32) (main_v112 : IVec S4x256 32) (main_v119 : IVec S_ 1) (main_v120 : IVec S4x256 32) : IVec S_ 1 :=
  let main_v121 : IVec S4x256 1 := cmpi .sle main_v101 main_v120
  let main_c_21 : IVec S_ 1 := constantI S_ 1 1#1
  let main_v122 : IVec S_ 1 := (fun x v => Host.reduce IntOp.andi x v reducesTo_S4x256_S_d0_1 h_S_) main_v121 main_c_21
  let main_v123 : IVec S_ 1 := andi main_v119 main_v122
  let main_c_22 : IVec S_ 32 := constantI S_ 32 0#32
  let main_v124 : IVec S4x256 32 := broadcastInDim S4x256 ![] bcast_S_S4x256 main_c_22
  let main_v125 : IVec S4x256 1 := cmpi .sge main_v112 main_v124
  let main_c_23 : IVec S_ 1 := constantI S_ 1 1#1
  let main_v126 : IVec S_ 1 := (fun x v => Host.reduce IntOp.andi x v reducesTo_S4x256_S_d0_1 h_S_) main_v125 main_c_23
  let main_v127 : IVec S_ 1 := andi main_v123 main_v126
  let main_c_24 : IVec S_ 32 := constantI S_ 32 1022#32
  let main_v128 : IVec S4x256 32 := broadcastInDim S4x256 ![] bcast_S_S4x256 main_c_24
  let main_v129 : IVec S4x256 1 := cmpi .sle main_v112 main_v128
  let main_c_25 : IVec S_ 1 := constantI S_ 1 1#1
  let main_v130 : IVec S_ 1 := (fun x v => Host.reduce IntOp.andi x v reducesTo_S4x256_S_d0_1 h_S_) main_v129 main_c_25
  let main_v131 : IVec S_ 1 := andi main_v127 main_v130
  let main_v132 : FVec F S4x3x2048x2048 .f32 := Host.absf main_arg0
  let main_cst_26 : FVec F S_ .f32 := constant S_ .f32 0x7F800000#32
  let main_v133 : FVec F S4x3x2048x2048 .f32 := broadcastInDim S4x3x2048x2048 ![] bcast_S_S4x3x2048x2048 main_cst_26
  let main_v134 : IVec S4x3x2048x2048 1 := cmpf .olt main_v132 main_v133
  let main_c_27 : IVec S_ 1 := constantI S_ 1 1#1
  let main_v135 : IVec S_ 1 := (fun x v => Host.reduce IntOp.andi x v reducesTo_S4x3x2048x2048_S_d0_1_2_3 h_S_) main_v134 main_c_27
  let main_v136 : IVec S_ 1 := andi main_v131 main_v135
  main_v136

def fn_part5 {F : FTy → Type} [FloatOps F] (main_arg0 : FVec F S4x3x2048x2048 .f32) (main_v99 : IVec S4x256 32) (main_v101 : IVec S4x256 32) (main_v103 : IVec S4 32) (main_c : IVec S_ 32) : IVec S_ 1 :=
  let main_v104 : IVec S4 32 := broadcastInDim S4 ![] bcast_S_S4 main_c
  let main_v105 : IVec S4 32 := Host.shrsi main_v103 main_v104
  let main_c_14 : IVec S_ 32 := constantI S_ 32 8#32
  let main_v106 : IVec S4 32 := broadcastInDim S4 ![] bcast_S_S4 main_c_14
  let main_v107 : IVec S4 32 := minsi main_v105 main_v106
  let main_c_15 : IVec S_ 32 := constantI S_ 32 7#32
  let main_v108 : IVec S4 32 := broadcastInDim S4 ![] bcast_S_S4 main_c_15
  let main_v109 : IVec S4 32 := Host.shli main_v107 main_v108
  let main_v110 : IVec S4x1 32 := broadcastInDim S4x1 ![0] bcast_S4_S4x1_0 main_v109
  let main_v111 : IVec S4x256 32 := broadcastInDim S4x256 ![0, 1] bcast_S4x1_S4x256_0_1 main_v110
  let main_v112 : IVec S4x256 32 := subi main_v99 main_v111
  let main_c_16 : IVec S_ 32 := constantI S_ 32 0#32
  let main_v113 : IVec S4 32 := broadcastInDim S4 ![] bcast_S_S4 main_c_16
  let main_v114 : IVec S4 1 := cmpi .sge main_v107 main_v113
  let main_c_17 : IVec S_ 1 := constantI S_ 1 1#1
  let main_v115 : IVec S_ 1 := (fun x v => Host.reduce IntOp.andi x v reducesTo_S4_S_d0 h_S_) main_v114 main_c_17
  let main_c_18 : IVec S_ 32 := constantI S_ 32 0#32
  let main_v116 : IVec S4x256 32 := broadcastInDim S4x256 ![] bcast_S_S4x256 main_c_18
  let main_v117 : IVec S4x256 1 := cmpi .sge main_v101 main_v116
  let main_c_19 : IVec S_ 1 := constantI S_ 1 1#1
  let main_v118 : IVec S_ 1 := (fun x v => Host.reduce IntOp.andi x v reducesTo_S4x256_S_d0_1 h_S_) main_v117 main_c_19
  let main_v119 : IVec S_ 1 := andi main_v115 main_v118
  let main_c_20 : IVec S_ 32 := constantI S_ 32 2046#32
  let main_v120 : IVec S4x256 32 := broadcastInDim S4x256 ![] bcast_S_S4x256 main_c_20
  fn_part6 (F := F) main_arg0 main_v101 main_v112 main_v119 main_v120

def fn_part4 {F : FTy → Type} [FloatOps F] (main_arg0 : FVec F S4x3x2048x2048 .f32) (main_v81 : FVec F S4x256x256x2 .f32) (main_v85 : FVec F S4x256 .f32) : IVec S_ 1 :=
  let main_cst_9 : FVec F S_ .f32 := constant S_ .f32 0x44FFE000#32
  let main_v86 : FVec F S4x256 .f32 := broadcastInDim S4x256 ![] bcast_S_S4x256 main_cst_9
  let main_v87 : FVec F S4x256 .f32 := mulf main_v85 main_v86
  let main_cst_10 : FVec F S_ .f32 := constant S_ .f32 0x40000000#32
  let main_v88 : FVec F S4x256 .f32 := broadcastInDim S4x256 ![] bcast_S_S4x256 main_cst_10
  let main_v89 : FVec F S4x256 .f32 := Host.divf main_v87 main_v88
  let main_v90 : FVec F S4x256x1x1 .f32 := (extractStridedSlice S4x256x1x1 ![0, 0, 0, 1] · slices_S4x256x256x2_S4x256x1x1_0_0_0_1) main_v81
  let main_v91 : FVec F S4x256 .f32 := shapeCast S4x256 main_v90 shapeCasts_S4x256x1x1_S4x256
  let main_cst_11 : FVec F S_ .f32 := constant S_ .f32 0x3F800000#32
  let main_v92 : FVec F S4x256 .f32 := broadcastInDim S4x256 ![] bcast_S_S4x256 main_cst_11
  let main_v93 : FVec F S4x256 .f32 := addf main_v91 main_v92
  let main_cst_12 : FVec F S_ .f32 := constant S_ .f32 0x44FFE000#32
  let main_v94 : FVec F S4x256 .f32 := broadcastInDim S4x256 ![] bcast_S_S4x256 main_cst_12
  let main_v95 : FVec F S4x256 .f32 := mulf main_v93 main_v94
  let main_cst_13 : FVec F S_ .f32 := constant S_ .f32 0x40000000#32
  let main_v96 : FVec F S4x256 .f32 := broadcastInDim S4x256 ![] bcast_S_S4x256 main_cst_13
  let main_v97 : FVec F S4x256 .f32 := Host.divf main_v95 main_v96
  let main_v98 : FVec F S4x256 .f32 := Host.floor main_v89
  let main_v99 : IVec S4x256 32 := fptosi 32 main_v98
  let main_v100 : FVec F S4x256 .f32 := Host.floor main_v97
  let main_v101 : IVec S4x256 32 := fptosi 32 main_v100
  let main_v102 : IVec S4x1 32 := (extractStridedSlice S4x1 ![0, 0] · slices_S4x256_S4x1_0_0) main_v99
  let main_v103 : IVec S4 32 := shapeCast S4 main_v102 shapeCasts_S4x1_S4
  let main_c : IVec S_ 32 := constantI S_ 32 7#32
  fn_part5 (F := F) main_arg0 main_v99 main_v101 main_v103 main_c

def fn_part3 {F : FTy → Type} [FloatOps F] (main_arg0 : FVec F S4x3x2048x2048 .f32) (main_v55 : FVec F S4x3x3 .f32) (main_v62 : FVec F S65536 .f32) (main_v63 : FVec F S65536x1 .f32) : IVec S_ 1 :=
  let main_v64 : FVec F S65536x1 .f32 := broadcastInDim S65536x1 ![0] bcast_S65536_S65536x1_0 main_v62
  let main_v65 : FVec F S65536x2 .f32 := (fun a b => concatenate S65536x2 1 [⟨S65536x1, a⟩, ⟨S65536x1, b⟩] concatenates_S65536x1_S65536x1_S65536x2_d1) main_v63 main_v64
  let main_v66 : FVec F S1x65536x2 .f32 := broadcastInDim S1x65536x2 ![1, 2] bcast_S65536x2_S1x65536x2_1_2 main_v65
  let main_v67 : FVec F S4x65536x2 .f32 := broadcastInDim S4x65536x2 ![0, 1, 2] bcast_S1x65536x2_S4x65536x2_0_1_2 main_v66
  let main_v68 : FVec F S4x2x2 .f32 := (extractStridedSlice S4x2x2 ![0, 0, 0] · slices_S4x3x3_S4x2x2_0_0_0) main_v55
  let main_v69 : FVec F S4x1x2x2 .f32 := broadcastInDim S4x1x2x2 ![0, 2, 3] bcast_S4x2x2_S4x1x2x2_0_2_3 main_v68
  let main_v70 : FVec F S4x65536x1x2 .f32 := broadcastInDim S4x65536x1x2 ![0, 1, 3] bcast_S4x65536x2_S4x65536x1x2_0_1_3 main_v67
  let main_v71 : FVec F S4x65536x2x2 .f32 := broadcastInDim S4x65536x2x2 ![0, 1, 2, 3] bcast_S4x1x2x2_S4x65536x2x2_0_1_2_3 main_v69
  let main_v72 : FVec F S4x65536x2x2 .f32 := broadcastInDim S4x65536x2x2 ![0, 1, 2, 3] bcast_S4x65536x1x2_S4x65536x2x2_0_1_2_3 main_v70
  let main_v73 : FVec F S4x65536x2x2 .f32 := mulf main_v71 main_v72
  let main_cst_7 : FVec F S_ .f32 := constant S_ .f32 0x00000000#32
  let main_v74 : FVec F S4x65536x2 .f32 := (fun x v => Host.reduceAdd x v reducesTo_S4x65536x2x2_S4x65536x2_d3 h_S_) main_v73 main_cst_7
  let main_v75 : FVec F S4x2x1 .f32 := (extractStridedSlice S4x2x1 ![0, 0, 2] · slices_S4x3x3_S4x2x1_0_0_2) main_v55
  let main_v76 : FVec F S4x2 .f32 := shapeCast S4x2 main_v75 shapeCasts_S4x2x1_S4x2
  let main_v77 : FVec F S4x1x2 .f32 := broadcastInDim S4x1x2 ![0, 2] bcast_S4x2_S4x1x2_0_2 main_v76
  let main_v78 : FVec F S4x65536x2 .f32 := broadcastInDim S4x65536x2 ![0, 1, 2] bcast_S4x1x2_S4x65536x2_0_1_2 main_v77
  let main_v79 : FVec F S4x65536x2 .f32 := addf main_v74 main_v78
  let main_v80 : FVec F S4x256x256x2 .f32 := shapeCast S4x256x256x2 main_v79 shapeCasts_S4x65536x2_S4x256x256x2
  let main_v81 : FVec F S4x256x256x2 .f32 := (transpose S4x256x256x2 [0, 2, 1, 3] · transposes_S4x256x256x2_S4x256x256x2_0_2_1_3) main_v80
  let main_v82 : FVec F S4x1x256x1 .f32 := (extractStridedSlice S4x1x256x1 ![0, 0, 0, 0] · slices_S4x256x256x2_S4x1x256x1_0_0_0_0) main_v81
  let main_v83 : FVec F S4x256 .f32 := shapeCast S4x256 main_v82 shapeCasts_S4x1x256x1_S4x256
  let main_cst_8 : FVec F S_ .f32 := constant S_ .f32 0x3F800000#32
  let main_v84 : FVec F S4x256 .f32 := broadcastInDim S4x256 ![] bcast_S_S4x256 main_cst_8
  let main_v85 : FVec F S4x256 .f32 := addf main_v83 main_v84
  fn_part4 (F := F) main_arg0 main_v81 main_v85

def fn_part2 {F : FTy → Type} [FloatOps F] (main_arg0 : FVec F S4x3x2048x2048 .f32) (main_v0 : FVec F S4 .f32) (main_v1 : FVec F S4 .f32) (main_v27 : FVec F S4x3x3 .f32) (main_v36 : FVec F S4x3 .f32) (main_v41 : FVec F S4x3 .f32) : IVec S_ 1 :=
  let main_v42 : FVec F S4x1 .f32 := broadcastInDim S4x1 ![0] bcast_S4_S4x1_0 main_v0
  let main_v43 : FVec F S4x1 .f32 := broadcastInDim S4x1 ![0] bcast_S4_S4x1_0 main_v0
  let main_v44 : FVec F S4x1 .f32 := broadcastInDim S4x1 ![0] bcast_S4_S4x1_0 main_v1
  let main_v45 : FVec F S4x3 .f32 := concatenate S4x3 1 [⟨S4x1, main_v42⟩, ⟨S4x1, main_v43⟩, ⟨S4x1, main_v44⟩] concatenates_S4x1_S4x1_S4x1_S4x3_d1
  let main_v46 : FVec F S4x1x3 .f32 := broadcastInDim S4x1x3 ![0, 2] bcast_S4x3_S4x1x3_0_2 main_v36
  let main_v47 : FVec F S4x1x3 .f32 := broadcastInDim S4x1x3 ![0, 2] bcast_S4x3_S4x1x3_0_2 main_v41
  let main_v48 : FVec F S4x1x3 .f32 := broadcastInDim S4x1x3 ![0, 2] bcast_S4x3_S4x1x3_0_2 main_v45
  let main_v49 : FVec F S4x3x3 .f32 := concatenate S4x3x3 1 [⟨S4x1x3, main_v46⟩, ⟨S4x1x3, main_v47⟩, ⟨S4x1x3, main_v48⟩] concatenates_S4x1x3_S4x1x3_S4x1x3_S4x3x3_d1
  let main_v50 : FVec F S4x3x3x1 .f32 := broadcastInDim S4x3x3x1 ![0, 1, 2] bcast_S4x3x3_S4x3x3x1_0_1_2 main_v49
  let main_v51 : FVec F S4x1x3x3 .f32 := broadcastInDim S4x1x3x3 ![0, 2, 3] bcast_S4x3x3_S4x1x3x3_0_2_3 main_v27
  let main_v52 : FVec F S4x3x3x3 .f32 := broadcastInDim S4x3x3x3 ![0, 1, 2, 3] bcast_S4x3x3x1_S4x3x3x3_0_1_2_3 main_v50
  let main_v53 : FVec F S4x3x3x3 .f32 := broadcastInDim S4x3x3x3 ![0, 1, 2, 3] bcast_S4x1x3x3_S4x3x3x3_0_1_2_3 main_v51
  let main_v54 : FVec F S4x3x3x3 .f32 := mulf main_v52 main_v53
  let main_cst_5 : FVec F S_ .f32 := constant S_ .f32 0x00000000#32
  let main_v55 : FVec F S4x3x3 .f32 := (fun x v => Host.reduceAdd x v reducesTo_S4x3x3x3_S4x3x3_d2 h_S_) main_v54 main_cst_5
  let main_v56 : FVec F S256 .f32 := sitofp .f32 (iotaInDim S256 32 0)
  let main_cst_6 : FVec F S_ .f32 := constant S_ .f32 0x437F0000#32
  let main_v57 : FVec F S256 .f32 := broadcastInDim S256 ![] bcast_S_S256 main_cst_6
  let main_v58 : FVec F S256 .f32 := Host.divf main_v56 main_v57
  let main_v59 : FVec F S256x256 .f32 := broadcastInDim S256x256 ![0] bcast_S256_S256x256_0 main_v58
  let main_v60 : FVec F S256x256 .f32 := broadcastInDim S256x256 ![1] bcast_S256_S256x256_1 main_v58
  let main_v61 : FVec F S65536 .f32 := shapeCast S65536 main_v59 shapeCasts_S256x256_S65536
  let main_v62 : FVec F S65536 .f32 := shapeCast S65536 main_v60 shapeCasts_S256x256_S65536
  let main_v63 : FVec F S65536x1 .f32 := broadcastInDim S65536x1 ![0] bcast_S65536_S65536x1_0 main_v61
  fn_part3 (F := F) main_arg0 main_v55 main_v62 main_v63

def fn_part1 {F : FTy → Type} [FloatOps F] (main_arg0 : FVec F S4x3x2048x2048 .f32) (main_v0 : FVec F S4 .f32) (main_v1 : FVec F S4 .f32) (main_v12 : FVec F S4x3 .f32) (main_v19 : FVec F S4x3 .f32) : IVec S_ 1 :=
  let main_v20 : FVec F S4x1 .f32 := broadcastInDim S4x1 ![0] bcast_S4_S4x1_0 main_v0
  let main_v21 : FVec F S4x1 .f32 := broadcastInDim S4x1 ![0] bcast_S4_S4x1_0 main_v0
  let main_v22 : FVec F S4x1 .f32 := broadcastInDim S4x1 ![0] bcast_S4_S4x1_0 main_v1
  let main_v23 : FVec F S4x3 .f32 := concatenate S4x3 1 [⟨S4x1, main_v20⟩, ⟨S4x1, main_v21⟩, ⟨S4x1, main_v22⟩] concatenates_S4x1_S4x1_S4x1_S4x3_d1
  let main_v24 : FVec F S4x1x3 .f32 := broadcastInDim S4x1x3 ![0, 2] bcast_S4x3_S4x1x3_0_2 main_v12
  let main_v25 : FVec F S4x1x3 .f32 := broadcastInDim S4x1x3 ![0, 2] bcast_S4x3_S4x1x3_0_2 main_v19
  let main_v26 : FVec F S4x1x3 .f32 := broadcastInDim S4x1x3 ![0, 2] bcast_S4x3_S4x1x3_0_2 main_v23
  let main_v27 : FVec F S4x3x3 .f32 := concatenate S4x3x3 1 [⟨S4x1x3, main_v24⟩, ⟨S4x1x3, main_v25⟩, ⟨S4x1x3, main_v26⟩] concatenates_S4x1x3_S4x1x3_S4x1x3_S4x3x3_d1
  let main_cst_3 : FVec F S_ .f32 := constant S_ .f32 0x3A801002#32
  let main_v28 : FVec F S4 .f32 := broadcastInDim S4 ![] bcast_S_S4 main_cst_3
  let main_v29 : FVec F S4 .f32 := mulf main_v28 main_v1
  let main_cst_4 : FVec F S_ .f32 := constant S_ .f32 0x3A801002#32
  let main_v30 : FVec F S4 .f32 := broadcastInDim S4 ![] bcast_S_S4 main_cst_4
  let main_v31 : FVec F S4 .f32 := mulf main_v30 main_v1
  let main_v32 : FVec F S4 .f32 := Host.negf main_v1
  let main_v33 : FVec F S4x1 .f32 := broadcastInDim S4x1 ![0] bcast_S4_S4x1_0 main_v29
  let main_v34 : FVec F S4x1 .f32 := broadcastInDim S4x1 ![0] bcast_S4_S4x1_0 main_v0
  let main_v35 : FVec F S4x1 .f32 := broadcastInDim S4x1 ![0] bcast_S4_S4x1_0 main_v32
  let main_v36 : FVec F S4x3 .f32 := concatenate S4x3 1 [⟨S4x1, main_v33⟩, ⟨S4x1, main_v34⟩, ⟨S4x1, main_v35⟩] concatenates_S4x1_S4x1_S4x1_S4x3_d1
  let main_v37 : FVec F S4 .f32 := Host.negf main_v1
  let main_v38 : FVec F S4x1 .f32 := broadcastInDim S4x1 ![0] bcast_S4_S4x1_0 main_v0
  let main_v39 : FVec F S4x1 .f32 := broadcastInDim S4x1 ![0] bcast_S4_S4x1_0 main_v31
  let main_v40 : FVec F S4x1 .f32 := broadcastInDim S4x1 ![0] bcast_S4_S4x1_0 main_v37
  let main_v41 : FVec F S4x3 .f32 := concatenate S4x3 1 [⟨S4x1, main_v38⟩, ⟨S4x1, main_v39⟩, ⟨S4x1, main_v40⟩] concatenates_S4x1_S4x1_S4x1_S4x3_d1
  fn_part2 (F := F) main_arg0 main_v0 main_v1 main_v27 main_v36 main_v41

def fn {F : FTy → Type} [FloatOps F] (main_arg0 : FVec F S4x3x2048x2048 .f32) (main_arg1 : FVec F S4x2 .f32) (main_arg2 : FVec F S4 .f32) : IVec S_ 1 :=
  let main_cst : FVec F S_ .f32 := constant S_ .f32 0x00000000#32
  let main_v0 : FVec F S4 .f32 := broadcastInDim S4 ![] bcast_S_S4 main_cst
  let main_cst_0 : FVec F S_ .f32 := constant S_ .f32 0x3F800000#32
  let main_v1 : FVec F S4 .f32 := broadcastInDim S4 ![] bcast_S_S4 main_cst_0
  let main_v2 : FVec F S4x1 .f32 := (extractStridedSlice S4x1 ![0, 0] · slices_S4x2_S4x1_0_0) main_arg1
  let main_v3 : FVec F S4 .f32 := shapeCast S4 main_v2 shapeCasts_S4x1_S4
  let main_v4 : FVec F S4x1 .f32 := (extractStridedSlice S4x1 ![0, 1] · slices_S4x2_S4x1_0_1) main_arg1
  let main_v5 : FVec F S4 .f32 := shapeCast S4 main_v4 shapeCasts_S4x1_S4
  let main_cst_1 : FVec F S_ .f32 := constant S_ .f32 0x3F000000#32
  let main_v6 : FVec F S4 .f32 := broadcastInDim S4 ![] bcast_S_S4 main_cst_1
  let main_v7 : FVec F S4 .f32 := mulf main_arg2 main_v6
  let main_v8 : FVec F S4 .f32 := subf main_v3 main_v7
  let main_v9 : FVec F S4x1 .f32 := broadcastInDim S4x1 ![0] bcast_S4_S4x1_0 main_arg2
  let main_v10 : FVec F S4x1 .f32 := broadcastInDim S4x1 ![0] bcast_S4_S4x1_0 main_v0
  let main_v11 : FVec F S4x1 .f32 := broadcastInDim S4x1 ![0] bcast_S4_S4x1_0 main_v8
  let main_v12 : FVec F S4x3 .f32 := concatenate S4x3 1 [⟨S4x1, main_v9⟩, ⟨S4x1, main_v10⟩, ⟨S4x1, main_v11⟩] concatenates_S4x1_S4x1_S4x1_S4x3_d1
  let main_cst_2 : FVec F S_ .f32 := constant S_ .f32 0x3F000000#32
  let main_v13 : FVec F S4 .f32 := broadcastInDim S4 ![] bcast_S_S4 main_cst_2
  let main_v14 : FVec F S4 .f32 := mulf main_arg2 main_v13
  let main_v15 : FVec F S4 .f32 := subf main_v5 main_v14
  let main_v16 : FVec F S4x1 .f32 := broadcastInDim S4x1 ![0] bcast_S4_S4x1_0 main_v0
  let main_v17 : FVec F S4x1 .f32 := broadcastInDim S4x1 ![0] bcast_S4_S4x1_0 main_arg2
  let main_v18 : FVec F S4x1 .f32 := broadcastInDim S4x1 ![0] bcast_S4_S4x1_0 main_v15
  let main_v19 : FVec F S4x3 .f32 := concatenate S4x3 1 [⟨S4x1, main_v16⟩, ⟨S4x1, main_v17⟩, ⟨S4x1, main_v18⟩] concatenates_S4x1_S4x1_S4x1_S4x3_d1
  fn_part1 (F := F) main_arg0 main_v0 main_v1 main_v12 main_v19
-- ==== Pre_taps_inside.lean ====
abbrev S4x3x2048x2048 : Shape := ⟨4, ![4, 3, 2048, 2048]⟩
abbrev S4x2 : Shape := ⟨2, ![4, 2]⟩
abbrev S4 : Shape := ⟨1, ![4]⟩
abbrev S_ : Shape := ⟨0, ![]⟩
abbrev S4x1 : Shape := ⟨2, ![4, 1]⟩
abbrev S4x3 : Shape := ⟨2, ![4, 3]⟩
abbrev S4x1x3 : Shape := ⟨3, ![4, 1, 3]⟩
abbrev S4x3x3 : Shape := ⟨3, ![4, 3, 3]⟩
abbrev S4x3x3x1 : Shape := ⟨4, ![4, 3, 3, 1]⟩
abbrev S4x1x3x3 : Shape := ⟨4, ![4, 1, 3, 3]⟩
abbrev S4x3x3x3 : Shape := ⟨4, ![4, 3, 3, 3]⟩
abbrev S256 : Shape := ⟨1, ![256]⟩
abbrev S256x256 : Shape := ⟨2, ![256, 256]⟩
abbrev S65536 : Shape := ⟨1, ![65536]⟩
abbrev S65536x1 : Shape := ⟨2, ![65536, 1]⟩
abbrev S65536x2 : Shape := ⟨2, ![65536, 2]⟩
abbrev S1x65536x2 : Shape := ⟨3, ![1, 65536, 2]⟩
abbrev S4x65536x2 : Shape := ⟨3, ![4, 65536, 2]⟩
abbrev S4x2x2 : Shape := ⟨3, ![4, 2, 2]⟩
abbrev S4x1x2x2 : Shape := ⟨4, ![4, 1, 2, 2]⟩
abbrev S4x65536x1x2 : Shape := ⟨4, ![4, 65536, 1, 2]⟩
abbrev S4x65536x2x2 : Shape := ⟨4, ![4, 65536, 2, 2]⟩
abbrev S4x2x1 : Shape := ⟨3, ![4, 2, 1]⟩
abbrev S4x1x2 : Shape := ⟨3, ![4, 1, 2]⟩
abbrev S4x256x256x2 : Shape := ⟨4, ![4, 256, 256, 2]⟩
abbrev S4x1x256x1 : Shape := ⟨4, ![4, 1, 256, 1]⟩
abbrev S4x256 : Shape := ⟨2, ![4, 256]⟩
abbrev S4x256x1x1 : Shape := ⟨4, ![4, 256, 1, 1]⟩

class Facts : Prop where
  bcast_S_S4 : S_.BroadcastsInDim S4 (![] : Fin 0 → Fin S4.rank)
  slices_S4x2_S4x1_0_0 : S4x2.Slices ![0, 0] S4x1
  shapeCasts_S4x1_S4 : S4x1.ShapeCasts S4
  slices_S4x2_S4x1_0_1 : S4x2.Slices ![0, 1] S4x1
  bcast_S4_S4x1_0 : S4.BroadcastsInDim S4x1 (![0] : Fin 1 → Fin S4x1.rank)
  concatenates_S4x1_S4x1_S4x1_S4x3_d1 : Shape.Concatenates [S4x1, S4x1, S4x1] S4x3 1
  bcast_S4x3_S4x1x3_0_2 : S4x3.BroadcastsInDim S4x1x3 (![0, 2] : Fin 2 → Fin S4x1x3.rank)
  concatenates_S4x1x3_S4x1x3_S4x1x3_S4x3x3_d1 : Shape.Concatenates [S4x1x3, S4x1x3, S4x1x3] S4x3x3 1
  bcast_S4x3x3_S4x3x3x1_0_1_2 : S4x3x3.BroadcastsInDim S4x3x3x1 (![0, 1, 2] : Fin 3 → Fin S4x3x3x1.rank)
  bcast_S4x3x3_S4x1x3x3_0_2_3 : S4x3x3.BroadcastsInDim S4x1x3x3 (![0, 2, 3] : Fin 3 → Fin S4x1x3x3.rank)
  bcast_S4x3x3x1_S4x3x3x3_0_1_2_3 : S4x3x3x1.BroadcastsInDim S4x3x3x3 (![0, 1, 2, 3] : Fin 4 → Fin S4x3x3x3.rank)
  bcast_S4x1x3x3_S4x3x3x3_0_1_2_3 : S4x1x3x3.BroadcastsInDim S4x3x3x3 (![0, 1, 2, 3] : Fin 4 → Fin S4x3x3x3.rank)
  reducesTo_S4x3x3x3_S4x3x3_d2 : S4x3x3x3.ReducesTo [2] S4x3x3
  h_S_ : 0 < S_.numel
  bcast_S_S256 : S_.BroadcastsInDim S256 (![] : Fin 0 → Fin S256.rank)
  bcast_S256_S256x256_0 : S256.BroadcastsInDim S256x256 (![0] : Fin 1 → Fin S256x256.rank)
  bcast_S256_S256x256_1 : S256.BroadcastsInDim S256x256 (![1] : Fin 1 → Fin S256x256.rank)
  shapeCasts_S256x256_S65536 : S256x256.ShapeCasts S65536
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S65536x2_S1x65536x2_1_2 : S65536x2.BroadcastsInDim S1x65536x2 (![1, 2] : Fin 2 → Fin S1x65536x2.rank)
  bcast_S1x65536x2_S4x65536x2_0_1_2 : S1x65536x2.BroadcastsInDim S4x65536x2 (![0, 1, 2] : Fin 3 → Fin S4x65536x2.rank)
  slices_S4x3x3_S4x2x2_0_0_0 : S4x3x3.Slices ![0, 0, 0] S4x2x2
  bcast_S4x2x2_S4x1x2x2_0_2_3 : S4x2x2.BroadcastsInDim S4x1x2x2 (![0, 2, 3] : Fin 3 → Fin S4x1x2x2.rank)
  bcast_S4x65536x2_S4x65536x1x2_0_1_3 : S4x65536x2.BroadcastsInDim S4x65536x1x2 (![0, 1, 3] : Fin 3 → Fin S4x65536x1x2.rank)
  bcast_S4x1x2x2_S4x65536x2x2_0_1_2_3 : S4x1x2x2.BroadcastsInDim S4x65536x2x2 (![0, 1, 2, 3] : Fin 4 → Fin S4x65536x2x2.rank)
  bcast_S4x65536x1x2_S4x65536x2x2_0_1_2_3 : S4x65536x1x2.BroadcastsInDim S4x65536x2x2 (![0, 1, 2, 3] : Fin 4 → Fin S4x65536x2x2.rank)
  reducesTo_S4x65536x2x2_S4x65536x2_d3 : S4x65536x2x2.ReducesTo [3] S4x65536x2
  slices_S4x3x3_S4x2x1_0_0_2 : S4x3x3.Slices ![0, 0, 2] S4x2x1
  shapeCasts_S4x2x1_S4x2 : S4x2x1.ShapeCasts S4x2
  bcast_S4x2_S4x1x2_0_2 : S4x2.BroadcastsInDim S4x1x2 (![0, 2] : Fin 2 → Fin S4x1x2.rank)
  bcast_S4x1x2_S4x65536x2_0_1_2 : S4x1x2.BroadcastsInDim S4x65536x2 (![0, 1, 2] : Fin 3 → Fin S4x65536x2.rank)
  shapeCasts_S4x65536x2_S4x256x256x2 : S4x65536x2.ShapeCasts S4x256x256x2
  transposes_S4x256x256x2_S4x256x256x2_0_2_1_3 : S4x256x256x2.Transposes [0, 2, 1, 3] S4x256x256x2
  slices_S4x256x256x2_S4x1x256x1_0_0_0_0 : S4x256x256x2.Slices ![0, 0, 0, 0] S4x1x256x1
  shapeCasts_S4x1x256x1_S4x256 : S4x1x256x1.ShapeCasts S4x256
  bcast_S_S4x256 : S_.BroadcastsInDim S4x256 (![] : Fin 0 → Fin S4x256.rank)
  slices_S4x256x256x2_S4x256x1x1_0_0_0_1 : S4x256x256x2.Slices ![0, 0, 0, 1] S4x256x1x1
  shapeCasts_S4x256x1x1_S4x256 : S4x256x1x1.ShapeCasts S4x256
  slices_S4x256_S4x1_0_0 : S4x256.Slices ![0, 0] S4x1
  bcast_S4x1_S4x256_0_1 : S4x1.BroadcastsInDim S4x256 (![0, 1] : Fin 2 → Fin S4x256.rank)
  reducesTo_S4_S_d0 : S4.ReducesTo [0] S_
  reducesTo_S4x256_S_d0_1 : S4x256.ReducesTo [0, 1] S_

variable [Facts]

def fn_part6 {F : FTy → Type} [FloatOps F] (main_v101 : IVec S4x256 32) (main_v112 : IVec S4x256 32) (main_v119 : IVec S_ 1) (main_v120 : IVec S4x256 32) : IVec S_ 1 :=
  let main_v121 : IVec S4x256 1 := cmpi .sle main_v101 main_v120
  let main_c_21 : IVec S_ 1 := constantI S_ 1 1#1
  let main_v122 : IVec S_ 1 := (fun x v => Host.reduce IntOp.andi x v reducesTo_S4x256_S_d0_1 h_S_) main_v121 main_c_21
  let main_v123 : IVec S_ 1 := andi main_v119 main_v122
  let main_c_22 : IVec S_ 32 := constantI S_ 32 0#32
  let main_v124 : IVec S4x256 32 := broadcastInDim S4x256 ![] bcast_S_S4x256 main_c_22
  let main_v125 : IVec S4x256 1 := cmpi .sge main_v112 main_v124
  let main_c_23 : IVec S_ 1 := constantI S_ 1 1#1
  let main_v126 : IVec S_ 1 := (fun x v => Host.reduce IntOp.andi x v reducesTo_S4x256_S_d0_1 h_S_) main_v125 main_c_23
  let main_v127 : IVec S_ 1 := andi main_v123 main_v126
  let main_c_24 : IVec S_ 32 := constantI S_ 32 1022#32
  let main_v128 : IVec S4x256 32 := broadcastInDim S4x256 ![] bcast_S_S4x256 main_c_24
  let main_v129 : IVec S4x256 1 := cmpi .sle main_v112 main_v128
  let main_c_25 : IVec S_ 1 := constantI S_ 1 1#1
  let main_v130 : IVec S_ 1 := (fun x v => Host.reduce IntOp.andi x v reducesTo_S4x256_S_d0_1 h_S_) main_v129 main_c_25
  let main_v131 : IVec S_ 1 := andi main_v127 main_v130
  main_v131

def fn_part5 {F : FTy → Type} [FloatOps F] (main_v99 : IVec S4x256 32) (main_v101 : IVec S4x256 32) (main_v103 : IVec S4 32) (main_c : IVec S_ 32) : IVec S_ 1 :=
  let main_v104 : IVec S4 32 := broadcastInDim S4 ![] bcast_S_S4 main_c
  let main_v105 : IVec S4 32 := Host.shrsi main_v103 main_v104
  let main_c_14 : IVec S_ 32 := constantI S_ 32 8#32
  let main_v106 : IVec S4 32 := broadcastInDim S4 ![] bcast_S_S4 main_c_14
  let main_v107 : IVec S4 32 := minsi main_v105 main_v106
  let main_c_15 : IVec S_ 32 := constantI S_ 32 7#32
  let main_v108 : IVec S4 32 := broadcastInDim S4 ![] bcast_S_S4 main_c_15
  let main_v109 : IVec S4 32 := Host.shli main_v107 main_v108
  let main_v110 : IVec S4x1 32 := broadcastInDim S4x1 ![0] bcast_S4_S4x1_0 main_v109
  let main_v111 : IVec S4x256 32 := broadcastInDim S4x256 ![0, 1] bcast_S4x1_S4x256_0_1 main_v110
  let main_v112 : IVec S4x256 32 := subi main_v99 main_v111
  let main_c_16 : IVec S_ 32 := constantI S_ 32 0#32
  let main_v113 : IVec S4 32 := broadcastInDim S4 ![] bcast_S_S4 main_c_16
  let main_v114 : IVec S4 1 := cmpi .sge main_v107 main_v113
  let main_c_17 : IVec S_ 1 := constantI S_ 1 1#1
  let main_v115 : IVec S_ 1 := (fun x v => Host.reduce IntOp.andi x v reducesTo_S4_S_d0 h_S_) main_v114 main_c_17
  let main_c_18 : IVec S_ 32 := constantI S_ 32 0#32
  let main_v116 : IVec S4x256 32 := broadcastInDim S4x256 ![] bcast_S_S4x256 main_c_18
  let main_v117 : IVec S4x256 1 := cmpi .sge main_v101 main_v116
  let main_c_19 : IVec S_ 1 := constantI S_ 1 1#1
  let main_v118 : IVec S_ 1 := (fun x v => Host.reduce IntOp.andi x v reducesTo_S4x256_S_d0_1 h_S_) main_v117 main_c_19
  let main_v119 : IVec S_ 1 := andi main_v115 main_v118
  let main_c_20 : IVec S_ 32 := constantI S_ 32 2046#32
  let main_v120 : IVec S4x256 32 := broadcastInDim S4x256 ![] bcast_S_S4x256 main_c_20
  fn_part6 (F := F) main_v101 main_v112 main_v119 main_v120

def fn_part4 {F : FTy → Type} [FloatOps F] (main_v81 : FVec F S4x256x256x2 .f32) (main_v85 : FVec F S4x256 .f32) : IVec S_ 1 :=
  let main_cst_9 : FVec F S_ .f32 := constant S_ .f32 0x44FFE000#32
  let main_v86 : FVec F S4x256 .f32 := broadcastInDim S4x256 ![] bcast_S_S4x256 main_cst_9
  let main_v87 : FVec F S4x256 .f32 := mulf main_v85 main_v86
  let main_cst_10 : FVec F S_ .f32 := constant S_ .f32 0x40000000#32
  let main_v88 : FVec F S4x256 .f32 := broadcastInDim S4x256 ![] bcast_S_S4x256 main_cst_10
  let main_v89 : FVec F S4x256 .f32 := Host.divf main_v87 main_v88
  let main_v90 : FVec F S4x256x1x1 .f32 := (extractStridedSlice S4x256x1x1 ![0, 0, 0, 1] · slices_S4x256x256x2_S4x256x1x1_0_0_0_1) main_v81
  let main_v91 : FVec F S4x256 .f32 := shapeCast S4x256 main_v90 shapeCasts_S4x256x1x1_S4x256
  let main_cst_11 : FVec F S_ .f32 := constant S_ .f32 0x3F800000#32
  let main_v92 : FVec F S4x256 .f32 := broadcastInDim S4x256 ![] bcast_S_S4x256 main_cst_11
  let main_v93 : FVec F S4x256 .f32 := addf main_v91 main_v92
  let main_cst_12 : FVec F S_ .f32 := constant S_ .f32 0x44FFE000#32
  let main_v94 : FVec F S4x256 .f32 := broadcastInDim S4x256 ![] bcast_S_S4x256 main_cst_12
  let main_v95 : FVec F S4x256 .f32 := mulf main_v93 main_v94
  let main_cst_13 : FVec F S_ .f32 := constant S_ .f32 0x40000000#32
  let main_v96 : FVec F S4x256 .f32 := broadcastInDim S4x256 ![] bcast_S_S4x256 main_cst_13
  let main_v97 : FVec F S4x256 .f32 := Host.divf main_v95 main_v96
  let main_v98 : FVec F S4x256 .f32 := Host.floor main_v89
  let main_v99 : IVec S4x256 32 := fptosi 32 main_v98
  let main_v100 : FVec F S4x256 .f32 := Host.floor main_v97
  let main_v101 : IVec S4x256 32 := fptosi 32 main_v100
  let main_v102 : IVec S4x1 32 := (extractStridedSlice S4x1 ![0, 0] · slices_S4x256_S4x1_0_0) main_v99
  let main_v103 : IVec S4 32 := shapeCast S4 main_v102 shapeCasts_S4x1_S4
  let main_c : IVec S_ 32 := constantI S_ 32 7#32
  fn_part5 (F := F) main_v99 main_v101 main_v103 main_c

def fn_part3 {F : FTy → Type} [FloatOps F] (main_v55 : FVec F S4x3x3 .f32) (main_v62 : FVec F S65536 .f32) (main_v63 : FVec F S65536x1 .f32) : IVec S_ 1 :=
  let main_v64 : FVec F S65536x1 .f32 := broadcastInDim S65536x1 ![0] bcast_S65536_S65536x1_0 main_v62
  let main_v65 : FVec F S65536x2 .f32 := (fun a b => concatenate S65536x2 1 [⟨S65536x1, a⟩, ⟨S65536x1, b⟩] concatenates_S65536x1_S65536x1_S65536x2_d1) main_v63 main_v64
  let main_v66 : FVec F S1x65536x2 .f32 := broadcastInDim S1x65536x2 ![1, 2] bcast_S65536x2_S1x65536x2_1_2 main_v65
  let main_v67 : FVec F S4x65536x2 .f32 := broadcastInDim S4x65536x2 ![0, 1, 2] bcast_S1x65536x2_S4x65536x2_0_1_2 main_v66
  let main_v68 : FVec F S4x2x2 .f32 := (extractStridedSlice S4x2x2 ![0, 0, 0] · slices_S4x3x3_S4x2x2_0_0_0) main_v55
  let main_v69 : FVec F S4x1x2x2 .f32 := broadcastInDim S4x1x2x2 ![0, 2, 3] bcast_S4x2x2_S4x1x2x2_0_2_3 main_v68
  let main_v70 : FVec F S4x65536x1x2 .f32 := broadcastInDim S4x65536x1x2 ![0, 1, 3] bcast_S4x65536x2_S4x65536x1x2_0_1_3 main_v67
  let main_v71 : FVec F S4x65536x2x2 .f32 := broadcastInDim S4x65536x2x2 ![0, 1, 2, 3] bcast_S4x1x2x2_S4x65536x2x2_0_1_2_3 main_v69
  let main_v72 : FVec F S4x65536x2x2 .f32 := broadcastInDim S4x65536x2x2 ![0, 1, 2, 3] bcast_S4x65536x1x2_S4x65536x2x2_0_1_2_3 main_v70
  let main_v73 : FVec F S4x65536x2x2 .f32 := mulf main_v71 main_v72
  let main_cst_7 : FVec F S_ .f32 := constant S_ .f32 0x00000000#32
  let main_v74 : FVec F S4x65536x2 .f32 := (fun x v => Host.reduceAdd x v reducesTo_S4x65536x2x2_S4x65536x2_d3 h_S_) main_v73 main_cst_7
  let main_v75 : FVec F S4x2x1 .f32 := (extractStridedSlice S4x2x1 ![0, 0, 2] · slices_S4x3x3_S4x2x1_0_0_2) main_v55
  let main_v76 : FVec F S4x2 .f32 := shapeCast S4x2 main_v75 shapeCasts_S4x2x1_S4x2
  let main_v77 : FVec F S4x1x2 .f32 := broadcastInDim S4x1x2 ![0, 2] bcast_S4x2_S4x1x2_0_2 main_v76
  let main_v78 : FVec F S4x65536x2 .f32 := broadcastInDim S4x65536x2 ![0, 1, 2] bcast_S4x1x2_S4x65536x2_0_1_2 main_v77
  let main_v79 : FVec F S4x65536x2 .f32 := addf main_v74 main_v78
  let main_v80 : FVec F S4x256x256x2 .f32 := shapeCast S4x256x256x2 main_v79 shapeCasts_S4x65536x2_S4x256x256x2
  let main_v81 : FVec F S4x256x256x2 .f32 := (transpose S4x256x256x2 [0, 2, 1, 3] · transposes_S4x256x256x2_S4x256x256x2_0_2_1_3) main_v80
  let main_v82 : FVec F S4x1x256x1 .f32 := (extractStridedSlice S4x1x256x1 ![0, 0, 0, 0] · slices_S4x256x256x2_S4x1x256x1_0_0_0_0) main_v81
  let main_v83 : FVec F S4x256 .f32 := shapeCast S4x256 main_v82 shapeCasts_S4x1x256x1_S4x256
  let main_cst_8 : FVec F S_ .f32 := constant S_ .f32 0x3F800000#32
  let main_v84 : FVec F S4x256 .f32 := broadcastInDim S4x256 ![] bcast_S_S4x256 main_cst_8
  let main_v85 : FVec F S4x256 .f32 := addf main_v83 main_v84
  fn_part4 (F := F) main_v81 main_v85

def fn_part2 {F : FTy → Type} [FloatOps F] (main_v0 : FVec F S4 .f32) (main_v1 : FVec F S4 .f32) (main_v27 : FVec F S4x3x3 .f32) (main_v36 : FVec F S4x3 .f32) (main_v41 : FVec F S4x3 .f32) : IVec S_ 1 :=
  let main_v42 : FVec F S4x1 .f32 := broadcastInDim S4x1 ![0] bcast_S4_S4x1_0 main_v0
  let main_v43 : FVec F S4x1 .f32 := broadcastInDim S4x1 ![0] bcast_S4_S4x1_0 main_v0
  let main_v44 : FVec F S4x1 .f32 := broadcastInDim S4x1 ![0] bcast_S4_S4x1_0 main_v1
  let main_v45 : FVec F S4x3 .f32 := concatenate S4x3 1 [⟨S4x1, main_v42⟩, ⟨S4x1, main_v43⟩, ⟨S4x1, main_v44⟩] concatenates_S4x1_S4x1_S4x1_S4x3_d1
  let main_v46 : FVec F S4x1x3 .f32 := broadcastInDim S4x1x3 ![0, 2] bcast_S4x3_S4x1x3_0_2 main_v36
  let main_v47 : FVec F S4x1x3 .f32 := broadcastInDim S4x1x3 ![0, 2] bcast_S4x3_S4x1x3_0_2 main_v41
  let main_v48 : FVec F S4x1x3 .f32 := broadcastInDim S4x1x3 ![0, 2] bcast_S4x3_S4x1x3_0_2 main_v45
  let main_v49 : FVec F S4x3x3 .f32 := concatenate S4x3x3 1 [⟨S4x1x3, main_v46⟩, ⟨S4x1x3, main_v47⟩, ⟨S4x1x3, main_v48⟩] concatenates_S4x1x3_S4x1x3_S4x1x3_S4x3x3_d1
  let main_v50 : FVec F S4x3x3x1 .f32 := broadcastInDim S4x3x3x1 ![0, 1, 2] bcast_S4x3x3_S4x3x3x1_0_1_2 main_v49
  let main_v51 : FVec F S4x1x3x3 .f32 := broadcastInDim S4x1x3x3 ![0, 2, 3] bcast_S4x3x3_S4x1x3x3_0_2_3 main_v27
  let main_v52 : FVec F S4x3x3x3 .f32 := broadcastInDim S4x3x3x3 ![0, 1, 2, 3] bcast_S4x3x3x1_S4x3x3x3_0_1_2_3 main_v50
  let main_v53 : FVec F S4x3x3x3 .f32 := broadcastInDim S4x3x3x3 ![0, 1, 2, 3] bcast_S4x1x3x3_S4x3x3x3_0_1_2_3 main_v51
  let main_v54 : FVec F S4x3x3x3 .f32 := mulf main_v52 main_v53
  let main_cst_5 : FVec F S_ .f32 := constant S_ .f32 0x00000000#32
  let main_v55 : FVec F S4x3x3 .f32 := (fun x v => Host.reduceAdd x v reducesTo_S4x3x3x3_S4x3x3_d2 h_S_) main_v54 main_cst_5
  let main_v56 : FVec F S256 .f32 := sitofp .f32 (iotaInDim S256 32 0)
  let main_cst_6 : FVec F S_ .f32 := constant S_ .f32 0x437F0000#32
  let main_v57 : FVec F S256 .f32 := broadcastInDim S256 ![] bcast_S_S256 main_cst_6
  let main_v58 : FVec F S256 .f32 := Host.divf main_v56 main_v57
  let main_v59 : FVec F S256x256 .f32 := broadcastInDim S256x256 ![0] bcast_S256_S256x256_0 main_v58
  let main_v60 : FVec F S256x256 .f32 := broadcastInDim S256x256 ![1] bcast_S256_S256x256_1 main_v58
  let main_v61 : FVec F S65536 .f32 := shapeCast S65536 main_v59 shapeCasts_S256x256_S65536
  let main_v62 : FVec F S65536 .f32 := shapeCast S65536 main_v60 shapeCasts_S256x256_S65536
  let main_v63 : FVec F S65536x1 .f32 := broadcastInDim S65536x1 ![0] bcast_S65536_S65536x1_0 main_v61
  fn_part3 (F := F) main_v55 main_v62 main_v63

def fn_part1 {F : FTy → Type} [FloatOps F] (main_v0 : FVec F S4 .f32) (main_v1 : FVec F S4 .f32) (main_v12 : FVec F S4x3 .f32) (main_v19 : FVec F S4x3 .f32) : IVec S_ 1 :=
  let main_v20 : FVec F S4x1 .f32 := broadcastInDim S4x1 ![0] bcast_S4_S4x1_0 main_v0
  let main_v21 : FVec F S4x1 .f32 := broadcastInDim S4x1 ![0] bcast_S4_S4x1_0 main_v0
  let main_v22 : FVec F S4x1 .f32 := broadcastInDim S4x1 ![0] bcast_S4_S4x1_0 main_v1
  let main_v23 : FVec F S4x3 .f32 := concatenate S4x3 1 [⟨S4x1, main_v20⟩, ⟨S4x1, main_v21⟩, ⟨S4x1, main_v22⟩] concatenates_S4x1_S4x1_S4x1_S4x3_d1
  let main_v24 : FVec F S4x1x3 .f32 := broadcastInDim S4x1x3 ![0, 2] bcast_S4x3_S4x1x3_0_2 main_v12
  let main_v25 : FVec F S4x1x3 .f32 := broadcastInDim S4x1x3 ![0, 2] bcast_S4x3_S4x1x3_0_2 main_v19
  let main_v26 : FVec F S4x1x3 .f32 := broadcastInDim S4x1x3 ![0, 2] bcast_S4x3_S4x1x3_0_2 main_v23
  let main_v27 : FVec F S4x3x3 .f32 := concatenate S4x3x3 1 [⟨S4x1x3, main_v24⟩, ⟨S4x1x3, main_v25⟩, ⟨S4x1x3, main_v26⟩] concatenates_S4x1x3_S4x1x3_S4x1x3_S4x3x3_d1
  let main_cst_3 : FVec F S_ .f32 := constant S_ .f32 0x3A801002#32
  let main_v28 : FVec F S4 .f32 := broadcastInDim S4 ![] bcast_S_S4 main_cst_3
  let main_v29 : FVec F S4 .f32 := mulf main_v28 main_v1
  let main_cst_4 : FVec F S_ .f32 := constant S_ .f32 0x3A801002#32
  let main_v30 : FVec F S4 .f32 := broadcastInDim S4 ![] bcast_S_S4 main_cst_4
  let main_v31 : FVec F S4 .f32 := mulf main_v30 main_v1
  let main_v32 : FVec F S4 .f32 := Host.negf main_v1
  let main_v33 : FVec F S4x1 .f32 := broadcastInDim S4x1 ![0] bcast_S4_S4x1_0 main_v29
  let main_v34 : FVec F S4x1 .f32 := broadcastInDim S4x1 ![0] bcast_S4_S4x1_0 main_v0
  let main_v35 : FVec F S4x1 .f32 := broadcastInDim S4x1 ![0] bcast_S4_S4x1_0 main_v32
  let main_v36 : FVec F S4x3 .f32 := concatenate S4x3 1 [⟨S4x1, main_v33⟩, ⟨S4x1, main_v34⟩, ⟨S4x1, main_v35⟩] concatenates_S4x1_S4x1_S4x1_S4x3_d1
  let main_v37 : FVec F S4 .f32 := Host.negf main_v1
  let main_v38 : FVec F S4x1 .f32 := broadcastInDim S4x1 ![0] bcast_S4_S4x1_0 main_v0
  let main_v39 : FVec F S4x1 .f32 := broadcastInDim S4x1 ![0] bcast_S4_S4x1_0 main_v31
  let main_v40 : FVec F S4x1 .f32 := broadcastInDim S4x1 ![0] bcast_S4_S4x1_0 main_v37
  let main_v41 : FVec F S4x3 .f32 := concatenate S4x3 1 [⟨S4x1, main_v38⟩, ⟨S4x1, main_v39⟩, ⟨S4x1, main_v40⟩] concatenates_S4x1_S4x1_S4x1_S4x3_d1
  fn_part2 (F := F) main_v0 main_v1 main_v27 main_v36 main_v41

def fn {F : FTy → Type} [FloatOps F] (main_arg0 : FVec F S4x3x2048x2048 .f32) (main_arg1 : FVec F S4x2 .f32) (main_arg2 : FVec F S4 .f32) : IVec S_ 1 :=
  let main_cst : FVec F S_ .f32 := constant S_ .f32 0x00000000#32
  let main_v0 : FVec F S4 .f32 := broadcastInDim S4 ![] bcast_S_S4 main_cst
  let main_cst_0 : FVec F S_ .f32 := constant S_ .f32 0x3F800000#32
  let main_v1 : FVec F S4 .f32 := broadcastInDim S4 ![] bcast_S_S4 main_cst_0
  let main_v2 : FVec F S4x1 .f32 := (extractStridedSlice S4x1 ![0, 0] · slices_S4x2_S4x1_0_0) main_arg1
  let main_v3 : FVec F S4 .f32 := shapeCast S4 main_v2 shapeCasts_S4x1_S4
  let main_v4 : FVec F S4x1 .f32 := (extractStridedSlice S4x1 ![0, 1] · slices_S4x2_S4x1_0_1) main_arg1
  let main_v5 : FVec F S4 .f32 := shapeCast S4 main_v4 shapeCasts_S4x1_S4
  let main_cst_1 : FVec F S_ .f32 := constant S_ .f32 0x3F000000#32
  let main_v6 : FVec F S4 .f32 := broadcastInDim S4 ![] bcast_S_S4 main_cst_1
  let main_v7 : FVec F S4 .f32 := mulf main_arg2 main_v6
  let main_v8 : FVec F S4 .f32 := subf main_v3 main_v7
  let main_v9 : FVec F S4x1 .f32 := broadcastInDim S4x1 ![0] bcast_S4_S4x1_0 main_arg2
  let main_v10 : FVec F S4x1 .f32 := broadcastInDim S4x1 ![0] bcast_S4_S4x1_0 main_v0
  let main_v11 : FVec F S4x1 .f32 := broadcastInDim S4x1 ![0] bcast_S4_S4x1_0 main_v8
  let main_v12 : FVec F S4x3 .f32 := concatenate S4x3 1 [⟨S4x1, main_v9⟩, ⟨S4x1, main_v10⟩, ⟨S4x1, main_v11⟩] concatenates_S4x1_S4x1_S4x1_S4x3_d1
  let main_cst_2 : FVec F S_ .f32 := constant S_ .f32 0x3F000000#32
  let main_v13 : FVec F S4 .f32 := broadcastInDim S4 ![] bcast_S_S4 main_cst_2
  let main_v14 : FVec F S4 .f32 := mulf main_arg2 main_v13
  let main_v15 : FVec F S4 .f32 := subf main_v5 main_v14
  let main_v16 : FVec F S4x1 .f32 := broadcastInDim S4x1 ![0] bcast_S4_S4x1_0 main_v0
  let main_v17 : FVec F S4x1 .f32 := broadcastInDim S4x1 ![0] bcast_S4_S4x1_0 main_arg2
  let main_v18 : FVec F S4x1 .f32 := broadcastInDim S4x1 ![0] bcast_S4_S4x1_0 main_v15
  let main_v19 : FVec F S4x3 .f32 := concatenate S4x3 1 [⟨S4x1, main_v16⟩, ⟨S4x1, main_v17⟩, ⟨S4x1, main_v18⟩] concatenates_S4x1_S4x1_S4x1_S4x3_d1
  fn_part1 (F := F) main_v0 main_v1 main_v12 main_v19
-- ==== Kernel.lean ====
abbrev S4x3x2048x2048 : Shape := ⟨4, ![4, 3, 2048, 2048]⟩
abbrev S4x2 : Shape := ⟨2, ![4, 2]⟩
abbrev S4 : Shape := ⟨1, ![4]⟩
abbrev S_ : Shape := ⟨0, ![]⟩
abbrev S4x1 : Shape := ⟨2, ![4, 1]⟩
abbrev S4x3 : Shape := ⟨2, ![4, 3]⟩
abbrev S4x1x3 : Shape := ⟨3, ![4, 1, 3]⟩
abbrev S4x3x3 : Shape := ⟨3, ![4, 3, 3]⟩
abbrev S4x3x3x1 : Shape := ⟨4, ![4, 3, 3, 1]⟩
abbrev S4x1x3x3 : Shape := ⟨4, ![4, 1, 3, 3]⟩
abbrev S4x3x3x3 : Shape := ⟨4, ![4, 3, 3, 3]⟩
abbrev S256 : Shape := ⟨1, ![256]⟩
abbrev S256x256 : Shape := ⟨2, ![256, 256]⟩
abbrev S65536 : Shape := ⟨1, ![65536]⟩
abbrev S65536x1 : Shape := ⟨2, ![65536, 1]⟩
abbrev S65536x2 : Shape := ⟨2, ![65536, 2]⟩
abbrev S1x65536x2 : Shape := ⟨3, ![1, 65536, 2]⟩
abbrev S4x65536x2 : Shape := ⟨3, ![4, 65536, 2]⟩
abbrev S4x2x2 : Shape := ⟨3, ![4, 2, 2]⟩
abbrev S4x1x2x2 : Shape := ⟨4, ![4, 1, 2, 2]⟩
abbrev S4x65536x1x2 : Shape := ⟨4, ![4, 65536, 1, 2]⟩
abbrev S4x65536x2x2 : Shape := ⟨4, ![4, 65536, 2, 2]⟩
abbrev S4x2x1 : Shape := ⟨3, ![4, 2, 1]⟩
abbrev S4x1x2 : Shape := ⟨3, ![4, 1, 2]⟩
abbrev S4x256x256x2 : Shape := ⟨4, ![4, 256, 256, 2]⟩
abbrev S4x1x256x1 : Shape := ⟨4, ![4, 1, 256, 1]⟩
abbrev S4x256 : Shape := ⟨2, ![4, 256]⟩
abbrev S4x256x1x1 : Shape := ⟨4, ![4, 256, 1, 1]⟩
abbrev S3 : Shape := ⟨1, ![3]⟩
abbrev S1x3 : Shape := ⟨2, ![1, 3]⟩
abbrev S4x3x1 : Shape := ⟨3, ![4, 3, 1]⟩
abbrev S4x1x256 : Shape := ⟨3, ![4, 1, 256]⟩
abbrev S4x3x256 : Shape := ⟨3, ![4, 3, 256]⟩
abbrev S4x3x256x1 : Shape := ⟨4, ![4, 3, 256, 1]⟩
abbrev S4x3x256x2 : Shape := ⟨4, ![4, 3, 256, 2]⟩
abbrev S6144 : Shape := ⟨1, ![6144]⟩
abbrev S3072 : Shape := ⟨1, ![3072]⟩
abbrev S16 : Shape := ⟨1, ![16]⟩
abbrev S24576x2048 : Shape := ⟨2, ![24576, 2048]⟩
abbrev S1024 : Shape := ⟨1, ![1024]⟩
abbrev S786432 : Shape := ⟨1, ![786432]⟩
abbrev S96 : Shape := ⟨1, ![96]⟩
abbrev S16x1024 : Shape := ⟨2, ![16, 1024]⟩
abbrev S2048 : Shape := ⟨1, ![2048]⟩
abbrev S8 : Shape := ⟨1, ![8]⟩
abbrev S16x128 : Shape := ⟨2, ![16, 128]⟩
abbrev S24576x128 : Shape := ⟨2, ![24576, 128]⟩
abbrev S1 : Shape := ⟨1, ![1]⟩
abbrev S4x3x256x256 : Shape := ⟨4, ![4, 3, 256, 256]⟩

abbrev nBuf : Table → Nat
  | .hbm => 210
  | .local .scVector .vmem => 9
  | _ => 0

abbrev hbmTy0_0 (i : Nat) : BufTy := match i % 128 with
  | 0 => ⟨S4x3x2048x2048, .f32⟩
  | 1 => ⟨S4x2, .f32⟩
  | 2 => ⟨S4, .f32⟩
  | 3 => ⟨S_, .f32⟩
  | 4 => ⟨S4, .f32⟩
  | 5 => ⟨S_, .f32⟩
  | 6 => ⟨S4, .f32⟩
  | 7 => ⟨S4x1, .f32⟩
  | 8 => ⟨S4, .f32⟩
  | 9 => ⟨S4x1, .f32⟩
  | 10 => ⟨S4, .f32⟩
  | 11 => ⟨S_, .f32⟩
  | 12 => ⟨S4, .f32⟩
  | 13 => ⟨S4, .f32⟩
  | 14 => ⟨S4, .f32⟩
  | 15 => ⟨S4x1, .f32⟩
  | 16 => ⟨S4x1, .f32⟩
  | 17 => ⟨S4x1, .f32⟩
  | 18 => ⟨S4x3, .f32⟩
  | 19 => ⟨S_, .f32⟩
  | 20 => ⟨S4, .f32⟩
  | 21 => ⟨S4, .f32⟩
  | 22 => ⟨S4, .f32⟩
  | 23 => ⟨S4x1, .f32⟩
  | 24 => ⟨S4x1, .f32⟩
  | 25 => ⟨S4x1, .f32⟩
  | 26 => ⟨S4x3, .f32⟩
  | 27 => ⟨S4x1, .f32⟩
  | 28 => ⟨S4x1, .f32⟩
  | 29 => ⟨S4x1, .f32⟩
  | 30 => ⟨S4x3, .f32⟩
  | 31 => ⟨S4x1x3, .f32⟩
  | 32 => ⟨S4x1x3, .f32⟩
  | 33 => ⟨S4x1x3, .f32⟩
  | 34 => ⟨S4x3x3, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S4, .f32⟩
  | 43 => ⟨S4, .f32⟩
  | 44 => ⟨S_, .f32⟩
  | 45 => ⟨S4, .f32⟩
  | 46 => ⟨S4, .f32⟩
  | 47 => ⟨S4x1, .f32⟩
  | 48 => ⟨S4x1, .f32⟩
  | 49 => ⟨S4x1, .f32⟩
  | 50 => ⟨S4x3, .f32⟩
  | 51 => ⟨S_, .f32⟩
  | 52 => ⟨S4, .f32⟩
  | 53 => ⟨S4, .f32⟩
  | 54 => ⟨S4, .f32⟩
  | 55 => ⟨S4, .f32⟩
  | 56 => ⟨S4, .f32⟩
  | 57 => ⟨S_, .f32⟩
  | 58 => ⟨S4, .f32⟩
  | 59 => ⟨S4, .f32⟩
  | 60 => ⟨S4x1, .f32⟩
  | 61 => ⟨S4x1, .f32⟩
  | 62 => ⟨S4x1, .f32⟩
  | 63 => ⟨S4x3, .f32⟩
  | 64 => ⟨S4x1, .f32⟩
  | 65 => ⟨S4x1, .f32⟩
  | 66 => ⟨S4x1, .f32⟩
  | 67 => ⟨S4x3, .f32⟩
  | 68 => ⟨S4x1x3, .f32⟩
  | 69 => ⟨S4x1x3, .f32⟩
  | 70 => ⟨S4x1x3, .f32⟩
  | 71 => ⟨S4x3x3, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4x1, .f32⟩
  | 80 => ⟨S4x1, .f32⟩
  | 81 => ⟨S4x1, .f32⟩
  | 82 => ⟨S4x3, .f32⟩
  | 83 => ⟨S4, .f32⟩
  | 84 => ⟨S4x1, .f32⟩
  | 85 => ⟨S4x1, .f32⟩
  | 86 => ⟨S4x1, .f32⟩
  | 87 => ⟨S4x3, .f32⟩
  | 88 => ⟨S4x1, .f32⟩
  | 89 => ⟨S4x1, .f32⟩
  | 90 => ⟨S4x1, .f32⟩
  | 91 => ⟨S4x3, .f32⟩
  | 92 => ⟨S4x1x3, .f32⟩
  | 93 => ⟨S4x1x3, .f32⟩
  | 94 => ⟨S4x1x3, .f32⟩
  | 95 => ⟨S4x3x3, .f32⟩
  | 96 => ⟨S4x3x3x1, .f32⟩
  | 97 => ⟨S4x1x3x3, .f32⟩
  | 98 => ⟨S4x3x3x3, .f32⟩
  | 99 => ⟨S4x3x3x3, .f32⟩
  | 100 => ⟨S4x3x3x3, .f32⟩
  | 101 => ⟨S_, .f32⟩
  | 102 => ⟨S4x3x3, .f32⟩
  | 103 => ⟨S256, .f32⟩
  | 104 => ⟨S_, .f32⟩
  | 105 => ⟨S256, .f32⟩
  | 106 => ⟨S256, .f32⟩
  | 107 => ⟨S256x256, .f32⟩
  | 108 => ⟨S256x256, .f32⟩
  | 109 => ⟨S65536, .f32⟩
  | 110 => ⟨S65536, .f32⟩
  | 111 => ⟨S65536x1, .f32⟩
  | 112 => ⟨S65536x1, .f32⟩
  | 113 => ⟨S65536x2, .f32⟩
  | 114 => ⟨S1x65536x2, .f32⟩
  | 115 => ⟨S4x65536x2, .f32⟩
  | 116 => ⟨S4x2x2, .f32⟩
  | 117 => ⟨S4x1x2x2, .f32⟩
  | 118 => ⟨S4x65536x1x2, .f32⟩
  | 119 => ⟨S4x65536x2x2, .f32⟩
  | 120 => ⟨S4x65536x2x2, .f32⟩
  | 121 => ⟨S4x65536x2x2, .f32⟩
  | 122 => ⟨S_, .f32⟩
  | 123 => ⟨S4x65536x2, .f32⟩
  | 124 => ⟨S4x2x1, .f32⟩
  | 125 => ⟨S4x2, .f32⟩
  | 126 => ⟨S4x1x2, .f32⟩
  | 127 => ⟨S4x65536x2, .f32⟩
  | _ => ⟨S4x3x2048x2048, .f32⟩

abbrev hbmTy0_1 (i : Nat) : BufTy := match i % 128 with
  | 0 => ⟨S4x65536x2, .f32⟩
  | 1 => ⟨S4x256x256x2, .f32⟩
  | 2 => ⟨S4x256x256x2, .f32⟩
  | 3 => ⟨S4x1x256x1, .f32⟩
  | 4 => ⟨S4x256, .f32⟩
  | 5 => ⟨S4x256x1x1, .f32⟩
  | 6 => ⟨S4x256, .f32⟩
  | 7 => ⟨S_, .f32⟩
  | 8 => ⟨S4x256, .f32⟩
  | 9 => ⟨S4x256, .f32⟩
  | 10 => ⟨S_, .f32⟩
  | 11 => ⟨S4x256, .f32⟩
  | 12 => ⟨S4x256, .f32⟩
  | 13 => ⟨S_, .f32⟩
  | 14 => ⟨S4x256, .f32⟩
  | 15 => ⟨S4x256, .f32⟩
  | 16 => ⟨S_, .f32⟩
  | 17 => ⟨S4x256, .f32⟩
  | 18 => ⟨S4x256, .f32⟩
  | 19 => ⟨S_, .f32⟩
  | 20 => ⟨S4x256, .f32⟩
  | 21 => ⟨S4x256, .f32⟩
  | 22 => ⟨S_, .f32⟩
  | 23 => ⟨S4x256, .f32⟩
  | 24 => ⟨S4x256, .f32⟩
  | 25 => ⟨S4x256, .f32⟩
  | 26 => ⟨S4x256, .f32⟩
  | 27 => ⟨S4x256, .i32⟩
  | 28 => ⟨S4x256, .i32⟩
  | 29 => ⟨S4x256, .f32⟩
  | 30 => ⟨S4x256, .f32⟩
  | 31 => ⟨S4, .i32⟩
  | 32 => ⟨S4x1, .i32⟩
  | 33 => ⟨S_, .i32⟩
  | 34 => ⟨S4x1, .i32⟩
  | 35 => ⟨S4x1, .i32⟩
  | 36 => ⟨S3, .i32⟩
  | 37 => ⟨S1x3, .i32⟩
  | 38 => ⟨S4x3, .i32⟩
  | 39 => ⟨S4x3, .i32⟩
  | 40 => ⟨S4x3, .i32⟩
  | 41 => ⟨S4x3x1, .i32⟩
  | 42 => ⟨S_, .i32⟩
  | 43 => ⟨S4x3x1, .i32⟩
  | 44 => ⟨S4x3x1, .i32⟩
  | 45 => ⟨S4x1x256, .i32⟩
  | 46 => ⟨S4x3x256, .i32⟩
  | 47 => ⟨S4x3x256, .i32⟩
  | 48 => ⟨S4x3x256, .i32⟩
  | 49 => ⟨S_, .i32⟩
  | 50 => ⟨S4x3x256, .i32⟩
  | 51 => ⟨S4x3x256, .i32⟩
  | 52 => ⟨S4x3x256x1, .i32⟩
  | 53 => ⟨S4x3x256x1, .i32⟩
  | 54 => ⟨S4x3x256x2, .i32⟩
  | 55 => ⟨S6144, .i32⟩
  | 56 => ⟨S4x1x256, .f32⟩
  | 57 => ⟨S4x3x256, .f32⟩
  | 58 => ⟨S3072, .f32⟩
  | 59 => ⟨S4x1, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S_, .i32⟩
  | 68 => ⟨S_, .i32⟩
  | 69 => ⟨S16, .i32⟩
  | 70 => ⟨S_, .i32⟩
  | 71 => ⟨S4, .i32⟩
  | 72 => ⟨S4, .i32⟩
  | 73 => ⟨S4x1, .i32⟩
  | 74 => ⟨S4x256, .i32⟩
  | 75 => ⟨S4x256, .i32⟩
  | 76 => ⟨S24576x2048, .f32⟩
  | 77 => ⟨S1024, .i32⟩
  | 78 => ⟨S1024, .f32⟩
  | 79 => ⟨S786432, .f32⟩
  | 80 => ⟨S4x3x256x256, .f32⟩
  | 81 => ⟨S4x65536x2, .f32⟩
  | _ => ⟨S4x3x2048x2048, .f32⟩

abbrev hbmTy (i : Nat) : BufTy := match i / 128 with
  | 0 => hbmTy0_0 i
  | 1 => hbmTy0_1 i
  | _ => ⟨S4x3x2048x2048, .f32⟩

abbrev bufTy : (tb : Table) → Fin (nBuf tb) → BufTy
  | .hbm, ⟨i, _⟩ => hbmTy i
  | .local .scVector .vmem, ⟨0, _⟩ => ⟨S16, .i32⟩
  | .local .scVector .vmem, ⟨1, _⟩ => ⟨S16, .i32⟩
  | .local .scVector .vmem, ⟨2, _⟩ => ⟨S1024, .i32⟩
  | .local .scVector .vmem, ⟨3, _⟩ => ⟨S1024, .f32⟩
  | .local .scVector .vmem, ⟨4, _⟩ => ⟨S96, .f32⟩
  | .local .scVector .vmem, ⟨5, _⟩ => ⟨S16, .i32⟩
  | .local .scVector .vmem, ⟨6, _⟩ => ⟨S16x1024, .f32⟩
  | .local .scVector .vmem, ⟨7, _⟩ => ⟨S16x1024, .f32⟩
  | .local .scVector .vmem, ⟨8, _⟩ => ⟨S2048, .f32⟩
  | _, _ => ⟨S4x3x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_10 : Ref sig .tc := ⟨.hbm, 101, rfl⟩
abbrev main_v87 : Ref sig .tc := ⟨.hbm, 102, rfl⟩
abbrev main_v88 : Ref sig .tc := ⟨.hbm, 103, rfl⟩
abbrev main_cst_11 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_12 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst_13 : Ref sig .tc := ⟨.hbm, 135, rfl⟩
abbrev main_v118 : Ref sig .tc := ⟨.hbm, 136, rfl⟩
abbrev main_v119 : Ref sig .tc := ⟨.hbm, 137, rfl⟩
abbrev main_cst_14 : Ref sig .tc := ⟨.hbm, 138, rfl⟩
abbrev main_v120 : Ref sig .tc := ⟨.hbm, 139, rfl⟩
abbrev main_v121 : Ref sig .tc := ⟨.hbm, 140, rfl⟩
abbrev main_cst_15 : Ref sig .tc := ⟨.hbm, 141, rfl⟩
abbrev main_v122 : Ref sig .tc := ⟨.hbm, 142, rfl⟩
abbrev main_v123 : Ref sig .tc := ⟨.hbm, 143, rfl⟩
abbrev main_cst_16 : Ref sig .tc := ⟨.hbm, 144, rfl⟩
abbrev main_v124 : Ref sig .tc := ⟨.hbm, 145, rfl⟩
abbrev main_v125 : Ref sig .tc := ⟨.hbm, 146, rfl⟩
abbrev main_cst_17 : Ref sig .tc := ⟨.hbm, 147, rfl⟩
abbrev main_v126 : Ref sig .tc := ⟨.hbm, 148, rfl⟩
abbrev main_v127 : Ref sig .tc := ⟨.hbm, 149, rfl⟩
abbrev main_cst_18 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_c : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_c_19 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_c_20 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_c_21 : Ref sig .tc := ⟨.hbm, 189, rfl⟩
abbrev main_v163 : Ref sig .tc := ⟨.hbm, 190, rfl⟩
abbrev main_v164 : Ref sig .tc := ⟨.hbm, 191, rfl⟩
abbrev main_c_22 : Ref sig .tc := ⟨.hbm, 192, rfl⟩
abbrev main_v165 : Ref sig .tc := ⟨.hbm, 193, rfl⟩
abbrev main_v166 : Ref sig .tc := ⟨.hbm, 194, rfl⟩
abbrev main_c_23 : Ref sig .tc := ⟨.hbm, 195, rfl⟩
abbrev main_call0_v0 : Ref sig .tc := ⟨.hbm, 196, rfl⟩
abbrev main_v167 : Ref sig .tc := ⟨.hbm, 197, rfl⟩
abbrev main_c_24 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v173_scv : Ref sig .scVector := ⟨.hbm, 204, rfl⟩
abbrev main_v157_scv : Ref sig .scVector := ⟨.hbm, 183, rfl⟩
abbrev main_v174_scv : Ref sig .scVector := ⟨.hbm, 205, rfl⟩
abbrev main_v175_scv : Ref sig .scVector := ⟨.hbm, 206, rfl⟩
abbrev main_v160_scv : Ref sig .scVector := ⟨.hbm, 186, rfl⟩
abbrev main_v167_scv : Ref sig .scVector := ⟨.hbm, 197, rfl⟩
abbrev main_v176_scv : Ref sig .scVector := ⟨.hbm, 207, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  ![v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_5 : BitVec 32 := 0#32
  let v31 : BitVec 32 := Scalar.addi v2 c0_i32_5
  let c2_i32_6 : BitVec 32 := 2#32
  let v32 : BitVec 32 := Scalar.muli v31 c2_i32_6
  ![v32.toNat]
def k0_off3 (v29 : BitVec 32) (c0_i32_7 : BitVec 32) : Fin 2 → Nat :=
  let c0_i32_13 : BitVec 32 := 0#32
  let c128_i32 : BitVec 32 := 128#32
  let v30 : BitVec 32 := Scalar.muli v29 c128_i32
  let v33 : BitVec 32 := Scalar.addi v30 c0_i32_7
  ![0, v33.toNat]

@[reducible] def k0_t1_loop : Scf.Loop 32 :=
  let c0_i32_54 : BitVec 32 := 0#32
  let c6_i32_55 : BitVec 32 := 6#32
  let v81 : BitVec 32 := Scalar.addi c0_i32_54 c6_i32_55
  let c1_i32_56 : BitVec 32 := 1#32
  ⟨c0_i32_54, v81, c1_i32_56⟩
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c2_i32_58 : BitVec 32 := 2#32
  let c0_i32_54 : BitVec 32 := 0#32
  let c1_i32_56 : BitVec 32 := 1#32
  let arg20 : BitVec 32 := Scf.iv c0_i32_54 c1_i32_56 k0_t1
  let v82 : BitVec 32 := Scalar.muli c2_i32_58 arg20
  let c1_i32_59 : BitVec 32 := 1#32
  let v83 : BitVec 32 := Scalar.addi v82 c1_i32_59
  let c8_i32_60 : BitVec 32 := 8#32
  let v84 : BitVec 32 := Scalar.muli v83 c8_i32_60
  let v85 : BitVec 32 := Scalar.addi v2 v84
  let c2_i32_61 : BitVec 32 := 2#32
  let v86 : BitVec 32 := Scalar.muli v85 c2_i32_61
  ![v86.toNat]
def k0_off5 (v29 : BitVec 32) (c0_i32_62 : BitVec 32) : Fin 2 → Nat :=
  let c0_i32_73 : BitVec 32 := 0#32
  let c128_i32 : BitVec 32 := 128#32
  let v30 : BitVec 32 := Scalar.muli v29 c128_i32
  let v87 : BitVec 32 := Scalar.addi v30 c0_i32_62
  ![0, v87.toNat]

def k0_chk2 (v185 : IVec S16 32) : Prop :=
  (∀ a x, ((![v185] : Fin 1 → IVec S16 32) a x).toNat < S96.size a)
theorem k0_idx1_inb : ∀ (v185 : IVec S16 32) (k0_hw2 : k0_chk2 v185), ∀ a x, ((![v185] : Fin 1 → IVec S16 32) a x).toNat < S96.size a := fun v185 k0_hw2 => k0_hw2

def k0_chk3 (v189 : IVec S16 32) : Prop :=
  (∀ a x, ((![v189] : Fin 1 → IVec S16 32) a x).toNat < S96.size a)
theorem k0_idx2_inb : ∀ (v189 : IVec S16 32) (k0_hw3 : k0_chk3 v189), ∀ a x, ((![v189] : Fin 1 → IVec S16 32) a x).toNat < S96.size a := fun v189 k0_hw3 => k0_hw3

def k0_chk4 (v193 : IVec S16 32) : Prop :=
  (∀ a x, ((![v193] : Fin 1 → IVec S16 32) a x).toNat < S96.size a)
theorem k0_idx3_inb : ∀ (v193 : IVec S16 32) (k0_hw4 : k0_chk4 v193), ∀ a x, ((![v193] : Fin 1 → IVec S16 32) a x).toNat < S96.size a := fun v193 k0_hw4 => k0_hw4

def k0_chk5 (v197 : IVec S16 32) : Prop :=
  (∀ a x, ((![v197] : Fin 1 → IVec S16 32) a x).toNat < S96.size a)
theorem k0_idx4_inb : ∀ (v197 : IVec S16 32) (k0_hw5 : k0_chk5 v197), ∀ a x, ((![v197] : Fin 1 → IVec S16 32) a x).toNat < S96.size a := fun v197 k0_hw5 => k0_hw5

def k0_chk6 (v201 : IVec S16 32) : Prop :=
  (∀ a x, ((![v201] : Fin 1 → IVec S16 32) a x).toNat < S96.size a)
theorem k0_idx5_inb : ∀ (v201 : IVec S16 32) (k0_hw6 : k0_chk6 v201), ∀ a x, ((![v201] : Fin 1 → IVec S16 32) a x).toNat < S96.size a := fun v201 k0_hw6 => k0_hw6

def k0_chk7 (v205 : IVec S16 32) : Prop :=
  (∀ a x, ((![v205] : Fin 1 → IVec S16 32) a x).toNat < S96.size a)
theorem k0_idx6_inb : ∀ (v205 : IVec S16 32) (k0_hw7 : k0_chk7 v205), ∀ a x, ((![v205] : Fin 1 → IVec S16 32) a x).toNat < S96.size a := fun v205 k0_hw7 => k0_hw7

def k0_chk8 (v209 : IVec S16 32) : Prop :=
  (∀ a x, ((![v209] : Fin 1 → IVec S16 32) a x).toNat < S96.size a)
theorem k0_idx7_inb : ∀ (v209 : IVec S16 32) (k0_hw8 : k0_chk8 v209), ∀ a x, ((![v209] : Fin 1 → IVec S16 32) a x).toNat < S96.size a := fun v209 k0_hw8 => k0_hw8

def k0_chk9 (v213 : IVec S16 32) : Prop :=
  (∀ a x, ((![v213] : Fin 1 → IVec S16 32) a x).toNat < S96.size a)
theorem k0_idx8_inb : ∀ (v213 : IVec S16 32) (k0_hw9 : k0_chk9 v213), ∀ a x, ((![v213] : Fin 1 → IVec S16 32) a x).toNat < S96.size a := fun v213 k0_hw9 => k0_hw9
@[reducible] def k0_t2_loop : Scf.Loop 32 :=
  let c0_i32_191 : BitVec 32 := 0#32
  let c4_i32_192 : BitVec 32 := 4#32
  let v215 : BitVec 32 := Scalar.addi c0_i32_191 c4_i32_192
  let c1_i32_193 : BitVec 32 := 1#32
  ⟨c0_i32_191, v215, c1_i32_193⟩
def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v310 : BitVec 32 := Scalar.addi v20 v309
  let v311 : Index := Scalar.indexCast v310
  ![v311.toNat]

def k0_chk10 (v312 : IVec S16 32) (v317 : IVec S16 32) (v318 : IVec S16 32) : Prop :=
  (∀ a x, ((![v318, v312] : Fin 2 → IVec S16 32) a x).toNat < S16x1024.size a) ∧
  (∀ a x, ((![v318, v317] : Fin 2 → IVec S16 32) a x).toNat < S16x1024.size a)
theorem k0_idx9_inb : ∀ (v312 : IVec S16 32) (v317 : IVec S16 32) (v318 : IVec S16 32) (k0_hw10 : k0_chk10 v312 v317 v318), ∀ a x, ((![v318, v312] : Fin 2 → IVec S16 32) a x).toNat < S16x1024.size a := fun v312 v317 v318 k0_hw10 => k0_hw10.1
theorem k0_idx10_inb : ∀ (v312 : IVec S16 32) (v317 : IVec S16 32) (v318 : IVec S16 32) (k0_hw10 : k0_chk10 v312 v317 v318), ∀ a x, ((![v318, v317] : Fin 2 → IVec S16 32) a x).toNat < S16x1024.size a := fun v312 v317 v318 k0_hw10 => k0_hw10.2

def k0_chk11 (v312 : IVec S16 32) (v317 : IVec S16 32) (v319 : IVec S16 32) : Prop :=
  (∀ a x, ((![v319, v312] : Fin 2 → IVec S16 32) a x).toNat < S16x1024.size a) ∧
  (∀ a x, ((![v319, v317] : Fin 2 → IVec S16 32) a x).toNat < S16x1024.size a)
theorem k0_idx11_inb : ∀ (v312 : IVec S16 32) (v317 : IVec S16 32) (v319 : IVec S16 32) (k0_hw11 : k0_chk11 v312 v317 v319), ∀ a x, ((![v319, v312] : Fin 2 → IVec S16 32) a x).toNat < S16x1024.size a := fun v312 v317 v319 k0_hw11 => k0_hw11.1
theorem k0_idx12_inb : ∀ (v312 : IVec S16 32) (v317 : IVec S16 32) (v319 : IVec S16 32) (k0_hw11 : k0_chk11 v312 v317 v319), ∀ a x, ((![v319, v317] : Fin 2 → IVec S16 32) a x).toNat < S16x1024.size a := fun v312 v317 v319 k0_hw11 => k0_hw11.2
def k0_off7 (k0_t2 : Fin k0_t2_loop.trips) : Fin 1 → Nat :=
  let c0_i32_283 : BitVec 32 := 0#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v333 : BitVec 32 := Scalar.addi c0_i32_283 v309
  let v334 : Index := Scalar.indexCast v333
  ![v334.toNat]

def k0_chk12 (v312 : IVec S16 32) (v317 : IVec S16 32) (v336 : IVec S16 32) : Prop :=
  (∀ a x, ((![v336, v312] : Fin 2 → IVec S16 32) a x).toNat < S16x1024.size a) ∧
  (∀ a x, ((![v336, v317] : Fin 2 → IVec S16 32) a x).toNat < S16x1024.size a)
theorem k0_idx13_inb : ∀ (v312 : IVec S16 32) (v317 : IVec S16 32) (v336 : IVec S16 32) (k0_hw12 : k0_chk12 v312 v317 v336), ∀ a x, ((![v336, v312] : Fin 2 → IVec S16 32) a x).toNat < S16x1024.size a := fun v312 v317 v336 k0_hw12 => k0_hw12.1
theorem k0_idx14_inb : ∀ (v312 : IVec S16 32) (v317 : IVec S16 32) (v336 : IVec S16 32) (k0_hw12 : k0_chk12 v312 v317 v336), ∀ a x, ((![v336, v317] : Fin 2 → IVec S16 32) a x).toNat < S16x1024.size a := fun v312 v317 v336 k0_hw12 => k0_hw12.2

def k0_chk13 (v312 : IVec S16 32) (v317 : IVec S16 32) (v337 : IVec S16 32) : Prop :=
  (∀ a x, ((![v337, v312] : Fin 2 → IVec S16 32) a x).toNat < S16x1024.size a) ∧
  (∀ a x, ((![v337, v317] : Fin 2 → IVec S16 32) a x).toNat < S16x1024.size a)
theorem k0_idx15_inb : ∀ (v312 : IVec S16 32) (v317 : IVec S16 32) (v337 : IVec S16 32) (k0_hw13 : k0_chk13 v312 v317 v337), ∀ a x, ((![v337, v312] : Fin 2 → IVec S16 32) a x).toNat < S16x1024.size a := fun v312 v317 v337 k0_hw13 => k0_hw13.1
theorem k0_idx16_inb : ∀ (v312 : IVec S16 32) (v317 : IVec S16 32) (v337 : IVec S16 32) (k0_hw13 : k0_chk13 v312 v317 v337), ∀ a x, ((![v337, v317] : Fin 2 → IVec S16 32) a x).toNat < S16x1024.size a := fun v312 v317 v337 k0_hw13 => k0_hw13.2
def k0_off8 (k0_t2 : Fin k0_t2_loop.trips) : Fin 1 → Nat :=
  let c256_i32_286 : BitVec 32 := 256#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v351 : BitVec 32 := Scalar.addi c256_i32_286 v309
  let v352 : Index := Scalar.indexCast v351
  ![v352.toNat]

def k0_chk14 (v312 : IVec S16 32) (v317 : IVec S16 32) (v354 : IVec S16 32) : Prop :=
  (∀ a x, ((![v354, v312] : Fin 2 → IVec S16 32) a x).toNat < S16x1024.size a) ∧
  (∀ a x, ((![v354, v317] : Fin 2 → IVec S16 32) a x).toNat < S16x1024.size a)
theorem k0_idx17_inb : ∀ (v312 : IVec S16 32) (v317 : IVec S16 32) (v354 : IVec S16 32) (k0_hw14 : k0_chk14 v312 v317 v354), ∀ a x, ((![v354, v312] : Fin 2 → IVec S16 32) a x).toNat < S16x1024.size a := fun v312 v317 v354 k0_hw14 => k0_hw14.1
theorem k0_idx18_inb : ∀ (v312 : IVec S16 32) (v317 : IVec S16 32) (v354 : IVec S16 32) (k0_hw14 : k0_chk14 v312 v317 v354), ∀ a x, ((![v354, v317] : Fin 2 → IVec S16 32) a x).toNat < S16x1024.size a := fun v312 v317 v354 k0_hw14 => k0_hw14.2

def k0_chk15 (v312 : IVec S16 32) (v317 : IVec S16 32) (v355 : IVec S16 32) : Prop :=
  (∀ a x, ((![v355, v312] : Fin 2 → IVec S16 32) a x).toNat < S16x1024.size a) ∧
  (∀ a x, ((![v355, v317] : Fin 2 → IVec S16 32) a x).toNat < S16x1024.size a)
theorem k0_idx19_inb : ∀ (v312 : IVec S16 32) (v317 : IVec S16 32) (v355 : IVec S16 32) (k0_hw15 : k0_chk15 v312 v317 v355), ∀ a x, ((![v355, v312] : Fin 2 → IVec S16 32) a x).toNat < S16x1024.size a := fun v312 v317 v355 k0_hw15 => k0_hw15.1
theorem k0_idx20_inb : ∀ (v312 : IVec S16 32) (v317 : IVec S16 32) (v355 : IVec S16 32) (k0_hw15 : k0_chk15 v312 v317 v355), ∀ a x, ((![v355, v317] : Fin 2 → IVec S16 32) a x).toNat < S16x1024.size a := fun v312 v317 v355 k0_hw15 => k0_hw15.2
def k0_off9 (k0_t2 : Fin k0_t2_loop.trips) : Fin 1 → Nat :=
  let c512_i32_289 : BitVec 32 := 512#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v369 : BitVec 32 := Scalar.addi c512_i32_289 v309
  let v370 : Index := Scalar.indexCast v369
  ![v370.toNat]

def k0_chk16 (v312 : IVec S16 32) (v317 : IVec S16 32) (v372 : IVec S16 32) : Prop :=
  (∀ a x, ((![v372, v312] : Fin 2 → IVec S16 32) a x).toNat < S16x1024.size a) ∧
  (∀ a x, ((![v372, v317] : Fin 2 → IVec S16 32) a x).toNat < S16x1024.size a)
theorem k0_idx21_inb : ∀ (v312 : IVec S16 32) (v317 : IVec S16 32) (v372 : IVec S16 32) (k0_hw16 : k0_chk16 v312 v317 v372), ∀ a x, ((![v372, v312] : Fin 2 → IVec S16 32) a x).toNat < S16x1024.size a := fun v312 v317 v372 k0_hw16 => k0_hw16.1
theorem k0_idx22_inb : ∀ (v312 : IVec S16 32) (v317 : IVec S16 32) (v372 : IVec S16 32) (k0_hw16 : k0_chk16 v312 v317 v372), ∀ a x, ((![v372, v317] : Fin 2 → IVec S16 32) a x).toNat < S16x1024.size a := fun v312 v317 v372 k0_hw16 => k0_hw16.2

def k0_chk17 (v312 : IVec S16 32) (v317 : IVec S16 32) (v373 : IVec S16 32) : Prop :=
  (∀ a x, ((![v373, v312] : Fin 2 → IVec S16 32) a x).toNat < S16x1024.size a) ∧
  (∀ a x, ((![v373, v317] : Fin 2 → IVec S16 32) a x).toNat < S16x1024.size a)
theorem k0_idx23_inb : ∀ (v312 : IVec S16 32) (v317 : IVec S16 32) (v373 : IVec S16 32) (k0_hw17 : k0_chk17 v312 v317 v373), ∀ a x, ((![v373, v312] : Fin 2 → IVec S16 32) a x).toNat < S16x1024.size a := fun v312 v317 v373 k0_hw17 => k0_hw17.1
theorem k0_idx24_inb : ∀ (v312 : IVec S16 32) (v317 : IVec S16 32) (v373 : IVec S16 32) (k0_hw17 : k0_chk17 v312 v317 v373), ∀ a x, ((![v373, v317] : Fin 2 → IVec S16 32) a x).toNat < S16x1024.size a := fun v312 v317 v373 k0_hw17 => k0_hw17.2
def k0_off10 (k0_t2 : Fin k0_t2_loop.trips) : Fin 1 → Nat :=
  let c768_i32_292 : BitVec 32 := 768#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v387 : BitVec 32 := Scalar.addi c768_i32_292 v309
  let v388 : Index := Scalar.indexCast v387
  ![v388.toNat]

def k0_chk18 (v312 : IVec S16 32) (v317 : IVec S16 32) (v390 : IVec S16 32) : Prop :=
  (∀ a x, ((![v390, v312] : Fin 2 → IVec S16 32) a x).toNat < S16x1024.size a) ∧
  (∀ a x, ((![v390, v317] : Fin 2 → IVec S16 32) a x).toNat < S16x1024.size a)
theorem k0_idx25_inb : ∀ (v312 : IVec S16 32) (v317 : IVec S16 32) (v390 : IVec S16 32) (k0_hw18 : k0_chk18 v312 v317 v390), ∀ a x, ((![v390, v312] : Fin 2 → IVec S16 32) a x).toNat < S16x1024.size a := fun v312 v317 v390 k0_hw18 => k0_hw18.1
theorem k0_idx26_inb : ∀ (v312 : IVec S16 32) (v317 : IVec S16 32) (v390 : IVec S16 32) (k0_hw18 : k0_chk18 v312 v317 v390), ∀ a x, ((![v390, v317] : Fin 2 → IVec S16 32) a x).toNat < S16x1024.size a := fun v312 v317 v390 k0_hw18 => k0_hw18.2

def k0_chk19 (v312 : IVec S16 32) (v317 : IVec S16 32) (v391 : IVec S16 32) : Prop :=
  (∀ a x, ((![v391, v312] : Fin 2 → IVec S16 32) a x).toNat < S16x1024.size a) ∧
  (∀ a x, ((![v391, v317] : Fin 2 → IVec S16 32) a x).toNat < S16x1024.size a)
theorem k0_idx27_inb : ∀ (v312 : IVec S16 32) (v317 : IVec S16 32) (v391 : IVec S16 32) (k0_hw19 : k0_chk19 v312 v317 v391), ∀ a x, ((![v391, v312] : Fin 2 → IVec S16 32) a x).toNat < S16x1024.size a := fun v312 v317 v391 k0_hw19 => k0_hw19.1
theorem k0_idx28_inb : ∀ (v312 : IVec S16 32) (v317 : IVec S16 32) (v391 : IVec S16 32) (k0_hw19 : k0_chk19 v312 v317 v391), ∀ a x, ((![v391, v317] : Fin 2 → IVec S16 32) a x).toNat < S16x1024.size a := fun v312 v317 v391 k0_hw19 => k0_hw19.2
def k0_off11 (k0_t2 : Fin k0_t2_loop.trips) : Fin 1 → Nat :=
  let c1024_i32 : BitVec 32 := 1024#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v405 : BitVec 32 := Scalar.addi c1024_i32 v309
  let v406 : Index := Scalar.indexCast v405
  ![v406.toNat]

def k0_chk20 (v312 : IVec S16 32) (v317 : IVec S16 32) (v408 : IVec S16 32) : Prop :=
  (∀ a x, ((![v408, v312] : Fin 2 → IVec S16 32) a x).toNat < S16x1024.size a) ∧
  (∀ a x, ((![v408, v317] : Fin 2 → IVec S16 32) a x).toNat < S16x1024.size a)
theorem k0_idx29_inb : ∀ (v312 : IVec S16 32) (v317 : IVec S16 32) (v408 : IVec S16 32) (k0_hw20 : k0_chk20 v312 v317 v408), ∀ a x, ((![v408, v312] : Fin 2 → IVec S16 32) a x).toNat < S16x1024.size a := fun v312 v317 v408 k0_hw20 => k0_hw20.1
theorem k0_idx30_inb : ∀ (v312 : IVec S16 32) (v317 : IVec S16 32) (v408 : IVec S16 32) (k0_hw20 : k0_chk20 v312 v317 v408), ∀ a x, ((![v408, v317] : Fin 2 → IVec S16 32) a x).toNat < S16x1024.size a := fun v312 v317 v408 k0_hw20 => k0_hw20.2

def k0_chk21 (v312 : IVec S16 32) (v317 : IVec S16 32) (v409 : IVec S16 32) : Prop :=
  (∀ a x, ((![v409, v312] : Fin 2 → IVec S16 32) a x).toNat < S16x1024.size a) ∧
  (∀ a x, ((![v409, v317] : Fin 2 → IVec S16 32) a x).toNat < S16x1024.size a)
theorem k0_idx31_inb : ∀ (v312 : IVec S16 32) (v317 : IVec S16 32) (v409 : IVec S16 32) (k0_hw21 : k0_chk21 v312 v317 v409), ∀ a x, ((![v409, v312] : Fin 2 → IVec S16 32) a x).toNat < S16x1024.size a := fun v312 v317 v409 k0_hw21 => k0_hw21.1
theorem k0_idx32_inb : ∀ (v312 : IVec S16 32) (v317 : IVec S16 32) (v409 : IVec S16 32) (k0_hw21 : k0_chk21 v312 v317 v409), ∀ a x, ((![v409, v317] : Fin 2 → IVec S16 32) a x).toNat < S16x1024.size a := fun v312 v317 v409 k0_hw21 => k0_hw21.2
def k0_off12 (k0_t2 : Fin k0_t2_loop.trips) : Fin 1 → Nat :=
  let c1280_i32 : BitVec 32 := 1280#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v423 : BitVec 32 := Scalar.addi c1280_i32 v309
  let v424 : Index := Scalar.indexCast v423
  ![v424.toNat]

def k0_chk22 (v312 : IVec S16 32) (v317 : IVec S16 32) (v426 : IVec S16 32) : Prop :=
  (∀ a x, ((![v426, v312] : Fin 2 → IVec S16 32) a x).toNat < S16x1024.size a) ∧
  (∀ a x, ((![v426, v317] : Fin 2 → IVec S16 32) a x).toNat < S16x1024.size a)
theorem k0_idx33_inb : ∀ (v312 : IVec S16 32) (v317 : IVec S16 32) (v426 : IVec S16 32) (k0_hw22 : k0_chk22 v312 v317 v426), ∀ a x, ((![v426, v312] : Fin 2 → IVec S16 32) a x).toNat < S16x1024.size a := fun v312 v317 v426 k0_hw22 => k0_hw22.1
theorem k0_idx34_inb : ∀ (v312 : IVec S16 32) (v317 : IVec S16 32) (v426 : IVec S16 32) (k0_hw22 : k0_chk22 v312 v317 v426), ∀ a x, ((![v426, v317] : Fin 2 → IVec S16 32) a x).toNat < S16x1024.size a := fun v312 v317 v426 k0_hw22 => k0_hw22.2

def k0_chk23 (v312 : IVec S16 32) (v317 : IVec S16 32) (v427 : IVec S16 32) : Prop :=
  (∀ a x, ((![v427, v312] : Fin 2 → IVec S16 32) a x).toNat < S16x1024.size a) ∧
  (∀ a x, ((![v427, v317] : Fin 2 → IVec S16 32) a x).toNat < S16x1024.size a)
theorem k0_idx35_inb : ∀ (v312 : IVec S16 32) (v317 : IVec S16 32) (v427 : IVec S16 32) (k0_hw23 : k0_chk23 v312 v317 v427), ∀ a x, ((![v427, v312] : Fin 2 → IVec S16 32) a x).toNat < S16x1024.size a := fun v312 v317 v427 k0_hw23 => k0_hw23.1
theorem k0_idx36_inb : ∀ (v312 : IVec S16 32) (v317 : IVec S16 32) (v427 : IVec S16 32) (k0_hw23 : k0_chk23 v312 v317 v427), ∀ a x, ((![v427, v317] : Fin 2 → IVec S16 32) a x).toNat < S16x1024.size a := fun v312 v317 v427 k0_hw23 => k0_hw23.2
def k0_off13 (k0_t2 : Fin k0_t2_loop.trips) : Fin 1 → Nat :=
  let c1536_i32 : BitVec 32 := 1536#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v441 : BitVec 32 := Scalar.addi c1536_i32 v309
  let v442 : Index := Scalar.indexCast v441
  ![v442.toNat]

def k0_chk24 (v312 : IVec S16 32) (v317 : IVec S16 32) (v444 : IVec S16 32) : Prop :=
  (∀ a x, ((![v444, v312] : Fin 2 → IVec S16 32) a x).toNat < S16x1024.size a) ∧
  (∀ a x, ((![v444, v317] : Fin 2 → IVec S16 32) a x).toNat < S16x1024.size a)
theorem k0_idx37_inb : ∀ (v312 : IVec S16 32) (v317 : IVec S16 32) (v444 : IVec S16 32) (k0_hw24 : k0_chk24 v312 v317 v444), ∀ a x, ((![v444, v312] : Fin 2 → IVec S16 32) a x).toNat < S16x1024.size a := fun v312 v317 v444 k0_hw24 => k0_hw24.1
theorem k0_idx38_inb : ∀ (v312 : IVec S16 32) (v317 : IVec S16 32) (v444 : IVec S16 32) (k0_hw24 : k0_chk24 v312 v317 v444), ∀ a x, ((![v444, v317] : Fin 2 → IVec S16 32) a x).toNat < S16x1024.size a := fun v312 v317 v444 k0_hw24 => k0_hw24.2

def k0_chk25 (v312 : IVec S16 32) (v317 : IVec S16 32) (v445 : IVec S16 32) : Prop :=
  (∀ a x, ((![v445, v312] : Fin 2 → IVec S16 32) a x).toNat < S16x1024.size a) ∧
  (∀ a x, ((![v445, v317] : Fin 2 → IVec S16 32) a x).toNat < S16x1024.size a)
theorem k0_idx39_inb : ∀ (v312 : IVec S16 32) (v317 : IVec S16 32) (v445 : IVec S16 32) (k0_hw25 : k0_chk25 v312 v317 v445), ∀ a x, ((![v445, v312] : Fin 2 → IVec S16 32) a x).toNat < S16x1024.size a := fun v312 v317 v445 k0_hw25 => k0_hw25.1
theorem k0_idx40_inb : ∀ (v312 : IVec S16 32) (v317 : IVec S16 32) (v445 : IVec S16 32) (k0_hw25 : k0_chk25 v312 v317 v445), ∀ a x, ((![v445, v317] : Fin 2 → IVec S16 32) a x).toNat < S16x1024.size a := fun v312 v317 v445 k0_hw25 => k0_hw25.2
def k0_off14 (k0_t2 : Fin k0_t2_loop.trips) : Fin 1 → Nat :=
  let c1792_i32 : BitVec 32 := 1792#32
  let c0_i32_191 : BitVec 32 := 0#32
  let c1_i32_193 : BitVec 32 := 1#32
  let arg21 : BitVec 32 := Scf.iv c0_i32_191 c1_i32_193 k0_t2
  let c64_i32 : BitVec 32 := 64#32
  let v308 : BitVec 32 := Scalar.muli arg21 c64_i32
  let c0_i32_279 : BitVec 32 := 0#32
  let v309 : BitVec 32 := Scalar.addi v308 c0_i32_279
  let v459 : BitVec 32 := Scalar.addi c1792_i32 v309
  let v460 : Index := Scalar.indexCast v459
  ![v460.toNat]
def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v464 : BitVec 32 := Scalar.addi v20 v463
  let v465 : Index := Scalar.indexCast v464
  ![v465.toNat]

def k0_chk26 (v466 : IVec S16 32) (v471 : IVec S16 32) (v472 : IVec S16 32) : Prop :=
  (∀ a x, ((![v472, v466] : Fin 2 → IVec S16 32) a x).toNat < S16x1024.size a) ∧
  (∀ a x, ((![v472, v471] : Fin 2 → IVec S16 32) a x).toNat < S16x1024.size a)
theorem k0_idx41_inb : ∀ (v466 : IVec S16 32) (v471 : IVec S16 32) (v472 : IVec S16 32) (k0_hw26 : k0_chk26 v466 v471 v472), ∀ a x, ((![v472, v466] : Fin 2 → IVec S16 32) a x).toNat < S16x1024.size a := fun v466 v471 v472 k0_hw26 => k0_hw26.1
theorem k0_idx42_inb : ∀ (v466 : IVec S16 32) (v471 : IVec S16 32) (v472 : IVec S16 32) (k0_hw26 : k0_chk26 v466 v471 v472), ∀ a x, ((![v472, v471] : Fin 2 → IVec S16 32) a x).toNat < S16x1024.size a := fun v466 v471 v472 k0_hw26 => k0_hw26.2

def k0_chk27 (v466 : IVec S16 32) (v471 : IVec S16 32) (v473 : IVec S16 32) : Prop :=
  (∀ a x, ((![v473, v466] : Fin 2 → IVec S16 32) a x).toNat < S16x1024.size a) ∧
  (∀ a x, ((![v473, v471] : Fin 2 → IVec S16 32) a x).toNat < S16x1024.size a)
theorem k0_idx43_inb : ∀ (v466 : IVec S16 32) (v471 : IVec S16 32) (v473 : IVec S16 32) (k0_hw27 : k0_chk27 v466 v471 v473), ∀ a x, ((![v473, v466] : Fin 2 → IVec S16 32) a x).toNat < S16x1024.size a := fun v466 v471 v473 k0_hw27 => k0_hw27.1
theorem k0_idx44_inb : ∀ (v466 : IVec S16 32) (v471 : IVec S16 32) (v473 : IVec S16 32) (k0_hw27 : k0_chk27 v466 v471 v473), ∀ a x, ((![v473, v471] : Fin 2 → IVec S16 32) a x).toNat < S16x1024.size a := fun v466 v471 v473 k0_hw27 => k0_hw27.2
def k0_off16 (k0_t2 : Fin k0_t2_loop.trips) : Fin 1 → Nat :=
  let c0_i32_299 : BitVec 32 := 0#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v487 : BitVec 32 := Scalar.addi c0_i32_299 v463
  let v488 : Index := Scalar.indexCast v487
  ![v488.toNat]

def k0_chk28 (v466 : IVec S16 32) (v471 : IVec S16 32) (v490 : IVec S16 32) : Prop :=
  (∀ a x, ((![v490, v466] : Fin 2 → IVec S16 32) a x).toNat < S16x1024.size a) ∧
  (∀ a x, ((![v490, v471] : Fin 2 → IVec S16 32) a x).toNat < S16x1024.size a)
theorem k0_idx45_inb : ∀ (v466 : IVec S16 32) (v471 : IVec S16 32) (v490 : IVec S16 32) (k0_hw28 : k0_chk28 v466 v471 v490), ∀ a x, ((![v490, v466] : Fin 2 → IVec S16 32) a x).toNat < S16x1024.size a := fun v466 v471 v490 k0_hw28 => k0_hw28.1
theorem k0_idx46_inb : ∀ (v466 : IVec S16 32) (v471 : IVec S16 32) (v490 : IVec S16 32) (k0_hw28 : k0_chk28 v466 v471 v490), ∀ a x, ((![v490, v471] : Fin 2 → IVec S16 32) a x).toNat < S16x1024.size a := fun v466 v471 v490 k0_hw28 => k0_hw28.2

def k0_chk29 (v466 : IVec S16 32) (v471 : IVec S16 32) (v491 : IVec S16 32) : Prop :=
  (∀ a x, ((![v491, v466] : Fin 2 → IVec S16 32) a x).toNat < S16x1024.size a) ∧
  (∀ a x, ((![v491, v471] : Fin 2 → IVec S16 32) a x).toNat < S16x1024.size a)
theorem k0_idx47_inb : ∀ (v466 : IVec S16 32) (v471 : IVec S16 32) (v491 : IVec S16 32) (k0_hw29 : k0_chk29 v466 v471 v491), ∀ a x, ((![v491, v466] : Fin 2 → IVec S16 32) a x).toNat < S16x1024.size a := fun v466 v471 v491 k0_hw29 => k0_hw29.1
theorem k0_idx48_inb : ∀ (v466 : IVec S16 32) (v471 : IVec S16 32) (v491 : IVec S16 32) (k0_hw29 : k0_chk29 v466 v471 v491), ∀ a x, ((![v491, v471] : Fin 2 → IVec S16 32) a x).toNat < S16x1024.size a := fun v466 v471 v491 k0_hw29 => k0_hw29.2
def k0_off17 (k0_t2 : Fin k0_t2_loop.trips) : Fin 1 → Nat :=
  let c256_i32_302 : BitVec 32 := 256#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v505 : BitVec 32 := Scalar.addi c256_i32_302 v463
  let v506 : Index := Scalar.indexCast v505
  ![v506.toNat]

def k0_chk30 (v466 : IVec S16 32) (v471 : IVec S16 32) (v508 : IVec S16 32) : Prop :=
  (∀ a x, ((![v508, v466] : Fin 2 → IVec S16 32) a x).toNat < S16x1024.size a) ∧
  (∀ a x, ((![v508, v471] : Fin 2 → IVec S16 32) a x).toNat < S16x1024.size a)
theorem k0_idx49_inb : ∀ (v466 : IVec S16 32) (v471 : IVec S16 32) (v508 : IVec S16 32) (k0_hw30 : k0_chk30 v466 v471 v508), ∀ a x, ((![v508, v466] : Fin 2 → IVec S16 32) a x).toNat < S16x1024.size a := fun v466 v471 v508 k0_hw30 => k0_hw30.1
theorem k0_idx50_inb : ∀ (v466 : IVec S16 32) (v471 : IVec S16 32) (v508 : IVec S16 32) (k0_hw30 : k0_chk30 v466 v471 v508), ∀ a x, ((![v508, v471] : Fin 2 → IVec S16 32) a x).toNat < S16x1024.size a := fun v466 v471 v508 k0_hw30 => k0_hw30.2

def k0_chk31 (v466 : IVec S16 32) (v471 : IVec S16 32) (v509 : IVec S16 32) : Prop :=
  (∀ a x, ((![v509, v466] : Fin 2 → IVec S16 32) a x).toNat < S16x1024.size a) ∧
  (∀ a x, ((![v509, v471] : Fin 2 → IVec S16 32) a x).toNat < S16x1024.size a)
theorem k0_idx51_inb : ∀ (v466 : IVec S16 32) (v471 : IVec S16 32) (v509 : IVec S16 32) (k0_hw31 : k0_chk31 v466 v471 v509), ∀ a x, ((![v509, v466] : Fin 2 → IVec S16 32) a x).toNat < S16x1024.size a := fun v466 v471 v509 k0_hw31 => k0_hw31.1
theorem k0_idx52_inb : ∀ (v466 : IVec S16 32) (v471 : IVec S16 32) (v509 : IVec S16 32) (k0_hw31 : k0_chk31 v466 v471 v509), ∀ a x, ((![v509, v471] : Fin 2 → IVec S16 32) a x).toNat < S16x1024.size a := fun v466 v471 v509 k0_hw31 => k0_hw31.2
def k0_off18 (k0_t2 : Fin k0_t2_loop.trips) : Fin 1 → Nat :=
  let c512_i32_305 : BitVec 32 := 512#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v523 : BitVec 32 := Scalar.addi c512_i32_305 v463
  let v524 : Index := Scalar.indexCast v523
  ![v524.toNat]

def k0_chk32 (v466 : IVec S16 32) (v471 : IVec S16 32) (v526 : IVec S16 32) : Prop :=
  (∀ a x, ((![v526, v466] : Fin 2 → IVec S16 32) a x).toNat < S16x1024.size a) ∧
  (∀ a x, ((![v526, v471] : Fin 2 → IVec S16 32) a x).toNat < S16x1024.size a)
theorem k0_idx53_inb : ∀ (v466 : IVec S16 32) (v471 : IVec S16 32) (v526 : IVec S16 32) (k0_hw32 : k0_chk32 v466 v471 v526), ∀ a x, ((![v526, v466] : Fin 2 → IVec S16 32) a x).toNat < S16x1024.size a := fun v466 v471 v526 k0_hw32 => k0_hw32.1
theorem k0_idx54_inb : ∀ (v466 : IVec S16 32) (v471 : IVec S16 32) (v526 : IVec S16 32) (k0_hw32 : k0_chk32 v466 v471 v526), ∀ a x, ((![v526, v471] : Fin 2 → IVec S16 32) a x).toNat < S16x1024.size a := fun v466 v471 v526 k0_hw32 => k0_hw32.2

def k0_chk33 (v466 : IVec S16 32) (v471 : IVec S16 32) (v527 : IVec S16 32) : Prop :=
  (∀ a x, ((![v527, v466] : Fin 2 → IVec S16 32) a x).toNat < S16x1024.size a) ∧
  (∀ a x, ((![v527, v471] : Fin 2 → IVec S16 32) a x).toNat < S16x1024.size a)
theorem k0_idx55_inb : ∀ (v466 : IVec S16 32) (v471 : IVec S16 32) (v527 : IVec S16 32) (k0_hw33 : k0_chk33 v466 v471 v527), ∀ a x, ((![v527, v466] : Fin 2 → IVec S16 32) a x).toNat < S16x1024.size a := fun v466 v471 v527 k0_hw33 => k0_hw33.1
theorem k0_idx56_inb : ∀ (v466 : IVec S16 32) (v471 : IVec S16 32) (v527 : IVec S16 32) (k0_hw33 : k0_chk33 v466 v471 v527), ∀ a x, ((![v527, v471] : Fin 2 → IVec S16 32) a x).toNat < S16x1024.size a := fun v466 v471 v527 k0_hw33 => k0_hw33.2
def k0_off19 (k0_t2 : Fin k0_t2_loop.trips) : Fin 1 → Nat :=
  let c768_i32_308 : BitVec 32 := 768#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v541 : BitVec 32 := Scalar.addi c768_i32_308 v463
  let v542 : Index := Scalar.indexCast v541
  ![v542.toNat]

def k0_chk34 (v466 : IVec S16 32) (v471 : IVec S16 32) (v544 : IVec S16 32) : Prop :=
  (∀ a x, ((![v544, v466] : Fin 2 → IVec S16 32) a x).toNat < S16x1024.size a) ∧
  (∀ a x, ((![v544, v471] : Fin 2 → IVec S16 32) a x).toNat < S16x1024.size a)
theorem k0_idx57_inb : ∀ (v466 : IVec S16 32) (v471 : IVec S16 32) (v544 : IVec S16 32) (k0_hw34 : k0_chk34 v466 v471 v544), ∀ a x, ((![v544, v466] : Fin 2 → IVec S16 32) a x).toNat < S16x1024.size a := fun v466 v471 v544 k0_hw34 => k0_hw34.1
theorem k0_idx58_inb : ∀ (v466 : IVec S16 32) (v471 : IVec S16 32) (v544 : IVec S16 32) (k0_hw34 : k0_chk34 v466 v471 v544), ∀ a x, ((![v544, v471] : Fin 2 → IVec S16 32) a x).toNat < S16x1024.size a := fun v466 v471 v544 k0_hw34 => k0_hw34.2

def k0_chk35 (v466 : IVec S16 32) (v471 : IVec S16 32) (v545 : IVec S16 32) : Prop :=
  (∀ a x, ((![v545, v466] : Fin 2 → IVec S16 32) a x).toNat < S16x1024.size a) ∧
  (∀ a x, ((![v545, v471] : Fin 2 → IVec S16 32) a x).toNat < S16x1024.size a)
theorem k0_idx59_inb : ∀ (v466 : IVec S16 32) (v471 : IVec S16 32) (v545 : IVec S16 32) (k0_hw35 : k0_chk35 v466 v471 v545), ∀ a x, ((![v545, v466] : Fin 2 → IVec S16 32) a x).toNat < S16x1024.size a := fun v466 v471 v545 k0_hw35 => k0_hw35.1
theorem k0_idx60_inb : ∀ (v466 : IVec S16 32) (v471 : IVec S16 32) (v545 : IVec S16 32) (k0_hw35 : k0_chk35 v466 v471 v545), ∀ a x, ((![v545, v471] : Fin 2 → IVec S16 32) a x).toNat < S16x1024.size a := fun v466 v471 v545 k0_hw35 => k0_hw35.2
def k0_off20 (k0_t2 : Fin k0_t2_loop.trips) : Fin 1 → Nat :=
  let c1024_i32_311 : BitVec 32 := 1024#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v559 : BitVec 32 := Scalar.addi c1024_i32_311 v463
  let v560 : Index := Scalar.indexCast v559
  ![v560.toNat]

def k0_chk36 (v466 : IVec S16 32) (v471 : IVec S16 32) (v562 : IVec S16 32) : Prop :=
  (∀ a x, ((![v562, v466] : Fin 2 → IVec S16 32) a x).toNat < S16x1024.size a) ∧
  (∀ a x, ((![v562, v471] : Fin 2 → IVec S16 32) a x).toNat < S16x1024.size a)
theorem k0_idx61_inb : ∀ (v466 : IVec S16 32) (v471 : IVec S16 32) (v562 : IVec S16 32) (k0_hw36 : k0_chk36 v466 v471 v562), ∀ a x, ((![v562, v466] : Fin 2 → IVec S16 32) a x).toNat < S16x1024.size a := fun v466 v471 v562 k0_hw36 => k0_hw36.1
theorem k0_idx62_inb : ∀ (v466 : IVec S16 32) (v471 : IVec S16 32) (v562 : IVec S16 32) (k0_hw36 : k0_chk36 v466 v471 v562), ∀ a x, ((![v562, v471] : Fin 2 → IVec S16 32) a x).toNat < S16x1024.size a := fun v466 v471 v562 k0_hw36 => k0_hw36.2

def k0_chk37 (v466 : IVec S16 32) (v471 : IVec S16 32) (v563 : IVec S16 32) : Prop :=
  (∀ a x, ((![v563, v466] : Fin 2 → IVec S16 32) a x).toNat < S16x1024.size a) ∧
  (∀ a x, ((![v563, v471] : Fin 2 → IVec S16 32) a x).toNat < S16x1024.size a)
theorem k0_idx63_inb : ∀ (v466 : IVec S16 32) (v471 : IVec S16 32) (v563 : IVec S16 32) (k0_hw37 : k0_chk37 v466 v471 v563), ∀ a x, ((![v563, v466] : Fin 2 → IVec S16 32) a x).toNat < S16x1024.size a := fun v466 v471 v563 k0_hw37 => k0_hw37.1
theorem k0_idx64_inb : ∀ (v466 : IVec S16 32) (v471 : IVec S16 32) (v563 : IVec S16 32) (k0_hw37 : k0_chk37 v466 v471 v563), ∀ a x, ((![v563, v471] : Fin 2 → IVec S16 32) a x).toNat < S16x1024.size a := fun v466 v471 v563 k0_hw37 => k0_hw37.2
def k0_off21 (k0_t2 : Fin k0_t2_loop.trips) : Fin 1 → Nat :=
  let c1280_i32_314 : BitVec 32 := 1280#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v577 : BitVec 32 := Scalar.addi c1280_i32_314 v463
  let v578 : Index := Scalar.indexCast v577
  ![v578.toNat]

def k0_chk38 (v466 : IVec S16 32) (v471 : IVec S16 32) (v580 : IVec S16 32) : Prop :=
  (∀ a x, ((![v580, v466] : Fin 2 → IVec S16 32) a x).toNat < S16x1024.size a) ∧
  (∀ a x, ((![v580, v471] : Fin 2 → IVec S16 32) a x).toNat < S16x1024.size a)
theorem k0_idx65_inb : ∀ (v466 : IVec S16 32) (v471 : IVec S16 32) (v580 : IVec S16 32) (k0_hw38 : k0_chk38 v466 v471 v580), ∀ a x, ((![v580, v466] : Fin 2 → IVec S16 32) a x).toNat < S16x1024.size a := fun v466 v471 v580 k0_hw38 => k0_hw38.1
theorem k0_idx66_inb : ∀ (v466 : IVec S16 32) (v471 : IVec S16 32) (v580 : IVec S16 32) (k0_hw38 : k0_chk38 v466 v471 v580), ∀ a x, ((![v580, v471] : Fin 2 → IVec S16 32) a x).toNat < S16x1024.size a := fun v466 v471 v580 k0_hw38 => k0_hw38.2

def k0_chk39 (v466 : IVec S16 32) (v471 : IVec S16 32) (v581 : IVec S16 32) : Prop :=
  (∀ a x, ((![v581, v466] : Fin 2 → IVec S16 32) a x).toNat < S16x1024.size a) ∧
  (∀ a x, ((![v581, v471] : Fin 2 → IVec S16 32) a x).toNat < S16x1024.size a)
theorem k0_idx67_inb : ∀ (v466 : IVec S16 32) (v471 : IVec S16 32) (v581 : IVec S16 32) (k0_hw39 : k0_chk39 v466 v471 v581), ∀ a x, ((![v581, v466] : Fin 2 → IVec S16 32) a x).toNat < S16x1024.size a := fun v466 v471 v581 k0_hw39 => k0_hw39.1
theorem k0_idx68_inb : ∀ (v466 : IVec S16 32) (v471 : IVec S16 32) (v581 : IVec S16 32) (k0_hw39 : k0_chk39 v466 v471 v581), ∀ a x, ((![v581, v471] : Fin 2 → IVec S16 32) a x).toNat < S16x1024.size a := fun v466 v471 v581 k0_hw39 => k0_hw39.2
def k0_off22 (k0_t2 : Fin k0_t2_loop.trips) : Fin 1 → Nat :=
  let c1536_i32_317 : BitVec 32 := 1536#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v595 : BitVec 32 := Scalar.addi c1536_i32_317 v463
  let v596 : Index := Scalar.indexCast v595
  ![v596.toNat]

def k0_chk40 (v466 : IVec S16 32) (v471 : IVec S16 32) (v598 : IVec S16 32) : Prop :=
  (∀ a x, ((![v598, v466] : Fin 2 → IVec S16 32) a x).toNat < S16x1024.size a) ∧
  (∀ a x, ((![v598, v471] : Fin 2 → IVec S16 32) a x).toNat < S16x1024.size a)
theorem k0_idx69_inb : ∀ (v466 : IVec S16 32) (v471 : IVec S16 32) (v598 : IVec S16 32) (k0_hw40 : k0_chk40 v466 v471 v598), ∀ a x, ((![v598, v466] : Fin 2 → IVec S16 32) a x).toNat < S16x1024.size a := fun v466 v471 v598 k0_hw40 => k0_hw40.1
theorem k0_idx70_inb : ∀ (v466 : IVec S16 32) (v471 : IVec S16 32) (v598 : IVec S16 32) (k0_hw40 : k0_chk40 v466 v471 v598), ∀ a x, ((![v598, v471] : Fin 2 → IVec S16 32) a x).toNat < S16x1024.size a := fun v466 v471 v598 k0_hw40 => k0_hw40.2

def k0_chk41 (v466 : IVec S16 32) (v471 : IVec S16 32) (v599 : IVec S16 32) : Prop :=
  (∀ a x, ((![v599, v466] : Fin 2 → IVec S16 32) a x).toNat < S16x1024.size a) ∧
  (∀ a x, ((![v599, v471] : Fin 2 → IVec S16 32) a x).toNat < S16x1024.size a)
theorem k0_idx71_inb : ∀ (v466 : IVec S16 32) (v471 : IVec S16 32) (v599 : IVec S16 32) (k0_hw41 : k0_chk41 v466 v471 v599), ∀ a x, ((![v599, v466] : Fin 2 → IVec S16 32) a x).toNat < S16x1024.size a := fun v466 v471 v599 k0_hw41 => k0_hw41.1
theorem k0_idx72_inb : ∀ (v466 : IVec S16 32) (v471 : IVec S16 32) (v599 : IVec S16 32) (k0_hw41 : k0_chk41 v466 v471 v599), ∀ a x, ((![v599, v471] : Fin 2 → IVec S16 32) a x).toNat < S16x1024.size a := fun v466 v471 v599 k0_hw41 => k0_hw41.2
def k0_off23 (k0_t2 : Fin k0_t2_loop.trips) : Fin 1 → Nat :=
  let c1792_i32_320 : BitVec 32 := 1792#32
  let c0_i32_191 : BitVec 32 := 0#32
  let c1_i32_193 : BitVec 32 := 1#32
  let arg21 : BitVec 32 := Scf.iv c0_i32_191 c1_i32_193 k0_t2
  let c64_i32_295 : BitVec 32 := 64#32
  let v462 : BitVec 32 := Scalar.muli arg21 c64_i32_295
  let c16_i32 : BitVec 32 := 16#32
  let v463 : BitVec 32 := Scalar.addi v462 c16_i32
  let v613 : BitVec 32 := Scalar.addi c1792_i32_320 v463
  let v614 : Index := Scalar.indexCast v613
  ![v614.toNat]
def k0_off24 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v618 : BitVec 32 := Scalar.addi v20 v617
  let v619 : Index := Scalar.indexCast v618
  ![v619.toNat]

def k0_chk42 (v620 : IVec S16 32) (v625 : IVec S16 32) (v626 : IVec S16 32) : Prop :=
  (∀ a x, ((![v626, v620] : Fin 2 → IVec S16 32) a x).toNat < S16x1024.size a) ∧
  (∀ a x, ((![v626, v625] : Fin 2 → IVec S16 32) a x).toNat < S16x1024.size a)
theorem k0_idx73_inb : ∀ (v620 : IVec S16 32) (v625 : IVec S16 32) (v626 : IVec S16 32) (k0_hw42 : k0_chk42 v620 v625 v626), ∀ a x, ((![v626, v620] : Fin 2 → IVec S16 32) a x).toNat < S16x1024.size a := fun v620 v625 v626 k0_hw42 => k0_hw42.1
theorem k0_idx74_inb : ∀ (v620 : IVec S16 32) (v625 : IVec S16 32) (v626 : IVec S16 32) (k0_hw42 : k0_chk42 v620 v625 v626), ∀ a x, ((![v626, v625] : Fin 2 → IVec S16 32) a x).toNat < S16x1024.size a := fun v620 v625 v626 k0_hw42 => k0_hw42.2

def k0_chk43 (v620 : IVec S16 32) (v625 : IVec S16 32) (v627 : IVec S16 32) : Prop :=
  (∀ a x, ((![v627, v620] : Fin 2 → IVec S16 32) a x).toNat < S16x1024.size a) ∧
  (∀ a x, ((![v627, v625] : Fin 2 → IVec S16 32) a x).toNat < S16x1024.size a)
theorem k0_idx75_inb : ∀ (v620 : IVec S16 32) (v625 : IVec S16 32) (v627 : IVec S16 32) (k0_hw43 : k0_chk43 v620 v625 v627), ∀ a x, ((![v627, v620] : Fin 2 → IVec S16 32) a x).toNat < S16x1024.size a := fun v620 v625 v627 k0_hw43 => k0_hw43.1
theorem k0_idx76_inb : ∀ (v620 : IVec S16 32) (v625 : IVec S16 32) (v627 : IVec S16 32) (k0_hw43 : k0_chk43 v620 v625 v627), ∀ a x, ((![v627, v625] : Fin 2 → IVec S16 32) a x).toNat < S16x1024.size a := fun v620 v625 v627 k0_hw43 => k0_hw43.2
def k0_off25 (k0_t2 : Fin k0_t2_loop.trips) : Fin 1 → Nat :=
  let c0_i32_325 : BitVec 32 := 0#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v641 : BitVec 32 := Scalar.addi c0_i32_325 v617
  let v642 : Index := Scalar.indexCast v641
  ![v642.toNat]

def k0_chk44 (v620 : IVec S16 32) (v625 : IVec S16 32) (v644 : IVec S16 32) : Prop :=
  (∀ a x, ((![v644, v620] : Fin 2 → IVec S16 32) a x).toNat < S16x1024.size a) ∧
  (∀ a x, ((![v644, v625] : Fin 2 → IVec S16 32) a x).toNat < S16x1024.size a)
theorem k0_idx77_inb : ∀ (v620 : IVec S16 32) (v625 : IVec S16 32) (v644 : IVec S16 32) (k0_hw44 : k0_chk44 v620 v625 v644), ∀ a x, ((![v644, v620] : Fin 2 → IVec S16 32) a x).toNat < S16x1024.size a := fun v620 v625 v644 k0_hw44 => k0_hw44.1
theorem k0_idx78_inb : ∀ (v620 : IVec S16 32) (v625 : IVec S16 32) (v644 : IVec S16 32) (k0_hw44 : k0_chk44 v620 v625 v644), ∀ a x, ((![v644, v625] : Fin 2 → IVec S16 32) a x).toNat < S16x1024.size a := fun v620 v625 v644 k0_hw44 => k0_hw44.2

def k0_chk45 (v620 : IVec S16 32) (v625 : IVec S16 32) (v645 : IVec S16 32) : Prop :=
  (∀ a x, ((![v645, v620] : Fin 2 → IVec S16 32) a x).toNat < S16x1024.size a) ∧
  (∀ a x, ((![v645, v625] : Fin 2 → IVec S16 32) a x).toNat < S16x1024.size a)
theorem k0_idx79_inb : ∀ (v620 : IVec S16 32) (v625 : IVec S16 32) (v645 : IVec S16 32) (k0_hw45 : k0_chk45 v620 v625 v645), ∀ a x, ((![v645, v620] : Fin 2 → IVec S16 32) a x).toNat < S16x1024.size a := fun v620 v625 v645 k0_hw45 => k0_hw45.1
theorem k0_idx80_inb : ∀ (v620 : IVec S16 32) (v625 : IVec S16 32) (v645 : IVec S16 32) (k0_hw45 : k0_chk45 v620 v625 v645), ∀ a x, ((![v645, v625] : Fin 2 → IVec S16 32) a x).toNat < S16x1024.size a := fun v620 v625 v645 k0_hw45 => k0_hw45.2
def k0_off26 (k0_t2 : Fin k0_t2_loop.trips) : Fin 1 → Nat :=
  let c256_i32_328 : BitVec 32 := 256#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v659 : BitVec 32 := Scalar.addi c256_i32_328 v617
  let v660 : Index := Scalar.indexCast v659
  ![v660.toNat]

def k0_chk46 (v620 : IVec S16 32) (v625 : IVec S16 32) (v662 : IVec S16 32) : Prop :=
  (∀ a x, ((![v662, v620] : Fin 2 → IVec S16 32) a x).toNat < S16x1024.size a) ∧
  (∀ a x, ((![v662, v625] : Fin 2 → IVec S16 32) a x).toNat < S16x1024.size a)
theorem k0_idx81_inb : ∀ (v620 : IVec S16 32) (v625 : IVec S16 32) (v662 : IVec S16 32) (k0_hw46 : k0_chk46 v620 v625 v662), ∀ a x, ((![v662, v620] : Fin 2 → IVec S16 32) a x).toNat < S16x1024.size a := fun v620 v625 v662 k0_hw46 => k0_hw46.1
theorem k0_idx82_inb : ∀ (v620 : IVec S16 32) (v625 : IVec S16 32) (v662 : IVec S16 32) (k0_hw46 : k0_chk46 v620 v625 v662), ∀ a x, ((![v662, v625] : Fin 2 → IVec S16 32) a x).toNat < S16x1024.size a := fun v620 v625 v662 k0_hw46 => k0_hw46.2

def k0_chk47 (v620 : IVec S16 32) (v625 : IVec S16 32) (v663 : IVec S16 32) : Prop :=
  (∀ a x, ((![v663, v620] : Fin 2 → IVec S16 32) a x).toNat < S16x1024.size a) ∧
  (∀ a x, ((![v663, v625] : Fin 2 → IVec S16 32) a x).toNat < S16x1024.size a)
theorem k0_idx83_inb : ∀ (v620 : IVec S16 32) (v625 : IVec S16 32) (v663 : IVec S16 32) (k0_hw47 : k0_chk47 v620 v625 v663), ∀ a x, ((![v663, v620] : Fin 2 → IVec S16 32) a x).toNat < S16x1024.size a := fun v620 v625 v663 k0_hw47 => k0_hw47.1
theorem k0_idx84_inb : ∀ (v620 : IVec S16 32) (v625 : IVec S16 32) (v663 : IVec S16 32) (k0_hw47 : k0_chk47 v620 v625 v663), ∀ a x, ((![v663, v625] : Fin 2 → IVec S16 32) a x).toNat < S16x1024.size a := fun v620 v625 v663 k0_hw47 => k0_hw47.2
def k0_off27 (k0_t2 : Fin k0_t2_loop.trips) : Fin 1 → Nat :=
  let c512_i32_331 : BitVec 32 := 512#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v677 : BitVec 32 := Scalar.addi c512_i32_331 v617
  let v678 : Index := Scalar.indexCast v677
  ![v678.toNat]

def k0_chk48 (v620 : IVec S16 32) (v625 : IVec S16 32) (v680 : IVec S16 32) : Prop :=
  (∀ a x, ((![v680, v620] : Fin 2 → IVec S16 32) a x).toNat < S16x1024.size a) ∧
  (∀ a x, ((![v680, v625] : Fin 2 → IVec S16 32) a x).toNat < S16x1024.size a)
theorem k0_idx85_inb : ∀ (v620 : IVec S16 32) (v625 : IVec S16 32) (v680 : IVec S16 32) (k0_hw48 : k0_chk48 v620 v625 v680), ∀ a x, ((![v680, v620] : Fin 2 → IVec S16 32) a x).toNat < S16x1024.size a := fun v620 v625 v680 k0_hw48 => k0_hw48.1
theorem k0_idx86_inb : ∀ (v620 : IVec S16 32) (v625 : IVec S16 32) (v680 : IVec S16 32) (k0_hw48 : k0_chk48 v620 v625 v680), ∀ a x, ((![v680, v625] : Fin 2 → IVec S16 32) a x).toNat < S16x1024.size a := fun v620 v625 v680 k0_hw48 => k0_hw48.2

def k0_chk49 (v620 : IVec S16 32) (v625 : IVec S16 32) (v681 : IVec S16 32) : Prop :=
  (∀ a x, ((![v681, v620] : Fin 2 → IVec S16 32) a x).toNat < S16x1024.size a) ∧
  (∀ a x, ((![v681, v625] : Fin 2 → IVec S16 32) a x).toNat < S16x1024.size a)
theorem k0_idx87_inb : ∀ (v620 : IVec S16 32) (v625 : IVec S16 32) (v681 : IVec S16 32) (k0_hw49 : k0_chk49 v620 v625 v681), ∀ a x, ((![v681, v620] : Fin 2 → IVec S16 32) a x).toNat < S16x1024.size a := fun v620 v625 v681 k0_hw49 => k0_hw49.1
theorem k0_idx88_inb : ∀ (v620 : IVec S16 32) (v625 : IVec S16 32) (v681 : IVec S16 32) (k0_hw49 : k0_chk49 v620 v625 v681), ∀ a x, ((![v681, v625] : Fin 2 → IVec S16 32) a x).toNat < S16x1024.size a := fun v620 v625 v681 k0_hw49 => k0_hw49.2
def k0_off28 (k0_t2 : Fin k0_t2_loop.trips) : Fin 1 → Nat :=
  let c768_i32_334 : BitVec 32 := 768#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v695 : BitVec 32 := Scalar.addi c768_i32_334 v617
  let v696 : Index := Scalar.indexCast v695
  ![v696.toNat]

def k0_chk50 (v620 : IVec S16 32) (v625 : IVec S16 32) (v698 : IVec S16 32) : Prop :=
  (∀ a x, ((![v698, v620] : Fin 2 → IVec S16 32) a x).toNat < S16x1024.size a) ∧
  (∀ a x, ((![v698, v625] : Fin 2 → IVec S16 32) a x).toNat < S16x1024.size a)
theorem k0_idx89_inb : ∀ (v620 : IVec S16 32) (v625 : IVec S16 32) (v698 : IVec S16 32) (k0_hw50 : k0_chk50 v620 v625 v698), ∀ a x, ((![v698, v620] : Fin 2 → IVec S16 32) a x).toNat < S16x1024.size a := fun v620 v625 v698 k0_hw50 => k0_hw50.1
theorem k0_idx90_inb : ∀ (v620 : IVec S16 32) (v625 : IVec S16 32) (v698 : IVec S16 32) (k0_hw50 : k0_chk50 v620 v625 v698), ∀ a x, ((![v698, v625] : Fin 2 → IVec S16 32) a x).toNat < S16x1024.size a := fun v620 v625 v698 k0_hw50 => k0_hw50.2

def k0_chk51 (v620 : IVec S16 32) (v625 : IVec S16 32) (v699 : IVec S16 32) : Prop :=
  (∀ a x, ((![v699, v620] : Fin 2 → IVec S16 32) a x).toNat < S16x1024.size a) ∧
  (∀ a x, ((![v699, v625] : Fin 2 → IVec S16 32) a x).toNat < S16x1024.size a)
theorem k0_idx91_inb : ∀ (v620 : IVec S16 32) (v625 : IVec S16 32) (v699 : IVec S16 32) (k0_hw51 : k0_chk51 v620 v625 v699), ∀ a x, ((![v699, v620] : Fin 2 → IVec S16 32) a x).toNat < S16x1024.size a := fun v620 v625 v699 k0_hw51 => k0_hw51.1
theorem k0_idx92_inb : ∀ (v620 : IVec S16 32) (v625 : IVec S16 32) (v699 : IVec S16 32) (k0_hw51 : k0_chk51 v620 v625 v699), ∀ a x, ((![v699, v625] : Fin 2 → IVec S16 32) a x).toNat < S16x1024.size a := fun v620 v625 v699 k0_hw51 => k0_hw51.2
def k0_off29 (k0_t2 : Fin k0_t2_loop.trips) : Fin 1 → Nat :=
  let c1024_i32_337 : BitVec 32 := 1024#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v713 : BitVec 32 := Scalar.addi c1024_i32_337 v617
  let v714 : Index := Scalar.indexCast v713
  ![v714.toNat]

def k0_chk52 (v620 : IVec S16 32) (v625 : IVec S16 32) (v716 : IVec S16 32) : Prop :=
  (∀ a x, ((![v716, v620] : Fin 2 → IVec S16 32) a x).toNat < S16x1024.size a) ∧
  (∀ a x, ((![v716, v625] : Fin 2 → IVec S16 32) a x).toNat < S16x1024.size a)
theorem k0_idx93_inb : ∀ (v620 : IVec S16 32) (v625 : IVec S16 32) (v716 : IVec S16 32) (k0_hw52 : k0_chk52 v620 v625 v716), ∀ a x, ((![v716, v620] : Fin 2 → IVec S16 32) a x).toNat < S16x1024.size a := fun v620 v625 v716 k0_hw52 => k0_hw52.1
theorem k0_idx94_inb : ∀ (v620 : IVec S16 32) (v625 : IVec S16 32) (v716 : IVec S16 32) (k0_hw52 : k0_chk52 v620 v625 v716), ∀ a x, ((![v716, v625] : Fin 2 → IVec S16 32) a x).toNat < S16x1024.size a := fun v620 v625 v716 k0_hw52 => k0_hw52.2

def k0_chk53 (v620 : IVec S16 32) (v625 : IVec S16 32) (v717 : IVec S16 32) : Prop :=
  (∀ a x, ((![v717, v620] : Fin 2 → IVec S16 32) a x).toNat < S16x1024.size a) ∧
  (∀ a x, ((![v717, v625] : Fin 2 → IVec S16 32) a x).toNat < S16x1024.size a)
theorem k0_idx95_inb : ∀ (v620 : IVec S16 32) (v625 : IVec S16 32) (v717 : IVec S16 32) (k0_hw53 : k0_chk53 v620 v625 v717), ∀ a x, ((![v717, v620] : Fin 2 → IVec S16 32) a x).toNat < S16x1024.size a := fun v620 v625 v717 k0_hw53 => k0_hw53.1
theorem k0_idx96_inb : ∀ (v620 : IVec S16 32) (v625 : IVec S16 32) (v717 : IVec S16 32) (k0_hw53 : k0_chk53 v620 v625 v717), ∀ a x, ((![v717, v625] : Fin 2 → IVec S16 32) a x).toNat < S16x1024.size a := fun v620 v625 v717 k0_hw53 => k0_hw53.2
def k0_off30 (k0_t2 : Fin k0_t2_loop.trips) : Fin 1 → Nat :=
  let c1280_i32_340 : BitVec 32 := 1280#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v731 : BitVec 32 := Scalar.addi c1280_i32_340 v617
  let v732 : Index := Scalar.indexCast v731
  ![v732.toNat]

def k0_chk54 (v620 : IVec S16 32) (v625 : IVec S16 32) (v734 : IVec S16 32) : Prop :=
  (∀ a x, ((![v734, v620] : Fin 2 → IVec S16 32) a x).toNat < S16x1024.size a) ∧
  (∀ a x, ((![v734, v625] : Fin 2 → IVec S16 32) a x).toNat < S16x1024.size a)
theorem k0_idx97_inb : ∀ (v620 : IVec S16 32) (v625 : IVec S16 32) (v734 : IVec S16 32) (k0_hw54 : k0_chk54 v620 v625 v734), ∀ a x, ((![v734, v620] : Fin 2 → IVec S16 32) a x).toNat < S16x1024.size a := fun v620 v625 v734 k0_hw54 => k0_hw54.1
theorem k0_idx98_inb : ∀ (v620 : IVec S16 32) (v625 : IVec S16 32) (v734 : IVec S16 32) (k0_hw54 : k0_chk54 v620 v625 v734), ∀ a x, ((![v734, v625] : Fin 2 → IVec S16 32) a x).toNat < S16x1024.size a := fun v620 v625 v734 k0_hw54 => k0_hw54.2

def k0_chk55 (v620 : IVec S16 32) (v625 : IVec S16 32) (v735 : IVec S16 32) : Prop :=
  (∀ a x, ((![v735, v620] : Fin 2 → IVec S16 32) a x).toNat < S16x1024.size a) ∧
  (∀ a x, ((![v735, v625] : Fin 2 → IVec S16 32) a x).toNat < S16x1024.size a)
theorem k0_idx99_inb : ∀ (v620 : IVec S16 32) (v625 : IVec S16 32) (v735 : IVec S16 32) (k0_hw55 : k0_chk55 v620 v625 v735), ∀ a x, ((![v735, v620] : Fin 2 → IVec S16 32) a x).toNat < S16x1024.size a := fun v620 v625 v735 k0_hw55 => k0_hw55.1
theorem k0_idx100_inb : ∀ (v620 : IVec S16 32) (v625 : IVec S16 32) (v735 : IVec S16 32) (k0_hw55 : k0_chk55 v620 v625 v735), ∀ a x, ((![v735, v625] : Fin 2 → IVec S16 32) a x).toNat < S16x1024.size a := fun v620 v625 v735 k0_hw55 => k0_hw55.2
def k0_off31 (k0_t2 : Fin k0_t2_loop.trips) : Fin 1 → Nat :=
  let c1536_i32_343 : BitVec 32 := 1536#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v749 : BitVec 32 := Scalar.addi c1536_i32_343 v617
  let v750 : Index := Scalar.indexCast v749
  ![v750.toNat]

def k0_chk56 (v620 : IVec S16 32) (v625 : IVec S16 32) (v752 : IVec S16 32) : Prop :=
  (∀ a x, ((![v752, v620] : Fin 2 → IVec S16 32) a x).toNat < S16x1024.size a) ∧
  (∀ a x, ((![v752, v625] : Fin 2 → IVec S16 32) a x).toNat < S16x1024.size a)
theorem k0_idx101_inb : ∀ (v620 : IVec S16 32) (v625 : IVec S16 32) (v752 : IVec S16 32) (k0_hw56 : k0_chk56 v620 v625 v752), ∀ a x, ((![v752, v620] : Fin 2 → IVec S16 32) a x).toNat < S16x1024.size a := fun v620 v625 v752 k0_hw56 => k0_hw56.1
theorem k0_idx102_inb : ∀ (v620 : IVec S16 32) (v625 : IVec S16 32) (v752 : IVec S16 32) (k0_hw56 : k0_chk56 v620 v625 v752), ∀ a x, ((![v752, v625] : Fin 2 → IVec S16 32) a x).toNat < S16x1024.size a := fun v620 v625 v752 k0_hw56 => k0_hw56.2

def k0_chk57 (v620 : IVec S16 32) (v625 : IVec S16 32) (v753 : IVec S16 32) : Prop :=
  (∀ a x, ((![v753, v620] : Fin 2 → IVec S16 32) a x).toNat < S16x1024.size a) ∧
  (∀ a x, ((![v753, v625] : Fin 2 → IVec S16 32) a x).toNat < S16x1024.size a)
theorem k0_idx103_inb : ∀ (v620 : IVec S16 32) (v625 : IVec S16 32) (v753 : IVec S16 32) (k0_hw57 : k0_chk57 v620 v625 v753), ∀ a x, ((![v753, v620] : Fin 2 → IVec S16 32) a x).toNat < S16x1024.size a := fun v620 v625 v753 k0_hw57 => k0_hw57.1
theorem k0_idx104_inb : ∀ (v620 : IVec S16 32) (v625 : IVec S16 32) (v753 : IVec S16 32) (k0_hw57 : k0_chk57 v620 v625 v753), ∀ a x, ((![v753, v625] : Fin 2 → IVec S16 32) a x).toNat < S16x1024.size a := fun v620 v625 v753 k0_hw57 => k0_hw57.2
def k0_off32 (k0_t2 : Fin k0_t2_loop.trips) : Fin 1 → Nat :=
  let c1792_i32_346 : BitVec 32 := 1792#32
  let c0_i32_191 : BitVec 32 := 0#32
  let c1_i32_193 : BitVec 32 := 1#32
  let arg21 : BitVec 32 := Scf.iv c0_i32_191 c1_i32_193 k0_t2
  let c64_i32_321 : BitVec 32 := 64#32
  let v616 : BitVec 32 := Scalar.muli arg21 c64_i32_321
  let c32_i32 : BitVec 32 := 32#32
  let v617 : BitVec 32 := Scalar.addi v616 c32_i32
  let v767 : BitVec 32 := Scalar.addi c1792_i32_346 v617
  let v768 : Index := Scalar.indexCast v767
  ![v768.toNat]
def k0_off33 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v772 : BitVec 32 := Scalar.addi v20 v771
  let v773 : Index := Scalar.indexCast v772
  ![v773.toNat]

def k0_chk58 (v774 : IVec S16 32) (v779 : IVec S16 32) (v780 : IVec S16 32) : Prop :=
  (∀ a x, ((![v780, v774] : Fin 2 → IVec S16 32) a x).toNat < S16x1024.size a) ∧
  (∀ a x, ((![v780, v779] : Fin 2 → IVec S16 32) a x).toNat < S16x1024.size a)
theorem k0_idx105_inb : ∀ (v774 : IVec S16 32) (v779 : IVec S16 32) (v780 : IVec S16 32) (k0_hw58 : k0_chk58 v774 v779 v780), ∀ a x, ((![v780, v774] : Fin 2 → IVec S16 32) a x).toNat < S16x1024.size a := fun v774 v779 v780 k0_hw58 => k0_hw58.1
theorem k0_idx106_inb : ∀ (v774 : IVec S16 32) (v779 : IVec S16 32) (v780 : IVec S16 32) (k0_hw58 : k0_chk58 v774 v779 v780), ∀ a x, ((![v780, v779] : Fin 2 → IVec S16 32) a x).toNat < S16x1024.size a := fun v774 v779 v780 k0_hw58 => k0_hw58.2

def k0_chk59 (v774 : IVec S16 32) (v779 : IVec S16 32) (v781 : IVec S16 32) : Prop :=
  (∀ a x, ((![v781, v774] : Fin 2 → IVec S16 32) a x).toNat < S16x1024.size a) ∧
  (∀ a x, ((![v781, v779] : Fin 2 → IVec S16 32) a x).toNat < S16x1024.size a)
theorem k0_idx107_inb : ∀ (v774 : IVec S16 32) (v779 : IVec S16 32) (v781 : IVec S16 32) (k0_hw59 : k0_chk59 v774 v779 v781), ∀ a x, ((![v781, v774] : Fin 2 → IVec S16 32) a x).toNat < S16x1024.size a := fun v774 v779 v781 k0_hw59 => k0_hw59.1
theorem k0_idx108_inb : ∀ (v774 : IVec S16 32) (v779 : IVec S16 32) (v781 : IVec S16 32) (k0_hw59 : k0_chk59 v774 v779 v781), ∀ a x, ((![v781, v779] : Fin 2 → IVec S16 32) a x).toNat < S16x1024.size a := fun v774 v779 v781 k0_hw59 => k0_hw59.2
def k0_off34 (k0_t2 : Fin k0_t2_loop.trips) : Fin 1 → Nat :=
  let c0_i32_351 : BitVec 32 := 0#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v795 : BitVec 32 := Scalar.addi c0_i32_351 v771
  let v796 : Index := Scalar.indexCast v795
  ![v796.toNat]

def k0_chk60 (v774 : IVec S16 32) (v779 : IVec S16 32) (v798 : IVec S16 32) : Prop :=
  (∀ a x, ((![v798, v774] : Fin 2 → IVec S16 32) a x).toNat < S16x1024.size a) ∧
  (∀ a x, ((![v798, v779] : Fin 2 → IVec S16 32) a x).toNat < S16x1024.size a)
theorem k0_idx109_inb : ∀ (v774 : IVec S16 32) (v779 : IVec S16 32) (v798 : IVec S16 32) (k0_hw60 : k0_chk60 v774 v779 v798), ∀ a x, ((![v798, v774] : Fin 2 → IVec S16 32) a x).toNat < S16x1024.size a := fun v774 v779 v798 k0_hw60 => k0_hw60.1
theorem k0_idx110_inb : ∀ (v774 : IVec S16 32) (v779 : IVec S16 32) (v798 : IVec S16 32) (k0_hw60 : k0_chk60 v774 v779 v798), ∀ a x, ((![v798, v779] : Fin 2 → IVec S16 32) a x).toNat < S16x1024.size a := fun v774 v779 v798 k0_hw60 => k0_hw60.2

def k0_chk61 (v774 : IVec S16 32) (v779 : IVec S16 32) (v799 : IVec S16 32) : Prop :=
  (∀ a x, ((![v799, v774] : Fin 2 → IVec S16 32) a x).toNat < S16x1024.size a) ∧
  (∀ a x, ((![v799, v779] : Fin 2 → IVec S16 32) a x).toNat < S16x1024.size a)
theorem k0_idx111_inb : ∀ (v774 : IVec S16 32) (v779 : IVec S16 32) (v799 : IVec S16 32) (k0_hw61 : k0_chk61 v774 v779 v799), ∀ a x, ((![v799, v774] : Fin 2 → IVec S16 32) a x).toNat < S16x1024.size a := fun v774 v779 v799 k0_hw61 => k0_hw61.1
theorem k0_idx112_inb : ∀ (v774 : IVec S16 32) (v779 : IVec S16 32) (v799 : IVec S16 32) (k0_hw61 : k0_chk61 v774 v779 v799), ∀ a x, ((![v799, v779] : Fin 2 → IVec S16 32) a x).toNat < S16x1024.size a := fun v774 v779 v799 k0_hw61 => k0_hw61.2
def k0_off35 (k0_t2 : Fin k0_t2_loop.trips) : Fin 1 → Nat :=
  let c256_i32_354 : BitVec 32 := 256#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v813 : BitVec 32 := Scalar.addi c256_i32_354 v771
  let v814 : Index := Scalar.indexCast v813
  ![v814.toNat]

def k0_chk62 (v774 : IVec S16 32) (v779 : IVec S16 32) (v816 : IVec S16 32) : Prop :=
  (∀ a x, ((![v816, v774] : Fin 2 → IVec S16 32) a x).toNat < S16x1024.size a) ∧
  (∀ a x, ((![v816, v779] : Fin 2 → IVec S16 32) a x).toNat < S16x1024.size a)
theorem k0_idx113_inb : ∀ (v774 : IVec S16 32) (v779 : IVec S16 32) (v816 : IVec S16 32) (k0_hw62 : k0_chk62 v774 v779 v816), ∀ a x, ((![v816, v774] : Fin 2 → IVec S16 32) a x).toNat < S16x1024.size a := fun v774 v779 v816 k0_hw62 => k0_hw62.1
theorem k0_idx114_inb : ∀ (v774 : IVec S16 32) (v779 : IVec S16 32) (v816 : IVec S16 32) (k0_hw62 : k0_chk62 v774 v779 v816), ∀ a x, ((![v816, v779] : Fin 2 → IVec S16 32) a x).toNat < S16x1024.size a := fun v774 v779 v816 k0_hw62 => k0_hw62.2

def k0_chk63 (v774 : IVec S16 32) (v779 : IVec S16 32) (v817 : IVec S16 32) : Prop :=
  (∀ a x, ((![v817, v774] : Fin 2 → IVec S16 32) a x).toNat < S16x1024.size a) ∧
  (∀ a x, ((![v817, v779] : Fin 2 → IVec S16 32) a x).toNat < S16x1024.size a)
theorem k0_idx115_inb : ∀ (v774 : IVec S16 32) (v779 : IVec S16 32) (v817 : IVec S16 32) (k0_hw63 : k0_chk63 v774 v779 v817), ∀ a x, ((![v817, v774] : Fin 2 → IVec S16 32) a x).toNat < S16x1024.size a := fun v774 v779 v817 k0_hw63 => k0_hw63.1
theorem k0_idx116_inb : ∀ (v774 : IVec S16 32) (v779 : IVec S16 32) (v817 : IVec S16 32) (k0_hw63 : k0_chk63 v774 v779 v817), ∀ a x, ((![v817, v779] : Fin 2 → IVec S16 32) a x).toNat < S16x1024.size a := fun v774 v779 v817 k0_hw63 => k0_hw63.2
def k0_off36 (k0_t2 : Fin k0_t2_loop.trips) : Fin 1 → Nat :=
  let c512_i32_357 : BitVec 32 := 512#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v831 : BitVec 32 := Scalar.addi c512_i32_357 v771
  let v832 : Index := Scalar.indexCast v831
  ![v832.toNat]

def k0_chk64 (v774 : IVec S16 32) (v779 : IVec S16 32) (v834 : IVec S16 32) : Prop :=
  (∀ a x, ((![v834, v774] : Fin 2 → IVec S16 32) a x).toNat < S16x1024.size a) ∧
  (∀ a x, ((![v834, v779] : Fin 2 → IVec S16 32) a x).toNat < S16x1024.size a)
theorem k0_idx117_inb : ∀ (v774 : IVec S16 32) (v779 : IVec S16 32) (v834 : IVec S16 32) (k0_hw64 : k0_chk64 v774 v779 v834), ∀ a x, ((![v834, v774] : Fin 2 → IVec S16 32) a x).toNat < S16x1024.size a := fun v774 v779 v834 k0_hw64 => k0_hw64.1
theorem k0_idx118_inb : ∀ (v774 : IVec S16 32) (v779 : IVec S16 32) (v834 : IVec S16 32) (k0_hw64 : k0_chk64 v774 v779 v834), ∀ a x, ((![v834, v779] : Fin 2 → IVec S16 32) a x).toNat < S16x1024.size a := fun v774 v779 v834 k0_hw64 => k0_hw64.2

def k0_chk65 (v774 : IVec S16 32) (v779 : IVec S16 32) (v835 : IVec S16 32) : Prop :=
  (∀ a x, ((![v835, v774] : Fin 2 → IVec S16 32) a x).toNat < S16x1024.size a) ∧
  (∀ a x, ((![v835, v779] : Fin 2 → IVec S16 32) a x).toNat < S16x1024.size a)
theorem k0_idx119_inb : ∀ (v774 : IVec S16 32) (v779 : IVec S16 32) (v835 : IVec S16 32) (k0_hw65 : k0_chk65 v774 v779 v835), ∀ a x, ((![v835, v774] : Fin 2 → IVec S16 32) a x).toNat < S16x1024.size a := fun v774 v779 v835 k0_hw65 => k0_hw65.1
theorem k0_idx120_inb : ∀ (v774 : IVec S16 32) (v779 : IVec S16 32) (v835 : IVec S16 32) (k0_hw65 : k0_chk65 v774 v779 v835), ∀ a x, ((![v835, v779] : Fin 2 → IVec S16 32) a x).toNat < S16x1024.size a := fun v774 v779 v835 k0_hw65 => k0_hw65.2
def k0_off37 (k0_t2 : Fin k0_t2_loop.trips) : Fin 1 → Nat :=
  let c768_i32_360 : BitVec 32 := 768#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v849 : BitVec 32 := Scalar.addi c768_i32_360 v771
  let v850 : Index := Scalar.indexCast v849
  ![v850.toNat]

def k0_chk66 (v774 : IVec S16 32) (v779 : IVec S16 32) (v852 : IVec S16 32) : Prop :=
  (∀ a x, ((![v852, v774] : Fin 2 → IVec S16 32) a x).toNat < S16x1024.size a) ∧
  (∀ a x, ((![v852, v779] : Fin 2 → IVec S16 32) a x).toNat < S16x1024.size a)
theorem k0_idx121_inb : ∀ (v774 : IVec S16 32) (v779 : IVec S16 32) (v852 : IVec S16 32) (k0_hw66 : k0_chk66 v774 v779 v852), ∀ a x, ((![v852, v774] : Fin 2 → IVec S16 32) a x).toNat < S16x1024.size a := fun v774 v779 v852 k0_hw66 => k0_hw66.1
theorem k0_idx122_inb : ∀ (v774 : IVec S16 32) (v779 : IVec S16 32) (v852 : IVec S16 32) (k0_hw66 : k0_chk66 v774 v779 v852), ∀ a x, ((![v852, v779] : Fin 2 → IVec S16 32) a x).toNat < S16x1024.size a := fun v774 v779 v852 k0_hw66 => k0_hw66.2

def k0_chk67 (v774 : IVec S16 32) (v779 : IVec S16 32) (v853 : IVec S16 32) : Prop :=
  (∀ a x, ((![v853, v774] : Fin 2 → IVec S16 32) a x).toNat < S16x1024.size a) ∧
  (∀ a x, ((![v853, v779] : Fin 2 → IVec S16 32) a x).toNat < S16x1024.size a)
theorem k0_idx123_inb : ∀ (v774 : IVec S16 32) (v779 : IVec S16 32) (v853 : IVec S16 32) (k0_hw67 : k0_chk67 v774 v779 v853), ∀ a x, ((![v853, v774] : Fin 2 → IVec S16 32) a x).toNat < S16x1024.size a := fun v774 v779 v853 k0_hw67 => k0_hw67.1
theorem k0_idx124_inb : ∀ (v774 : IVec S16 32) (v779 : IVec S16 32) (v853 : IVec S16 32) (k0_hw67 : k0_chk67 v774 v779 v853), ∀ a x, ((![v853, v779] : Fin 2 → IVec S16 32) a x).toNat < S16x1024.size a := fun v774 v779 v853 k0_hw67 => k0_hw67.2
def k0_off38 (k0_t2 : Fin k0_t2_loop.trips) : Fin 1 → Nat :=
  let c1024_i32_363 : BitVec 32 := 1024#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v867 : BitVec 32 := Scalar.addi c1024_i32_363 v771
  let v868 : Index := Scalar.indexCast v867
  ![v868.toNat]

def k0_chk68 (v774 : IVec S16 32) (v779 : IVec S16 32) (v870 : IVec S16 32) : Prop :=
  (∀ a x, ((![v870, v774] : Fin 2 → IVec S16 32) a x).toNat < S16x1024.size a) ∧
  (∀ a x, ((![v870, v779] : Fin 2 → IVec S16 32) a x).toNat < S16x1024.size a)
theorem k0_idx125_inb : ∀ (v774 : IVec S16 32) (v779 : IVec S16 32) (v870 : IVec S16 32) (k0_hw68 : k0_chk68 v774 v779 v870), ∀ a x, ((![v870, v774] : Fin 2 → IVec S16 32) a x).toNat < S16x1024.size a := fun v774 v779 v870 k0_hw68 => k0_hw68.1
theorem k0_idx126_inb : ∀ (v774 : IVec S16 32) (v779 : IVec S16 32) (v870 : IVec S16 32) (k0_hw68 : k0_chk68 v774 v779 v870), ∀ a x, ((![v870, v779] : Fin 2 → IVec S16 32) a x).toNat < S16x1024.size a := fun v774 v779 v870 k0_hw68 => k0_hw68.2

def k0_chk69 (v774 : IVec S16 32) (v779 : IVec S16 32) (v871 : IVec S16 32) : Prop :=
  (∀ a x, ((![v871, v774] : Fin 2 → IVec S16 32) a x).toNat < S16x1024.size a) ∧
  (∀ a x, ((![v871, v779] : Fin 2 → IVec S16 32) a x).toNat < S16x1024.size a)
theorem k0_idx127_inb : ∀ (v774 : IVec S16 32) (v779 : IVec S16 32) (v871 : IVec S16 32) (k0_hw69 : k0_chk69 v774 v779 v871), ∀ a x, ((![v871, v774] : Fin 2 → IVec S16 32) a x).toNat < S16x1024.size a := fun v774 v779 v871 k0_hw69 => k0_hw69.1
theorem k0_idx128_inb : ∀ (v774 : IVec S16 32) (v779 : IVec S16 32) (v871 : IVec S16 32) (k0_hw69 : k0_chk69 v774 v779 v871), ∀ a x, ((![v871, v779] : Fin 2 → IVec S16 32) a x).toNat < S16x1024.size a := fun v774 v779 v871 k0_hw69 => k0_hw69.2
def k0_off39 (k0_t2 : Fin k0_t2_loop.trips) : Fin 1 → Nat :=
  let c1280_i32_366 : BitVec 32 := 1280#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v885 : BitVec 32 := Scalar.addi c1280_i32_366 v771
  let v886 : Index := Scalar.indexCast v885
  ![v886.toNat]

def k0_chk70 (v774 : IVec S16 32) (v779 : IVec S16 32) (v888 : IVec S16 32) : Prop :=
  (∀ a x, ((![v888, v774] : Fin 2 → IVec S16 32) a x).toNat < S16x1024.size a) ∧
  (∀ a x, ((![v888, v779] : Fin 2 → IVec S16 32) a x).toNat < S16x1024.size a)
theorem k0_idx129_inb : ∀ (v774 : IVec S16 32) (v779 : IVec S16 32) (v888 : IVec S16 32) (k0_hw70 : k0_chk70 v774 v779 v888), ∀ a x, ((![v888, v774] : Fin 2 → IVec S16 32) a x).toNat < S16x1024.size a := fun v774 v779 v888 k0_hw70 => k0_hw70.1
theorem k0_idx130_inb : ∀ (v774 : IVec S16 32) (v779 : IVec S16 32) (v888 : IVec S16 32) (k0_hw70 : k0_chk70 v774 v779 v888), ∀ a x, ((![v888, v779] : Fin 2 → IVec S16 32) a x).toNat < S16x1024.size a := fun v774 v779 v888 k0_hw70 => k0_hw70.2

def k0_chk71 (v774 : IVec S16 32) (v779 : IVec S16 32) (v889 : IVec S16 32) : Prop :=
  (∀ a x, ((![v889, v774] : Fin 2 → IVec S16 32) a x).toNat < S16x1024.size a) ∧
  (∀ a x, ((![v889, v779] : Fin 2 → IVec S16 32) a x).toNat < S16x1024.size a)
theorem k0_idx131_inb : ∀ (v774 : IVec S16 32) (v779 : IVec S16 32) (v889 : IVec S16 32) (k0_hw71 : k0_chk71 v774 v779 v889), ∀ a x, ((![v889, v774] : Fin 2 → IVec S16 32) a x).toNat < S16x1024.size a := fun v774 v779 v889 k0_hw71 => k0_hw71.1
theorem k0_idx132_inb : ∀ (v774 : IVec S16 32) (v779 : IVec S16 32) (v889 : IVec S16 32) (k0_hw71 : k0_chk71 v774 v779 v889), ∀ a x, ((![v889, v779] : Fin 2 → IVec S16 32) a x).toNat < S16x1024.size a := fun v774 v779 v889 k0_hw71 => k0_hw71.2
def k0_off40 (k0_t2 : Fin k0_t2_loop.trips) : Fin 1 → Nat :=
  let c1536_i32_369 : BitVec 32 := 1536#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v903 : BitVec 32 := Scalar.addi c1536_i32_369 v771
  let v904 : Index := Scalar.indexCast v903
  ![v904.toNat]

def k0_chk72 (v774 : IVec S16 32) (v779 : IVec S16 32) (v906 : IVec S16 32) : Prop :=
  (∀ a x, ((![v906, v774] : Fin 2 → IVec S16 32) a x).toNat < S16x1024.size a) ∧
  (∀ a x, ((![v906, v779] : Fin 2 → IVec S16 32) a x).toNat < S16x1024.size a)
theorem k0_idx133_inb : ∀ (v774 : IVec S16 32) (v779 : IVec S16 32) (v906 : IVec S16 32) (k0_hw72 : k0_chk72 v774 v779 v906), ∀ a x, ((![v906, v774] : Fin 2 → IVec S16 32) a x).toNat < S16x1024.size a := fun v774 v779 v906 k0_hw72 => k0_hw72.1
theorem k0_idx134_inb : ∀ (v774 : IVec S16 32) (v779 : IVec S16 32) (v906 : IVec S16 32) (k0_hw72 : k0_chk72 v774 v779 v906), ∀ a x, ((![v906, v779] : Fin 2 → IVec S16 32) a x).toNat < S16x1024.size a := fun v774 v779 v906 k0_hw72 => k0_hw72.2

def k0_chk73 (v774 : IVec S16 32) (v779 : IVec S16 32) (v907 : IVec S16 32) : Prop :=
  (∀ a x, ((![v907, v774] : Fin 2 → IVec S16 32) a x).toNat < S16x1024.size a) ∧
  (∀ a x, ((![v907, v779] : Fin 2 → IVec S16 32) a x).toNat < S16x1024.size a)
theorem k0_idx135_inb : ∀ (v774 : IVec S16 32) (v779 : IVec S16 32) (v907 : IVec S16 32) (k0_hw73 : k0_chk73 v774 v779 v907), ∀ a x, ((![v907, v774] : Fin 2 → IVec S16 32) a x).toNat < S16x1024.size a := fun v774 v779 v907 k0_hw73 => k0_hw73.1
theorem k0_idx136_inb : ∀ (v774 : IVec S16 32) (v779 : IVec S16 32) (v907 : IVec S16 32) (k0_hw73 : k0_chk73 v774 v779 v907), ∀ a x, ((![v907, v779] : Fin 2 → IVec S16 32) a x).toNat < S16x1024.size a := fun v774 v779 v907 k0_hw73 => k0_hw73.2
def k0_off41 (k0_t2 : Fin k0_t2_loop.trips) : Fin 1 → Nat :=
  let c1792_i32_372 : BitVec 32 := 1792#32
  let c0_i32_191 : BitVec 32 := 0#32
  let c1_i32_193 : BitVec 32 := 1#32
  let arg21 : BitVec 32 := Scf.iv c0_i32_191 c1_i32_193 k0_t2
  let c64_i32_347 : BitVec 32 := 64#32
  let v770 : BitVec 32 := Scalar.muli arg21 c64_i32_347
  let c48_i32 : BitVec 32 := 48#32
  let v771 : BitVec 32 := Scalar.addi v770 c48_i32
  let v921 : BitVec 32 := Scalar.addi c1792_i32_372 v771
  let v922 : Index := Scalar.indexCast v921
  ![v922.toNat]
def k0_off42 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c2_i32_58 : BitVec 32 := 2#32
  let c0_i32_54 : BitVec 32 := 0#32
  let c1_i32_56 : BitVec 32 := 1#32
  let arg20 : BitVec 32 := Scf.iv c0_i32_54 c1_i32_56 k0_t1
  let v82 : BitVec 32 := Scalar.muli c2_i32_58 arg20
  let c8_i32_195 : BitVec 32 := 8#32
  let v216 : BitVec 32 := Scalar.muli v82 c8_i32_195
  let v217 : BitVec 32 := Scalar.addi v2 v216
  let c256_i32_196 : BitVec 32 := 256#32
  let v218 : BitVec 32 := Scalar.muli v217 c256_i32_196
  ![v218.toNat]
def k0_cond1 (k0_t1 : Fin k0_t1_loop.trips) : BitVec 1 :=
  let c2_i32_58 : BitVec 32 := 2#32
  let c0_i32_54 : BitVec 32 := 0#32
  let c1_i32_56 : BitVec 32 := 1#32
  let arg20 : BitVec 32 := Scf.iv c0_i32_54 c1_i32_56 k0_t1
  let v82 : BitVec 32 := Scalar.muli c2_i32_58 arg20
  let c2_i32_197 : BitVec 32 := 2#32
  let v219 : BitVec 32 := Scalar.addi v82 c2_i32_197
  let c12_i32 : BitVec 32 := 12#32
  let v220 : BitVec 1 := Scalar.cmpi .slt v219 c12_i32
  let v221 : BitVec 32 := Scalar.extui v220
  let c0_i32_198 : BitVec 32 := 0#32
  let v222 : BitVec 1 := Scalar.cmpi .ne v221 c0_i32_198
  v222

def k0_off43 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c2_i32_58 : BitVec 32 := 2#32
  let c0_i32_54 : BitVec 32 := 0#32
  let c1_i32_56 : BitVec 32 := 1#32
  let arg20 : BitVec 32 := Scf.iv c0_i32_54 c1_i32_56 k0_t1
  let v82 : BitVec 32 := Scalar.muli c2_i32_58 arg20
  let c2_i32_279 : BitVec 32 := 2#32
  let v308 : BitVec 32 := Scalar.addi v82 c2_i32_279
  let c8_i32_280 : BitVec 32 := 8#32
  let v309 : BitVec 32 := Scalar.muli v308 c8_i32_280
  let v310 : BitVec 32 := Scalar.addi v2 v309
  let c2_i32_281 : BitVec 32 := 2#32
  let v311 : BitVec 32 := Scalar.muli v310 c2_i32_281
  ![v311.toNat]
def k0_off44 (v29 : BitVec 32) (c0_i32_282 : BitVec 32) : Fin 2 → Nat :=
  let c0_i32_293 : BitVec 32 := 0#32
  let c128_i32 : BitVec 32 := 128#32
  let v30 : BitVec 32 := Scalar.muli v29 c128_i32
  let v312 : BitVec 32 := Scalar.addi v30 c0_i32_282
  ![0, v312.toNat]
def k0_off45 (v29 : BitVec 32) (c0_i32_199 : BitVec 32) : Fin 2 → Nat :=
  let c0_i32_210 : BitVec 32 := 0#32
  let c128_i32 : BitVec 32 := 128#32
  let v30 : BitVec 32 := Scalar.muli v29 c128_i32
  let v223 : BitVec 32 := Scalar.addi v30 c0_i32_199
  ![0, v223.toNat]

def k0_chk1 (v29 : BitVec 32) : Prop :=
  (∀ (r : Fin 8), ∀ a, (k0_off3 v29 (BitVec.ofNat 32 (128 * r.val))) a + S24576x128.size a ≤ S24576x2048.size a) ∧
  (∀ (r : Fin 8), ∀ a, (k0_off5 v29 (BitVec.ofNat 32 (128 * r.val))) a + S24576x128.size a ≤ S24576x2048.size a) ∧
  (∀ k0_t1 : Fin k0_t1_loop.trips, ∀ (k0_h1 : k0_cond1 k0_t1 = 1#1), ∀ (r : Fin 8), ∀ a, (k0_off44 v29 (BitVec.ofNat 32 (128 * r.val))) a + S24576x128.size a ≤ S24576x2048.size a) ∧
  (∀ (r : Fin 8), ∀ a, (k0_off45 v29 (BitVec.ofNat 32 (128 * r.val))) a + S24576x128.size a ≤ S24576x2048.size a)
theorem k0_off3_inb : ∀ (v29 : BitVec 32) (k0_hw1 : k0_chk1 v29), ∀ (r : Fin 8), ∀ a, (k0_off3 v29 (BitVec.ofNat 32 (128 * r.val))) a + S24576x128.size a ≤ S24576x2048.size a := fun v29 k0_hw1 r => k0_hw1.1 r
theorem k0_off5_inb : ∀ (v29 : BitVec 32) (k0_hw1 : k0_chk1 v29), ∀ (r : Fin 8), ∀ a, (k0_off5 v29 (BitVec.ofNat 32 (128 * r.val))) a + S24576x128.size a ≤ S24576x2048.size a := fun v29 k0_hw1 r => k0_hw1.2.1 r
theorem k0_off44_inb : ∀ (v29 : BitVec 32) (k0_hw1 : k0_chk1 v29) (k0_t1 : Fin k0_t1_loop.trips), ∀ (k0_h1 : k0_cond1 k0_t1 = 1#1), ∀ (r : Fin 8), ∀ a, (k0_off44 v29 (BitVec.ofNat 32 (128 * r.val))) a + S24576x128.size a ≤ S24576x2048.size a := fun v29 k0_hw1 k0_t1 k0_h1 r => k0_hw1.2.2.1 k0_t1 k0_h1 r
theorem k0_off45_inb : ∀ (v29 : BitVec 32) (k0_hw1 : k0_chk1 v29), ∀ (r : Fin 8), ∀ a, (k0_off45 v29 (BitVec.ofNat 32 (128 * r.val))) a + S24576x128.size a ≤ S24576x2048.size a := fun v29 k0_hw1 r => k0_hw1.2.2.2 r

def k0_chk74 (v274 : IVec S16 32) : Prop :=
  (∀ a x, ((![v274] : Fin 1 → IVec S16 32) a x).toNat < S96.size a)
theorem k0_idx137_inb : ∀ (v274 : IVec S16 32) (k0_hw74 : k0_chk74 v274), ∀ a x, ((![v274] : Fin 1 → IVec S16 32) a x).toNat < S96.size a := fun v274 k0_hw74 => k0_hw74

def k0_chk75 (v278 : IVec S16 32) : Prop :=
  (∀ a x, ((![v278] : Fin 1 → IVec S16 32) a x).toNat < S96.size a)
theorem k0_idx138_inb : ∀ (v278 : IVec S16 32) (k0_hw75 : k0_chk75 v278), ∀ a x, ((![v278] : Fin 1 → IVec S16 32) a x).toNat < S96.size a := fun v278 k0_hw75 => k0_hw75

def k0_chk76 (v282 : IVec S16 32) : Prop :=
  (∀ a x, ((![v282] : Fin 1 → IVec S16 32) a x).toNat < S96.size a)
theorem k0_idx139_inb : ∀ (v282 : IVec S16 32) (k0_hw76 : k0_chk76 v282), ∀ a x, ((![v282] : Fin 1 → IVec S16 32) a x).toNat < S96.size a := fun v282 k0_hw76 => k0_hw76

def k0_chk77 (v286 : IVec S16 32) : Prop :=
  (∀ a x, ((![v286] : Fin 1 → IVec S16 32) a x).toNat < S96.size a)
theorem k0_idx140_inb : ∀ (v286 : IVec S16 32) (k0_hw77 : k0_chk77 v286), ∀ a x, ((![v286] : Fin 1 → IVec S16 32) a x).toNat < S96.size a := fun v286 k0_hw77 => k0_hw77

def k0_chk78 (v290 : IVec S16 32) : Prop :=
  (∀ a x, ((![v290] : Fin 1 → IVec S16 32) a x).toNat < S96.size a)
theorem k0_idx141_inb : ∀ (v290 : IVec S16 32) (k0_hw78 : k0_chk78 v290), ∀ a x, ((![v290] : Fin 1 → IVec S16 32) a x).toNat < S96.size a := fun v290 k0_hw78 => k0_hw78

def k0_chk79 (v294 : IVec S16 32) : Prop :=
  (∀ a x, ((![v294] : Fin 1 → IVec S16 32) a x).toNat < S96.size a)
theorem k0_idx142_inb : ∀ (v294 : IVec S16 32) (k0_hw79 : k0_chk79 v294), ∀ a x, ((![v294] : Fin 1 → IVec S16 32) a x).toNat < S96.size a := fun v294 k0_hw79 => k0_hw79

def k0_chk80 (v298 : IVec S16 32) : Prop :=
  (∀ a x, ((![v298] : Fin 1 → IVec S16 32) a x).toNat < S96.size a)
theorem k0_idx143_inb : ∀ (v298 : IVec S16 32) (k0_hw80 : k0_chk80 v298), ∀ a x, ((![v298] : Fin 1 → IVec S16 32) a x).toNat < S96.size a := fun v298 k0_hw80 => k0_hw80

def k0_chk81 (v302 : IVec S16 32) : Prop :=
  (∀ a x, ((![v302] : Fin 1 → IVec S16 32) a x).toNat < S96.size a)
theorem k0_idx144_inb : ∀ (v302 : IVec S16 32) (k0_hw81 : k0_chk81 v302), ∀ a x, ((![v302] : Fin 1 → IVec S16 32) a x).toNat < S96.size a := fun v302 k0_hw81 => k0_hw81
@[reducible] def k0_t3_loop : Scf.Loop 32 :=
  let c0_i32_273 : BitVec 32 := 0#32
  let c4_i32_274 : BitVec 32 := 4#32
  let v304 : BitVec 32 := Scalar.addi c0_i32_273 c4_i32_274
  let c1_i32_275 : BitVec 32 := 1#32
  ⟨c0_i32_273, v304, c1_i32_275⟩
def k0_off46 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v310 : BitVec 32 := Scalar.addi v20 v309
  let v311 : Index := Scalar.indexCast v310
  ![v311.toNat]

def k0_chk82 (v312 : IVec S16 32) (v317 : IVec S16 32) (v318 : IVec S16 32) : Prop :=
  (∀ a x, ((![v318, v312] : Fin 2 → IVec S16 32) a x).toNat < S16x1024.size a) ∧
  (∀ a x, ((![v318, v317] : Fin 2 → IVec S16 32) a x).toNat < S16x1024.size a)
theorem k0_idx145_inb : ∀ (v312 : IVec S16 32) (v317 : IVec S16 32) (v318 : IVec S16 32) (k0_hw82 : k0_chk82 v312 v317 v318), ∀ a x, ((![v318, v312] : Fin 2 → IVec S16 32) a x).toNat < S16x1024.size a := fun v312 v317 v318 k0_hw82 => k0_hw82.1
theorem k0_idx146_inb : ∀ (v312 : IVec S16 32) (v317 : IVec S16 32) (v318 : IVec S16 32) (k0_hw82 : k0_chk82 v312 v317 v318), ∀ a x, ((![v318, v317] : Fin 2 → IVec S16 32) a x).toNat < S16x1024.size a := fun v312 v317 v318 k0_hw82 => k0_hw82.2

def k0_chk83 (v312 : IVec S16 32) (v317 : IVec S16 32) (v319 : IVec S16 32) : Prop :=
  (∀ a x, ((![v319, v312] : Fin 2 → IVec S16 32) a x).toNat < S16x1024.size a) ∧
  (∀ a x, ((![v319, v317] : Fin 2 → IVec S16 32) a x).toNat < S16x1024.size a)
theorem k0_idx147_inb : ∀ (v312 : IVec S16 32) (v317 : IVec S16 32) (v319 : IVec S16 32) (k0_hw83 : k0_chk83 v312 v317 v319), ∀ a x, ((![v319, v312] : Fin 2 → IVec S16 32) a x).toNat < S16x1024.size a := fun v312 v317 v319 k0_hw83 => k0_hw83.1
theorem k0_idx148_inb : ∀ (v312 : IVec S16 32) (v317 : IVec S16 32) (v319 : IVec S16 32) (k0_hw83 : k0_chk83 v312 v317 v319), ∀ a x, ((![v319, v317] : Fin 2 → IVec S16 32) a x).toNat < S16x1024.size a := fun v312 v317 v319 k0_hw83 => k0_hw83.2
def k0_off47 (k0_t3 : Fin k0_t3_loop.trips) : Fin 1 → Nat :=
  let c0_i32_283 : BitVec 32 := 0#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v333 : BitVec 32 := Scalar.addi c0_i32_283 v309
  let v334 : Index := Scalar.indexCast v333
  ![v334.toNat]

def k0_chk84 (v312 : IVec S16 32) (v317 : IVec S16 32) (v336 : IVec S16 32) : Prop :=
  (∀ a x, ((![v336, v312] : Fin 2 → IVec S16 32) a x).toNat < S16x1024.size a) ∧
  (∀ a x, ((![v336, v317] : Fin 2 → IVec S16 32) a x).toNat < S16x1024.size a)
theorem k0_idx149_inb : ∀ (v312 : IVec S16 32) (v317 : IVec S16 32) (v336 : IVec S16 32) (k0_hw84 : k0_chk84 v312 v317 v336), ∀ a x, ((![v336, v312] : Fin 2 → IVec S16 32) a x).toNat < S16x1024.size a := fun v312 v317 v336 k0_hw84 => k0_hw84.1
theorem k0_idx150_inb : ∀ (v312 : IVec S16 32) (v317 : IVec S16 32) (v336 : IVec S16 32) (k0_hw84 : k0_chk84 v312 v317 v336), ∀ a x, ((![v336, v317] : Fin 2 → IVec S16 32) a x).toNat < S16x1024.size a := fun v312 v317 v336 k0_hw84 => k0_hw84.2

def k0_chk85 (v312 : IVec S16 32) (v317 : IVec S16 32) (v337 : IVec S16 32) : Prop :=
  (∀ a x, ((![v337, v312] : Fin 2 → IVec S16 32) a x).toNat < S16x1024.size a) ∧
  (∀ a x, ((![v337, v317] : Fin 2 → IVec S16 32) a x).toNat < S16x1024.size a)
theorem k0_idx151_inb : ∀ (v312 : IVec S16 32) (v317 : IVec S16 32) (v337 : IVec S16 32) (k0_hw85 : k0_chk85 v312 v317 v337), ∀ a x, ((![v337, v312] : Fin 2 → IVec S16 32) a x).toNat < S16x1024.size a := fun v312 v317 v337 k0_hw85 => k0_hw85.1
theorem k0_idx152_inb : ∀ (v312 : IVec S16 32) (v317 : IVec S16 32) (v337 : IVec S16 32) (k0_hw85 : k0_chk85 v312 v317 v337), ∀ a x, ((![v337, v317] : Fin 2 → IVec S16 32) a x).toNat < S16x1024.size a := fun v312 v317 v337 k0_hw85 => k0_hw85.2
def k0_off48 (k0_t3 : Fin k0_t3_loop.trips) : Fin 1 → Nat :=
  let c256_i32_286 : BitVec 32 := 256#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v351 : BitVec 32 := Scalar.addi c256_i32_286 v309
  let v352 : Index := Scalar.indexCast v351
  ![v352.toNat]

def k0_chk86 (v312 : IVec S16 32) (v317 : IVec S16 32) (v354 : IVec S16 32) : Prop :=
  (∀ a x, ((![v354, v312] : Fin 2 → IVec S16 32) a x).toNat < S16x1024.size a) ∧
  (∀ a x, ((![v354, v317] : Fin 2 → IVec S16 32) a x).toNat < S16x1024.size a)
theorem k0_idx153_inb : ∀ (v312 : IVec S16 32) (v317 : IVec S16 32) (v354 : IVec S16 32) (k0_hw86 : k0_chk86 v312 v317 v354), ∀ a x, ((![v354, v312] : Fin 2 → IVec S16 32) a x).toNat < S16x1024.size a := fun v312 v317 v354 k0_hw86 => k0_hw86.1
theorem k0_idx154_inb : ∀ (v312 : IVec S16 32) (v317 : IVec S16 32) (v354 : IVec S16 32) (k0_hw86 : k0_chk86 v312 v317 v354), ∀ a x, ((![v354, v317] : Fin 2 → IVec S16 32) a x).toNat < S16x1024.size a := fun v312 v317 v354 k0_hw86 => k0_hw86.2

def k0_chk87 (v312 : IVec S16 32) (v317 : IVec S16 32) (v355 : IVec S16 32) : Prop :=
  (∀ a x, ((![v355, v312] : Fin 2 → IVec S16 32) a x).toNat < S16x1024.size a) ∧
  (∀ a x, ((![v355, v317] : Fin 2 → IVec S16 32) a x).toNat < S16x1024.size a)
theorem k0_idx155_inb : ∀ (v312 : IVec S16 32) (v317 : IVec S16 32) (v355 : IVec S16 32) (k0_hw87 : k0_chk87 v312 v317 v355), ∀ a x, ((![v355, v312] : Fin 2 → IVec S16 32) a x).toNat < S16x1024.size a := fun v312 v317 v355 k0_hw87 => k0_hw87.1
theorem k0_idx156_inb : ∀ (v312 : IVec S16 32) (v317 : IVec S16 32) (v355 : IVec S16 32) (k0_hw87 : k0_chk87 v312 v317 v355), ∀ a x, ((![v355, v317] : Fin 2 → IVec S16 32) a x).toNat < S16x1024.size a := fun v312 v317 v355 k0_hw87 => k0_hw87.2
def k0_off49 (k0_t3 : Fin k0_t3_loop.trips) : Fin 1 → Nat :=
  let c512_i32_289 : BitVec 32 := 512#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v369 : BitVec 32 := Scalar.addi c512_i32_289 v309
  let v370 : Index := Scalar.indexCast v369
  ![v370.toNat]

def k0_chk88 (v312 : IVec S16 32) (v317 : IVec S16 32) (v372 : IVec S16 32) : Prop :=
  (∀ a x, ((![v372, v312] : Fin 2 → IVec S16 32) a x).toNat < S16x1024.size a) ∧
  (∀ a x, ((![v372, v317] : Fin 2 → IVec S16 32) a x).toNat < S16x1024.size a)
theorem k0_idx157_inb : ∀ (v312 : IVec S16 32) (v317 : IVec S16 32) (v372 : IVec S16 32) (k0_hw88 : k0_chk88 v312 v317 v372), ∀ a x, ((![v372, v312] : Fin 2 → IVec S16 32) a x).toNat < S16x1024.size a := fun v312 v317 v372 k0_hw88 => k0_hw88.1
theorem k0_idx158_inb : ∀ (v312 : IVec S16 32) (v317 : IVec S16 32) (v372 : IVec S16 32) (k0_hw88 : k0_chk88 v312 v317 v372), ∀ a x, ((![v372, v317] : Fin 2 → IVec S16 32) a x).toNat < S16x1024.size a := fun v312 v317 v372 k0_hw88 => k0_hw88.2

def k0_chk89 (v312 : IVec S16 32) (v317 : IVec S16 32) (v373 : IVec S16 32) : Prop :=
  (∀ a x, ((![v373, v312] : Fin 2 → IVec S16 32) a x).toNat < S16x1024.size a) ∧
  (∀ a x, ((![v373, v317] : Fin 2 → IVec S16 32) a x).toNat < S16x1024.size a)
theorem k0_idx159_inb : ∀ (v312 : IVec S16 32) (v317 : IVec S16 32) (v373 : IVec S16 32) (k0_hw89 : k0_chk89 v312 v317 v373), ∀ a x, ((![v373, v312] : Fin 2 → IVec S16 32) a x).toNat < S16x1024.size a := fun v312 v317 v373 k0_hw89 => k0_hw89.1
theorem k0_idx160_inb : ∀ (v312 : IVec S16 32) (v317 : IVec S16 32) (v373 : IVec S16 32) (k0_hw89 : k0_chk89 v312 v317 v373), ∀ a x, ((![v373, v317] : Fin 2 → IVec S16 32) a x).toNat < S16x1024.size a := fun v312 v317 v373 k0_hw89 => k0_hw89.2
def k0_off50 (k0_t3 : Fin k0_t3_loop.trips) : Fin 1 → Nat :=
  let c768_i32_292 : BitVec 32 := 768#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v387 : BitVec 32 := Scalar.addi c768_i32_292 v309
  let v388 : Index := Scalar.indexCast v387
  ![v388.toNat]

def k0_chk90 (v312 : IVec S16 32) (v317 : IVec S16 32) (v390 : IVec S16 32) : Prop :=
  (∀ a x, ((![v390, v312] : Fin 2 → IVec S16 32) a x).toNat < S16x1024.size a) ∧
  (∀ a x, ((![v390, v317] : Fin 2 → IVec S16 32) a x).toNat < S16x1024.size a)
theorem k0_idx161_inb : ∀ (v312 : IVec S16 32) (v317 : IVec S16 32) (v390 : IVec S16 32) (k0_hw90 : k0_chk90 v312 v317 v390), ∀ a x, ((![v390, v312] : Fin 2 → IVec S16 32) a x).toNat < S16x1024.size a := fun v312 v317 v390 k0_hw90 => k0_hw90.1
theorem k0_idx162_inb : ∀ (v312 : IVec S16 32) (v317 : IVec S16 32) (v390 : IVec S16 32) (k0_hw90 : k0_chk90 v312 v317 v390), ∀ a x, ((![v390, v317] : Fin 2 → IVec S16 32) a x).toNat < S16x1024.size a := fun v312 v317 v390 k0_hw90 => k0_hw90.2

def k0_chk91 (v312 : IVec S16 32) (v317 : IVec S16 32) (v391 : IVec S16 32) : Prop :=
  (∀ a x, ((![v391, v312] : Fin 2 → IVec S16 32) a x).toNat < S16x1024.size a) ∧
  (∀ a x, ((![v391, v317] : Fin 2 → IVec S16 32) a x).toNat < S16x1024.size a)
theorem k0_idx163_inb : ∀ (v312 : IVec S16 32) (v317 : IVec S16 32) (v391 : IVec S16 32) (k0_hw91 : k0_chk91 v312 v317 v391), ∀ a x, ((![v391, v312] : Fin 2 → IVec S16 32) a x).toNat < S16x1024.size a := fun v312 v317 v391 k0_hw91 => k0_hw91.1
theorem k0_idx164_inb : ∀ (v312 : IVec S16 32) (v317 : IVec S16 32) (v391 : IVec S16 32) (k0_hw91 : k0_chk91 v312 v317 v391), ∀ a x, ((![v391, v317] : Fin 2 → IVec S16 32) a x).toNat < S16x1024.size a := fun v312 v317 v391 k0_hw91 => k0_hw91.2
def k0_off51 (k0_t3 : Fin k0_t3_loop.trips) : Fin 1 → Nat :=
  let c1024_i32 : BitVec 32 := 1024#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v405 : BitVec 32 := Scalar.addi c1024_i32 v309
  let v406 : Index := Scalar.indexCast v405
  ![v406.toNat]

def k0_chk92 (v312 : IVec S16 32) (v317 : IVec S16 32) (v408 : IVec S16 32) : Prop :=
  (∀ a x, ((![v408, v312] : Fin 2 → IVec S16 32) a x).toNat < S16x1024.size a) ∧
  (∀ a x, ((![v408, v317] : Fin 2 → IVec S16 32) a x).toNat < S16x1024.size a)
theorem k0_idx165_inb : ∀ (v312 : IVec S16 32) (v317 : IVec S16 32) (v408 : IVec S16 32) (k0_hw92 : k0_chk92 v312 v317 v408), ∀ a x, ((![v408, v312] : Fin 2 → IVec S16 32) a x).toNat < S16x1024.size a := fun v312 v317 v408 k0_hw92 => k0_hw92.1
theorem k0_idx166_inb : ∀ (v312 : IVec S16 32) (v317 : IVec S16 32) (v408 : IVec S16 32) (k0_hw92 : k0_chk92 v312 v317 v408), ∀ a x, ((![v408, v317] : Fin 2 → IVec S16 32) a x).toNat < S16x1024.size a := fun v312 v317 v408 k0_hw92 => k0_hw92.2

def k0_chk93 (v312 : IVec S16 32) (v317 : IVec S16 32) (v409 : IVec S16 32) : Prop :=
  (∀ a x, ((![v409, v312] : Fin 2 → IVec S16 32) a x).toNat < S16x1024.size a) ∧
  (∀ a x, ((![v409, v317] : Fin 2 → IVec S16 32) a x).toNat < S16x1024.size a)
theorem k0_idx167_inb : ∀ (v312 : IVec S16 32) (v317 : IVec S16 32) (v409 : IVec S16 32) (k0_hw93 : k0_chk93 v312 v317 v409), ∀ a x, ((![v409, v312] : Fin 2 → IVec S16 32) a x).toNat < S16x1024.size a := fun v312 v317 v409 k0_hw93 => k0_hw93.1
theorem k0_idx168_inb : ∀ (v312 : IVec S16 32) (v317 : IVec S16 32) (v409 : IVec S16 32) (k0_hw93 : k0_chk93 v312 v317 v409), ∀ a x, ((![v409, v317] : Fin 2 → IVec S16 32) a x).toNat < S16x1024.size a := fun v312 v317 v409 k0_hw93 => k0_hw93.2
def k0_off52 (k0_t3 : Fin k0_t3_loop.trips) : Fin 1 → Nat :=
  let c1280_i32 : BitVec 32 := 1280#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v423 : BitVec 32 := Scalar.addi c1280_i32 v309
  let v424 : Index := Scalar.indexCast v423
  ![v424.toNat]

def k0_chk94 (v312 : IVec S16 32) (v317 : IVec S16 32) (v426 : IVec S16 32) : Prop :=
  (∀ a x, ((![v426, v312] : Fin 2 → IVec S16 32) a x).toNat < S16x1024.size a) ∧
  (∀ a x, ((![v426, v317] : Fin 2 → IVec S16 32) a x).toNat < S16x1024.size a)
theorem k0_idx169_inb : ∀ (v312 : IVec S16 32) (v317 : IVec S16 32) (v426 : IVec S16 32) (k0_hw94 : k0_chk94 v312 v317 v426), ∀ a x, ((![v426, v312] : Fin 2 → IVec S16 32) a x).toNat < S16x1024.size a := fun v312 v317 v426 k0_hw94 => k0_hw94.1
theorem k0_idx170_inb : ∀ (v312 : IVec S16 32) (v317 : IVec S16 32) (v426 : IVec S16 32) (k0_hw94 : k0_chk94 v312 v317 v426), ∀ a x, ((![v426, v317] : Fin 2 → IVec S16 32) a x).toNat < S16x1024.size a := fun v312 v317 v426 k0_hw94 => k0_hw94.2

def k0_chk95 (v312 : IVec S16 32) (v317 : IVec S16 32) (v427 : IVec S16 32) : Prop :=
  (∀ a x, ((![v427, v312] : Fin 2 → IVec S16 32) a x).toNat < S16x1024.size a) ∧
  (∀ a x, ((![v427, v317] : Fin 2 → IVec S16 32) a x).toNat < S16x1024.size a)
theorem k0_idx171_inb : ∀ (v312 : IVec S16 32) (v317 : IVec S16 32) (v427 : IVec S16 32) (k0_hw95 : k0_chk95 v312 v317 v427), ∀ a x, ((![v427, v312] : Fin 2 → IVec S16 32) a x).toNat < S16x1024.size a := fun v312 v317 v427 k0_hw95 => k0_hw95.1
theorem k0_idx172_inb : ∀ (v312 : IVec S16 32) (v317 : IVec S16 32) (v427 : IVec S16 32) (k0_hw95 : k0_chk95 v312 v317 v427), ∀ a x, ((![v427, v317] : Fin 2 → IVec S16 32) a x).toNat < S16x1024.size a := fun v312 v317 v427 k0_hw95 => k0_hw95.2
def k0_off53 (k0_t3 : Fin k0_t3_loop.trips) : Fin 1 → Nat :=
  let c1536_i32 : BitVec 32 := 1536#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v441 : BitVec 32 := Scalar.addi c1536_i32 v309
  let v442 : Index := Scalar.indexCast v441
  ![v442.toNat]

def k0_chk96 (v312 : IVec S16 32) (v317 : IVec S16 32) (v444 : IVec S16 32) : Prop :=
  (∀ a x, ((![v444, v312] : Fin 2 → IVec S16 32) a x).toNat < S16x1024.size a) ∧
  (∀ a x, ((![v444, v317] : Fin 2 → IVec S16 32) a x).toNat < S16x1024.size a)
theorem k0_idx173_inb : ∀ (v312 : IVec S16 32) (v317 : IVec S16 32) (v444 : IVec S16 32) (k0_hw96 : k0_chk96 v312 v317 v444), ∀ a x, ((![v444, v312] : Fin 2 → IVec S16 32) a x).toNat < S16x1024.size a := fun v312 v317 v444 k0_hw96 => k0_hw96.1
theorem k0_idx174_inb : ∀ (v312 : IVec S16 32) (v317 : IVec S16 32) (v444 : IVec S16 32) (k0_hw96 : k0_chk96 v312 v317 v444), ∀ a x, ((![v444, v317] : Fin 2 → IVec S16 32) a x).toNat < S16x1024.size a := fun v312 v317 v444 k0_hw96 => k0_hw96.2

def k0_chk97 (v312 : IVec S16 32) (v317 : IVec S16 32) (v445 : IVec S16 32) : Prop :=
  (∀ a x, ((![v445, v312] : Fin 2 → IVec S16 32) a x).toNat < S16x1024.size a) ∧
  (∀ a x, ((![v445, v317] : Fin 2 → IVec S16 32) a x).toNat < S16x1024.size a)
theorem k0_idx175_inb : ∀ (v312 : IVec S16 32) (v317 : IVec S16 32) (v445 : IVec S16 32) (k0_hw97 : k0_chk97 v312 v317 v445), ∀ a x, ((![v445, v312] : Fin 2 → IVec S16 32) a x).toNat < S16x1024.size a := fun v312 v317 v445 k0_hw97 => k0_hw97.1
theorem k0_idx176_inb : ∀ (v312 : IVec S16 32) (v317 : IVec S16 32) (v445 : IVec S16 32) (k0_hw97 : k0_chk97 v312 v317 v445), ∀ a x, ((![v445, v317] : Fin 2 → IVec S16 32) a x).toNat < S16x1024.size a := fun v312 v317 v445 k0_hw97 => k0_hw97.2
def k0_off54 (k0_t3 : Fin k0_t3_loop.trips) : Fin 1 → Nat :=
  let c1792_i32 : BitVec 32 := 1792#32
  let c0_i32_273 : BitVec 32 := 0#32
  let c1_i32_275 : BitVec 32 := 1#32
  let arg21 : BitVec 32 := Scf.iv c0_i32_273 c1_i32_275 k0_t3
  let c64_i32 : BitVec 32 := 64#32
  let v308 : BitVec 32 := Scalar.muli arg21 c64_i32
  let c0_i32_279 : BitVec 32 := 0#32
  let v309 : BitVec 32 := Scalar.addi v308 c0_i32_279
  let v459 : BitVec 32 := Scalar.addi c1792_i32 v309
  let v460 : Index := Scalar.indexCast v459
  ![v460.toNat]
def k0_off55 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v464 : BitVec 32 := Scalar.addi v20 v463
  let v465 : Index := Scalar.indexCast v464
  ![v465.toNat]

def k0_chk98 (v466 : IVec S16 32) (v471 : IVec S16 32) (v472 : IVec S16 32) : Prop :=
  (∀ a x, ((![v472, v466] : Fin 2 → IVec S16 32) a x).toNat < S16x1024.size a) ∧
  (∀ a x, ((![v472, v471] : Fin 2 → IVec S16 32) a x).toNat < S16x1024.size a)
theorem k0_idx177_inb : ∀ (v466 : IVec S16 32) (v471 : IVec S16 32) (v472 : IVec S16 32) (k0_hw98 : k0_chk98 v466 v471 v472), ∀ a x, ((![v472, v466] : Fin 2 → IVec S16 32) a x).toNat < S16x1024.size a := fun v466 v471 v472 k0_hw98 => k0_hw98.1
theorem k0_idx178_inb : ∀ (v466 : IVec S16 32) (v471 : IVec S16 32) (v472 : IVec S16 32) (k0_hw98 : k0_chk98 v466 v471 v472), ∀ a x, ((![v472, v471] : Fin 2 → IVec S16 32) a x).toNat < S16x1024.size a := fun v466 v471 v472 k0_hw98 => k0_hw98.2

def k0_chk99 (v466 : IVec S16 32) (v471 : IVec S16 32) (v473 : IVec S16 32) : Prop :=
  (∀ a x, ((![v473, v466] : Fin 2 → IVec S16 32) a x).toNat < S16x1024.size a) ∧
  (∀ a x, ((![v473, v471] : Fin 2 → IVec S16 32) a x).toNat < S16x1024.size a)
theorem k0_idx179_inb : ∀ (v466 : IVec S16 32) (v471 : IVec S16 32) (v473 : IVec S16 32) (k0_hw99 : k0_chk99 v466 v471 v473), ∀ a x, ((![v473, v466] : Fin 2 → IVec S16 32) a x).toNat < S16x1024.size a := fun v466 v471 v473 k0_hw99 => k0_hw99.1
theorem k0_idx180_inb : ∀ (v466 : IVec S16 32) (v471 : IVec S16 32) (v473 : IVec S16 32) (k0_hw99 : k0_chk99 v466 v471 v473), ∀ a x, ((![v473, v471] : Fin 2 → IVec S16 32) a x).toNat < S16x1024.size a := fun v466 v471 v473 k0_hw99 => k0_hw99.2
def k0_off56 (k0_t3 : Fin k0_t3_loop.trips) : Fin 1 → Nat :=
  let c0_i32_299 : BitVec 32 := 0#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v487 : BitVec 32 := Scalar.addi c0_i32_299 v463
  let v488 : Index := Scalar.indexCast v487
  ![v488.toNat]

def k0_chk100 (v466 : IVec S16 32) (v471 : IVec S16 32) (v490 : IVec S16 32) : Prop :=
  (∀ a x, ((![v490, v466] : Fin 2 → IVec S16 32) a x).toNat < S16x1024.size a) ∧
  (∀ a x, ((![v490, v471] : Fin 2 → IVec S16 32) a x).toNat < S16x1024.size a)
theorem k0_idx181_inb : ∀ (v466 : IVec S16 32) (v471 : IVec S16 32) (v490 : IVec S16 32) (k0_hw100 : k0_chk100 v466 v471 v490), ∀ a x, ((![v490, v466] : Fin 2 → IVec S16 32) a x).toNat < S16x1024.size a := fun v466 v471 v490 k0_hw100 => k0_hw100.1
theorem k0_idx182_inb : ∀ (v466 : IVec S16 32) (v471 : IVec S16 32) (v490 : IVec S16 32) (k0_hw100 : k0_chk100 v466 v471 v490), ∀ a x, ((![v490, v471] : Fin 2 → IVec S16 32) a x).toNat < S16x1024.size a := fun v466 v471 v490 k0_hw100 => k0_hw100.2

def k0_chk101 (v466 : IVec S16 32) (v471 : IVec S16 32) (v491 : IVec S16 32) : Prop :=
  (∀ a x, ((![v491, v466] : Fin 2 → IVec S16 32) a x).toNat < S16x1024.size a) ∧
  (∀ a x, ((![v491, v471] : Fin 2 → IVec S16 32) a x).toNat < S16x1024.size a)
theorem k0_idx183_inb : ∀ (v466 : IVec S16 32) (v471 : IVec S16 32) (v491 : IVec S16 32) (k0_hw101 : k0_chk101 v466 v471 v491), ∀ a x, ((![v491, v466] : Fin 2 → IVec S16 32) a x).toNat < S16x1024.size a := fun v466 v471 v491 k0_hw101 => k0_hw101.1
theorem k0_idx184_inb : ∀ (v466 : IVec S16 32) (v471 : IVec S16 32) (v491 : IVec S16 32) (k0_hw101 : k0_chk101 v466 v471 v491), ∀ a x, ((![v491, v471] : Fin 2 → IVec S16 32) a x).toNat < S16x1024.size a := fun v466 v471 v491 k0_hw101 => k0_hw101.2
def k0_off57 (k0_t3 : Fin k0_t3_loop.trips) : Fin 1 → Nat :=
  let c256_i32_302 : BitVec 32 := 256#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v505 : BitVec 32 := Scalar.addi c256_i32_302 v463
  let v506 : Index := Scalar.indexCast v505
  ![v506.toNat]

def k0_chk102 (v466 : IVec S16 32) (v471 : IVec S16 32) (v508 : IVec S16 32) : Prop :=
  (∀ a x, ((![v508, v466] : Fin 2 → IVec S16 32) a x).toNat < S16x1024.size a) ∧
  (∀ a x, ((![v508, v471] : Fin 2 → IVec S16 32) a x).toNat < S16x1024.size a)
theorem k0_idx185_inb : ∀ (v466 : IVec S16 32) (v471 : IVec S16 32) (v508 : IVec S16 32) (k0_hw102 : k0_chk102 v466 v471 v508), ∀ a x, ((![v508, v466] : Fin 2 → IVec S16 32) a x).toNat < S16x1024.size a := fun v466 v471 v508 k0_hw102 => k0_hw102.1
theorem k0_idx186_inb : ∀ (v466 : IVec S16 32) (v471 : IVec S16 32) (v508 : IVec S16 32) (k0_hw102 : k0_chk102 v466 v471 v508), ∀ a x, ((![v508, v471] : Fin 2 → IVec S16 32) a x).toNat < S16x1024.size a := fun v466 v471 v508 k0_hw102 => k0_hw102.2

def k0_chk103 (v466 : IVec S16 32) (v471 : IVec S16 32) (v509 : IVec S16 32) : Prop :=
  (∀ a x, ((![v509, v466] : Fin 2 → IVec S16 32) a x).toNat < S16x1024.size a) ∧
  (∀ a x, ((![v509, v471] : Fin 2 → IVec S16 32) a x).toNat < S16x1024.size a)
theorem k0_idx187_inb : ∀ (v466 : IVec S16 32) (v471 : IVec S16 32) (v509 : IVec S16 32) (k0_hw103 : k0_chk103 v466 v471 v509), ∀ a x, ((![v509, v466] : Fin 2 → IVec S16 32) a x).toNat < S16x1024.size a := fun v466 v471 v509 k0_hw103 => k0_hw103.1
theorem k0_idx188_inb : ∀ (v466 : IVec S16 32) (v471 : IVec S16 32) (v509 : IVec S16 32) (k0_hw103 : k0_chk103 v466 v471 v509), ∀ a x, ((![v509, v471] : Fin 2 → IVec S16 32) a x).toNat < S16x1024.size a := fun v466 v471 v509 k0_hw103 => k0_hw103.2
def k0_off58 (k0_t3 : Fin k0_t3_loop.trips) : Fin 1 → Nat :=
  let c512_i32_305 : BitVec 32 := 512#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v523 : BitVec 32 := Scalar.addi c512_i32_305 v463
  let v524 : Index := Scalar.indexCast v523
  ![v524.toNat]

def k0_chk104 (v466 : IVec S16 32) (v471 : IVec S16 32) (v526 : IVec S16 32) : Prop :=
  (∀ a x, ((![v526, v466] : Fin 2 → IVec S16 32) a x).toNat < S16x1024.size a) ∧
  (∀ a x, ((![v526, v471] : Fin 2 → IVec S16 32) a x).toNat < S16x1024.size a)
theorem k0_idx189_inb : ∀ (v466 : IVec S16 32) (v471 : IVec S16 32) (v526 : IVec S16 32) (k0_hw104 : k0_chk104 v466 v471 v526), ∀ a x, ((![v526, v466] : Fin 2 → IVec S16 32) a x).toNat < S16x1024.size a := fun v466 v471 v526 k0_hw104 => k0_hw104.1
theorem k0_idx190_inb : ∀ (v466 : IVec S16 32) (v471 : IVec S16 32) (v526 : IVec S16 32) (k0_hw104 : k0_chk104 v466 v471 v526), ∀ a x, ((![v526, v471] : Fin 2 → IVec S16 32) a x).toNat < S16x1024.size a := fun v466 v471 v526 k0_hw104 => k0_hw104.2

def k0_chk105 (v466 : IVec S16 32) (v471 : IVec S16 32) (v527 : IVec S16 32) : Prop :=
  (∀ a x, ((![v527, v466] : Fin 2 → IVec S16 32) a x).toNat < S16x1024.size a) ∧
  (∀ a x, ((![v527, v471] : Fin 2 → IVec S16 32) a x).toNat < S16x1024.size a)
theorem k0_idx191_inb : ∀ (v466 : IVec S16 32) (v471 : IVec S16 32) (v527 : IVec S16 32) (k0_hw105 : k0_chk105 v466 v471 v527), ∀ a x, ((![v527, v466] : Fin 2 → IVec S16 32) a x).toNat < S16x1024.size a := fun v466 v471 v527 k0_hw105 => k0_hw105.1
theorem k0_idx192_inb : ∀ (v466 : IVec S16 32) (v471 : IVec S16 32) (v527 : IVec S16 32) (k0_hw105 : k0_chk105 v466 v471 v527), ∀ a x, ((![v527, v471] : Fin 2 → IVec S16 32) a x).toNat < S16x1024.size a := fun v466 v471 v527 k0_hw105 => k0_hw105.2
def k0_off59 (k0_t3 : Fin k0_t3_loop.trips) : Fin 1 → Nat :=
  let c768_i32_308 : BitVec 32 := 768#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v541 : BitVec 32 := Scalar.addi c768_i32_308 v463
  let v542 : Index := Scalar.indexCast v541
  ![v542.toNat]

def k0_chk106 (v466 : IVec S16 32) (v471 : IVec S16 32) (v544 : IVec S16 32) : Prop :=
  (∀ a x, ((![v544, v466] : Fin 2 → IVec S16 32) a x).toNat < S16x1024.size a) ∧
  (∀ a x, ((![v544, v471] : Fin 2 → IVec S16 32) a x).toNat < S16x1024.size a)
theorem k0_idx193_inb : ∀ (v466 : IVec S16 32) (v471 : IVec S16 32) (v544 : IVec S16 32) (k0_hw106 : k0_chk106 v466 v471 v544), ∀ a x, ((![v544, v466] : Fin 2 → IVec S16 32) a x).toNat < S16x1024.size a := fun v466 v471 v544 k0_hw106 => k0_hw106.1
theorem k0_idx194_inb : ∀ (v466 : IVec S16 32) (v471 : IVec S16 32) (v544 : IVec S16 32) (k0_hw106 : k0_chk106 v466 v471 v544), ∀ a x, ((![v544, v471] : Fin 2 → IVec S16 32) a x).toNat < S16x1024.size a := fun v466 v471 v544 k0_hw106 => k0_hw106.2

def k0_chk107 (v466 : IVec S16 32) (v471 : IVec S16 32) (v545 : IVec S16 32) : Prop :=
  (∀ a x, ((![v545, v466] : Fin 2 → IVec S16 32) a x).toNat < S16x1024.size a) ∧
  (∀ a x, ((![v545, v471] : Fin 2 → IVec S16 32) a x).toNat < S16x1024.size a)
theorem k0_idx195_inb : ∀ (v466 : IVec S16 32) (v471 : IVec S16 32) (v545 : IVec S16 32) (k0_hw107 : k0_chk107 v466 v471 v545), ∀ a x, ((![v545, v466] : Fin 2 → IVec S16 32) a x).toNat < S16x1024.size a := fun v466 v471 v545 k0_hw107 => k0_hw107.1
theorem k0_idx196_inb : ∀ (v466 : IVec S16 32) (v471 : IVec S16 32) (v545 : IVec S16 32) (k0_hw107 : k0_chk107 v466 v471 v545), ∀ a x, ((![v545, v471] : Fin 2 → IVec S16 32) a x).toNat < S16x1024.size a := fun v466 v471 v545 k0_hw107 => k0_hw107.2
def k0_off60 (k0_t3 : Fin k0_t3_loop.trips) : Fin 1 → Nat :=
  let c1024_i32_311 : BitVec 32 := 1024#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v559 : BitVec 32 := Scalar.addi c1024_i32_311 v463
  let v560 : Index := Scalar.indexCast v559
  ![v560.toNat]

def k0_chk108 (v466 : IVec S16 32) (v471 : IVec S16 32) (v562 : IVec S16 32) : Prop :=
  (∀ a x, ((![v562, v466] : Fin 2 → IVec S16 32) a x).toNat < S16x1024.size a) ∧
  (∀ a x, ((![v562, v471] : Fin 2 → IVec S16 32) a x).toNat < S16x1024.size a)
theorem k0_idx197_inb : ∀ (v466 : IVec S16 32) (v471 : IVec S16 32) (v562 : IVec S16 32) (k0_hw108 : k0_chk108 v466 v471 v562), ∀ a x, ((![v562, v466] : Fin 2 → IVec S16 32) a x).toNat < S16x1024.size a := fun v466 v471 v562 k0_hw108 => k0_hw108.1
theorem k0_idx198_inb : ∀ (v466 : IVec S16 32) (v471 : IVec S16 32) (v562 : IVec S16 32) (k0_hw108 : k0_chk108 v466 v471 v562), ∀ a x, ((![v562, v471] : Fin 2 → IVec S16 32) a x).toNat < S16x1024.size a := fun v466 v471 v562 k0_hw108 => k0_hw108.2

def k0_chk109 (v466 : IVec S16 32) (v471 : IVec S16 32) (v563 : IVec S16 32) : Prop :=
  (∀ a x, ((![v563, v466] : Fin 2 → IVec S16 32) a x).toNat < S16x1024.size a) ∧
  (∀ a x, ((![v563, v471] : Fin 2 → IVec S16 32) a x).toNat < S16x1024.size a)
theorem k0_idx199_inb : ∀ (v466 : IVec S16 32) (v471 : IVec S16 32) (v563 : IVec S16 32) (k0_hw109 : k0_chk109 v466 v471 v563), ∀ a x, ((![v563, v466] : Fin 2 → IVec S16 32) a x).toNat < S16x1024.size a := fun v466 v471 v563 k0_hw109 => k0_hw109.1
theorem k0_idx200_inb : ∀ (v466 : IVec S16 32) (v471 : IVec S16 32) (v563 : IVec S16 32) (k0_hw109 : k0_chk109 v466 v471 v563), ∀ a x, ((![v563, v471] : Fin 2 → IVec S16 32) a x).toNat < S16x1024.size a := fun v466 v471 v563 k0_hw109 => k0_hw109.2
def k0_off61 (k0_t3 : Fin k0_t3_loop.trips) : Fin 1 → Nat :=
  let c1280_i32_314 : BitVec 32 := 1280#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v577 : BitVec 32 := Scalar.addi c1280_i32_314 v463
  let v578 : Index := Scalar.indexCast v577
  ![v578.toNat]

def k0_chk110 (v466 : IVec S16 32) (v471 : IVec S16 32) (v580 : IVec S16 32) : Prop :=
  (∀ a x, ((![v580, v466] : Fin 2 → IVec S16 32) a x).toNat < S16x1024.size a) ∧
  (∀ a x, ((![v580, v471] : Fin 2 → IVec S16 32) a x).toNat < S16x1024.size a)
theorem k0_idx201_inb : ∀ (v466 : IVec S16 32) (v471 : IVec S16 32) (v580 : IVec S16 32) (k0_hw110 : k0_chk110 v466 v471 v580), ∀ a x, ((![v580, v466] : Fin 2 → IVec S16 32) a x).toNat < S16x1024.size a := fun v466 v471 v580 k0_hw110 => k0_hw110.1
theorem k0_idx202_inb : ∀ (v466 : IVec S16 32) (v471 : IVec S16 32) (v580 : IVec S16 32) (k0_hw110 : k0_chk110 v466 v471 v580), ∀ a x, ((![v580, v471] : Fin 2 → IVec S16 32) a x).toNat < S16x1024.size a := fun v466 v471 v580 k0_hw110 => k0_hw110.2

def k0_chk111 (v466 : IVec S16 32) (v471 : IVec S16 32) (v581 : IVec S16 32) : Prop :=
  (∀ a x, ((![v581, v466] : Fin 2 → IVec S16 32) a x).toNat < S16x1024.size a) ∧
  (∀ a x, ((![v581, v471] : Fin 2 → IVec S16 32) a x).toNat < S16x1024.size a)
theorem k0_idx203_inb : ∀ (v466 : IVec S16 32) (v471 : IVec S16 32) (v581 : IVec S16 32) (k0_hw111 : k0_chk111 v466 v471 v581), ∀ a x, ((![v581, v466] : Fin 2 → IVec S16 32) a x).toNat < S16x1024.size a := fun v466 v471 v581 k0_hw111 => k0_hw111.1
theorem k0_idx204_inb : ∀ (v466 : IVec S16 32) (v471 : IVec S16 32) (v581 : IVec S16 32) (k0_hw111 : k0_chk111 v466 v471 v581), ∀ a x, ((![v581, v471] : Fin 2 → IVec S16 32) a x).toNat < S16x1024.size a := fun v466 v471 v581 k0_hw111 => k0_hw111.2
def k0_off62 (k0_t3 : Fin k0_t3_loop.trips) : Fin 1 → Nat :=
  let c1536_i32_317 : BitVec 32 := 1536#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v595 : BitVec 32 := Scalar.addi c1536_i32_317 v463
  let v596 : Index := Scalar.indexCast v595
  ![v596.toNat]

def k0_chk112 (v466 : IVec S16 32) (v471 : IVec S16 32) (v598 : IVec S16 32) : Prop :=
  (∀ a x, ((![v598, v466] : Fin 2 → IVec S16 32) a x).toNat < S16x1024.size a) ∧
  (∀ a x, ((![v598, v471] : Fin 2 → IVec S16 32) a x).toNat < S16x1024.size a)
theorem k0_idx205_inb : ∀ (v466 : IVec S16 32) (v471 : IVec S16 32) (v598 : IVec S16 32) (k0_hw112 : k0_chk112 v466 v471 v598), ∀ a x, ((![v598, v466] : Fin 2 → IVec S16 32) a x).toNat < S16x1024.size a := fun v466 v471 v598 k0_hw112 => k0_hw112.1
theorem k0_idx206_inb : ∀ (v466 : IVec S16 32) (v471 : IVec S16 32) (v598 : IVec S16 32) (k0_hw112 : k0_chk112 v466 v471 v598), ∀ a x, ((![v598, v471] : Fin 2 → IVec S16 32) a x).toNat < S16x1024.size a := fun v466 v471 v598 k0_hw112 => k0_hw112.2

def k0_chk113 (v466 : IVec S16 32) (v471 : IVec S16 32) (v599 : IVec S16 32) : Prop :=
  (∀ a x, ((![v599, v466] : Fin 2 → IVec S16 32) a x).toNat < S16x1024.size a) ∧
  (∀ a x, ((![v599, v471] : Fin 2 → IVec S16 32) a x).toNat < S16x1024.size a)
theorem k0_idx207_inb : ∀ (v466 : IVec S16 32) (v471 : IVec S16 32) (v599 : IVec S16 32) (k0_hw113 : k0_chk113 v466 v471 v599), ∀ a x, ((![v599, v466] : Fin 2 → IVec S16 32) a x).toNat < S16x1024.size a := fun v466 v471 v599 k0_hw113 => k0_hw113.1
theorem k0_idx208_inb : ∀ (v466 : IVec S16 32) (v471 : IVec S16 32) (v599 : IVec S16 32) (k0_hw113 : k0_chk113 v466 v471 v599), ∀ a x, ((![v599, v471] : Fin 2 → IVec S16 32) a x).toNat < S16x1024.size a := fun v466 v471 v599 k0_hw113 => k0_hw113.2
def k0_off63 (k0_t3 : Fin k0_t3_loop.trips) : Fin 1 → Nat :=
  let c1792_i32_320 : BitVec 32 := 1792#32
  let c0_i32_273 : BitVec 32 := 0#32
  let c1_i32_275 : BitVec 32 := 1#32
  let arg21 : BitVec 32 := Scf.iv c0_i32_273 c1_i32_275 k0_t3
  let c64_i32_295 : BitVec 32 := 64#32
  let v462 : BitVec 32 := Scalar.muli arg21 c64_i32_295
  let c16_i32 : BitVec 32 := 16#32
  let v463 : BitVec 32 := Scalar.addi v462 c16_i32
  let v613 : BitVec 32 := Scalar.addi c1792_i32_320 v463
  let v614 : Index := Scalar.indexCast v613
  ![v614.toNat]
def k0_off64 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v618 : BitVec 32 := Scalar.addi v20 v617
  let v619 : Index := Scalar.indexCast v618
  ![v619.toNat]

def k0_chk114 (v620 : IVec S16 32) (v625 : IVec S16 32) (v626 : IVec S16 32) : Prop :=
  (∀ a x, ((![v626, v620] : Fin 2 → IVec S16 32) a x).toNat < S16x1024.size a) ∧
  (∀ a x, ((![v626, v625] : Fin 2 → IVec S16 32) a x).toNat < S16x1024.size a)
theorem k0_idx209_inb : ∀ (v620 : IVec S16 32) (v625 : IVec S16 32) (v626 : IVec S16 32) (k0_hw114 : k0_chk114 v620 v625 v626), ∀ a x, ((![v626, v620] : Fin 2 → IVec S16 32) a x).toNat < S16x1024.size a := fun v620 v625 v626 k0_hw114 => k0_hw114.1
theorem k0_idx210_inb : ∀ (v620 : IVec S16 32) (v625 : IVec S16 32) (v626 : IVec S16 32) (k0_hw114 : k0_chk114 v620 v625 v626), ∀ a x, ((![v626, v625] : Fin 2 → IVec S16 32) a x).toNat < S16x1024.size a := fun v620 v625 v626 k0_hw114 => k0_hw114.2

def k0_chk115 (v620 : IVec S16 32) (v625 : IVec S16 32) (v627 : IVec S16 32) : Prop :=
  (∀ a x, ((![v627, v620] : Fin 2 → IVec S16 32) a x).toNat < S16x1024.size a) ∧
  (∀ a x, ((![v627, v625] : Fin 2 → IVec S16 32) a x).toNat < S16x1024.size a)
theorem k0_idx211_inb : ∀ (v620 : IVec S16 32) (v625 : IVec S16 32) (v627 : IVec S16 32) (k0_hw115 : k0_chk115 v620 v625 v627), ∀ a x, ((![v627, v620] : Fin 2 → IVec S16 32) a x).toNat < S16x1024.size a := fun v620 v625 v627 k0_hw115 => k0_hw115.1
theorem k0_idx212_inb : ∀ (v620 : IVec S16 32) (v625 : IVec S16 32) (v627 : IVec S16 32) (k0_hw115 : k0_chk115 v620 v625 v627), ∀ a x, ((![v627, v625] : Fin 2 → IVec S16 32) a x).toNat < S16x1024.size a := fun v620 v625 v627 k0_hw115 => k0_hw115.2
def k0_off65 (k0_t3 : Fin k0_t3_loop.trips) : Fin 1 → Nat :=
  let c0_i32_325 : BitVec 32 := 0#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v641 : BitVec 32 := Scalar.addi c0_i32_325 v617
  let v642 : Index := Scalar.indexCast v641
  ![v642.toNat]

def k0_chk116 (v620 : IVec S16 32) (v625 : IVec S16 32) (v644 : IVec S16 32) : Prop :=
  (∀ a x, ((![v644, v620] : Fin 2 → IVec S16 32) a x).toNat < S16x1024.size a) ∧
  (∀ a x, ((![v644, v625] : Fin 2 → IVec S16 32) a x).toNat < S16x1024.size a)
theorem k0_idx213_inb : ∀ (v620 : IVec S16 32) (v625 : IVec S16 32) (v644 : IVec S16 32) (k0_hw116 : k0_chk116 v620 v625 v644), ∀ a x, ((![v644, v620] : Fin 2 → IVec S16 32) a x).toNat < S16x1024.size a := fun v620 v625 v644 k0_hw116 => k0_hw116.1
theorem k0_idx214_inb : ∀ (v620 : IVec S16 32) (v625 : IVec S16 32) (v644 : IVec S16 32) (k0_hw116 : k0_chk116 v620 v625 v644), ∀ a x, ((![v644, v625] : Fin 2 → IVec S16 32) a x).toNat < S16x1024.size a := fun v620 v625 v644 k0_hw116 => k0_hw116.2

def k0_chk117 (v620 : IVec S16 32) (v625 : IVec S16 32) (v645 : IVec S16 32) : Prop :=
  (∀ a x, ((![v645, v620] : Fin 2 → IVec S16 32) a x).toNat < S16x1024.size a) ∧
  (∀ a x, ((![v645, v625] : Fin 2 → IVec S16 32) a x).toNat < S16x1024.size a)
theorem k0_idx215_inb : ∀ (v620 : IVec S16 32) (v625 : IVec S16 32) (v645 : IVec S16 32) (k0_hw117 : k0_chk117 v620 v625 v645), ∀ a x, ((![v645, v620] : Fin 2 → IVec S16 32) a x).toNat < S16x1024.size a := fun v620 v625 v645 k0_hw117 => k0_hw117.1
theorem k0_idx216_inb : ∀ (v620 : IVec S16 32) (v625 : IVec S16 32) (v645 : IVec S16 32) (k0_hw117 : k0_chk117 v620 v625 v645), ∀ a x, ((![v645, v625] : Fin 2 → IVec S16 32) a x).toNat < S16x1024.size a := fun v620 v625 v645 k0_hw117 => k0_hw117.2
def k0_off66 (k0_t3 : Fin k0_t3_loop.trips) : Fin 1 → Nat :=
  let c256_i32_328 : BitVec 32 := 256#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v659 : BitVec 32 := Scalar.addi c256_i32_328 v617
  let v660 : Index := Scalar.indexCast v659
  ![v660.toNat]

def k0_chk118 (v620 : IVec S16 32) (v625 : IVec S16 32) (v662 : IVec S16 32) : Prop :=
  (∀ a x, ((![v662, v620] : Fin 2 → IVec S16 32) a x).toNat < S16x1024.size a) ∧
  (∀ a x, ((![v662, v625] : Fin 2 → IVec S16 32) a x).toNat < S16x1024.size a)
theorem k0_idx217_inb : ∀ (v620 : IVec S16 32) (v625 : IVec S16 32) (v662 : IVec S16 32) (k0_hw118 : k0_chk118 v620 v625 v662), ∀ a x, ((![v662, v620] : Fin 2 → IVec S16 32) a x).toNat < S16x1024.size a := fun v620 v625 v662 k0_hw118 => k0_hw118.1
theorem k0_idx218_inb : ∀ (v620 : IVec S16 32) (v625 : IVec S16 32) (v662 : IVec S16 32) (k0_hw118 : k0_chk118 v620 v625 v662), ∀ a x, ((![v662, v625] : Fin 2 → IVec S16 32) a x).toNat < S16x1024.size a := fun v620 v625 v662 k0_hw118 => k0_hw118.2

def k0_chk119 (v620 : IVec S16 32) (v625 : IVec S16 32) (v663 : IVec S16 32) : Prop :=
  (∀ a x, ((![v663, v620] : Fin 2 → IVec S16 32) a x).toNat < S16x1024.size a) ∧
  (∀ a x, ((![v663, v625] : Fin 2 → IVec S16 32) a x).toNat < S16x1024.size a)
theorem k0_idx219_inb : ∀ (v620 : IVec S16 32) (v625 : IVec S16 32) (v663 : IVec S16 32) (k0_hw119 : k0_chk119 v620 v625 v663), ∀ a x, ((![v663, v620] : Fin 2 → IVec S16 32) a x).toNat < S16x1024.size a := fun v620 v625 v663 k0_hw119 => k0_hw119.1
theorem k0_idx220_inb : ∀ (v620 : IVec S16 32) (v625 : IVec S16 32) (v663 : IVec S16 32) (k0_hw119 : k0_chk119 v620 v625 v663), ∀ a x, ((![v663, v625] : Fin 2 → IVec S16 32) a x).toNat < S16x1024.size a := fun v620 v625 v663 k0_hw119 => k0_hw119.2
def k0_off67 (k0_t3 : Fin k0_t3_loop.trips) : Fin 1 → Nat :=
  let c512_i32_331 : BitVec 32 := 512#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v677 : BitVec 32 := Scalar.addi c512_i32_331 v617
  let v678 : Index := Scalar.indexCast v677
  ![v678.toNat]

def k0_chk120 (v620 : IVec S16 32) (v625 : IVec S16 32) (v680 : IVec S16 32) : Prop :=
  (∀ a x, ((![v680, v620] : Fin 2 → IVec S16 32) a x).toNat < S16x1024.size a) ∧
  (∀ a x, ((![v680, v625] : Fin 2 → IVec S16 32) a x).toNat < S16x1024.size a)
theorem k0_idx221_inb : ∀ (v620 : IVec S16 32) (v625 : IVec S16 32) (v680 : IVec S16 32) (k0_hw120 : k0_chk120 v620 v625 v680), ∀ a x, ((![v680, v620] : Fin 2 → IVec S16 32) a x).toNat < S16x1024.size a := fun v620 v625 v680 k0_hw120 => k0_hw120.1
theorem k0_idx222_inb : ∀ (v620 : IVec S16 32) (v625 : IVec S16 32) (v680 : IVec S16 32) (k0_hw120 : k0_chk120 v620 v625 v680), ∀ a x, ((![v680, v625] : Fin 2 → IVec S16 32) a x).toNat < S16x1024.size a := fun v620 v625 v680 k0_hw120 => k0_hw120.2

def k0_chk121 (v620 : IVec S16 32) (v625 : IVec S16 32) (v681 : IVec S16 32) : Prop :=
  (∀ a x, ((![v681, v620] : Fin 2 → IVec S16 32) a x).toNat < S16x1024.size a) ∧
  (∀ a x, ((![v681, v625] : Fin 2 → IVec S16 32) a x).toNat < S16x1024.size a)
theorem k0_idx223_inb : ∀ (v620 : IVec S16 32) (v625 : IVec S16 32) (v681 : IVec S16 32) (k0_hw121 : k0_chk121 v620 v625 v681), ∀ a x, ((![v681, v620] : Fin 2 → IVec S16 32) a x).toNat < S16x1024.size a := fun v620 v625 v681 k0_hw121 => k0_hw121.1
theorem k0_idx224_inb : ∀ (v620 : IVec S16 32) (v625 : IVec S16 32) (v681 : IVec S16 32) (k0_hw121 : k0_chk121 v620 v625 v681), ∀ a x, ((![v681, v625] : Fin 2 → IVec S16 32) a x).toNat < S16x1024.size a := fun v620 v625 v681 k0_hw121 => k0_hw121.2
def k0_off68 (k0_t3 : Fin k0_t3_loop.trips) : Fin 1 → Nat :=
  let c768_i32_334 : BitVec 32 := 768#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v695 : BitVec 32 := Scalar.addi c768_i32_334 v617
  let v696 : Index := Scalar.indexCast v695
  ![v696.toNat]

def k0_chk122 (v620 : IVec S16 32) (v625 : IVec S16 32) (v698 : IVec S16 32) : Prop :=
  (∀ a x, ((![v698, v620] : Fin 2 → IVec S16 32) a x).toNat < S16x1024.size a) ∧
  (∀ a x, ((![v698, v625] : Fin 2 → IVec S16 32) a x).toNat < S16x1024.size a)
theorem k0_idx225_inb : ∀ (v620 : IVec S16 32) (v625 : IVec S16 32) (v698 : IVec S16 32) (k0_hw122 : k0_chk122 v620 v625 v698), ∀ a x, ((![v698, v620] : Fin 2 → IVec S16 32) a x).toNat < S16x1024.size a := fun v620 v625 v698 k0_hw122 => k0_hw122.1
theorem k0_idx226_inb : ∀ (v620 : IVec S16 32) (v625 : IVec S16 32) (v698 : IVec S16 32) (k0_hw122 : k0_chk122 v620 v625 v698), ∀ a x, ((![v698, v625] : Fin 2 → IVec S16 32) a x).toNat < S16x1024.size a := fun v620 v625 v698 k0_hw122 => k0_hw122.2

def k0_chk123 (v620 : IVec S16 32) (v625 : IVec S16 32) (v699 : IVec S16 32) : Prop :=
  (∀ a x, ((![v699, v620] : Fin 2 → IVec S16 32) a x).toNat < S16x1024.size a) ∧
  (∀ a x, ((![v699, v625] : Fin 2 → IVec S16 32) a x).toNat < S16x1024.size a)
theorem k0_idx227_inb : ∀ (v620 : IVec S16 32) (v625 : IVec S16 32) (v699 : IVec S16 32) (k0_hw123 : k0_chk123 v620 v625 v699), ∀ a x, ((![v699, v620] : Fin 2 → IVec S16 32) a x).toNat < S16x1024.size a := fun v620 v625 v699 k0_hw123 => k0_hw123.1
theorem k0_idx228_inb : ∀ (v620 : IVec S16 32) (v625 : IVec S16 32) (v699 : IVec S16 32) (k0_hw123 : k0_chk123 v620 v625 v699), ∀ a x, ((![v699, v625] : Fin 2 → IVec S16 32) a x).toNat < S16x1024.size a := fun v620 v625 v699 k0_hw123 => k0_hw123.2
def k0_off69 (k0_t3 : Fin k0_t3_loop.trips) : Fin 1 → Nat :=
  let c1024_i32_337 : BitVec 32 := 1024#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v713 : BitVec 32 := Scalar.addi c1024_i32_337 v617
  let v714 : Index := Scalar.indexCast v713
  ![v714.toNat]

def k0_chk124 (v620 : IVec S16 32) (v625 : IVec S16 32) (v716 : IVec S16 32) : Prop :=
  (∀ a x, ((![v716, v620] : Fin 2 → IVec S16 32) a x).toNat < S16x1024.size a) ∧
  (∀ a x, ((![v716, v625] : Fin 2 → IVec S16 32) a x).toNat < S16x1024.size a)
theorem k0_idx229_inb : ∀ (v620 : IVec S16 32) (v625 : IVec S16 32) (v716 : IVec S16 32) (k0_hw124 : k0_chk124 v620 v625 v716), ∀ a x, ((![v716, v620] : Fin 2 → IVec S16 32) a x).toNat < S16x1024.size a := fun v620 v625 v716 k0_hw124 => k0_hw124.1
theorem k0_idx230_inb : ∀ (v620 : IVec S16 32) (v625 : IVec S16 32) (v716 : IVec S16 32) (k0_hw124 : k0_chk124 v620 v625 v716), ∀ a x, ((![v716, v625] : Fin 2 → IVec S16 32) a x).toNat < S16x1024.size a := fun v620 v625 v716 k0_hw124 => k0_hw124.2

def k0_chk125 (v620 : IVec S16 32) (v625 : IVec S16 32) (v717 : IVec S16 32) : Prop :=
  (∀ a x, ((![v717, v620] : Fin 2 → IVec S16 32) a x).toNat < S16x1024.size a) ∧
  (∀ a x, ((![v717, v625] : Fin 2 → IVec S16 32) a x).toNat < S16x1024.size a)
theorem k0_idx231_inb : ∀ (v620 : IVec S16 32) (v625 : IVec S16 32) (v717 : IVec S16 32) (k0_hw125 : k0_chk125 v620 v625 v717), ∀ a x, ((![v717, v620] : Fin 2 → IVec S16 32) a x).toNat < S16x1024.size a := fun v620 v625 v717 k0_hw125 => k0_hw125.1
theorem k0_idx232_inb : ∀ (v620 : IVec S16 32) (v625 : IVec S16 32) (v717 : IVec S16 32) (k0_hw125 : k0_chk125 v620 v625 v717), ∀ a x, ((![v717, v625] : Fin 2 → IVec S16 32) a x).toNat < S16x1024.size a := fun v620 v625 v717 k0_hw125 => k0_hw125.2
def k0_off70 (k0_t3 : Fin k0_t3_loop.trips) : Fin 1 → Nat :=
  let c1280_i32_340 : BitVec 32 := 1280#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v731 : BitVec 32 := Scalar.addi c1280_i32_340 v617
  let v732 : Index := Scalar.indexCast v731
  ![v732.toNat]

def k0_chk126 (v620 : IVec S16 32) (v625 : IVec S16 32) (v734 : IVec S16 32) : Prop :=
  (∀ a x, ((![v734, v620] : Fin 2 → IVec S16 32) a x).toNat < S16x1024.size a) ∧
  (∀ a x, ((![v734, v625] : Fin 2 → IVec S16 32) a x).toNat < S16x1024.size a)
theorem k0_idx233_inb : ∀ (v620 : IVec S16 32) (v625 : IVec S16 32) (v734 : IVec S16 32) (k0_hw126 : k0_chk126 v620 v625 v734), ∀ a x, ((![v734, v620] : Fin 2 → IVec S16 32) a x).toNat < S16x1024.size a := fun v620 v625 v734 k0_hw126 => k0_hw126.1
theorem k0_idx234_inb : ∀ (v620 : IVec S16 32) (v625 : IVec S16 32) (v734 : IVec S16 32) (k0_hw126 : k0_chk126 v620 v625 v734), ∀ a x, ((![v734, v625] : Fin 2 → IVec S16 32) a x).toNat < S16x1024.size a := fun v620 v625 v734 k0_hw126 => k0_hw126.2

def k0_chk127 (v620 : IVec S16 32) (v625 : IVec S16 32) (v735 : IVec S16 32) : Prop :=
  (∀ a x, ((![v735, v620] : Fin 2 → IVec S16 32) a x).toNat < S16x1024.size a) ∧
  (∀ a x, ((![v735, v625] : Fin 2 → IVec S16 32) a x).toNat < S16x1024.size a)
theorem k0_idx235_inb : ∀ (v620 : IVec S16 32) (v625 : IVec S16 32) (v735 : IVec S16 32) (k0_hw127 : k0_chk127 v620 v625 v735), ∀ a x, ((![v735, v620] : Fin 2 → IVec S16 32) a x).toNat < S16x1024.size a := fun v620 v625 v735 k0_hw127 => k0_hw127.1
theorem k0_idx236_inb : ∀ (v620 : IVec S16 32) (v625 : IVec S16 32) (v735 : IVec S16 32) (k0_hw127 : k0_chk127 v620 v625 v735), ∀ a x, ((![v735, v625] : Fin 2 → IVec S16 32) a x).toNat < S16x1024.size a := fun v620 v625 v735 k0_hw127 => k0_hw127.2
def k0_off71 (k0_t3 : Fin k0_t3_loop.trips) : Fin 1 → Nat :=
  let c1536_i32_343 : BitVec 32 := 1536#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v749 : BitVec 32 := Scalar.addi c1536_i32_343 v617
  let v750 : Index := Scalar.indexCast v749
  ![v750.toNat]

def k0_chk128 (v620 : IVec S16 32) (v625 : IVec S16 32) (v752 : IVec S16 32) : Prop :=
  (∀ a x, ((![v752, v620] : Fin 2 → IVec S16 32) a x).toNat < S16x1024.size a) ∧
  (∀ a x, ((![v752, v625] : Fin 2 → IVec S16 32) a x).toNat < S16x1024.size a)
theorem k0_idx237_inb : ∀ (v620 : IVec S16 32) (v625 : IVec S16 32) (v752 : IVec S16 32) (k0_hw128 : k0_chk128 v620 v625 v752), ∀ a x, ((![v752, v620] : Fin 2 → IVec S16 32) a x).toNat < S16x1024.size a := fun v620 v625 v752 k0_hw128 => k0_hw128.1
theorem k0_idx238_inb : ∀ (v620 : IVec S16 32) (v625 : IVec S16 32) (v752 : IVec S16 32) (k0_hw128 : k0_chk128 v620 v625 v752), ∀ a x, ((![v752, v625] : Fin 2 → IVec S16 32) a x).toNat < S16x1024.size a := fun v620 v625 v752 k0_hw128 => k0_hw128.2

def k0_chk129 (v620 : IVec S16 32) (v625 : IVec S16 32) (v753 : IVec S16 32) : Prop :=
  (∀ a x, ((![v753, v620] : Fin 2 → IVec S16 32) a x).toNat < S16x1024.size a) ∧
  (∀ a x, ((![v753, v625] : Fin 2 → IVec S16 32) a x).toNat < S16x1024.size a)
theorem k0_idx239_inb : ∀ (v620 : IVec S16 32) (v625 : IVec S16 32) (v753 : IVec S16 32) (k0_hw129 : k0_chk129 v620 v625 v753), ∀ a x, ((![v753, v620] : Fin 2 → IVec S16 32) a x).toNat < S16x1024.size a := fun v620 v625 v753 k0_hw129 => k0_hw129.1
theorem k0_idx240_inb : ∀ (v620 : IVec S16 32) (v625 : IVec S16 32) (v753 : IVec S16 32) (k0_hw129 : k0_chk129 v620 v625 v753), ∀ a x, ((![v753, v625] : Fin 2 → IVec S16 32) a x).toNat < S16x1024.size a := fun v620 v625 v753 k0_hw129 => k0_hw129.2
def k0_off72 (k0_t3 : Fin k0_t3_loop.trips) : Fin 1 → Nat :=
  let c1792_i32_346 : BitVec 32 := 1792#32
  let c0_i32_273 : BitVec 32 := 0#32
  let c1_i32_275 : BitVec 32 := 1#32
  let arg21 : BitVec 32 := Scf.iv c0_i32_273 c1_i32_275 k0_t3
  let c64_i32_321 : BitVec 32 := 64#32
  let v616 : BitVec 32 := Scalar.muli arg21 c64_i32_321
  let c32_i32 : BitVec 32 := 32#32
  let v617 : BitVec 32 := Scalar.addi v616 c32_i32
  let v767 : BitVec 32 := Scalar.addi c1792_i32_346 v617
  let v768 : Index := Scalar.indexCast v767
  ![v768.toNat]
def k0_off73 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v1 c8_i32
  let c0_i32_3 : BitVec 32 := 0#32
  let v16 : BitVec 1 := Scalar.cmpi .ne v15 c0_i32_3
  let v17 : BitVec 1 := Scalar.andi v14 v16
  let v3 : BitVec 32 := Scalar.divsi v1 c8_i32
  let c1_i32 : BitVec 32 := 1#32
  let v18 : BitVec 32 := Scalar.subi v3 c1_i32
  let v19 : BitVec 32 := Scalar.select v17 v18 v3
  let c256_i32 : BitVec 32 := 256#32
  let v20 : BitVec 32 := Scalar.muli v19 c256_i32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v772 : BitVec 32 := Scalar.addi v20 v771
  let v773 : Index := Scalar.indexCast v772
  ![v773.toNat]

def k0_chk130 (v774 : IVec S16 32) (v779 : IVec S16 32) (v780 : IVec S16 32) : Prop :=
  (∀ a x, ((![v780, v774] : Fin 2 → IVec S16 32) a x).toNat < S16x1024.size a) ∧
  (∀ a x, ((![v780, v779] : Fin 2 → IVec S16 32) a x).toNat < S16x1024.size a)
theorem k0_idx241_inb : ∀ (v774 : IVec S16 32) (v779 : IVec S16 32) (v780 : IVec S16 32) (k0_hw130 : k0_chk130 v774 v779 v780), ∀ a x, ((![v780, v774] : Fin 2 → IVec S16 32) a x).toNat < S16x1024.size a := fun v774 v779 v780 k0_hw130 => k0_hw130.1
theorem k0_idx242_inb : ∀ (v774 : IVec S16 32) (v779 : IVec S16 32) (v780 : IVec S16 32) (k0_hw130 : k0_chk130 v774 v779 v780), ∀ a x, ((![v780, v779] : Fin 2 → IVec S16 32) a x).toNat < S16x1024.size a := fun v774 v779 v780 k0_hw130 => k0_hw130.2

def k0_chk131 (v774 : IVec S16 32) (v779 : IVec S16 32) (v781 : IVec S16 32) : Prop :=
  (∀ a x, ((![v781, v774] : Fin 2 → IVec S16 32) a x).toNat < S16x1024.size a) ∧
  (∀ a x, ((![v781, v779] : Fin 2 → IVec S16 32) a x).toNat < S16x1024.size a)
theorem k0_idx243_inb : ∀ (v774 : IVec S16 32) (v779 : IVec S16 32) (v781 : IVec S16 32) (k0_hw131 : k0_chk131 v774 v779 v781), ∀ a x, ((![v781, v774] : Fin 2 → IVec S16 32) a x).toNat < S16x1024.size a := fun v774 v779 v781 k0_hw131 => k0_hw131.1
theorem k0_idx244_inb : ∀ (v774 : IVec S16 32) (v779 : IVec S16 32) (v781 : IVec S16 32) (k0_hw131 : k0_chk131 v774 v779 v781), ∀ a x, ((![v781, v779] : Fin 2 → IVec S16 32) a x).toNat < S16x1024.size a := fun v774 v779 v781 k0_hw131 => k0_hw131.2
def k0_off74 (k0_t3 : Fin k0_t3_loop.trips) : Fin 1 → Nat :=
  let c0_i32_351 : BitVec 32 := 0#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v795 : BitVec 32 := Scalar.addi c0_i32_351 v771
  let v796 : Index := Scalar.indexCast v795
  ![v796.toNat]

def k0_chk132 (v774 : IVec S16 32) (v779 : IVec S16 32) (v798 : IVec S16 32) : Prop :=
  (∀ a x, ((![v798, v774] : Fin 2 → IVec S16 32) a x).toNat < S16x1024.size a) ∧
  (∀ a x, ((![v798, v779] : Fin 2 → IVec S16 32) a x).toNat < S16x1024.size a)
theorem k0_idx245_inb : ∀ (v774 : IVec S16 32) (v779 : IVec S16 32) (v798 : IVec S16 32) (k0_hw132 : k0_chk132 v774 v779 v798), ∀ a x, ((![v798, v774] : Fin 2 → IVec S16 32) a x).toNat < S16x1024.size a := fun v774 v779 v798 k0_hw132 => k0_hw132.1
theorem k0_idx246_inb : ∀ (v774 : IVec S16 32) (v779 : IVec S16 32) (v798 : IVec S16 32) (k0_hw132 : k0_chk132 v774 v779 v798), ∀ a x, ((![v798, v779] : Fin 2 → IVec S16 32) a x).toNat < S16x1024.size a := fun v774 v779 v798 k0_hw132 => k0_hw132.2

def k0_chk133 (v774 : IVec S16 32) (v779 : IVec S16 32) (v799 : IVec S16 32) : Prop :=
  (∀ a x, ((![v799, v774] : Fin 2 → IVec S16 32) a x).toNat < S16x1024.size a) ∧
  (∀ a x, ((![v799, v779] : Fin 2 → IVec S16 32) a x).toNat < S16x1024.size a)
theorem k0_idx247_inb : ∀ (v774 : IVec S16 32) (v779 : IVec S16 32) (v799 : IVec S16 32) (k0_hw133 : k0_chk133 v774 v779 v799), ∀ a x, ((![v799, v774] : Fin 2 → IVec S16 32) a x).toNat < S16x1024.size a := fun v774 v779 v799 k0_hw133 => k0_hw133.1
theorem k0_idx248_inb : ∀ (v774 : IVec S16 32) (v779 : IVec S16 32) (v799 : IVec S16 32) (k0_hw133 : k0_chk133 v774 v779 v799), ∀ a x, ((![v799, v779] : Fin 2 → IVec S16 32) a x).toNat < S16x1024.size a := fun v774 v779 v799 k0_hw133 => k0_hw133.2
def k0_off75 (k0_t3 : Fin k0_t3_loop.trips) : Fin 1 → Nat :=
  let c256_i32_354 : BitVec 32 := 256#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v813 : BitVec 32 := Scalar.addi c256_i32_354 v771
  let v814 : Index := Scalar.indexCast v813
  ![v814.toNat]

def k0_chk134 (v774 : IVec S16 32) (v779 : IVec S16 32) (v816 : IVec S16 32) : Prop :=
  (∀ a x, ((![v816, v774] : Fin 2 → IVec S16 32) a x).toNat < S16x1024.size a) ∧
  (∀ a x, ((![v816, v779] : Fin 2 → IVec S16 32) a x).toNat < S16x1024.size a)
theorem k0_idx249_inb : ∀ (v774 : IVec S16 32) (v779 : IVec S16 32) (v816 : IVec S16 32) (k0_hw134 : k0_chk134 v774 v779 v816), ∀ a x, ((![v816, v774] : Fin 2 → IVec S16 32) a x).toNat < S16x1024.size a := fun v774 v779 v816 k0_hw134 => k0_hw134.1
theorem k0_idx250_inb : ∀ (v774 : IVec S16 32) (v779 : IVec S16 32) (v816 : IVec S16 32) (k0_hw134 : k0_chk134 v774 v779 v816), ∀ a x, ((![v816, v779] : Fin 2 → IVec S16 32) a x).toNat < S16x1024.size a := fun v774 v779 v816 k0_hw134 => k0_hw134.2

def k0_chk135 (v774 : IVec S16 32) (v779 : IVec S16 32) (v817 : IVec S16 32) : Prop :=
  (∀ a x, ((![v817, v774] : Fin 2 → IVec S16 32) a x).toNat < S16x1024.size a) ∧
  (∀ a x, ((![v817, v779] : Fin 2 → IVec S16 32) a x).toNat < S16x1024.size a)
theorem k0_idx251_inb : ∀ (v774 : IVec S16 32) (v779 : IVec S16 32) (v817 : IVec S16 32) (k0_hw135 : k0_chk135 v774 v779 v817), ∀ a x, ((![v817, v774] : Fin 2 → IVec S16 32) a x).toNat < S16x1024.size a := fun v774 v779 v817 k0_hw135 => k0_hw135.1
theorem k0_idx252_inb : ∀ (v774 : IVec S16 32) (v779 : IVec S16 32) (v817 : IVec S16 32) (k0_hw135 : k0_chk135 v774 v779 v817), ∀ a x, ((![v817, v779] : Fin 2 → IVec S16 32) a x).toNat < S16x1024.size a := fun v774 v779 v817 k0_hw135 => k0_hw135.2
def k0_off76 (k0_t3 : Fin k0_t3_loop.trips) : Fin 1 → Nat :=
  let c512_i32_357 : BitVec 32 := 512#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v831 : BitVec 32 := Scalar.addi c512_i32_357 v771
  let v832 : Index := Scalar.indexCast v831
  ![v832.toNat]

def k0_chk136 (v774 : IVec S16 32) (v779 : IVec S16 32) (v834 : IVec S16 32) : Prop :=
  (∀ a x, ((![v834, v774] : Fin 2 → IVec S16 32) a x).toNat < S16x1024.size a) ∧
  (∀ a x, ((![v834, v779] : Fin 2 → IVec S16 32) a x).toNat < S16x1024.size a)
theorem k0_idx253_inb : ∀ (v774 : IVec S16 32) (v779 : IVec S16 32) (v834 : IVec S16 32) (k0_hw136 : k0_chk136 v774 v779 v834), ∀ a x, ((![v834, v774] : Fin 2 → IVec S16 32) a x).toNat < S16x1024.size a := fun v774 v779 v834 k0_hw136 => k0_hw136.1
theorem k0_idx254_inb : ∀ (v774 : IVec S16 32) (v779 : IVec S16 32) (v834 : IVec S16 32) (k0_hw136 : k0_chk136 v774 v779 v834), ∀ a x, ((![v834, v779] : Fin 2 → IVec S16 32) a x).toNat < S16x1024.size a := fun v774 v779 v834 k0_hw136 => k0_hw136.2

def k0_chk137 (v774 : IVec S16 32) (v779 : IVec S16 32) (v835 : IVec S16 32) : Prop :=
  (∀ a x, ((![v835, v774] : Fin 2 → IVec S16 32) a x).toNat < S16x1024.size a) ∧
  (∀ a x, ((![v835, v779] : Fin 2 → IVec S16 32) a x).toNat < S16x1024.size a)
theorem k0_idx255_inb : ∀ (v774 : IVec S16 32) (v779 : IVec S16 32) (v835 : IVec S16 32) (k0_hw137 : k0_chk137 v774 v779 v835), ∀ a x, ((![v835, v774] : Fin 2 → IVec S16 32) a x).toNat < S16x1024.size a := fun v774 v779 v835 k0_hw137 => k0_hw137.1
theorem k0_idx256_inb : ∀ (v774 : IVec S16 32) (v779 : IVec S16 32) (v835 : IVec S16 32) (k0_hw137 : k0_chk137 v774 v779 v835), ∀ a x, ((![v835, v779] : Fin 2 → IVec S16 32) a x).toNat < S16x1024.size a := fun v774 v779 v835 k0_hw137 => k0_hw137.2
def k0_off77 (k0_t3 : Fin k0_t3_loop.trips) : Fin 1 → Nat :=
  let c768_i32_360 : BitVec 32 := 768#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v849 : BitVec 32 := Scalar.addi c768_i32_360 v771
  let v850 : Index := Scalar.indexCast v849
  ![v850.toNat]

def k0_chk138 (v774 : IVec S16 32) (v779 : IVec S16 32) (v852 : IVec S16 32) : Prop :=
  (∀ a x, ((![v852, v774] : Fin 2 → IVec S16 32) a x).toNat < S16x1024.size a) ∧
  (∀ a x, ((![v852, v779] : Fin 2 → IVec S16 32) a x).toNat < S16x1024.size a)
theorem k0_idx257_inb : ∀ (v774 : IVec S16 32) (v779 : IVec S16 32) (v852 : IVec S16 32) (k0_hw138 : k0_chk138 v774 v779 v852), ∀ a x, ((![v852, v774] : Fin 2 → IVec S16 32) a x).toNat < S16x1024.size a := fun v774 v779 v852 k0_hw138 => k0_hw138.1
theorem k0_idx258_inb : ∀ (v774 : IVec S16 32) (v779 : IVec S16 32) (v852 : IVec S16 32) (k0_hw138 : k0_chk138 v774 v779 v852), ∀ a x, ((![v852, v779] : Fin 2 → IVec S16 32) a x).toNat < S16x1024.size a := fun v774 v779 v852 k0_hw138 => k0_hw138.2

def k0_chk139 (v774 : IVec S16 32) (v779 : IVec S16 32) (v853 : IVec S16 32) : Prop :=
  (∀ a x, ((![v853, v774] : Fin 2 → IVec S16 32) a x).toNat < S16x1024.size a) ∧
  (∀ a x, ((![v853, v779] : Fin 2 → IVec S16 32) a x).toNat < S16x1024.size a)
theorem k0_idx259_inb : ∀ (v774 : IVec S16 32) (v779 : IVec S16 32) (v853 : IVec S16 32) (k0_hw139 : k0_chk139 v774 v779 v853), ∀ a x, ((![v853, v774] : Fin 2 → IVec S16 32) a x).toNat < S16x1024.size a := fun v774 v779 v853 k0_hw139 => k0_hw139.1
theorem k0_idx260_inb : ∀ (v774 : IVec S16 32) (v779 : IVec S16 32) (v853 : IVec S16 32) (k0_hw139 : k0_chk139 v774 v779 v853), ∀ a x, ((![v853, v779] : Fin 2 → IVec S16 32) a x).toNat < S16x1024.size a := fun v774 v779 v853 k0_hw139 => k0_hw139.2
def k0_off78 (k0_t3 : Fin k0_t3_loop.trips) : Fin 1 → Nat :=
  let c1024_i32_363 : BitVec 32 := 1024#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v867 : BitVec 32 := Scalar.addi c1024_i32_363 v771
  let v868 : Index := Scalar.indexCast v867
  ![v868.toNat]

def k0_chk140 (v774 : IVec S16 32) (v779 : IVec S16 32) (v870 : IVec S16 32) : Prop :=
  (∀ a x, ((![v870, v774] : Fin 2 → IVec S16 32) a x).toNat < S16x1024.size a) ∧
  (∀ a x, ((![v870, v779] : Fin 2 → IVec S16 32) a x).toNat < S16x1024.size a)
theorem k0_idx261_inb : ∀ (v774 : IVec S16 32) (v779 : IVec S16 32) (v870 : IVec S16 32) (k0_hw140 : k0_chk140 v774 v779 v870), ∀ a x, ((![v870, v774] : Fin 2 → IVec S16 32) a x).toNat < S16x1024.size a := fun v774 v779 v870 k0_hw140 => k0_hw140.1
theorem k0_idx262_inb : ∀ (v774 : IVec S16 32) (v779 : IVec S16 32) (v870 : IVec S16 32) (k0_hw140 : k0_chk140 v774 v779 v870), ∀ a x, ((![v870, v779] : Fin 2 → IVec S16 32) a x).toNat < S16x1024.size a := fun v774 v779 v870 k0_hw140 => k0_hw140.2

def k0_chk141 (v774 : IVec S16 32) (v779 : IVec S16 32) (v871 : IVec S16 32) : Prop :=
  (∀ a x, ((![v871, v774] : Fin 2 → IVec S16 32) a x).toNat < S16x1024.size a) ∧
  (∀ a x, ((![v871, v779] : Fin 2 → IVec S16 32) a x).toNat < S16x1024.size a)
theorem k0_idx263_inb : ∀ (v774 : IVec S16 32) (v779 : IVec S16 32) (v871 : IVec S16 32) (k0_hw141 : k0_chk141 v774 v779 v871), ∀ a x, ((![v871, v774] : Fin 2 → IVec S16 32) a x).toNat < S16x1024.size a := fun v774 v779 v871 k0_hw141 => k0_hw141.1
theorem k0_idx264_inb : ∀ (v774 : IVec S16 32) (v779 : IVec S16 32) (v871 : IVec S16 32) (k0_hw141 : k0_chk141 v774 v779 v871), ∀ a x, ((![v871, v779] : Fin 2 → IVec S16 32) a x).toNat < S16x1024.size a := fun v774 v779 v871 k0_hw141 => k0_hw141.2
def k0_off79 (k0_t3 : Fin k0_t3_loop.trips) : Fin 1 → Nat :=
  let c1280_i32_366 : BitVec 32 := 1280#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v885 : BitVec 32 := Scalar.addi c1280_i32_366 v771
  let v886 : Index := Scalar.indexCast v885
  ![v886.toNat]

def k0_chk142 (v774 : IVec S16 32) (v779 : IVec S16 32) (v888 : IVec S16 32) : Prop :=
  (∀ a x, ((![v888, v774] : Fin 2 → IVec S16 32) a x).toNat < S16x1024.size a) ∧
  (∀ a x, ((![v888, v779] : Fin 2 → IVec S16 32) a x).toNat < S16x1024.size a)
theorem k0_idx265_inb : ∀ (v774 : IVec S16 32) (v779 : IVec S16 32) (v888 : IVec S16 32) (k0_hw142 : k0_chk142 v774 v779 v888), ∀ a x, ((![v888, v774] : Fin 2 → IVec S16 32) a x).toNat < S16x1024.size a := fun v774 v779 v888 k0_hw142 => k0_hw142.1
theorem k0_idx266_inb : ∀ (v774 : IVec S16 32) (v779 : IVec S16 32) (v888 : IVec S16 32) (k0_hw142 : k0_chk142 v774 v779 v888), ∀ a x, ((![v888, v779] : Fin 2 → IVec S16 32) a x).toNat < S16x1024.size a := fun v774 v779 v888 k0_hw142 => k0_hw142.2

def k0_chk143 (v774 : IVec S16 32) (v779 : IVec S16 32) (v889 : IVec S16 32) : Prop :=
  (∀ a x, ((![v889, v774] : Fin 2 → IVec S16 32) a x).toNat < S16x1024.size a) ∧
  (∀ a x, ((![v889, v779] : Fin 2 → IVec S16 32) a x).toNat < S16x1024.size a)
theorem k0_idx267_inb : ∀ (v774 : IVec S16 32) (v779 : IVec S16 32) (v889 : IVec S16 32) (k0_hw143 : k0_chk143 v774 v779 v889), ∀ a x, ((![v889, v774] : Fin 2 → IVec S16 32) a x).toNat < S16x1024.size a := fun v774 v779 v889 k0_hw143 => k0_hw143.1
theorem k0_idx268_inb : ∀ (v774 : IVec S16 32) (v779 : IVec S16 32) (v889 : IVec S16 32) (k0_hw143 : k0_chk143 v774 v779 v889), ∀ a x, ((![v889, v779] : Fin 2 → IVec S16 32) a x).toNat < S16x1024.size a := fun v774 v779 v889 k0_hw143 => k0_hw143.2
def k0_off80 (k0_t3 : Fin k0_t3_loop.trips) : Fin 1 → Nat :=
  let c1536_i32_369 : BitVec 32 := 1536#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v903 : BitVec 32 := Scalar.addi c1536_i32_369 v771
  let v904 : Index := Scalar.indexCast v903
  ![v904.toNat]

def k0_chk144 (v774 : IVec S16 32) (v779 : IVec S16 32) (v906 : IVec S16 32) : Prop :=
  (∀ a x, ((![v906, v774] : Fin 2 → IVec S16 32) a x).toNat < S16x1024.size a) ∧
  (∀ a x, ((![v906, v779] : Fin 2 → IVec S16 32) a x).toNat < S16x1024.size a)
theorem k0_idx269_inb : ∀ (v774 : IVec S16 32) (v779 : IVec S16 32) (v906 : IVec S16 32) (k0_hw144 : k0_chk144 v774 v779 v906), ∀ a x, ((![v906, v774] : Fin 2 → IVec S16 32) a x).toNat < S16x1024.size a := fun v774 v779 v906 k0_hw144 => k0_hw144.1
theorem k0_idx270_inb : ∀ (v774 : IVec S16 32) (v779 : IVec S16 32) (v906 : IVec S16 32) (k0_hw144 : k0_chk144 v774 v779 v906), ∀ a x, ((![v906, v779] : Fin 2 → IVec S16 32) a x).toNat < S16x1024.size a := fun v774 v779 v906 k0_hw144 => k0_hw144.2

def k0_chk145 (v774 : IVec S16 32) (v779 : IVec S16 32) (v907 : IVec S16 32) : Prop :=
  (∀ a x, ((![v907, v774] : Fin 2 → IVec S16 32) a x).toNat < S16x1024.size a) ∧
  (∀ a x, ((![v907, v779] : Fin 2 → IVec S16 32) a x).toNat < S16x1024.size a)
theorem k0_idx271_inb : ∀ (v774 : IVec S16 32) (v779 : IVec S16 32) (v907 : IVec S16 32) (k0_hw145 : k0_chk145 v774 v779 v907), ∀ a x, ((![v907, v774] : Fin 2 → IVec S16 32) a x).toNat < S16x1024.size a := fun v774 v779 v907 k0_hw145 => k0_hw145.1
theorem k0_idx272_inb : ∀ (v774 : IVec S16 32) (v779 : IVec S16 32) (v907 : IVec S16 32) (k0_hw145 : k0_chk145 v774 v779 v907), ∀ a x, ((![v907, v779] : Fin 2 → IVec S16 32) a x).toNat < S16x1024.size a := fun v774 v779 v907 k0_hw145 => k0_hw145.2
def k0_off81 (k0_t3 : Fin k0_t3_loop.trips) : Fin 1 → Nat :=
  let c1792_i32_372 : BitVec 32 := 1792#32
  let c0_i32_273 : BitVec 32 := 0#32
  let c1_i32_275 : BitVec 32 := 1#32
  let arg21 : BitVec 32 := Scf.iv c0_i32_273 c1_i32_275 k0_t3
  let c64_i32_347 : BitVec 32 := 64#32
  let v770 : BitVec 32 := Scalar.muli arg21 c64_i32_347
  let c48_i32 : BitVec 32 := 48#32
  let v771 : BitVec 32 := Scalar.addi v770 c48_i32
  let v921 : BitVec 32 := Scalar.addi c1792_i32_372 v771
  let v922 : Index := Scalar.indexCast v921
  ![v922.toNat]
def k0_off82 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c2_i32_58 : BitVec 32 := 2#32
  let c0_i32_54 : BitVec 32 := 0#32
  let c1_i32_56 : BitVec 32 := 1#32
  let arg20 : BitVec 32 := Scf.iv c0_i32_54 c1_i32_56 k0_t1
  let v82 : BitVec 32 := Scalar.muli c2_i32_58 arg20
  let c1_i32_255 : BitVec 32 := 1#32
  let v271 : BitVec 32 := Scalar.addi v82 c1_i32_255
  let c8_i32_277 : BitVec 32 := 8#32
  let v305 : BitVec 32 := Scalar.muli v271 c8_i32_277
  let v306 : BitVec 32 := Scalar.addi v2 v305
  let c256_i32_278 : BitVec 32 := 256#32
  let v307 : BitVec 32 := Scalar.muli v306 c256_i32_278
  ![v307.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x3x2048x2048 : Shape := ⟨4, ![4, 3, 2048, 2048]⟩
abbrev S4x2 : Shape := ⟨2, ![4, 2]⟩
abbrev S4 : Shape := ⟨1, ![4]⟩
abbrev S_ : Shape := ⟨0, ![]⟩
abbrev S4x1 : Shape := ⟨2, ![4, 1]⟩
abbrev S4x3 : Shape := ⟨2, ![4, 3]⟩
abbrev S4x1x3 : Shape := ⟨3, ![4, 1, 3]⟩
abbrev S4x3x3 : Shape := ⟨3, ![4, 3, 3]⟩
abbrev S256 : Shape := ⟨1, ![256]⟩
abbrev S256x256 : Shape := ⟨2, ![256, 256]⟩
abbrev S65536 : Shape := ⟨1, ![65536]⟩
abbrev S65536x1 : Shape := ⟨2, ![65536, 1]⟩
abbrev S65536x2 : Shape := ⟨2, ![65536, 2]⟩
abbrev S1x65536x2 : Shape := ⟨3, ![1, 65536, 2]⟩
abbrev S4x65536x2 : Shape := ⟨3, ![4, 65536, 2]⟩
abbrev S4x2x2 : Shape := ⟨3, ![4, 2, 2]⟩
abbrev S4x2x1 : Shape := ⟨3, ![4, 2, 1]⟩
abbrev S4x1x2 : Shape := ⟨3, ![4, 1, 2]⟩
abbrev S4x256x256x2 : Shape := ⟨4, ![4, 256, 256, 2]⟩
abbrev S4x256x256x1 : Shape := ⟨4, ![4, 256, 256, 1]⟩
abbrev S4x256x256 : Shape := ⟨3, ![4, 256, 256]⟩
abbrev S4x1x1 : Shape := ⟨3, ![4, 1, 1]⟩
abbrev S4x256x256x3 : Shape := ⟨4, ![4, 256, 256, 3]⟩
abbrev S4x3x256x256 : Shape := ⟨4, ![4, 3, 256, 256]⟩

abbrev nBuf : Space → Nat
  | .hbm => 444
  | .vmem => 0
  | .smem => 0
  | _ => 0

abbrev hbmTy0_0 (i : Nat) : BufTy := match i % 128 with
  | 0 => ⟨S4x3x2048x2048, .f32⟩
  | 1 => ⟨S4x2, .f32⟩
  | 2 => ⟨S4, .f32⟩
  | 3 => ⟨S_, .f32⟩
  | 4 => ⟨S4, .f32⟩
  | 5 => ⟨S_, .f32⟩
  | 6 => ⟨S4, .f32⟩
  | 7 => ⟨S4x1, .f32⟩
  | 8 => ⟨S4, .f32⟩
  | 9 => ⟨S4x1, .f32⟩
  | 10 => ⟨S4, .f32⟩
  | 11 => ⟨S_, .f32⟩
  | 12 => ⟨S4, .f32⟩
  | 13 => ⟨S4, .f32⟩
  | 14 => ⟨S4, .f32⟩
  | 15 => ⟨S4x1, .f32⟩
  | 16 => ⟨S4x1, .f32⟩
  | 17 => ⟨S4x1, .f32⟩
  | 18 => ⟨S4x3, .f32⟩
  | 19 => ⟨S_, .f32⟩
  | 20 => ⟨S4, .f32⟩
  | 21 => ⟨S4, .f32⟩
  | 22 => ⟨S4, .f32⟩
  | 23 => ⟨S4x1, .f32⟩
  | 24 => ⟨S4x1, .f32⟩
  | 25 => ⟨S4x1, .f32⟩
  | 26 => ⟨S4x3, .f32⟩
  | 27 => ⟨S4x1, .f32⟩
  | 28 => ⟨S4x1, .f32⟩
  | 29 => ⟨S4x1, .f32⟩
  | 30 => ⟨S4x3, .f32⟩
  | 31 => ⟨S4x1x3, .f32⟩
  | 32 => ⟨S4x1x3, .f32⟩
  | 33 => ⟨S4x1x3, .f32⟩
  | 34 => ⟨S4x3x3, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S4, .f32⟩
  | 43 => ⟨S4, .f32⟩
  | 44 => ⟨S_, .f32⟩
  | 45 => ⟨S4, .f32⟩
  | 46 => ⟨S4, .f32⟩
  | 47 => ⟨S4x1, .f32⟩
  | 48 => ⟨S4x1, .f32⟩
  | 49 => ⟨S4x1, .f32⟩
  | 50 => ⟨S4x3, .f32⟩
  | 51 => ⟨S_, .f32⟩
  | 52 => ⟨S4, .f32⟩
  | 53 => ⟨S4, .f32⟩
  | 54 => ⟨S4, .f32⟩
  | 55 => ⟨S4, .f32⟩
  | 56 => ⟨S4, .f32⟩
  | 57 => ⟨S_, .f32⟩
  | 58 => ⟨S4, .f32⟩
  | 59 => ⟨S4, .f32⟩
  | 60 => ⟨S4x1, .f32⟩
  | 61 => ⟨S4x1, .f32⟩
  | 62 => ⟨S4x1, .f32⟩
  | 63 => ⟨S4x3, .f32⟩
  | 64 => ⟨S4x1, .f32⟩
  | 65 => ⟨S4x1, .f32⟩
  | 66 => ⟨S4x1, .f32⟩
  | 67 => ⟨S4x3, .f32⟩
  | 68 => ⟨S4x1x3, .f32⟩
  | 69 => ⟨S4x1x3, .f32⟩
  | 70 => ⟨S4x1x3, .f32⟩
  | 71 => ⟨S4x3x3, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4x1, .f32⟩
  | 80 => ⟨S4x1, .f32⟩
  | 81 => ⟨S4x1, .f32⟩
  | 82 => ⟨S4x3, .f32⟩
  | 83 => ⟨S4, .f32⟩
  | 84 => ⟨S4x1, .f32⟩
  | 85 => ⟨S4x1, .f32⟩
  | 86 => ⟨S4x1, .f32⟩
  | 87 => ⟨S4x3, .f32⟩
  | 88 => ⟨S4x1, .f32⟩
  | 89 => ⟨S4x1, .f32⟩
  | 90 => ⟨S4x1, .f32⟩
  | 91 => ⟨S4x3, .f32⟩
  | 92 => ⟨S4x1x3, .f32⟩
  | 93 => ⟨S4x1x3, .f32⟩
  | 94 => ⟨S4x1x3, .f32⟩
  | 95 => ⟨S4x3x3, .f32⟩
  | 96 => ⟨S4x3x3, .f32⟩
  | 97 => ⟨S256, .f32⟩
  | 98 => ⟨S_, .f32⟩
  | 99 => ⟨S256, .f32⟩
  | 100 => ⟨S256, .f32⟩
  | 101 => ⟨S256x256, .f32⟩
  | 102 => ⟨S256x256, .f32⟩
  | 103 => ⟨S65536, .f32⟩
  | 104 => ⟨S65536, .f32⟩
  | 105 => ⟨S65536x1, .f32⟩
  | 106 => ⟨S65536x1, .f32⟩
  | 107 => ⟨S65536x2, .f32⟩
  | 108 => ⟨S1x65536x2, .f32⟩
  | 109 => ⟨S4x65536x2, .f32⟩
  | 110 => ⟨S4x2x2, .f32⟩
  | 111 => ⟨S4x65536x2, .f32⟩
  | 112 => ⟨S4x2x1, .f32⟩
  | 113 => ⟨S4x2, .f32⟩
  | 114 => ⟨S4x1x2, .f32⟩
  | 115 => ⟨S4x65536x2, .f32⟩
  | 116 => ⟨S4x65536x2, .f32⟩
  | 117 => ⟨S4x256x256x2, .f32⟩
  | 118 => ⟨S4x256x256x2, .f32⟩
  | 119 => ⟨S4x256x256x1, .f32⟩
  | 120 => ⟨S4x256x256, .f32⟩
  | 121 => ⟨S4x256x256x1, .f32⟩
  | 122 => ⟨S4x256x256, .f32⟩
  | 123 => ⟨S_, .f32⟩
  | 124 => ⟨S4x256x256, .f32⟩
  | 125 => ⟨S4x256x256, .f32⟩
  | 126 => ⟨S_, .f32⟩
  | 127 => ⟨S4x256x256, .f32⟩
  | _ => ⟨S4x3x2048x2048, .f32⟩

abbrev hbmTy0_1 (i : Nat) : BufTy := match i % 128 with
  | 0 => ⟨S4x256x256, .f32⟩
  | 1 => ⟨S_, .f32⟩
  | 2 => ⟨S4x256x256, .f32⟩
  | 3 => ⟨S4x256x256, .f32⟩
  | 4 => ⟨S_, .f32⟩
  | 5 => ⟨S4x256x256, .f32⟩
  | 6 => ⟨S4x256x256, .f32⟩
  | 7 => ⟨S_, .f32⟩
  | 8 => ⟨S4x256x256, .f32⟩
  | 9 => ⟨S4x256x256, .f32⟩
  | 10 => ⟨S_, .f32⟩
  | 11 => ⟨S4x256x256, .f32⟩
  | 12 => ⟨S4x256x256, .f32⟩
  | 13 => ⟨S4x256x256, .f32⟩
  | 14 => ⟨S4x256x256, .f32⟩
  | 15 => ⟨S_, .f32⟩
  | 16 => ⟨S4x256x256, .f32⟩
  | 17 => ⟨S4x256x256, .f32⟩
  | 18 => ⟨S_, .f32⟩
  | 19 => ⟨S4x256x256, .f32⟩
  | 20 => ⟨S4x256x256, .f32⟩
  | 21 => ⟨S4x256x256, .f32⟩
  | 22 => ⟨S4x256x256, .f32⟩
  | 23 => ⟨S4x256x256, .f32⟩
  | 24 => ⟨S4x256x256, .f32⟩
  | 25 => ⟨S4x256x256, .f32⟩
  | 26 => ⟨S4x256x256, .f32⟩
  | 27 => ⟨S4x256x256, .f32⟩
  | 28 => ⟨S4x256x256, .f32⟩
  | 29 => ⟨S4x256x256, .f32⟩
  | 30 => ⟨S4x256x256, .f32⟩
  | 31 => ⟨S4x256x256, .f32⟩
  | 32 => ⟨S4x256x256, .f32⟩
  | 33 => ⟨S4, .i32⟩
  | 34 => ⟨S4x1x1, .i32⟩
  | 35 => ⟨S4x256x256x1, .f32⟩
  | 36 => ⟨S_, .f32⟩
  | 37 => ⟨S4x256x256, .f32⟩
  | 38 => ⟨S4x256x256, .i1⟩
  | 39 => ⟨S_, .f32⟩
  | 40 => ⟨S4x256x256, .f32⟩
  | 41 => ⟨S4x256x256, .i1⟩
  | 42 => ⟨S4x256x256, .i1⟩
  | 43 => ⟨S_, .f32⟩
  | 44 => ⟨S4x256x256, .f32⟩
  | 45 => ⟨S4x256x256, .i1⟩
  | 46 => ⟨S4x256x256, .i1⟩
  | 47 => ⟨S_, .f32⟩
  | 48 => ⟨S4x256x256, .f32⟩
  | 49 => ⟨S4x256x256, .i1⟩
  | 50 => ⟨S4x256x256, .i1⟩
  | 51 => ⟨S_, .i32⟩
  | 52 => ⟨S_, .i32⟩
  | 53 => ⟨S_, .f32⟩
  | 54 => ⟨S4x256x256, .f32⟩
  | 55 => ⟨S4x256x256, .f32⟩
  | 56 => ⟨S_, .f32⟩
  | 57 => ⟨S4x256x256, .f32⟩
  | 58 => ⟨S4x256x256, .f32⟩
  | 59 => ⟨S4x256x256, .i32⟩
  | 60 => ⟨S_, .i32⟩
  | 61 => ⟨S_, .i32⟩
  | 62 => ⟨S_, .f32⟩
  | 63 => ⟨S4x256x256, .f32⟩
  | 64 => ⟨S4x256x256, .f32⟩
  | 65 => ⟨S_, .f32⟩
  | 66 => ⟨S4x256x256, .f32⟩
  | 67 => ⟨S4x256x256, .f32⟩
  | 68 => ⟨S4x256x256, .i32⟩
  | 69 => ⟨S_, .i32⟩
  | 70 => ⟨S4x1x1, .i32⟩
  | 71 => ⟨S4x1x1, .i1⟩
  | 72 => ⟨S_, .i32⟩
  | 73 => ⟨S4x1x1, .i32⟩
  | 74 => ⟨S4x1x1, .i32⟩
  | 75 => ⟨S4x1x1, .i32⟩
  | 76 => ⟨S_, .i32⟩
  | 77 => ⟨S4x256x256, .i32⟩
  | 78 => ⟨S4x256x256, .i1⟩
  | 79 => ⟨S_, .i32⟩
  | 80 => ⟨S4x256x256, .i32⟩
  | 81 => ⟨S4x256x256, .i32⟩
  | 82 => ⟨S4x256x256, .i32⟩
  | 83 => ⟨S_, .i32⟩
  | 84 => ⟨S4x256x256, .i32⟩
  | 85 => ⟨S4x256x256, .i1⟩
  | 86 => ⟨S_, .i32⟩
  | 87 => ⟨S4x256x256, .i32⟩
  | 88 => ⟨S4x256x256, .i32⟩
  | 89 => ⟨S4x256x256, .i32⟩
  | 90 => ⟨S4x256x256, .i32⟩
  | 91 => ⟨S4x256x256x1, .i32⟩
  | 92 => ⟨S4x256x256x1, .i32⟩
  | 93 => ⟨S4x256x256x1, .i32⟩
  | 94 => ⟨S4x256x256x3, .i32⟩
  | 95 => ⟨S4x256x256x3, .f32⟩
  | 96 => ⟨S4x256x256x1, .i1⟩
  | 97 => ⟨S_, .f32⟩
  | 98 => ⟨S_, .f32⟩
  | 99 => ⟨S4x256x256x3, .i1⟩
  | 100 => ⟨S4x256x256x3, .f32⟩
  | 101 => ⟨S4x256x256x3, .f32⟩
  | 102 => ⟨S4x256x256x3, .f32⟩
  | 103 => ⟨S4x256x256x3, .f32⟩
  | 104 => ⟨S4x256x256x1, .f32⟩
  | 105 => ⟨S_, .f32⟩
  | 106 => ⟨S4x256x256, .f32⟩
  | 107 => ⟨S4x256x256, .i1⟩
  | 108 => ⟨S_, .f32⟩
  | 109 => ⟨S4x256x256, .f32⟩
  | 110 => ⟨S4x256x256, .i1⟩
  | 111 => ⟨S4x256x256, .i1⟩
  | 112 => ⟨S_, .f32⟩
  | 113 => ⟨S4x256x256, .f32⟩
  | 114 => ⟨S4x256x256, .i1⟩
  | 115 => ⟨S4x256x256, .i1⟩
  | 116 => ⟨S_, .f32⟩
  | 117 => ⟨S4x256x256, .f32⟩
  | 118 => ⟨S4x256x256, .i1⟩
  | 119 => ⟨S4x256x256, .i1⟩
  | 120 => ⟨S_, .i32⟩
  | 121 => ⟨S_, .i32⟩
  | 122 => ⟨S_, .f32⟩
  | 123 => ⟨S4x256x256, .f32⟩
  | 124 => ⟨S4x256x256, .f32⟩
  | 125 => ⟨S_, .f32⟩
  | 126 => ⟨S4x256x256, .f32⟩
  | 127 => ⟨S4x256x256, .f32⟩
  | _ => ⟨S4x3x2048x2048, .f32⟩

abbrev hbmTy0_2 (i : Nat) : BufTy := match i % 128 with
  | 0 => ⟨S4x256x256, .i32⟩
  | 1 => ⟨S_, .i32⟩
  | 2 => ⟨S_, .i32⟩
  | 3 => ⟨S_, .f32⟩
  | 4 => ⟨S4x256x256, .f32⟩
  | 5 => ⟨S4x256x256, .f32⟩
  | 6 => ⟨S_, .f32⟩
  | 7 => ⟨S4x256x256, .f32⟩
  | 8 => ⟨S4x256x256, .f32⟩
  | 9 => ⟨S4x256x256, .i32⟩
  | 10 => ⟨S_, .i32⟩
  | 11 => ⟨S4x1x1, .i32⟩
  | 12 => ⟨S4x1x1, .i1⟩
  | 13 => ⟨S_, .i32⟩
  | 14 => ⟨S4x1x1, .i32⟩
  | 15 => ⟨S4x1x1, .i32⟩
  | 16 => ⟨S4x1x1, .i32⟩
  | 17 => ⟨S_, .i32⟩
  | 18 => ⟨S4x256x256, .i32⟩
  | 19 => ⟨S4x256x256, .i1⟩
  | 20 => ⟨S_, .i32⟩
  | 21 => ⟨S4x256x256, .i32⟩
  | 22 => ⟨S4x256x256, .i32⟩
  | 23 => ⟨S4x256x256, .i32⟩
  | 24 => ⟨S_, .i32⟩
  | 25 => ⟨S4x256x256, .i32⟩
  | 26 => ⟨S4x256x256, .i1⟩
  | 27 => ⟨S_, .i32⟩
  | 28 => ⟨S4x256x256, .i32⟩
  | 29 => ⟨S4x256x256, .i32⟩
  | 30 => ⟨S4x256x256, .i32⟩
  | 31 => ⟨S4x256x256, .i32⟩
  | 32 => ⟨S4x256x256x1, .i32⟩
  | 33 => ⟨S4x256x256x1, .i32⟩
  | 34 => ⟨S4x256x256x1, .i32⟩
  | 35 => ⟨S4x256x256x3, .i32⟩
  | 36 => ⟨S4x256x256x3, .f32⟩
  | 37 => ⟨S4x256x256x1, .i1⟩
  | 38 => ⟨S_, .f32⟩
  | 39 => ⟨S_, .f32⟩
  | 40 => ⟨S4x256x256x3, .i1⟩
  | 41 => ⟨S4x256x256x3, .f32⟩
  | 42 => ⟨S4x256x256x3, .f32⟩
  | 43 => ⟨S4x256x256x3, .f32⟩
  | 44 => ⟨S4x256x256x3, .f32⟩
  | 45 => ⟨S4x256x256x3, .f32⟩
  | 46 => ⟨S4x256x256x1, .f32⟩
  | 47 => ⟨S_, .f32⟩
  | 48 => ⟨S4x256x256, .f32⟩
  | 49 => ⟨S4x256x256, .i1⟩
  | 50 => ⟨S_, .f32⟩
  | 51 => ⟨S4x256x256, .f32⟩
  | 52 => ⟨S4x256x256, .i1⟩
  | 53 => ⟨S4x256x256, .i1⟩
  | 54 => ⟨S_, .f32⟩
  | 55 => ⟨S4x256x256, .f32⟩
  | 56 => ⟨S4x256x256, .i1⟩
  | 57 => ⟨S4x256x256, .i1⟩
  | 58 => ⟨S_, .f32⟩
  | 59 => ⟨S4x256x256, .f32⟩
  | 60 => ⟨S4x256x256, .i1⟩
  | 61 => ⟨S4x256x256, .i1⟩
  | 62 => ⟨S_, .i32⟩
  | 63 => ⟨S_, .i32⟩
  | 64 => ⟨S_, .f32⟩
  | 65 => ⟨S4x256x256, .f32⟩
  | 66 => ⟨S4x256x256, .f32⟩
  | 67 => ⟨S_, .f32⟩
  | 68 => ⟨S4x256x256, .f32⟩
  | 69 => ⟨S4x256x256, .f32⟩
  | 70 => ⟨S4x256x256, .i32⟩
  | 71 => ⟨S_, .i32⟩
  | 72 => ⟨S_, .i32⟩
  | 73 => ⟨S_, .f32⟩
  | 74 => ⟨S4x256x256, .f32⟩
  | 75 => ⟨S4x256x256, .f32⟩
  | 76 => ⟨S_, .f32⟩
  | 77 => ⟨S4x256x256, .f32⟩
  | 78 => ⟨S4x256x256, .f32⟩
  | 79 => ⟨S4x256x256, .i32⟩
  | 80 => ⟨S_, .i32⟩
  | 81 => ⟨S4x1x1, .i32⟩
  | 82 => ⟨S4x1x1, .i1⟩
  | 83 => ⟨S_, .i32⟩
  | 84 => ⟨S4x1x1, .i32⟩
  | 85 => ⟨S4x1x1, .i32⟩
  | 86 => ⟨S4x1x1, .i32⟩
  | 87 => ⟨S_, .i32⟩
  | 88 => ⟨S4x256x256, .i32⟩
  | 89 => ⟨S4x256x256, .i1⟩
  | 90 => ⟨S_, .i32⟩
  | 91 => ⟨S4x256x256, .i32⟩
  | 92 => ⟨S4x256x256, .i32⟩
  | 93 => ⟨S4x256x256, .i32⟩
  | 94 => ⟨S_, .i32⟩
  | 95 => ⟨S4x256x256, .i32⟩
  | 96 => ⟨S4x256x256, .i1⟩
  | 97 => ⟨S_, .i32⟩
  | 98 => ⟨S4x256x256, .i32⟩
  | 99 => ⟨S4x256x256, .i32⟩
  | 100 => ⟨S4x256x256, .i32⟩
  | 101 => ⟨S4x256x256, .i32⟩
  | 102 => ⟨S4x256x256x1, .i32⟩
  | 103 => ⟨S4x256x256x1, .i32⟩
  | 104 => ⟨S4x256x256x1, .i32⟩
  | 105 => ⟨S4x256x256x3, .i32⟩
  | 106 => ⟨S4x256x256x3, .f32⟩
  | 107 => ⟨S4x256x256x1, .i1⟩
  | 108 => ⟨S_, .f32⟩
  | 109 => ⟨S_, .f32⟩
  | 110 => ⟨S4x256x256x3, .i1⟩
  | 111 => ⟨S4x256x256x3, .f32⟩
  | 112 => ⟨S4x256x256x3, .f32⟩
  | 113 => ⟨S4x256x256x3, .f32⟩
  | 114 => ⟨S4x256x256x3, .f32⟩
  | 115 => ⟨S4x256x256x3, .f32⟩
  | 116 => ⟨S4x256x256x1, .f32⟩
  | 117 => ⟨S_, .f32⟩
  | 118 => ⟨S4x256x256, .f32⟩
  | 119 => ⟨S4x256x256, .i1⟩
  | 120 => ⟨S_, .f32⟩
  | 121 => ⟨S4x256x256, .f32⟩
  | 122 => ⟨S4x256x256, .i1⟩
  | 123 => ⟨S4x256x256, .i1⟩
  | 124 => ⟨S_, .f32⟩
  | 125 => ⟨S4x256x256, .f32⟩
  | 126 => ⟨S4x256x256, .i1⟩
  | 127 => ⟨S4x256x256, .i1⟩
  | _ => ⟨S4x3x2048x2048, .f32⟩

abbrev hbmTy0_3 (i : Nat) : BufTy := match i % 128 with
  | 0 => ⟨S_, .f32⟩
  | 1 => ⟨S4x256x256, .f32⟩
  | 2 => ⟨S4x256x256, .i1⟩
  | 3 => ⟨S4x256x256, .i1⟩
  | 4 => ⟨S_, .i32⟩
  | 5 => ⟨S_, .i32⟩
  | 6 => ⟨S_, .f32⟩
  | 7 => ⟨S4x256x256, .f32⟩
  | 8 => ⟨S4x256x256, .f32⟩
  | 9 => ⟨S_, .f32⟩
  | 10 => ⟨S4x256x256, .f32⟩
  | 11 => ⟨S4x256x256, .f32⟩
  | 12 => ⟨S4x256x256, .i32⟩
  | 13 => ⟨S_, .i32⟩
  | 14 => ⟨S_, .i32⟩
  | 15 => ⟨S_, .f32⟩
  | 16 => ⟨S4x256x256, .f32⟩
  | 17 => ⟨S4x256x256, .f32⟩
  | 18 => ⟨S_, .f32⟩
  | 19 => ⟨S4x256x256, .f32⟩
  | 20 => ⟨S4x256x256, .f32⟩
  | 21 => ⟨S4x256x256, .i32⟩
  | 22 => ⟨S_, .i32⟩
  | 23 => ⟨S4x1x1, .i32⟩
  | 24 => ⟨S4x1x1, .i1⟩
  | 25 => ⟨S_, .i32⟩
  | 26 => ⟨S4x1x1, .i32⟩
  | 27 => ⟨S4x1x1, .i32⟩
  | 28 => ⟨S4x1x1, .i32⟩
  | 29 => ⟨S_, .i32⟩
  | 30 => ⟨S4x256x256, .i32⟩
  | 31 => ⟨S4x256x256, .i1⟩
  | 32 => ⟨S_, .i32⟩
  | 33 => ⟨S4x256x256, .i32⟩
  | 34 => ⟨S4x256x256, .i32⟩
  | 35 => ⟨S4x256x256, .i32⟩
  | 36 => ⟨S_, .i32⟩
  | 37 => ⟨S4x256x256, .i32⟩
  | 38 => ⟨S4x256x256, .i1⟩
  | 39 => ⟨S_, .i32⟩
  | 40 => ⟨S4x256x256, .i32⟩
  | 41 => ⟨S4x256x256, .i32⟩
  | 42 => ⟨S4x256x256, .i32⟩
  | 43 => ⟨S4x256x256, .i32⟩
  | 44 => ⟨S4x256x256x1, .i32⟩
  | 45 => ⟨S4x256x256x1, .i32⟩
  | 46 => ⟨S4x256x256x1, .i32⟩
  | 47 => ⟨S4x256x256x3, .i32⟩
  | 48 => ⟨S4x256x256x3, .f32⟩
  | 49 => ⟨S4x256x256x1, .i1⟩
  | 50 => ⟨S_, .f32⟩
  | 51 => ⟨S_, .f32⟩
  | 52 => ⟨S4x256x256x3, .i1⟩
  | 53 => ⟨S4x256x256x3, .f32⟩
  | 54 => ⟨S4x256x256x3, .f32⟩
  | 55 => ⟨S4x256x256x3, .f32⟩
  | 56 => ⟨S4x256x256x3, .f32⟩
  | 57 => ⟨S4x256x256x3, .f32⟩
  | 58 => ⟨S4x3x256x256, .f32⟩
  | 59 => ⟨S4x65536x2, .f32⟩
  | _ => ⟨S4x3x2048x2048, .f32⟩

abbrev hbmTy (i : Nat) : BufTy := match i / 128 with
  | 0 => hbmTy0_0 i
  | 1 => hbmTy0_1 i
  | 2 => hbmTy0_2 i
  | 3 => hbmTy0_3 i
  | _ => ⟨S4x3x2048x2048, .f32⟩

abbrev bufTy : (tb : Table) → Fin (tcTables nBuf tb) → BufTy
  | .hbm, ⟨i, _⟩ => hbmTy i
  | _, _ => ⟨S4x3x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_10 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_11 : Ref sig .tc := ⟨.hbm, 123, rfl⟩
abbrev main_v108 : Ref sig .tc := ⟨.hbm, 124, rfl⟩
abbrev main_v109 : Ref sig .tc := ⟨.hbm, 125, rfl⟩
abbrev main_cst_12 : Ref sig .tc := ⟨.hbm, 126, rfl⟩
abbrev main_v110 : Ref sig .tc := ⟨.hbm, 127, rfl⟩
abbrev main_v111 : Ref sig .tc := ⟨.hbm, 128, rfl⟩
abbrev main_cst_13 : Ref sig .tc := ⟨.hbm, 129, rfl⟩
abbrev main_v112 : Ref sig .tc := ⟨.hbm, 130, rfl⟩
abbrev main_v113 : Ref sig .tc := ⟨.hbm, 131, rfl⟩
abbrev main_cst_14 : Ref sig .tc := ⟨.hbm, 132, rfl⟩
abbrev main_v114 : Ref sig .tc := ⟨.hbm, 133, rfl⟩
abbrev main_v115 : Ref sig .tc := ⟨.hbm, 134, rfl⟩
abbrev main_cst_15 : Ref sig .tc := ⟨.hbm, 135, rfl⟩
abbrev main_v116 : Ref sig .tc := ⟨.hbm, 136, rfl⟩
abbrev main_v117 : Ref sig .tc := ⟨.hbm, 137, rfl⟩
abbrev main_cst_16 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_17 : Ref sig .tc := ⟨.hbm, 143, rfl⟩
abbrev main_v122 : Ref sig .tc := ⟨.hbm, 144, rfl⟩
abbrev main_v123 : Ref sig .tc := ⟨.hbm, 145, rfl⟩
abbrev main_cst_18 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_19 : Ref sig .tc := ⟨.hbm, 164, rfl⟩
abbrev main_v141 : Ref sig .tc := ⟨.hbm, 165, rfl⟩
abbrev main_v142 : Ref sig .tc := ⟨.hbm, 166, rfl⟩
abbrev main_cst_20 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_21 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_22 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_c : Ref sig .tc := ⟨.hbm, 179, rfl⟩
abbrev main_c_23 : Ref sig .tc := ⟨.hbm, 180, rfl⟩
abbrev main_call0_v0 : Ref sig .tc := ⟨.hbm, 181, rfl⟩
abbrev main_call0_v1 : Ref sig .tc := ⟨.hbm, 182, rfl⟩
abbrev main_call0_v2 : Ref sig .tc := ⟨.hbm, 183, rfl⟩
abbrev main_call0_v3 : Ref sig .tc := ⟨.hbm, 184, rfl⟩
abbrev main_call0_v4 : Ref sig .tc := ⟨.hbm, 185, rfl⟩
abbrev main_v152 : Ref sig .tc := ⟨.hbm, 186, rfl⟩
abbrev main_v153 : Ref sig .tc := ⟨.hbm, 187, rfl⟩
abbrev main_c_24 : Ref sig .tc := ⟨.hbm, 188, rfl⟩
abbrev main_c_25 : Ref sig .tc := ⟨.hbm, 189, rfl⟩
abbrev main_call1_v0 : Ref sig .tc := ⟨.hbm, 190, rfl⟩
abbrev main_call1_v1 : Ref sig .tc := ⟨.hbm, 191, rfl⟩
abbrev main_call1_v2 : Ref sig .tc := ⟨.hbm, 192, rfl⟩
abbrev main_call1_v3 : Ref sig .tc := ⟨.hbm, 193, rfl⟩
abbrev main_call1_v4 : Ref sig .tc := ⟨.hbm, 194, rfl⟩
abbrev main_v154 : Ref sig .tc := ⟨.hbm, 195, rfl⟩
abbrev main_v155 : Ref sig .tc := ⟨.hbm, 196, rfl⟩
abbrev main_c_26 : Ref sig .tc := ⟨.hbm, 197, rfl⟩
abbrev main_v156 : Ref sig .tc := ⟨.hbm, 198, rfl⟩
abbrev main_v157 : Ref sig .tc := ⟨.hbm, 199, rfl⟩
abbrev main_c_27 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_28 : Ref sig .tc := ⟨.hbm, 204, rfl⟩
abbrev main_v161 : Ref sig .tc := ⟨.hbm, 205, rfl⟩
abbrev main_v162 : Ref sig .tc := ⟨.hbm, 206, rfl⟩
abbrev main_c_29 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_30 : Ref sig .tc := ⟨.hbm, 211, rfl⟩
abbrev main_v166 : Ref sig .tc := ⟨.hbm, 212, rfl⟩
abbrev main_v167 : Ref sig .tc := ⟨.hbm, 213, rfl⟩
abbrev main_c_31 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_32 : Ref sig .tc := ⟨.hbm, 225, rfl⟩
abbrev main_call2_v0 : Ref sig .tc := ⟨.hbm, 226, rfl⟩
abbrev main_call2_v1 : Ref sig .tc := ⟨.hbm, 227, rfl⟩
abbrev main_call2_v2 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_33 : Ref sig .tc := ⟨.hbm, 233, rfl⟩
abbrev main_v182 : Ref sig .tc := ⟨.hbm, 234, rfl⟩
abbrev main_v183 : Ref sig .tc := ⟨.hbm, 235, rfl⟩
abbrev main_cst_34 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_cst_35 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_cst_36 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_c_37 : Ref sig .tc := ⟨.hbm, 248, rfl⟩
abbrev main_c_38 : Ref sig .tc := ⟨.hbm, 249, rfl⟩
abbrev main_call3_v0 : Ref sig .tc := ⟨.hbm, 250, rfl⟩
abbrev main_call3_v1 : Ref sig .tc := ⟨.hbm, 251, rfl⟩
abbrev main_call3_v2 : Ref sig .tc := ⟨.hbm, 252, rfl⟩
abbrev main_call3_v3 : Ref sig .tc := ⟨.hbm, 253, rfl⟩
abbrev main_call3_v4 : Ref sig .tc := ⟨.hbm, 254, rfl⟩
abbrev main_v193 : Ref sig .tc := ⟨.hbm, 255, rfl⟩
abbrev main_v194 : Ref sig .tc := ⟨.hbm, 256, rfl⟩
abbrev main_c_39 : Ref sig .tc := ⟨.hbm, 257, rfl⟩
abbrev main_c_40 : Ref sig .tc := ⟨.hbm, 258, rfl⟩
abbrev main_call4_v0 : Ref sig .tc := ⟨.hbm, 259, rfl⟩
abbrev main_call4_v1 : Ref sig .tc := ⟨.hbm, 260, rfl⟩
abbrev main_call4_v2 : Ref sig .tc := ⟨.hbm, 261, rfl⟩
abbrev main_call4_v3 : Ref sig .tc := ⟨.hbm, 262, rfl⟩
abbrev main_call4_v4 : Ref sig .tc := ⟨.hbm, 263, rfl⟩
abbrev main_v195 : Ref sig .tc := ⟨.hbm, 264, rfl⟩
abbrev main_v196 : Ref sig .tc := ⟨.hbm, 265, rfl⟩
abbrev main_c_41 : Ref sig .tc := ⟨.hbm, 266, rfl⟩
abbrev main_v197 : Ref sig .tc := ⟨.hbm, 267, rfl⟩
abbrev main_v198 : Ref sig .tc := ⟨.hbm, 268, rfl⟩
abbrev main_c_42 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_c_43 : Ref sig .tc := ⟨.hbm, 273, rfl⟩
abbrev main_v202 : Ref sig .tc := ⟨.hbm, 274, rfl⟩
abbrev main_v203 : Ref sig .tc := ⟨.hbm, 275, rfl⟩
abbrev main_c_44 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_c_45 : Ref sig .tc := ⟨.hbm, 280, rfl⟩
abbrev main_v207 : Ref sig .tc := ⟨.hbm, 281, rfl⟩
abbrev main_v208 : Ref sig .tc := ⟨.hbm, 282, rfl⟩
abbrev main_c_46 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_cst_47 : Ref sig .tc := ⟨.hbm, 294, rfl⟩
abbrev main_call5_v0 : Ref sig .tc := ⟨.hbm, 295, rfl⟩
abbrev main_call5_v1 : Ref sig .tc := ⟨.hbm, 296, rfl⟩
abbrev main_call5_v2 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_cst_48 : Ref sig .tc := ⟨.hbm, 303, rfl⟩
abbrev main_v224 : Ref sig .tc := ⟨.hbm, 304, rfl⟩
abbrev main_v225 : Ref sig .tc := ⟨.hbm, 305, rfl⟩
abbrev main_cst_49 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_cst_50 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_cst_51 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_c_52 : Ref sig .tc := ⟨.hbm, 318, rfl⟩
abbrev main_c_53 : Ref sig .tc := ⟨.hbm, 319, rfl⟩
abbrev main_call6_v0 : Ref sig .tc := ⟨.hbm, 320, rfl⟩
abbrev main_call6_v1 : Ref sig .tc := ⟨.hbm, 321, rfl⟩
abbrev main_call6_v2 : Ref sig .tc := ⟨.hbm, 322, rfl⟩
abbrev main_call6_v3 : Ref sig .tc := ⟨.hbm, 323, rfl⟩
abbrev main_call6_v4 : Ref sig .tc := ⟨.hbm, 324, rfl⟩
abbrev main_v235 : Ref sig .tc := ⟨.hbm, 325, rfl⟩
abbrev main_v236 : Ref sig .tc := ⟨.hbm, 326, rfl⟩
abbrev main_c_54 : Ref sig .tc := ⟨.hbm, 327, rfl⟩
abbrev main_c_55 : Ref sig .tc := ⟨.hbm, 328, rfl⟩
abbrev main_call7_v0 : Ref sig .tc := ⟨.hbm, 329, rfl⟩
abbrev main_call7_v1 : Ref sig .tc := ⟨.hbm, 330, rfl⟩
abbrev main_call7_v2 : Ref sig .tc := ⟨.hbm, 331, rfl⟩
abbrev main_call7_v3 : Ref sig .tc := ⟨.hbm, 332, rfl⟩
abbrev main_call7_v4 : Ref sig .tc := ⟨.hbm, 333, rfl⟩
abbrev main_v237 : Ref sig .tc := ⟨.hbm, 334, rfl⟩
abbrev main_v238 : Ref sig .tc := ⟨.hbm, 335, rfl⟩
abbrev main_c_56 : Ref sig .tc := ⟨.hbm, 336, rfl⟩
abbrev main_v239 : Ref sig .tc := ⟨.hbm, 337, rfl⟩
abbrev main_v240 : Ref sig .tc := ⟨.hbm, 338, rfl⟩
abbrev main_c_57 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_c_58 : Ref sig .tc := ⟨.hbm, 343, rfl⟩
abbrev main_v244 : Ref sig .tc := ⟨.hbm, 344, rfl⟩
abbrev main_v245 : Ref sig .tc := ⟨.hbm, 345, rfl⟩
abbrev main_c_59 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_c_60 : Ref sig .tc := ⟨.hbm, 350, rfl⟩
abbrev main_v249 : Ref sig .tc := ⟨.hbm, 351, rfl⟩
abbrev main_v250 : Ref sig .tc := ⟨.hbm, 352, rfl⟩
abbrev main_c_61 : Ref sig .tc := ⟨.hbm, 353, rfl⟩
abbrev main_v251 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_cst_62 : Ref sig .tc := ⟨.hbm, 364, rfl⟩
abbrev main_call8_v0 : Ref sig .tc := ⟨.hbm, 365, rfl⟩
abbrev main_call8_v1 : Ref sig .tc := ⟨.hbm, 366, rfl⟩
abbrev main_call8_v2 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_cst_63 : Ref sig .tc := ⟨.hbm, 373, rfl⟩
abbrev main_v266 : Ref sig .tc := ⟨.hbm, 374, rfl⟩
abbrev main_v267 : Ref sig .tc := ⟨.hbm, 375, rfl⟩
abbrev main_cst_64 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_cst_65 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_cst_66 : Ref sig .tc := ⟨.hbm, 384, rfl⟩
abbrev main_v274 : Ref sig .tc := ⟨.hbm, 385, rfl⟩
abbrev main_v275 : Ref sig .tc := ⟨.hbm, 386, rfl⟩
abbrev main_v276 : Ref sig .tc := ⟨.hbm, 387, rfl⟩
abbrev main_c_67 : Ref sig .tc := ⟨.hbm, 388, rfl⟩
abbrev main_c_68 : Ref sig .tc := ⟨.hbm, 389, rfl⟩
abbrev main_call9_v0 : Ref sig .tc := ⟨.hbm, 390, rfl⟩
abbrev main_call9_v1 : Ref sig .tc := ⟨.hbm, 391, rfl⟩
abbrev main_call9_v2 : Ref sig .tc := ⟨.hbm, 392, rfl⟩
abbrev main_call9_v3 : Ref sig .tc := ⟨.hbm, 393, rfl⟩
abbrev main_call9_v4 : Ref sig .tc := ⟨.hbm, 394, rfl⟩
abbrev main_v277 : Ref sig .tc := ⟨.hbm, 395, rfl⟩
abbrev main_v278 : Ref sig .tc := ⟨.hbm, 396, rfl⟩
abbrev main_c_69 : Ref sig .tc := ⟨.hbm, 397, rfl⟩
abbrev main_c_70 : Ref sig .tc := ⟨.hbm, 398, rfl⟩
abbrev main_call10_v0 : Ref sig .tc := ⟨.hbm, 399, rfl⟩
abbrev main_call10_v1 : Ref sig .tc := ⟨.hbm, 400, rfl⟩
abbrev main_call10_v2 : Ref sig .tc := ⟨.hbm, 401, rfl⟩
abbrev main_call10_v3 : Ref sig .tc := ⟨.hbm, 402, rfl⟩
abbrev main_call10_v4 : Ref sig .tc := ⟨.hbm, 403, rfl⟩
abbrev main_v279 : Ref sig .tc := ⟨.hbm, 404, rfl⟩
abbrev main_v280 : Ref sig .tc := ⟨.hbm, 405, rfl⟩
abbrev main_c_71 : Ref sig .tc := ⟨.hbm, 406, rfl⟩
abbrev main_v281 : Ref sig .tc := ⟨.hbm, 407, rfl⟩
abbrev main_v282 : Ref sig .tc := ⟨.hbm, 408, rfl⟩
abbrev main_c_72 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_c_73 : Ref sig .tc := ⟨.hbm, 413, rfl⟩
abbrev main_v286 : Ref sig .tc := ⟨.hbm, 414, rfl⟩
abbrev main_v287 : Ref sig .tc := ⟨.hbm, 415, rfl⟩
abbrev main_c_74 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_c_75 : Ref sig .tc := ⟨.hbm, 420, rfl⟩
abbrev main_v291 : Ref sig .tc := ⟨.hbm, 421, rfl⟩
abbrev main_v292 : Ref sig .tc := ⟨.hbm, 422, rfl⟩
abbrev main_c_76 : Ref sig .tc := ⟨.hbm, 423, rfl⟩
abbrev main_v293 : Ref sig .tc := ⟨.hbm, 424, rfl⟩
abbrev main_v294 : Ref sig .tc := ⟨.hbm, 425, rfl⟩
abbrev main_v295 : Ref sig .tc := ⟨.hbm, 426, rfl⟩
abbrev main_v296 : Ref sig .tc := ⟨.hbm, 427, rfl⟩
abbrev main_v297 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_cst_77 : Ref sig .tc := ⟨.hbm, 434, rfl⟩
abbrev main_call11_v0 : Ref sig .tc := ⟨.hbm, 435, rfl⟩
abbrev main_call11_v1 : Ref sig .tc := ⟨.hbm, 436, rfl⟩
abbrev main_call11_v2 : Ref sig .tc := ⟨.hbm, 437, rfl⟩
abbrev main_v303 : Ref sig .tc := ⟨.hbm, 438, rfl⟩
abbrev main_v304 : Ref sig .tc := ⟨.hbm, 439, rfl⟩
abbrev main_v305 : Ref sig .tc := ⟨.hbm, 440, rfl⟩
abbrev main_v306 : Ref sig .tc := ⟨.hbm, 441, rfl⟩
abbrev main_v307 : Ref sig .tc := ⟨.hbm, 442, rfl⟩
abbrev main_v308 : Ref sig .tc := ⟨.hbm, 443, rfl⟩

abbrev nD : Nat := 1
abbrev τ : Topo := Topo.v7x

variable {F : FTy → Type} [FloatOps F]
-- ==== Proof.Trip.lean ====
/-
  The interpolation of one trip of the column loop, written as two nested lists of blocks: for each group `u` of sixteen
  columns, for each of the eight output rows `t`. The two printed loop bodies (over the even and over the odd buffer)
  are this program.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Crop

open Cert.KernelIdeal Cert.KernelIdeal.Gen

open Idealize.ShloMosaic
open Idealize.SL Idealize.SL.Sem

variable {F : FTy → Type} [FloatOps F]

/-- A tile's program. -/
abbrev TileProg (F : FTy → Type) [FloatOps F] (L : grid0.Coords) (α : Type) :=
  Prog (TpuEff nD τ sig (Elt F) Λ₀ (.scVector ((L 0).castLE hcore0) ((L 1).castLE hsub0))) α

/-- The programs `f a` for the `a` of a list, one after the other. -/
def seqM {E : Type → Type _} {ι : Type} (f : ι → Prog E Unit) : List ι → Prog E Unit
  | [] => pure ()
  | a :: l => f a >>= fun _ => seqM f l

/-- The offset in the tile's tables of columns of group `u` at trip `k`: the printed expression. -/
def colOff (L : grid0.Coords) (k : Fin k0_t2_loop.trips) (u : ℕ) : Fin 1 → ℕ :=
  let wid : BitVec 32 := Scalar.addi (Scalar.muli (BitVec.ofNat 32 (L 1).val) 2#32) (BitVec.ofNat 32 (L 0).val)
  let sgn : BitVec 32 := Scalar.subi (Scalar.extui (Scalar.cmpi .sgt wid 0#32)) (Scalar.extui (Scalar.cmpi .slt wid 0#32))
  let sgn8 : BitVec 32 := Scalar.subi (Scalar.extui (Scalar.cmpi .sgt 8#32 0#32)) (Scalar.extui (Scalar.cmpi .slt 8#32 0#32))
  let adj : BitVec 1 := Scalar.andi (Scalar.cmpi .ne sgn sgn8) (Scalar.cmpi .ne (Scalar.remsi wid 8#32) 0#32)
  let b : BitVec 32 := Scalar.select adj (Scalar.subi (Scalar.divsi wid 8#32) 1#32) (Scalar.divsi wid 8#32)
  ![(Scalar.indexCast (Scalar.addi (Scalar.muli b 256#32)
      (Scalar.addi (Scalar.muli (Scf.iv 0#32 1#32 k) 64#32) (BitVec.ofNat 32 (16 * u)))) : Index).toNat]

/-- The offset in the rows of eight of group `u` of row `t` at trip `k`: the printed expression. -/
def rowOff (k : Fin k0_t2_loop.trips) (u t : ℕ) : Fin 1 → ℕ :=
  ![(Scalar.indexCast (Scalar.addi (BitVec.ofNat 32 (256 * t))
      (Scalar.addi (Scalar.muli (Scf.iv 0#32 1#32 k) 64#32) (BitVec.ofNat 32 (16 * u)))) : Index).toNat]

/-- The batch item of a tile. -/
def bOf (L : grid0.Coords) : ℕ := (2 * (L 1).val + (L 0).val) / 8

theorem colOff_eq : ∀ (L : grid0.Coords) (k : Fin k0_t2_loop.trips) (u : Fin 4),
    colOff L k u.val = ![256 * bOf L + 64 * k.val + 16 * u.val] := by decide +kernel
theorem rowOff_eq : ∀ (k : Fin k0_t2_loop.trips) (u : Fin 4) (t : Fin 8),
    rowOff k u.val t.val = ![256 * t.val + 64 * k.val + 16 * u.val] := by decide +kernel
theorem colOff_inb : ∀ (L : grid0.Coords) (k : Fin k0_t2_loop.trips) (u : Fin 4),
    ∀ a, colOff L k u.val a + S16.size a ≤ S1024.size a := by decide +kernel
theorem rowOff_inb : ∀ (k : Fin k0_t2_loop.trips) (u : Fin 4) (t : Fin 8),
    ∀ a, rowOff k u.val t.val a + S16.size a ≤ S2048.size a := by decide +kernel

abbrev xlV : Memref sig .scVector .vmem S1024 .i32 := Memref.whole cc0_scratch2
abbrev wxV : Memref sig .scVector .vmem S1024 .f32 := Memref.whole cc0_scratch3
abbrev outV : Memref sig .scVector .vmem S2048 .f32 := Memref.whole cc0_scratch8

abbrev colRect (L : grid0.Coords) (k : Fin k0_t2_loop.trips) (u : Fin 4) : Rect S1024 :=
  Rect.unit (s := S1024) (colOff L k u.val) S16.size (colOff_inb L k u)
abbrev rowRect (k : Fin k0_t2_loop.trips) (u : Fin 4) (t : Fin 8) : Rect S2048 :=
  Rect.unit (s := S2048) (rowOff k u.val t.val) S16.size (rowOff_inb k u t)

abbrev splat (n : ℕ) : IVec S16 32 := broadcast S16 (BitVec.ofNat 32 n)

/-- One block: the four neighbours of sixteen columns in two fetched rows, interpolated and stored. -/
def block (L : grid0.Coords) (buf : Memref sig .scVector .vmem S16x1024 .f32) (wy : Fin 8 → Vec F S16 .f32)
    (k : Fin k0_t2_loop.trips) (u : Fin 4) (xi : Vec F S16 .i32) (w : Vec F S16 .f32) (xi1 : IVec S16 32) (t : Fin 8) : TileProg F L Unit := do
  have h0 : k0_chk10 xi xi1 (splat (2 * t.val)) := (← Prog.lift (TpuEff.assume (k0_chk10 xi xi1 (splat (2 * t.val))) (k0_chk10.dec xi xi1 (splat (2 * t.val))))).down
  have h1 : k0_chk10 xi xi1 (splat (2 * t.val + 1)) := (← Prog.lift (TpuEff.assume (k0_chk10 xi xi1 (splat (2 * t.val + 1))) (k0_chk10.dec xi xi1 (splat (2 * t.val + 1))))).down
  let a0 : Vec F S16 .f32 ← SparseCore.vectorLoadIdx buf ![splat (2 * t.val), xi] h0.1 (View.loads_vmem h_S16x1024)
  let a1 : Vec F S16 .f32 ← SparseCore.vectorLoadIdx buf ![splat (2 * t.val), xi1] h0.2 (View.loads_vmem h_S16x1024)
  let b0 : Vec F S16 .f32 ← SparseCore.vectorLoadIdx buf ![splat (2 * t.val + 1), xi] h1.1 (View.loads_vmem h_S16x1024)
  let b1 : Vec F S16 .f32 ← SparseCore.vectorLoadIdx buf ![splat (2 * t.val + 1), xi1] h1.2 (View.loads_vmem h_S16x1024)
  let _ : Vec F S16 .f32 ← Prog.lift (.load outV (rowRect k u t).toLoadRect (View.loadsAt_vmem h_S16))
  Prog.lift (.store outV (rowRect k u t) (k0_pay4 (wy t) w a0 a1 b0 b1) Finset.univ (View.stores_vmem_bits_univ h_S16 rfl) (.inl rfl))

/-- One group of sixteen columns: their table entries read, then the eight rows. -/
def group (L : grid0.Coords) (buf : Memref sig .scVector .vmem S16x1024 .f32) (wy : Fin 8 → Vec F S16 .f32)
    (k : Fin k0_t2_loop.trips) (u : Fin 4) : TileProg F L Unit := do
  let xi : Vec F S16 .i32 ← Prog.lift (.load xlV (colRect L k u).toLoadRect (View.loadsAt_vmem h_S16))
  let w : Vec F S16 .f32 ← Prog.lift (.load wxV (colRect L k u).toLoadRect (View.loadsAt_vmem h_S16))
  seqM (block L buf wy k u xi w (k0_pay3 xi)) [0, 1, 2, 3, 4, 5, 6, 7]

/-- One trip of the column loop. -/
def trip (L : grid0.Coords) (buf : Memref sig .scVector .vmem S16x1024 .f32) (wy : Fin 8 → Vec F S16 .f32)
    (k : Fin k0_t2_loop.trips) : TileProg F L Unit :=
  seqM (group L buf wy k) [0, 1, 2, 3]

set_option maxRecDepth 65536 in
set_option maxHeartbeats 4000000 in
theorem k0_t2_body_eq (L : grid0.Coords) (a2 h2 a3 h3 a4 h4 a5 h5 a6 h6 a7 h7 a8 h8 a9 h9 a10 h10 h11 h12 a13 h13 a14 h14 a15 h15 a16 h16 h17 a18 a19 b0 b1 b2 b3 b4 b5 b6 b7 b8)
    (v2 v20 v29 : BitVec 32) (hw : k0_chk1 v29) (v30 : BitVec 32) (k1 : Fin k0_t1_loop.trips) (v82 : BitVec 32)
    (w0 w1 w2 w3 w4 w5 w6 w7 : Vec F S16 .f32) (k : Fin k0_t2_loop.trips) :
    k0_t2_body (F := F) L a2 h2 a3 h3 a4 h4 a5 h5 a6 h6 a7 h7 a8 h8 a9 h9 a10 h10 xlV h11 wxV h12 a13 h13 a14 h14 a15 h15 a16 h16 outV h17 a18 a19
      b0 b1 b2 b3 b4 b5 b6 b7 b8 v2 v20 v29 hw v30 k1 v82 w0 w1 w2 w3 w4 w5 w6 w7 0#32 k ⟨⟩ = trip L a15 ![w0, w1, w2, w3, w4, w5, w6, w7] k := by
  rfl

set_option maxRecDepth 65536 in
set_option maxHeartbeats 4000000 in
theorem k0_t3_body_eq (L : grid0.Coords) (a2 h2 a3 h3 a4 h4 a5 h5 a6 h6 a7 h7 a8 h8 a9 h9 a10 h10 h11 h12 a13 h13 a14 h14 a15 h15 a16 h16 h17 a18 a19 b0 b1 b2 b3 b4 b5 b6 b7 b8)
    (v20 : BitVec 32) (w0 w1 w2 w3 w4 w5 w6 w7 : Vec F S16 .f32) (k : Fin k0_t3_loop.trips) :
    k0_t3_body (F := F) L a2 h2 a3 h3 a4 h4 a5 h5 a6 h6 a7 h7 a8 h8 a9 h9 a10 h10 xlV h11 wxV h12 a13 h13 a14 h14 a15 h15 a16 h16 outV h17 a18 a19
      b0 b1 b2 b3 b4 b5 b6 b7 b8 v20 w0 w1 w2 w3 w4 w5 w6 w7 k ⟨⟩ = trip L a16 ![w0, w1, w2, w3, w4, w5, w6, w7] k := by
  rfl

end Cert.Proof.Crop
-- ==== Proof.Tile.lean ====
/-
  One tile's whole program over the program's own buffers, with its repeated stretches written once each: the eight
  gathers of a fetch, their eight waits, the eight row weights, the copy of eight finished rows.
-/
module

public import proofs.«01_k».proof.Proof.Trip

@[expose] public section

noncomputable section

namespace Cert.Proof.Crop

open Cert.KernelIdeal Cert.KernelIdeal.Gen

open Idealize.ShloMosaic
open Idealize.SL Idealize.SL.Sem

variable {F : FTy → Type} [FloatOps F]

abbrev imgV : Memref sig .scVector .hbm S24576x2048 .f32 := Memref.whole main_v173_scv
abbrev idxV : Memref sig .scVector .hbm S6144 .i32 := Memref.whole main_v157_scv
abbrev xlHV : Memref sig .scVector .hbm S1024 .i32 := Memref.whole main_v174_scv
abbrev wxHV : Memref sig .scVector .hbm S1024 .f32 := Memref.whole main_v175_scv
abbrev wyHV : Memref sig .scVector .hbm S3072 .f32 := Memref.whole main_v160_scv
abbrev c0HV : Memref sig .scVector .hbm S16 .i32 := Memref.whole main_v167_scv
abbrev resV : Memref sig .scVector .hbm S786432 .f32 := Memref.whole main_v176_scv
abbrev laV : Memref sig .scVector .vmem S16 .i32 := Memref.whole cc0_scratch0
abbrev lbV : Memref sig .scVector .vmem S16 .i32 := Memref.whole cc0_scratch1
abbrev wyV : Memref sig .scVector .vmem S96 .f32 := Memref.whole cc0_scratch4
abbrev c0V : Memref sig .scVector .vmem S16 .i32 := Memref.whole cc0_scratch5
abbrev baV : Memref sig .scVector .vmem S16x1024 .f32 := Memref.whole cc0_scratch6
abbrev bbV : Memref sig .scVector .vmem S16x1024 .f32 := Memref.whole cc0_scratch7

/-! ## A fetch: eight gathers of one block of columns each -/

/-- The offset of block `j` of the window of columns. -/
def blkOff (c : BitVec 32) (j : Fin 8) : Fin 2 → ℕ :=
  ![0, (Scalar.addi (Scalar.muli c 128#32) (BitVec.ofNat 32 (128 * j.val))).toNat]

theorem blkOff_chk {c : BitVec 32} (h : k0_chk1 c) (j : Fin 8) : ∀ a, blkOff c j a + S24576x128.size a ≤ S24576x2048.size a :=
  h.1 j

theorem winOff_inb : ∀ (j : Fin 8) (a), (![0, 128 * j.val] : Fin 2 → ℕ) a + S16x128.size a ≤ S16x1024.size a := by decide
theorem semOff_inb : ∀ (j : Fin 8) (a), (![j.val] : Fin 1 → ℕ) a + S1.size a ≤ S8.size a := by decide

/-- Block `j` of the window of columns, all rows. -/
abbrev imgBlk {c : BitVec 32} (h : k0_chk1 c) (j : Fin 8) : Memref sig .scVector .hbm S24576x128 .f32 :=
  (imgV.slice (Rect.unit (s := S24576x2048) (blkOff c j) S24576x128.size (blkOff_chk h j)) (fun _ => rfl)).slice
    (Rect.unit (s := S24576x128) ![0, 0] S24576x128.size inb_S24576x128_S24576x128_0_0) (fun _ => rfl)
/-- Block `j` of a buffer. -/
abbrev bufBlk (buf : Memref sig .scVector .vmem S16x1024 .f32) (j : Fin 8) : Memref sig .scVector .vmem S16x128 .f32 :=
  buf.slice (Rect.unit (s := S16x1024) ![0, 128 * j.val] S16x128.size (winOff_inb j)) (fun _ => rfl)
/-- Semaphore `j` of eight. -/
abbrev semAt (sems : DmaSems sig S8) (j : Fin 8) : DmaSem sig :=
  ((sems.slice (Rect.unit (s := S8) ![j.val] S1.size (semOff_inb j))).squeeze S_ squeezes_S1_S_).sem

/-- The gather of one block. -/
def gather (L : grid0.Coords) {c : BitVec 32} (h : k0_chk1 c) (buf : Memref sig .scVector .vmem S16x1024 .f32)
    (lst : Memref sig .scVector .vmem S16 .i32) (sems : DmaSems sig S8) (j : Fin 8) : TileProg F L Unit :=
  SparseCore.enqueueIndirectGather rfl (imgBlk h j) (bufBlk buf j) gathers_S24576x128_S16x128 lst rfl (semAt sems j)
    (View.wordExact_bits rfl) rfl (Or.inl rfl)

/-- Its wait. -/
def await (L : grid0.Coords) {c : BitVec 32} (h : k0_chk1 c) (buf : Memref sig .scVector .vmem S16x1024 .f32)
    (sems : DmaSems sig S8) (j : Fin 8) : TileProg F L Unit :=
  SparseCore.waitIndirectGather (semAt sems j) (imgBlk h j) (bufBlk buf j) (View.wordExact_bits rfl) (View.wordExact_bits rfl)

abbrev eight : List (Fin 8) := [0, 1, 2, 3, 4, 5, 6, 7]

/-! ## The weights of eight rows -/

/-- The values of `n` programs, one after the other. -/
def collect {E : Type → Type _} {β : Type} : (n : ℕ) → (Fin n → Prog E β) → Prog E (Fin n → β)
  | 0, _ => pure ![]
  | n + 1, f => do
    let a ← f 0
    let r ← collect n fun j => f j.succ
    pure (Matrix.vecCons a r)

/-- The index vector of row `g * 8 + t`'s weight. -/
abbrev wyIdx (g : BitVec 32) (t : Fin 8) : IVec S16 32 := broadcast S16 (Scalar.addi (Scalar.muli g 8#32) (BitVec.ofNat 32 t.val))

/-- The weight of row `t` of group `g`, in every lane. -/
def wyRow (L : grid0.Coords) (g : BitVec 32) (t : Fin 8) : TileProg F L (Vec F S16 .f32) := do
  have h : k0_chk2 (wyIdx g t) := (← Prog.lift (TpuEff.assume (k0_chk2 (wyIdx g t)) (k0_chk2.dec (wyIdx g t)))).down
  SparseCore.vectorLoadIdx wyV ![wyIdx g t] h (View.loads_vmem h_S96)

/-! ## Copies that are waited for at once -/

/-- Sixteen row numbers fetched into a list. -/
def fetchList (L : grid0.Coords) (off : Fin 1 → ℕ) (hoff : ∀ a, off a + S16.size a ≤ S6144.size a)
    (lst : Memref sig .scVector .vmem S16 .i32) (hl : lst.IsWhole) (sem : DmaSems sig S_) : TileProg F L Unit := do
  Prog.lift (.enqueueDma (idxV.slice (Rect.unit (s := S6144) off S16.size hoff) (fun _ => rfl)) (.here lst) (.dma sem.sem)
    (View.wordExact_bits rfl) hl.wordExact ⟨Or.inl rfl, trivial⟩)
  Prog.lift (.waitDma2 sem.sem (idxV.slice (Rect.unit (s := S6144) off S16.size hoff) (fun _ => rfl)) lst
    (View.wordExact_bits rfl) hl.wordExact)

/-- Eight finished rows written to the result. -/
def writeRows (L : grid0.Coords) (off : Fin 1 → ℕ) (hoff : ∀ a, off a + S2048.size a ≤ S786432.size a) (sem : DmaSems sig S_) :
    TileProg F L Unit := do
  Prog.lift (.enqueueDma outV (.here (resV.slice (Rect.unit (s := S786432) off S2048.size hoff) (fun _ => rfl))) (.dma sem.sem)
    (Memref.isWhole_whole _).wordExact (View.wordExact_bits rfl) ⟨Or.inl rfl, trivial⟩)
  Prog.lift (.waitDma2 sem.sem outV (resV.slice (Rect.unit (s := S786432) off S2048.size hoff) (fun _ => rfl))
    (Memref.isWhole_whole _).wordExact (View.wordExact_bits rfl))

/-- Eight rows interpolated out of a buffer and written. -/
def eightRows (L : grid0.Coords) (buf : Memref sig .scVector .vmem S16x1024 .f32) (g : BitVec 32)
    (off : Fin 1 → ℕ) (hoff : ∀ a, off a + S2048.size a ≤ S786432.size a) (sem : DmaSems sig S_) : TileProg F L Unit := do
  let wy ← collect 8 fun t => wyRow L g t
  Scf.Loop.for k0_t2_loop k0_t2_ok ⟨⟩ fun k _ => trip L buf wy k
  writeRows L off hoff sem

/-- One trip of the outer loop: two groups of eight rows. -/
def pair (L : grid0.Coords) {c : BitVec 32} (h : k0_chk1 c) (k : Fin k0_t1_loop.trips) : TileProg F L Unit := do
  fetchList L (k0_off4 L k) (k0_off4_inb L k) lbV (Memref.isWhole_whole _) cc0_scoped5
  seqM (gather L h bbV lbV cc0_scratch10) eight
  seqM (await L h baV cc0_scratch9) eight
  eightRows L baV (Scalar.muli 2#32 (Scf.iv 0#32 1#32 k)) (k0_off42 L k) (k0_off42_inb L k) cc0_scoped6
  if h1 : k0_cond1 k = 1#1 then do
    fetchList L (k0_off43 L k) (k0_off43_inb L k h1) laV (Memref.isWhole_whole _) cc0_scoped7
    seqM (gather L h baV laV cc0_scratch9) eight
  else pure ⟨⟩
  seqM (await L h bbV cc0_scratch10) eight
  eightRows L bbV (Scalar.addi (Scalar.muli 2#32 (Scf.iv 0#32 1#32 k)) 1#32) (k0_off82 L k) (k0_off82_inb L k) cc0_scoped8

/-- A whole table copied into the tile's memory. -/
def copyIn (L : grid0.Coords) {s : Shape} {e : EltTy} (src : Memref sig .scVector .hbm s e) (dst : Memref sig .scVector .vmem s e)
    (hs : src.view.WordExact) (hd : dst.IsWhole) (sem : DmaSems sig S_) : TileProg F L Unit := do
  Prog.lift (.enqueueDma src (.here dst) (.dma sem.sem) hs hd.wordExact ⟨Or.inl rfl, trivial⟩)
  Prog.lift (.waitDma2 sem.sem src dst hs hd.wordExact)

abbrev wySlice (L : grid0.Coords) : Memref sig .scVector .hbm S96 .f32 :=
  wyHV.slice (Rect.unit (s := S3072) (k0_off1 L) S96.size (k0_off1_inb L)) (fun _ => rfl)

/-- The window's first block, out of the sixteen words of the table of windows. -/
abbrev c0Word (L : grid0.Coords) (v : Vec F S16 .i32) : BitVec 32 := extractAt ![15] (k0_pay73 L v)

/-- The tile's program. -/
def tileProg (L : grid0.Coords) : TileProg F L Unit := do
  copyIn L xlHV xlV (Memref.isWhole_whole _).wordExact (Memref.isWhole_whole _) cc0_scoped0
  copyIn L wxHV wxV (Memref.isWhole_whole _).wordExact (Memref.isWhole_whole _) cc0_scoped1
  copyIn L (wySlice L) wyV (View.wordExact_bits rfl) (Memref.isWhole_whole _) cc0_scoped2
  copyIn L c0HV c0V (Memref.isWhole_whole _).wordExact (Memref.isWhole_whole _) cc0_scoped3
  let v : Vec F S16 .i32 ← Prog.lift (.load c0V (Rect.unit (s := S16) ![0] S16.size inb_S16_S16_0).toLoadRect (View.loadsAt_vmem h_S16))
  have h : k0_chk1 (c0Word L v) := (← Prog.lift (TpuEff.assume (k0_chk1 (c0Word L v)) (k0_chk1.dec (c0Word L v)))).down
  fetchList L (k0_off2 L) (k0_off2_inb L) laV (Memref.isWhole_whole _) cc0_scoped4
  seqM (gather L h baV laV cc0_scratch9) eight
  Scf.Loop.for k0_t1_loop k0_t1_ok ⟨⟩ fun k _ => pair L h k

end Cert.Proof.Crop
-- ==== Proof.Setup.lean ====
/-
  The launch set-up: the program as the launch theorem sees it, the resources, the thread of a tile.
-/
module

public import proofs.«01_k».proof.Proof.Tile

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources of a proof over contents `Elt F`. -/
abbrev Res (F : FTy → Type) := MT nD τ sig (HIx 1) (Elt F) ℕ UU ℕ

abbrev EH : Emb UH (Res F) := embL

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

variable [FloatOps F]

/-- The weakest precondition of a tile's program. -/
abbrev tw (d : Dev nD) (L : grid0.Coords) {α : Type} (p : TileProg F L α) (Q : α → sProp (Res F)) : sProp (Res F) :=
  wp frame (wpE (defs₀ (F := F)) 𝒱₀ (thr d L) none) Set.univ p Q

/-- A tile's list of programs in order, by an invariant counted along the list. -/
theorem tw_seqM (d : Dev nD) (L : grid0.Coords) {ι : Type} (f : ι → TileProg F L Unit) (I : ℕ → sProp (Res F)) (l : List ι)
    (h : ∀ n (hn : n < l.length), I n ⊢ tw d L (f l[n]) fun _ => I (n + 1)) : I 0 ⊢ tw d L (seqM f l) fun _ => I l.length := by
  induction l generalizing I with
  | nil =>
    simp only [seqM, tw, wp_pure, List.length_nil]
    exact fupd_intro
  | cons a l ih =>
    simp only [seqM, tw, wp_bind]
    refine (h 0 (by simp)).trans (wp_mono frame _ _ fun _ => ?_)
    exact ih (fun n => I (n + 1)) fun n hn => h (n + 1) (by simpa using hn)

/-- The same over the eight blocks. -/
theorem tw_eight (d : Dev nD) (L : grid0.Coords) (f : Fin 8 → TileProg F L Unit) (I : ℕ → sProp (Res F))
    (h : ∀ j : Fin 8, I j.val ⊢ tw d L (f j) fun _ => I (j.val + 1)) : I 0 ⊢ tw d L (seqM f eight) fun _ => I 8 :=
  tw_seqM d L f I eight fun n hn => by
    have e : eight[n] = ⟨n, hn⟩ := by
      have : n < 8 := hn
      interval_cases n <;> rfl
    rw [e]; exact h ⟨n, hn⟩

theorem tw_four (d : Dev nD) (L : grid0.Coords) (f : Fin 4 → TileProg F L Unit) (I : ℕ → sProp (Res F))
    (h : ∀ j : Fin 4, I j.val ⊢ tw d L (f j) fun _ => I (j.val + 1)) : I 0 ⊢ tw d L (seqM f [0, 1, 2, 3]) fun _ => I 4 :=
  tw_seqM d L f I [0, 1, 2, 3] fun n hn => by
    have e : ([0, 1, 2, 3] : List (Fin 4))[n] = ⟨n, hn⟩ := by
      have : n < 4 := hn
      interval_cases n <;> rfl
    rw [e]; exact h ⟨n, hn⟩

end Cert.Proof.Crop
-- ==== Proof.Block.lean ====
/-
  One block, one group and one trip of the column loop: what they leave in the rows of eight.
-/
module

public import proofs.«01_k».proof.Proof.Setup

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The bilinear combination of four neighbours `a0 a1 / b0 b1` with column weight `w` and row weight `wy`, in the kernel's order. -/
def lerp4 (wy w a0 a1 b0 b1 : F .f32) : F .f32 :=
  let top := FloatOps.addf a0 (FloatOps.mulf w (FloatOps.subf a1 a0))
  let bot := FloatOps.addf b0 (FloatOps.mulf w (FloatOps.subf b1 b0))
  FloatOps.addf top (FloatOps.mulf wy (FloatOps.subf bot top))

theorem pay_apply (wy w a0 a1 b0 b1 : Vec F S16 .f32) (x : S16.Idx) :
    k0_pay4 wy w a0 a1 b0 b1 x = lerp4 (wy x) (w x) (a0 x) (a1 x) (b0 x) (b1 x) := rfl

section
variable (d : Dev nD) (L : grid0.Coords)

theorem block_wp (buf : Memref sig .scVector .vmem S16x1024 .f32) (wy : Fin 8 → Vec F S16 .f32)
    (k : Fin k0_t2_loop.trips) (u : Fin 4) (xi : Vec F S16 .i32) (w : Vec F S16 .f32) (xi1 : IVec S16 32) (t : Fin 8)
    (h0 : k0_chk10 xi xi1 (splat (2 * t.val))) (h1 : k0_chk10 xi xi1 (splat (2 * t.val + 1)))
    (R : Buf (Elt F) ((buf.access (.whole S16x1024)).loc (thr d L))) (fo : Buf (Elt F) (outV.view.loc (thr d L))) :
    iprop(((buf.access (.whole S16x1024)).loc (thr d L) ↦[(buf.access (.whole S16x1024)).set]{fullShare} R)
        ∗ (outV.view.loc (thr d L) ↦{fullShare} fo) : sProp 𝕄)
      ⊢ tw d L (block L buf wy k u xi w xi1 t) fun _ =>
        iprop(((buf.access (.whole S16x1024)).loc (thr d L) ↦[(buf.access (.whole S16x1024)).set]{fullShare} R)
        ∗ (outV.view.loc (thr d L) ↦{fullShare} (outV.access (rowRect k u t)).write (Elt F) fo
            (k0_pay4 (wy t) w
              (loadIdx ((buf.access (.whole S16x1024)).read (Elt F) R) ![splat (2 * t.val), xi] h0.1)
              (loadIdx ((buf.access (.whole S16x1024)).read (Elt F) R) ![splat (2 * t.val), xi1] h0.2)
              (loadIdx ((buf.access (.whole S16x1024)).read (Elt F) R) ![splat (2 * t.val + 1), xi] h1.1)
              (loadIdx ((buf.access (.whole S16x1024)).read (Elt F) R) ![splat (2 * t.val + 1), xi1] h1.2)) Finset.univ)) := by
  iintro ⟨Hb, Ho⟩
  unfold tw block
  sl_exec
  iapply (SparseCore.wp_vectorLoadIdx 𝒱₀ (thr d L) none Set.univ (Finset.Subset.refl _)) $$ Hb
  iintro Hb
  iapply (SparseCore.wp_vectorLoadIdx 𝒱₀ (thr d L) none Set.univ (Finset.Subset.refl _)) $$ Hb
  iintro Hb
  iapply (SparseCore.wp_vectorLoadIdx 𝒱₀ (thr d L) none Set.univ (Finset.Subset.refl _)) $$ Hb
  iintro Hb
  iapply (SparseCore.wp_vectorLoadIdx 𝒱₀ (thr d L) none Set.univ (Finset.Subset.refl _)) $$ Hb
  iintro Hb
  sl_exec
  sl_step
  isplitl [Hb]; · iexact Hb
  iexact Ho

end
end Cert.Proof.Crop
-- ==== Proof.Rows.lean ====
/-
  One group and one trip of the column loop, and the loop: what they leave in the rows of eight.
-/
module

public import proofs.«01_k».proof.Proof.Block

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The multi-index of a shape with the coordinates `f`, taken modulo the sizes. -/
def ix (s : Shape) (f : Fin s.rank → ℕ) (h : ∀ a, 0 < s.size a := by decide) : s.Idx := fun a => ⟨f a % s.size a, Nat.mod_lt _ (h a)⟩

theorem ix_eq {s : Shape} {f : Fin s.rank → ℕ} {h : ∀ a, 0 < s.size a} {q : s.Idx} (e : ∀ a, f a = (q a).val) : ix s f h = q := by
  funext a; apply Fin.ext; simp only [ix]; rw [e a]; exact Nat.mod_eq_of_lt (q a).isLt

/-- The value at place `n` of eight rows of 256: out of the pairs of fetched rows `fb`, the weights `wy` of the rows and the tables of columns. -/
def rowsVal (fb : S16x1024.Idx → Elt F .f32) (wy : ℕ → Elt F .f32) (fx : S1024.Idx → BitVec 32) (fw : S1024.Idx → Elt F .f32) (b n : ℕ) : Elt F .f32 :=
  lerp4 (wy (n / 256)) (fw (ix S1024 (fun _ => 256 * b + n % 256)))
    (fb (ix S16x1024 ![2 * (n / 256), (fx (ix S1024 (fun _ => 256 * b + n % 256))).toNat]))
    (fb (ix S16x1024 ![2 * (n / 256), (fx (ix S1024 (fun _ => 256 * b + n % 256))).toNat + 1]))
    (fb (ix S16x1024 ![2 * (n / 256) + 1, (fx (ix S1024 (fun _ => 256 * b + n % 256))).toNat]))
    (fb (ix S16x1024 ![2 * (n / 256) + 1, (fx (ix S1024 (fun _ => 256 * b + n % 256))).toNat + 1]))

/-- What a store of sixteen lanes leaves at each place. -/
theorem store_at (k : Fin k0_t2_loop.trips) (u : Fin 4) (t : Fin 8) (fo : S2048.Idx → Elt F .f32) (p : S16.Idx → Elt F .f32) (T : ℕ → Elt F .f32)
    (hp : ∀ x : S16.Idx, p x = T (256 * t.val + 64 * k.val + 16 * u.val + (x 0).val))
    (ho : ∀ q : S2048.Idx, (q 0).val % 256 < 64 * k.val + 16 * u.val ∨ ((q 0).val % 256 < 64 * k.val + 16 * u.val + 16 ∧ (q 0).val / 256 < t.val) → fo q = T (q 0).val) :
    ∀ q : S2048.Idx, (q 0).val % 256 < 64 * k.val + 16 * u.val ∨ ((q 0).val % 256 < 64 * k.val + 16 * u.val + 16 ∧ (q 0).val / 256 < t.val + 1) →
      (outV.access (rowRect k u t)).write (Elt F) fo p Finset.univ q = T (q 0).val := by
  intro q hq
  have hk : k.val < 4 := k.isLt
  have hu := u.isLt
  have hoff : (rowRect k u t).off 0 = 256 * t.val + 64 * k.val + 16 * u.val := congrFun (rowOff_eq k u t) 0
  by_cases hin : 256 * t.val + 64 * k.val + 16 * u.val ≤ (q 0).val ∧ (q 0).val < 256 * t.val + 64 * k.val + 16 * u.val + 16
  · let x : S16.Idx := fun a => ⟨(q 0).val - (256 * t.val + 64 * k.val + 16 * u.val), by
      have : a = 0 := Subsingleton.elim _ _
      subst this; show _ < 16; omega⟩
    have hx : (outV.access (rowRect k u t)).emb x = q := by
      funext a
      have : a = (0 : Fin 1) := Subsingleton.elim (α := Fin 1) _ _
      subst this
      apply Fin.ext
      show (rowRect k u t).off 0 + 1 * (x 0).val = _
      rw [hoff]; show _ + 1 * ((q 0).val - _) = _; omega
    rw [← hx, View.write_emb_of_mem _ _ (Finset.mem_univ _), hx]
    refine (hp x).trans (congrArg T ?_)
    show _ + ((q 0).val - _) = _; omega
  · rw [View.write_of_not_mem]
    · refine ho q ?_
      have hq0 : (q 0).val < 2048 := (q 0).isLt
      omega
    · intro hmem
      apply hin
      obtain ⟨x, -, hx⟩ := Finset.mem_map.mp hmem
      have e : (rowRect k u t).off 0 + 1 * (x 0).val = (q 0).val := congrArg (fun z : S2048.Idx => (z 0).val) hx
      have hx0 : (x 0).val < 16 := (x 0).isLt
      rw [hoff] at e; omega

theorem idx_chk {xi : Vec F S16 .i32} (hxi : ∀ x, (xi x).toNat ≤ 1022) {n : ℕ} (hn : n < 16) : k0_chk10 xi (k0_pay3 (F := F) xi) (splat n) := by
  have h1 : ∀ x, ((splat n) x).toNat < 16 := fun x => by
    show (BitVec.ofNat 32 n).toNat < 16
    rw [BitVec.toNat_ofNat]; omega
  have h2 : ∀ x, (xi x + 1#32).toNat < 1024 := fun x => by
    have := hxi x
    rw [BitVec.toNat_add]; simp only [BitVec.toNat_ofNat]; omega
  constructor
  · intro a x
    match a with
    | ⟨0, _⟩ => exact h1 x
    | ⟨1, _⟩ => exact lt_of_le_of_lt (hxi x) (show (1022 : ℕ) < 1024 by decide)
  · intro a x
    match a with
    | ⟨0, _⟩ => exact h1 x
    | ⟨1, _⟩ => exact h2 x

/-- A gathered lane, by its row and column. -/
theorem loadIdx_at (fb : S16x1024.Idx → Elt F .f32) (n : ℕ) (hn : n < 16) (xi : IVec S16 32)
    (h : ∀ (a : Fin S16x1024.rank) x, ((![splat n, xi] : Fin 2 → IVec S16 32) a x).toNat < S16x1024.size a) (x : S16.Idx) (c : ℕ) (hc : (xi x).toNat = c) :
    (loadIdx (F := F) (e := .f32) fb (s := S16x1024) (t := S16) ![splat n, xi] h) x = fb (ix S16x1024 ![n, c]) := by
  refine congrArg fb (ix_eq fun a => ?_).symm
  match a with
  | ⟨0, _⟩ =>
    show n = (BitVec.ofNat 32 n).toNat
    rw [BitVec.toNat_ofNat]; omega
  | ⟨1, _⟩ => exact hc.symm

/-- Sixteen entries of a table of columns. -/
theorem col_at {e : EltTy} (v : Memref sig .scVector .vmem S1024 e) (L : grid0.Coords) (k : Fin k0_t2_loop.trips) (u : Fin 4)
    (f : S1024.Idx → Elt F e) (x : S16.Idx) :
    (f ((colRect L k u).toLoadRect.idx x)) = f (ix S1024 (fun _ => 256 * bOf L + (64 * k.val + 16 * u.val + (x 0).val))) := by
  refine congrArg f (ix_eq fun a => ?_).symm
  have : a = (0 : Fin 1) := Subsingleton.elim (α := Fin 1) _ _
  subst this
  have hoff : (colRect L k u).off 0 = 256 * bOf L + 64 * k.val + 16 * u.val := congrFun (colOff_eq L k u) 0
  show _ = (colRect L k u).off 0 + 1 * (x 0).val
  rw [hoff]; omega

theorem pay_at (fb : S16x1024.Idx → Elt F .f32) (wy : Vec F S16 .f32) (wyN : ℕ → Elt F .f32) (fx : S1024.Idx → BitVec 32) (fw : S1024.Idx → Elt F .f32)
    (b c : ℕ) (t : Fin 8) (hc : c + 16 ≤ 256) (hwy : ∀ x, wy x = wyN t.val) (xi : Vec F S16 .i32) (w : Vec F S16 .f32)
    (hx : ∀ x, xi x = fx (ix S1024 (fun _ => 256 * b + (c + (x 0).val)))) (hw : ∀ x, w x = fw (ix S1024 (fun _ => 256 * b + (c + (x 0).val))))
    (hfx : ∀ q : S1024.Idx, (fx q).toNat ≤ 1022)
    (h0 : k0_chk10 xi (k0_pay3 (F := F) xi) (splat (2 * t.val))) (h1 : k0_chk10 xi (k0_pay3 (F := F) xi) (splat (2 * t.val + 1))) (x : S16.Idx) :
    k0_pay4 wy w (loadIdx fb ![splat (2 * t.val), xi] h0.1) (loadIdx fb ![splat (2 * t.val), k0_pay3 (F := F) xi] h0.2)
      (loadIdx fb ![splat (2 * t.val + 1), xi] h1.1) (loadIdx fb ![splat (2 * t.val + 1), k0_pay3 (F := F) xi] h1.2) x
      = rowsVal fb wyN fx fw b (256 * t.val + c + (x 0).val) := by
  have hx0 : (x 0).val < 16 := (x 0).isLt
  have ht := t.isLt
  have e1 : (256 * t.val + c + (x 0).val) / 256 = t.val := by omega
  have e2 : (256 * t.val + c + (x 0).val) % 256 = c + (x 0).val := by omega
  have e3 : (k0_pay3 (F := F) xi x).toNat = (fx (ix S1024 (fun _ => 256 * b + (c + (x 0).val)))).toNat + 1 := by
    show (xi x + 1#32).toNat = _
    have := hfx (ix S1024 (fun _ => 256 * b + (c + (x 0).val)))
    rw [hx x]; revert this
    generalize fx (ix S1024 (fun _ => 256 * b + (c + (x 0).val))) = v
    intro this
    rw [BitVec.toNat_add]; simp only [BitVec.toNat_ofNat]; omega
  rw [pay_apply, loadIdx_at fb _ (by omega) _ h0.1 x _ (congrArg BitVec.toNat (hx x)), loadIdx_at fb _ (by omega) _ h0.2 x _ e3,
    loadIdx_at fb _ (by omega) _ h1.1 x _ (congrArg BitVec.toNat (hx x)), loadIdx_at fb _ (by omega) _ h1.2 x _ e3, hwy x, hw x]
  simp only [rowsVal, e1, e2]

section
variable (d : Dev nD) (L : grid0.Coords)

/-- The rows of eight hold `T` on the places `A`. -/
def outState (T : ℕ → Elt F .f32) (A : ℕ → Prop) : sProp (Res F) :=
  iprop(∃ fo : Buf (Elt F) (outV.view.loc (thr d L)), (outV.view.loc (thr d L) ↦{fullShare} fo) ∗ ⌜∀ q : S2048.Idx, A (q 0).val → fo q = T (q 0).val⌝)

variable {α : Type}

theorem tw_frame {p : TileProg F L α} {A R : sProp (Res F)} {Q : α → sProp (Res F)} (h : A ⊢ tw d L p Q) :
    iprop(A ∗ R) ⊢ tw d L p fun a => iprop(Q a ∗ R) :=
  (sep_mono_left h).trans (wp_frame_r frame _ _)

theorem tw_seq {β : Type} {p : TileProg F L α} {q : α → TileProg F L β} {A : sProp (Res F)} {B : α → sProp (Res F)} {Q : β → sProp (Res F)}
    (h₁ : A ⊢ tw d L p B) (h₂ : ∀ a, B a ⊢ tw d L (q a) Q) : A ⊢ tw d L (p >>= q) Q := by
  unfold tw
  rw [wp_bind]
  exact h₁.trans (wp_mono frame _ _ h₂)

/-- Before row `t` of a group of columns starting at `c`: the buffer, and the rows of eight done so far. -/
def blockInv (buf : Memref sig .scVector .vmem S16x1024 .f32) (R : Buf (Elt F) ((buf.access (.whole S16x1024)).loc (thr d L)))
    (T : ℕ → Elt F .f32) (c t : ℕ) : sProp (Res F) :=
  iprop(((buf.access (.whole S16x1024)).loc (thr d L) ↦[(buf.access (.whole S16x1024)).set]{fullShare} R)
    ∗ outState d L T (fun n => n % 256 < c ∨ (n % 256 < c + 16 ∧ n / 256 < t)))

theorem outState_mono {T : ℕ → Elt F .f32} {A B : ℕ → Prop} (h : ∀ n < 2048, B n → A n) : outState d L T A ⊢ outState d L T B := by
  unfold outState
  iintro ⟨%fo, H, %h'⟩
  iexists fo
  isplitl [H]; · iexact H
  ipureintro
  exact fun q hq => h' q (h _ (q 0).isLt hq)

theorem block_step (buf : Memref sig .scVector .vmem S16x1024 .f32) (wy : Fin 8 → Vec F S16 .f32) (wyN : ℕ → Elt F .f32)
    (hwy : ∀ t x, wy t x = wyN t.val)
    (k : Fin k0_t2_loop.trips) (u : Fin 4) (xi : Vec F S16 .i32) (w : Vec F S16 .f32) (t : Fin 8)
    (R : Buf (Elt F) ((buf.access (.whole S16x1024)).loc (thr d L)))
    (fx : S1024.Idx → BitVec 32) (fw : S1024.Idx → Elt F .f32) (hfx : ∀ q : S1024.Idx, (fx q).toNat ≤ 1022)
    (hx : ∀ x, xi x = fx (ix S1024 (fun _ => 256 * bOf L + (64 * k.val + 16 * u.val + (x 0).val))))
    (hw : ∀ x, w x = fw (ix S1024 (fun _ => 256 * bOf L + (64 * k.val + 16 * u.val + (x 0).val)))) :
    blockInv d L buf R (rowsVal ((buf.access (.whole S16x1024)).read (Elt F) R) wyN fx fw (bOf L)) (64 * k.val + 16 * u.val) t.val
      ⊢ tw d L (block L buf wy k u xi w (k0_pay3 (F := F) xi) t) fun _ =>
        blockInv d L buf R (rowsVal ((buf.access (.whole S16x1024)).read (Elt F) R) wyN fx fw (bOf L)) (64 * k.val + 16 * u.val) (t.val + 1) := by
  have ht := t.isLt
  have hk : k.val < 4 := k.isLt
  have hu := u.isLt
  have h0 : k0_chk10 xi (k0_pay3 (F := F) xi) (splat (2 * t.val)) := idx_chk (fun x => by rw [hx x]; exact hfx _) (by omega)
  have h1 : k0_chk10 xi (k0_pay3 (F := F) xi) (splat (2 * t.val + 1)) := idx_chk (fun x => by rw [hx x]; exact hfx _) (by omega)
  unfold blockInv outState
  iintro ⟨Hb, %fo, Ho, %ho⟩
  iapply (wp_wand frame _ _) $$ [Hb Ho]
  · iapply (block_wp d L buf wy k u xi w (k0_pay3 (F := F) xi) t h0 h1 R fo)
    isplitl [Hb]; · iexact Hb
    iexact Ho
  · iintro %a ⟨Hb, Ho⟩
    isplitl [Hb]; · iexact Hb
    iexists _
    isplitl [Ho]; · iexact Ho
    ipureintro
    refine store_at k u t fo _ _ (fun x => ?_) ho
    have e := pay_at ((buf.access (.whole S16x1024)).read (Elt F) R) (wy t) wyN fx fw (bOf L) (64 * k.val + 16 * u.val) t (by omega) (hwy t) xi w hx hw hfx h0 h1 x
    rw [e]; congr 1; omega

theorem group_wp (buf : Memref sig .scVector .vmem S16x1024 .f32) (wy : Fin 8 → Vec F S16 .f32) (wyN : ℕ → Elt F .f32)
    (hwy : ∀ t x, wy t x = wyN t.val)
    (k : Fin k0_t2_loop.trips) (u : Fin 4)
    (R : Buf (Elt F) ((buf.access (.whole S16x1024)).loc (thr d L)))
    (fx : Buf (Elt F) (xlV.view.loc (thr d L))) (fw : Buf (Elt F) (wxV.view.loc (thr d L)))
    (hfx : ∀ q : S1024.Idx, (fx q).toNat ≤ 1022) :
    iprop(((buf.access (.whole S16x1024)).loc (thr d L) ↦[(buf.access (.whole S16x1024)).set]{fullShare} R)
        ∗ (xlV.view.loc (thr d L) ↦{fullShare} fx) ∗ (wxV.view.loc (thr d L) ↦{fullShare} fw)
        ∗ outState d L (rowsVal ((buf.access (.whole S16x1024)).read (Elt F) R) wyN fx fw (bOf L)) (fun n => n % 256 < 64 * k.val + 16 * u.val) : sProp 𝕄)
      ⊢ tw d L (group L buf wy k u) fun _ =>
        iprop(((buf.access (.whole S16x1024)).loc (thr d L) ↦[(buf.access (.whole S16x1024)).set]{fullShare} R)
        ∗ (xlV.view.loc (thr d L) ↦{fullShare} fx) ∗ (wxV.view.loc (thr d L) ↦{fullShare} fw)
        ∗ outState d L (rowsVal ((buf.access (.whole S16x1024)).read (Elt F) R) wyN fx fw (bOf L)) (fun n => n % 256 < 64 * k.val + 16 * (u.val + 1))) := by
  iintro ⟨Hb, Hx, Hw, Ho⟩
  unfold tw group
  simp only [wp_bind, Prog.lift]
  sl_step
  sl_step
  sl_step
  sl_step
  have hx : ∀ x, (xlV.view.readAt (Elt F) (colRect L k u).toLoadRect fx) x = fx (ix S1024 (fun _ => 256 * bOf L + (64 * k.val + 16 * u.val + (x 0).val))) :=
    fun x => col_at xlV L k u fx x
  have hw : ∀ x, (wxV.view.readAt (Elt F) (colRect L k u).toLoadRect fw) x = fw (ix S1024 (fun _ => 256 * bOf L + (64 * k.val + 16 * u.val + (x 0).val))) :=
    fun x => col_at wxV L k u fw x
  have hs := tw_frame d L (R := iprop((xlV.view.loc (thr d L) ↦{fullShare} fx) ∗ (wxV.view.loc (thr d L) ↦{fullShare} fw)))
    (tw_eight d L (block L buf wy k u (xlV.view.readAt (Elt F) (colRect L k u).toLoadRect fx) (wxV.view.readAt (Elt F) (colRect L k u).toLoadRect fw)
      (k0_pay3 (F := F) (xlV.view.readAt (Elt F) (colRect L k u).toLoadRect fx)))
      (blockInv d L buf R (rowsVal ((buf.access (.whole S16x1024)).read (Elt F) R) wyN fx fw (bOf L)) (64 * k.val + 16 * u.val))
      (fun t => block_step d L buf wy wyN hwy k u _ _ t R fx fw hfx hx hw))
  iapply (wp_wand frame _ _) $$ [Hb Ho Hx Hw]
  · iapply hs
    unfold blockInv
    isplitl [Hb Ho]
    · isplitl [Hb]; · iexact Hb
      iapply (outState_mono d L (fun n _ h => h.elim id fun h => absurd h.2 (Nat.not_lt_zero _)))
      iexact Ho
    · isplitl [Hx]; · iexact Hx
      iexact Hw
  · unfold blockInv
    iintro %a ⟨⟨Hb, Ho⟩, Hx, Hw⟩
    isplitl [Hb]; · iexact Hb
    isplitl [Hx]; · iexact Hx
    isplitl [Hw]; · iexact Hw
    iapply (outState_mono d L (A := fun n => n % 256 < 64 * k.val + 16 * u.val ∨ (n % 256 < 64 * k.val + 16 * u.val + 16 ∧ n / 256 < 8))
      (B := fun n => n % 256 < 64 * k.val + 16 * (u.val + 1)) (fun n hn h => Or.inr ⟨by omega, by omega⟩))
    iexact Ho

/-- What a trip of the column loop keeps: the buffer, the tables, and the rows of eight done on the first `c` columns. -/
def colsInv (buf : Memref sig .scVector .vmem S16x1024 .f32) (R : Buf (Elt F) ((buf.access (.whole S16x1024)).loc (thr d L)))
    (fx : Buf (Elt F) (xlV.view.loc (thr d L))) (fw : Buf (Elt F) (wxV.view.loc (thr d L))) (wyN : ℕ → Elt F .f32) (c : ℕ) : sProp (Res F) :=
  iprop(((buf.access (.whole S16x1024)).loc (thr d L) ↦[(buf.access (.whole S16x1024)).set]{fullShare} R)
        ∗ (xlV.view.loc (thr d L) ↦{fullShare} fx) ∗ (wxV.view.loc (thr d L) ↦{fullShare} fw)
        ∗ outState d L (rowsVal ((buf.access (.whole S16x1024)).read (Elt F) R) wyN fx fw (bOf L)) (fun n => n % 256 < c))

set_option maxRecDepth 16384 in
theorem trip_wp (buf : Memref sig .scVector .vmem S16x1024 .f32) (wy : Fin 8 → Vec F S16 .f32) (wyN : ℕ → Elt F .f32)
    (hwy : ∀ t x, wy t x = wyN t.val) (k : Fin k0_t2_loop.trips) (R : Buf (Elt F) ((buf.access (.whole S16x1024)).loc (thr d L)))
    (fx : Buf (Elt F) (xlV.view.loc (thr d L))) (fw : Buf (Elt F) (wxV.view.loc (thr d L))) (hfx : ∀ q : S1024.Idx, (fx q).toNat ≤ 1022) :
    colsInv d L buf R fx fw wyN (64 * k.val) ⊢ tw d L (trip L buf wy k) fun _ => colsInv d L buf R fx fw wyN (64 * (k.val + 1)) := by
  have h := tw_four d L (group L buf wy k) (fun u => colsInv d L buf R fx fw wyN (64 * k.val + 16 * u)) fun u =>
    group_wp d L buf wy wyN hwy k u R fx fw hfx
  beta_reduce at h
  rw [show 64 * k.val + 16 * 0 = 64 * k.val by omega] at h
  rw [show 64 * (k.val + 1) = 64 * k.val + 16 * 4 by omega]
  unfold trip
  exact h

set_option maxRecDepth 16384 in
theorem cols_wp (buf : Memref sig .scVector .vmem S16x1024 .f32) (wy : Fin 8 → Vec F S16 .f32) (wyN : ℕ → Elt F .f32)
    (hwy : ∀ t x, wy t x = wyN t.val) (R : Buf (Elt F) ((buf.access (.whole S16x1024)).loc (thr d L)))
    (fx : Buf (Elt F) (xlV.view.loc (thr d L))) (fw : Buf (Elt F) (wxV.view.loc (thr d L))) (hfx : ∀ q : S1024.Idx, (fx q).toNat ≤ 1022) :
    colsInv d L buf R fx fw wyN 0
      ⊢ tw d L (Scf.Loop.for k0_t2_loop k0_t2_ok ⟨⟩ fun k _ => trip L buf wy k) fun _ => colsInv d L buf R fx fw wyN 256 := by
  have e : 64 * k0_t2_loop.trips = 256 := by decide
  iintro H
  iapply (Scf.wp_for frame _ _ _ _ _ k0_t2_ok PUnit.unit _ (fun n _ => colsInv d L buf R fx fw wyN (64 * n))
    (fun k _ => trip_wp d L buf wy wyN hwy k R fx fw hfx))
  isplitl [H]; · iexact H
  iintro %a H
  rw [← e]
  iexact H

end

end Cert.Proof.Crop
-- ==== Proof.Copy.lean ====
/-
  A tile's own copies, waited for at once; the weights of eight rows.
-/
module

public import proofs.«01_k».proof.Proof.Rows
public import Idealize.ShloMosaic.Lib.SparseCore.FromWhole

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable (d : Dev nD) (L : grid0.Coords)

/-- What the tile owes, with the waits made since `W` all at its own cells; and leave to wait on them. -/
def owed (O : CellTallies nD τ sig (HIx 1)) (W : Waits sig (HIx 1)) : sProp (Res F) :=
  iprop(Transfers.MayWaits (thr d L) (default : HIx 1) O ∗ ∃ W', ⌜∀ p ∈ W', p ∈ W ∨ p.2 = none⌝ ∗ owes (thr d L) O W')

theorem owed_insert {W W' : Waits sig (HIx 1)} (h : ∀ p ∈ W', p ∈ W ∨ p.2 = none) (sm : SemLoc sig) :
    ∀ p ∈ (insert (sm, (default : HIx 1)) W' : Waits sig (HIx 1)), p ∈ W ∨ p.2 = none := by
  intro p hp
  rcases Finset.mem_insert.mp hp with hp | hp
  · exact .inr (hp ▸ rfl)
  · exact h p hp

/-- A copy of a tile's own, waited for at once. -/
def copyWait {sp sp' : Space} {s : Shape} {e : EltTy} (src : Memref sig .scVector sp s e) (dst : Memref sig .scVector sp' s e)
    (sem : DmaSems sig S_) (hs : src.view.WordExact) (hd : dst.view.WordExact) (ht : DmaTarget.Typed (nD := nD) (p := Proc.scVector (cV L) (jV L)) sp (.dma sem.sem) (.here dst)) : TileProg F L Unit := do
  Prog.lift (.enqueueDma src (.here dst) (.dma sem.sem) hs hd ht)
  Prog.lift (.waitDma2 sem.sem src dst hs hd)

theorem copyWait_wp {sp sp' : Space} {s : Shape} {e : EltTy} (src : Memref sig .scVector sp s e) (dst : Memref sig .scVector sp' s e)
    (sem : DmaSems sig S_) (hs : src.view.WordExact) (hd : dst.view.WordExact) (ht : DmaTarget.Typed (nD := nD) (p := Proc.scVector (cV L) (jV L)) sp (.dma sem.sem) (.here dst))
    (O : CellTallies nD τ sig (HIx 1)) (W : Waits sig (HIx 1)) {q : PosShare TreeShare} {fs : Buf (Elt F) (src.view.loc (thr d L))}
    {Sd : Finset (Idx (dst.view.loc (thr d L)))} {fd : Buf (Elt F) (dst.view.loc (thr d L))} (hSd : dst.view.set ⊆ Sd) (hN : 0 < dst.view.dmaCredit) :
    iprop((src.view.loc (thr d L) ↦{q} fs) ∗ (dst.view.loc (thr d L) ↦[Sd]{fullShare} fd) ∗ semVal ((thr d L), SemLoc.dma sem.sem) 0 ∗ owed d L O W)
      ⊢ tw d L (copyWait L src dst sem hs hd ht) fun _ => iprop((src.view.loc (thr d L) ↦{q} fs)
        ∗ (dst.view.loc (thr d L) ↦[Sd]{fullShare} dst.view.write (Elt F) fd (src.view.read (Elt F) fs) Finset.univ) ∗ semVal ((thr d L), SemLoc.dma sem.sem) 0 ∗ owed d L O W) := by
  unfold tw copyWait owed
  iintro ⟨Hs, Hd, Hv, #Hmw, %W', %hW', HO⟩
  iapply (Transfers.wp_dmaFromWhole countersEmb 𝒱₀ (thr d L) none (default : HIx 1) dst.view.dmaCredit rfl hN hSd) $$ [Hs Hd Hv]
  · iframe Hs Hd Hv
  iintro Hfl
  iapply (Transfers.wp_waitLocalO countersEmb 𝒱₀ (thr d L) none (default : HIx 1) (rfl : dst.view.dmaCredit = _)) $$ [Hfl HO]
  · isplitl [Hfl]; · iexact Hfl
    isplitl [HO]; · iexact HO
    iapply (Transfers.MayWaits.elim (SemLoc.dma sem.sem)) $$ Hmw
  iintro ⟨⟨Hd, Hs⟩, Hv, HO⟩
  sl_step
  iframe Hs Hd Hv
  isplitr
  · iexact Hmw
  iexists _
  isplitr
  swap; · iexact HO
  ipureintro
  exact owed_insert hW' _

/-- Values collected one after the other, each with a fact about it, the resources kept. -/
theorem collect_wp {β : Type} (H : sProp (Res F)) : ∀ (n : ℕ) (f : Fin n → TileProg F L β) (P : Fin n → β → Prop),
    (∀ j, H ⊢ tw d L (f j) fun a => iprop(⌜P j a⌝ ∗ H)) → H ⊢ tw d L (collect n f) fun r => iprop(⌜∀ j, P j (r j)⌝ ∗ H)
  | 0, f, P, h => by
    simp only [collect, tw, wp_pure]
    iintro H
    imodintro
    isplitr
    · ipureintro; exact fun j => j.elim0
    · iexact H
  | n + 1, f, P, h => by
    unfold collect
    refine tw_seq d L (h 0) fun a => ?_
    iintro ⟨%ha, H⟩
    iapply (wp_wand frame _ _) $$ [H]
    · iapply (collect_bind_wp H n f P h a ha)
      iexact H
    · iintro %r H
      iexact H
where
  collect_bind_wp (H : sProp (Res F)) (n : ℕ) (f : Fin (n + 1) → TileProg F L β) (P : Fin (n + 1) → β → Prop)
      (h : ∀ j, H ⊢ tw d L (f j) fun a => iprop(⌜P j a⌝ ∗ H)) (a : β) (ha : P 0 a) :
      H ⊢ tw d L (collect n (fun j => f j.succ) >>= fun r => pure (Matrix.vecCons a r)) fun r => iprop(⌜∀ j, P j (r j)⌝ ∗ H) := by
    refine tw_seq d L (collect_wp H n (fun j => f j.succ) (fun j => P j.succ) fun j => h j.succ) fun r => ?_
    unfold tw
    rw [wp_pure]
    iintro ⟨%hr, H⟩
    imodintro
    isplitr
    · ipureintro
      exact fun j => Fin.cases ha hr j
    · iexact H

/-- The whole of a buffer as an access of it. -/
theorem access_set {sp : Space} {s : Shape} {e : EltTy} (v : Memref sig .scVector sp s e) : (v.access (.whole s)).set = v.view.set := by
  unfold Memref.access
  rw [View.set_slice, show (Rect.whole s).set = Finset.univ from Rect.set_whole s]
  rfl

theorem wyRow_wp (g : BitVec 32) (G : ℕ) (hg : g = BitVec.ofNat 32 G) (hG : G < 12) (t : Fin 8) (fy : Buf (Elt F) ((wyV.access (.whole S96)).loc (thr d L))) :
    iprop(((wyV.access (.whole S96)).loc (thr d L) ↦[(wyV.access (.whole S96)).set]{fullShare} fy) : sProp 𝕄) ⊢ tw d L (wyRow L g t) fun a =>
      iprop(⌜∀ x, a x = fy (ix S96 (fun _ => 8 * G + t.val))⌝ ∗ ((wyV.access (.whole S96)).loc (thr d L) ↦[(wyV.access (.whole S96)).set]{fullShare} fy)) := by
  have ht := t.isLt
  have e : (Scalar.addi (Scalar.muli g 8#32) (BitVec.ofNat 32 t.val)).toNat = 8 * G + t.val := by
    subst hg
    show (BitVec.ofNat 32 G * 8#32 + BitVec.ofNat 32 t.val).toNat = _
    rw [BitVec.toNat_add, BitVec.toNat_mul]; simp only [BitVec.toNat_ofNat]; omega
  have h : k0_chk2 (wyIdx g t) := by
    intro a x
    have : a = (0 : Fin 1) := Subsingleton.elim (α := Fin 1) _ _
    subst this
    show (Scalar.addi (Scalar.muli g 8#32) (BitVec.ofNat 32 t.val)).toNat < 96
    omega
  rw [← bind_pure (wyRow L g t)]
  unfold tw wyRow
  iintro H
  sl_exec
  iapply (SparseCore.wp_vectorLoadIdx 𝒱₀ (thr d L) none Set.univ (Finset.Subset.refl _)) $$ H
  iintro H
  sl_step
  isplitr
  · ipureintro
    intro x
    refine congrArg fy (ix_eq fun a => ?_).symm
    have : a = (0 : Fin 1) := Subsingleton.elim (α := Fin 1) _ _
    subst this
    show _ = 0 + 1 * (Scalar.addi (Scalar.muli g 8#32) (BitVec.ofNat 32 t.val)).toNat
    omega
  · iexact H

end

end Cert.Proof.Crop
-- ==== Proof.Fetch.lean ====
/-
  The fetch of sixteen rows of the window by eight gathers, and its waits.
-/
module

public import proofs.«01_k».proof.Proof.Copy

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Read shares -/

/-- Piece `j` of the `2 ^ n` pieces of a share, by the digits of `j`. -/
def piece : ℕ → PosShare TreeShare → ℕ → PosShare TreeShare
  | 0, q, _ => q
  | n + 1, q, j => piece n (if j % 2 = 0 then q.left else q.right) (j / 2)

omit [FloatOps F] in
/-- A points-to at a share is the points-tos at its pieces. -/
theorem pointsTo_pieces {ℓ : Loc nD τ sig} (I : Finset (Idx ℓ)) (f : Buf (Elt F) ℓ) : ∀ (n : ℕ) (q : PosShare TreeShare),
    (ℓ ↦[I]{q} f : sProp 𝕄) = bigSep Finset.univ fun j : Fin (2 ^ n) => ℓ ↦[I]{piece n q j.val} f
  | 0, q => (bigSep_univ_of_subsingleton (0 : Fin 1) (Φ := fun j : Fin (2 ^ 0) => (ℓ ↦[I]{piece 0 q j.val} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hr : (bigSep Finset.univ fun j : Fin (2 ^ n * 2) => (ℓ ↦[I]{piece (n + 1) q j.val} f : sProp 𝕄))
        = bigSep Finset.univ fun j : Fin (2 ^ n) => bigSep Finset.univ fun b : Fin 2 => (ℓ ↦[I]{piece (n + 1) q (finProdFinEquiv (j, b)).val} f : sProp 𝕄) := by
      rw [bigSep_univ_equiv (finProdFinEquiv : Fin (2 ^ n) × Fin 2 ≃ Fin (2 ^ n * 2)), bigSep_univ_prod]
    refine Eq.trans ?_ hr.symm
    rw [hs, pointsTo_pieces I f n q.left, pointsTo_pieces I f n q.right]
    refine (bigSep_sep _ _ _).symm.trans ?_
    refine bigSep_congr fun j _ => ?_
    rw [bigSep_fin_two]
    have e0 : (finProdFinEquiv (j, (0 : Fin 2))).val = 2 * j.val := by simp
    have e1 : (finProdFinEquiv (j, (1 : Fin 2))).val = 2 * j.val + 1 := by simp; omega
    have d1 : (2 * j.val + 1) / 2 = j.val := by omega
    simp only [piece, e0, e1, d1, Nat.mul_mod_right, Nat.mul_div_cancel_left _ (show 0 < 2 by decide), if_true, Nat.mul_add_mod, Nat.one_mod, if_neg (show ¬(1 = 0) by decide)]

section
variable (d : Dev nD) (L : grid0.Coords)

/-- Eight programs, each taking its own resources and a common one. -/
theorem tw_each (f : Fin 8 → TileProg F L Unit) (A B : Fin 8 → sProp (Res F)) (C : sProp (Res F))
    (h : ∀ j, iprop(A j ∗ C) ⊢ tw d L (f j) fun _ => iprop(B j ∗ C)) :
    iprop(bigSep Finset.univ A ∗ C) ⊢ tw d L (seqM f eight) fun _ => iprop(bigSep Finset.univ B ∗ C) := by
  have key := tw_eight d L f (fun n => iprop(bigSep Finset.univ (fun j : Fin 8 => if j.val < n then B j else A j) ∗ C)) fun j => by
    have e1 : (bigSep Finset.univ (fun i : Fin 8 => if i.val < j.val then B i else A i) : sProp (Res F))
        = iprop(A j ∗ bigSep (Finset.univ.erase j) fun i : Fin 8 => if i.val < j.val then B i else A i) := by
      rw [SparseCore.bigSep_erase' (Finset.mem_univ j), if_neg (Nat.lt_irrefl _)]
    have e2 : (bigSep Finset.univ (fun i : Fin 8 => if i.val < j.val + 1 then B i else A i) : sProp (Res F))
        = iprop(B j ∗ bigSep (Finset.univ.erase j) fun i : Fin 8 => if i.val < j.val then B i else A i) := by
      rw [SparseCore.bigSep_erase' (Finset.mem_univ j), if_pos (Nat.lt_succ_self _)]
      congr 1
      refine bigSep_congr fun i hi => ?_
      have : i.val ≠ j.val := fun e => (Finset.mem_erase.mp hi).1 (Fin.ext e)
      by_cases hlt : i.val < j.val
      · rw [if_pos hlt, if_pos (by omega)]
      · rw [if_neg hlt, if_neg (by omega)]
    beta_reduce
    rw [e1, e2]
    iintro ⟨⟨HA, HR⟩, HC⟩
    iapply (wp_wand frame _ _) $$ [HA HC HR]
    · iapply (tw_frame d L (h j))
      isplitl [HA HC]
      · isplitl [HA]; · iexact HA
        iexact HC
      · iexact HR
    · iintro %a ⟨⟨HB, HC⟩, HR⟩
      iframe HB HC HR
  have eA : (bigSep Finset.univ (fun j : Fin 8 => if j.val < 0 then B j else A j) : sProp (Res F)) = bigSep Finset.univ A :=
    bigSep_congr fun j _ => if_neg (Nat.not_lt_zero _)
  have eB : (bigSep Finset.univ (fun j : Fin 8 => if j.val < 8 then B j else A j) : sProp (Res F)) = bigSep Finset.univ B :=
    bigSep_congr fun j _ => if_pos j.isLt
  beta_reduce at key
  rw [eA, eB] at key
  exact key

/-! ## The fetch -/

/-- The sixteen fetched rows of the window: row `fl r` of the image, from column `c` on. -/
def fetched (fi : S24576x2048.Idx → Elt F .f32) (fl : S16.Idx → BitVec 32) (c : ℕ) : S16x1024.Idx → Elt F .f32 :=
  fun q => fi (ix S24576x2048 ![(fl (ix S16 (fun _ => (q 0).val))).toNat, c + (q 1).val])

/-- The columns of block `j` of a buffer. -/
abbrev bufRect (j : Fin 8) : Rect S16x1024 := Rect.unit (s := S16x1024) ![0, 128 * j.val] S16x128.size (winOff_inb j)

omit [FloatOps F] in
theorem blk_set (buf : Memref sig .scVector .vmem S16x1024 .f32) (j : Fin 8) :
    (bufBlk buf j).view.set = (bufRect j).set.map buf.view.emb := View.set_slice buf.view (bufRect j)

omit [FloatOps F] in
theorem blk_disjoint (buf : Memref sig .scVector .vmem S16x1024 .f32) (i j : Fin 8) (h : i ≠ j) :
    Disjoint (bufBlk buf i).view.set (bufBlk buf j).view.set := by
  rw [blk_set, blk_set, Finset.disjoint_map]
  refine Rect.unit_disjoint (1 : Fin 2) ?_
  have : i.val ≠ j.val := fun e => h (Fin.ext e)
  show 128 * i.val + 128 ≤ 128 * j.val ∨ 128 * j.val + 128 ≤ 128 * i.val
  omega

omit [FloatOps F] in
theorem blk_cover (buf : Memref sig .scVector .vmem S16x1024 .f32) :
    (Finset.univ : Finset (Fin 8)).biUnion (fun j => (bufBlk buf j).view.set) = buf.view.set := by
  ext i
  simp only [Finset.mem_biUnion, Finset.mem_univ, true_and]
  constructor
  · rintro ⟨j, hj⟩
    obtain ⟨x, -, rfl⟩ := Finset.mem_map.mp hj
    exact View.emb_mem_set _ _
  · intro hi
    obtain ⟨x, -, rfl⟩ := Finset.mem_map.mp hi
    have hx : (x 1).val < 1024 := (x 1).isLt
    refine ⟨⟨(x 1).val / 128, by omega⟩, ?_⟩
    rw [blk_set]
    refine Finset.mem_map_of_mem _ (Rect.mem_set_unit.mpr fun a => ?_)
    match a with
    | ⟨0, _⟩ =>
      show 0 ≤ (x 0).val ∧ (x 0).val < 0 + 16
      have : (x 0).val < 16 := (x 0).isLt
      omega
    | ⟨1, _⟩ =>
      show 128 * ((x 1).val / 128) ≤ (x 1).val ∧ (x 1).val < 128 * ((x 1).val / 128) + 128
      omega

omit [FloatOps F] in
theorem lane_val : ∀ k : Fin 16, (S16.rowMajor (ix S16 (fun _ => k.val))).val = k.val := by decide +kernel

omit [FloatOps F] in
theorem lane_symm (k : Fin S16.numel) : S16.rowMajor.symm k = ix S16 (fun _ => k.val) :=
  (Equiv.symm_apply_eq _).mpr (Fin.ext (lane_val k).symm)

/-- What block `j` of a buffer holds once its gather has landed: the fetched rows. -/
theorem landed_at {c : BitVec 32} (h : k0_chk1 c) (buf : Memref sig .scVector .vmem S16x1024 .f32) (hc : c.toNat ≤ 8) (j : Fin 8)
    (fi : Buf (Elt F) (imgV.view.loc (thr d L))) (fl : S16.Idx → BitVec 32) (fd : Buf (Elt F) (buf.view.loc (thr d L)))
    (hin : ∀ x, (fl x).toNat < S24576x128.size gathers_S24576x128_S16x128.axis) :
    ∀ i ∈ (bufBlk buf j).view.set,
      (bufBlk buf j).view.write (Elt F) fd (SparseCore.gatherPayload gathers_S24576x128_S16x128 ((imgBlk h j).view.read (Elt F) fi)
        (SparseCore.rows (F := F) fl rfl hin)) Finset.univ i
      = buf.view.write (Elt F) fd (fetched fi fl (128 * c.toNat)) Finset.univ i := by
  intro i hi
  obtain ⟨x, -, rfl⟩ := Finset.mem_map.mp hi
  rw [View.write_emb_of_mem _ _ (Finset.mem_univ _)]
  show _ = buf.view.write (Elt F) fd _ Finset.univ (buf.view.emb ((bufRect j).emb x))
  rw [View.write_emb_of_mem _ _ (Finset.mem_univ _)]
  congr 1
  show fi _ = fi _
  refine congrArg fi (ix_eq fun a => ?_).symm
  have hj := j.isLt
  match a with
  | ⟨0, _⟩ =>
    show (fl _).toNat = 0 + 1 * (0 + 1 * (gathers_S24576x128_S16x128.idx (SparseCore.rows (F := F) fl rfl hin) x gathers_S24576x128_S16x128.axis).val)
    rw [Shape.Gathers.idx_axis]
    simp only [Nat.zero_add, Nat.one_mul]
    refine Eq.trans ?_ (congrArg (fun z => (fl z).toNat) (lane_symm _)).symm
    show (fl (ix S16 fun _ => 0 + 1 * (x 0).val)).toNat = _
    simp only [Nat.zero_add, Nat.one_mul]
    rfl
  | ⟨1, _⟩ =>
    have e : (gathers_S24576x128_S16x128.idx (SparseCore.rows (F := F) fl rfl hin) x (1 : Fin 2)).val = (x 1).val :=
      Shape.Gathers.idx_of_ne gathers_S24576x128_S16x128 (SparseCore.rows (F := F) fl rfl hin) x (1 : Fin 2) (show (1 : ℕ) ≠ 0 by decide)
    show 128 * c.toNat + (128 * j.val + 1 * (x 1).val)
      = (c * 128#32 + BitVec.ofNat 32 (128 * j.val)).toNat + 1 * (0 + 1 * (gathers_S24576x128_S16x128.idx (SparseCore.rows (F := F) fl rfl hin) x (1 : Fin 2)).val)
    rw [e, BitVec.toNat_add, BitVec.toNat_mul]
    simp only [BitVec.toNat_ofNat]
    omega

/-- The amounts of a gather's rows are together the amount its wait takes. -/
def Credits (buf : Memref sig .scVector .vmem S16x1024 .f32) : Prop := ∀ j : Fin 8,
    ∑ r, ((bufBlk buf j).slice (S16x128.rowRect gathers_S24576x128_S16x128.axis' r) (S16x128.stride_rowRect gathers_S24576x128_S16x128.axis' r)).view.dmaCredit
      = (bufBlk buf j).view.dmaCredit

theorem credits_a : Credits baV := by unfold Credits; decide +kernel
theorem credits_b : Credits bbV := by unfold Credits; decide +kernel

/-- What a gather of block `j` takes, its buffer at `fb`: the block, a share of the image, a share of the list and its semaphore at zero. -/
def blkIdle (buf : Memref sig .scVector .vmem S16x1024 .f32) (lst : Memref sig .scVector .vmem S16 .i32) (sems : DmaSems sig S8) (q : PosShare TreeShare)
    (fi : Buf (Elt F) (imgV.view.loc (thr d L))) (fo : Buf (Elt F) (lst.view.loc (thr d L))) (fb : Buf (Elt F) (buf.view.loc (thr d L))) (j : Fin 8) : sProp (Res F) :=
  iprop((buf.view.loc (thr d L) ↦[(bufBlk buf j).view.set]{fullShare} fb) ∗ (imgV.view.loc (thr d L) ↦{piece 3 q j.val} fi)
    ∗ (lst.view.loc (thr d L) ↦[lst.view.set]{piece 3 fullShare j.val} fo) ∗ semVal ((thr d L), SemLoc.dma (semAt sems j)) 0)

/-- The gather of block `j` in flight: what its wait hands over, the block at the fetched rows. -/
def blkFlying (c : BitVec 32) (buf : Memref sig .scVector .vmem S16x1024 .f32) (lst : Memref sig .scVector .vmem S16 .i32) (sems : DmaSems sig S8) (q : PosShare TreeShare)
    (fi : Buf (Elt F) (imgV.view.loc (thr d L))) (fo : Buf (Elt F) (lst.view.loc (thr d L))) (fd : Buf (Elt F) (buf.view.loc (thr d L))) (j : Fin 8) : sProp (Res F) :=
  Transfers.Flight countersEmb (thr d L) (SemLoc.dma (semAt sems j)) (default : HIx 1) (bufBlk buf j).view.dmaCredit
    iprop((buf.view.loc (thr d L) ↦[(bufBlk buf j).view.set]{fullShare} buf.view.write (Elt F) fd (fetched fi (lst.view.read (Elt F) fo) (128 * c.toNat)) Finset.univ)
      ∗ (imgV.view.loc (thr d L) ↦{piece 3 q j.val} fi) ∗ (lst.view.loc (thr d L) ↦[lst.view.set]{piece 3 fullShare j.val} fo))

theorem gather_wp {c : BitVec 32} (h : k0_chk1 c) (buf : Memref sig .scVector .vmem S16x1024 .f32) (lst : Memref sig .scVector .vmem S16 .i32) (sems : DmaSems sig S8)
    (hN : Credits buf) (hc : c.toNat ≤ 8) (q : PosShare TreeShare)
    (fi : Buf (Elt F) (imgV.view.loc (thr d L))) (fo : Buf (Elt F) (lst.view.loc (thr d L))) (fd : Buf (Elt F) (buf.view.loc (thr d L)))
    (hin : ∀ x, (lst.view.read (Elt F) fo x : BitVec 32).toNat < 24576) (j : Fin 8) :
    blkIdle d L buf lst sems q fi fo fd j ⊢ tw d L (gather L h buf lst sems j) fun _ => blkFlying d L c buf lst sems q fi fo fd j := by
  rw [← bind_pure (gather L h buf lst sems j)]
  unfold tw gather blkIdle blkFlying
  iintro ⟨Hb, Hi, Hl, Hv⟩
  ihave Hi' := (pointsTo_split_subset (q := piece 3 q j.val) (f := fi) (S := Finset.univ) (Finset.subset_univ (imgBlk h j).view.set)).1 $$ Hi
  icases Hi' with ⟨Hi, Hr⟩
  iapply (SparseCore.wp_indirectGatherLocal countersEmb 𝒱₀ (thr d L) none (hg := gathers_S24576x128_S16x128) (default : HIx 1)
      (bufBlk buf j).view.dmaCredit (hN j) (by decide) hin) $$ [Hb Hi Hl Hv]
  · iframe Hi Hb Hl Hv
  iintro Hfl
  sl_step
  iapply (Transfers.Flight_mono countersEmb (thr d L) (D := iprop((imgV.view.loc (thr d L) ↦[Finset.univ \ (imgBlk h j).view.set]{piece 3 q j.val} fi) ∗
    ((bufBlk buf j).view.loc (thr d L) ↦[(bufBlk buf j).view.set]{fullShare} (bufBlk buf j).view.write (Elt F) fd
      (SparseCore.gatherPayload gathers_S24576x128_S16x128 ((imgBlk h j).view.read (Elt F) fi) (SparseCore.rows (F := F) (lst.view.read (Elt F) fo) rfl hin)) Finset.univ) ∗ ((imgBlk h j).view.loc (thr d L) ↦[(imgBlk h j).view.set]{piece 3 q j.val} fi)
      ∗ (lst.view.loc (thr d L) ↦[lst.view.set]{piece 3 fullShare j.val} fo))) (by
    iintro ⟨Hr, Hb, Hi, Hl⟩
    isplitl [Hb]
    · iapply (Entails.of_eq (pointsTo_congr (landed_at d L h buf hc j fi (lst.view.read (Elt F) fo) fd hin)))
      iexact Hb
    isplitl [Hi Hr]
    · iapply (pointsTo_split_subset (q := piece 3 q j.val) (f := fi) (S := Finset.univ) (Finset.subset_univ (imgBlk h j).view.set)).2
      isplitl [Hi]; · iexact Hi
      iexact Hr
    · iexact Hl))
  iapply (Transfers.Flight_frame countersEmb (thr d L))
  isplitl [Hr]; · iexact Hr
  iexact Hfl

theorem await_wp {c : BitVec 32} (h : k0_chk1 c) (buf : Memref sig .scVector .vmem S16x1024 .f32) (lst : Memref sig .scVector .vmem S16 .i32) (sems : DmaSems sig S8)
    (q : PosShare TreeShare) (O : CellTallies nD τ sig (HIx 1)) (W : Waits sig (HIx 1))
    (fi : Buf (Elt F) (imgV.view.loc (thr d L))) (fo : Buf (Elt F) (lst.view.loc (thr d L))) (fd : Buf (Elt F) (buf.view.loc (thr d L))) (j : Fin 8) :
    iprop(blkFlying d L c buf lst sems q fi fo fd j ∗ owed d L O W) ⊢ tw d L (await L h buf sems j) fun _ =>
      iprop(blkIdle d L buf lst sems q fi fo (buf.view.write (Elt F) fd (fetched fi (lst.view.read (Elt F) fo) (128 * c.toNat)) Finset.univ) j ∗ owed d L O W) := by
  unfold tw await blkIdle blkFlying owed SparseCore.waitIndirectGather
  iintro ⟨Hfl, #Hmw, %W', %hW', HO⟩
  iapply (Transfers.wp_waitLocalO countersEmb 𝒱₀ (thr d L) none (default : HIx 1) (rfl : (bufBlk buf j).view.dmaCredit = _)) $$ [Hfl HO]
  · isplitl [Hfl]; · iexact Hfl
    isplitl [HO]; · iexact HO
    iapply (Transfers.MayWaits.elim (SemLoc.dma (semAt sems j))) $$ Hmw
  iintro ⟨⟨Hb, Hi, Hl⟩, Hv, HO⟩
  sl_step
  iframe Hb Hi Hl Hv
  isplitr
  · iexact Hmw
  iexists _
  isplitr
  swap; · iexact HO
  ipureintro
  exact owed_insert hW' _

/-- A fetch's resources, its buffer at `fb`. -/
def fetchIdle (buf : Memref sig .scVector .vmem S16x1024 .f32) (lst : Memref sig .scVector .vmem S16 .i32) (sems : DmaSems sig S8) (q : PosShare TreeShare)
    (fi : Buf (Elt F) (imgV.view.loc (thr d L))) (fo : Buf (Elt F) (lst.view.loc (thr d L))) (fb : Buf (Elt F) (buf.view.loc (thr d L))) : sProp (Res F) :=
  iprop((buf.view.loc (thr d L) ↦[buf.view.set]{fullShare} fb) ∗ (imgV.view.loc (thr d L) ↦{q} fi)
    ∗ (lst.view.loc (thr d L) ↦[lst.view.set]{fullShare} fo) ∗ bigSep Finset.univ fun j : Fin 8 => semVal ((thr d L), SemLoc.dma (semAt sems j)) 0)

omit [FloatOps F] in
theorem fetchIdle_eq (buf : Memref sig .scVector .vmem S16x1024 .f32) (lst : Memref sig .scVector .vmem S16 .i32) (sems : DmaSems sig S8) (q : PosShare TreeShare)
    (fi : Buf (Elt F) (imgV.view.loc (thr d L))) (fo : Buf (Elt F) (lst.view.loc (thr d L))) (fb : Buf (Elt F) (buf.view.loc (thr d L))) :
    fetchIdle d L buf lst sems q fi fo fb = bigSep Finset.univ (blkIdle d L buf lst sems q fi fo fb) := by
  unfold fetchIdle blkIdle
  rw [← blk_cover buf, pointsTo_biUnion _ _ (fun i _ j _ hij => blk_disjoint buf i j hij),
    pointsTo_pieces (F := F) Finset.univ fi 3 q, pointsTo_pieces (F := F) lst.view.set fo 3 fullShare]
  refine Eq.symm ?_
  refine (bigSep_sep _ _ _).trans (congrArg _ ?_)
  refine (bigSep_sep _ _ _).trans (congrArg _ ?_)
  exact bigSep_sep _ _ _

/-- A fetch in flight. -/
def fetchFlying (c : BitVec 32) (buf : Memref sig .scVector .vmem S16x1024 .f32) (lst : Memref sig .scVector .vmem S16 .i32) (sems : DmaSems sig S8) (q : PosShare TreeShare)
    (fi : Buf (Elt F) (imgV.view.loc (thr d L))) (fo : Buf (Elt F) (lst.view.loc (thr d L))) (fd : Buf (Elt F) (buf.view.loc (thr d L))) : sProp (Res F) :=
  bigSep Finset.univ (blkFlying d L c buf lst sems q fi fo fd)

theorem gathers_wp {c : BitVec 32} (h : k0_chk1 c) (buf : Memref sig .scVector .vmem S16x1024 .f32) (lst : Memref sig .scVector .vmem S16 .i32) (sems : DmaSems sig S8)
    (hN : Credits buf) (hc : c.toNat ≤ 8) (q : PosShare TreeShare)
    (fi : Buf (Elt F) (imgV.view.loc (thr d L))) (fo : Buf (Elt F) (lst.view.loc (thr d L))) (fd : Buf (Elt F) (buf.view.loc (thr d L)))
    (hin : ∀ x, (lst.view.read (Elt F) fo x : BitVec 32).toNat < 24576) :
    fetchIdle d L buf lst sems q fi fo fd ⊢ tw d L (seqM (gather L h buf lst sems) eight) fun _ => fetchFlying d L c buf lst sems q fi fo fd := by
  rw [fetchIdle_eq]
  have key := tw_each d L (gather L h buf lst sems) (blkIdle d L buf lst sems q fi fo fd) (blkFlying d L c buf lst sems q fi fo fd) iprop(emp)
      (fun j => tw_frame d L (gather_wp d L h buf lst sems hN hc q fi fo fd hin j))
  refine (Entails.of_eq (equiv_iff.mp sep_emp).symm).trans (key.trans (wp_mono frame _ _ fun _ => Entails.of_eq (equiv_iff.mp sep_emp)))

theorem awaits_wp {c : BitVec 32} (h : k0_chk1 c) (buf : Memref sig .scVector .vmem S16x1024 .f32) (lst : Memref sig .scVector .vmem S16 .i32) (sems : DmaSems sig S8)
    (q : PosShare TreeShare) (O : CellTallies nD τ sig (HIx 1)) (W : Waits sig (HIx 1))
    (fi : Buf (Elt F) (imgV.view.loc (thr d L))) (fo : Buf (Elt F) (lst.view.loc (thr d L))) (fd : Buf (Elt F) (buf.view.loc (thr d L))) :
    iprop(fetchFlying d L c buf lst sems q fi fo fd ∗ owed d L O W) ⊢ tw d L (seqM (await L h buf sems) eight) fun _ =>
      iprop(fetchIdle d L buf lst sems q fi fo (buf.view.write (Elt F) fd (fetched fi (lst.view.read (Elt F) fo) (128 * c.toNat)) Finset.univ) ∗ owed d L O W) := by
  rw [fetchIdle_eq]
  exact tw_each d L (await L h buf sems) _ _ _ (await_wp d L h buf lst sems q O W fi fo fd)

end

end Cert.Proof.Crop
-- ==== Proof.Eight.lean ====
/-
  Eight rows of the crop: what a tile computes for them and where it writes them.
-/
module

public import proofs.«01_k».proof.Proof.Fetch

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The contents of the kernel's operands: the image's rows, the row numbers, the columns in the window, the column weights,
    the row weights and the windows' first blocks. -/
structure Ops (F : FTy → Type) where
  img : S24576x2048.Idx → Elt F .f32
  idx : S6144.Idx → BitVec 32
  xl : S1024.Idx → BitVec 32
  wx : S1024.Idx → Elt F .f32
  wy : S3072.Idx → Elt F .f32
  c0 : S16.Idx → BitVec 32

/-- Every number the kernel reads is in its range. -/
structure InRange (o : Ops F) : Prop where
  idx : ∀ q, (o.idx q).toNat < 24576
  xl : ∀ q, (o.xl q).toNat ≤ 1022
  c0 : ∀ b < 4, (o.c0 (ix S16 (fun _ => b))).toNat ≤ 8

/-- The neighbour of place `p` in the row above or below (`e`) and `h` columns to the right. -/
def nbr (o : Ops F) (p e h : ℕ) : Elt F .f32 :=
  o.img (ix S24576x2048 ![(o.idx (ix S6144 (fun _ => 2 * (p / 256) + e))).toNat,
    128 * (o.c0 (ix S16 (fun _ => p / 256 / 768))).toNat + ((o.xl (ix S1024 (fun _ => 256 * (p / 256 / 768) + p % 256))).toNat + h)])

/-- The result at place `p` of the flat crop. -/
def outAt (o : Ops F) (p : ℕ) : Elt F .f32 :=
  lerp4 (o.wy (ix S3072 (fun _ => p / 256))) (o.wx (ix S1024 (fun _ => 256 * (p / 256 / 768) + p % 256)))
    (nbr o p 0 0) (nbr o p 0 1) (nbr o p 1 0) (nbr o p 1 1)

/-- A tile's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem bOf_eq (L : grid0.Coords) : bOf L = wid L / 8 := rfl

/-- What eight rows come out as, out of the fetched rows. -/
theorem rows_out (o : Ops F) (ho : InRange o) (L : grid0.Coords) (g : ℕ) (hg : g < 12) (fl : S16.Idx → BitVec 32) (fy : S96.Idx → Elt F .f32)
    (hfl : ∀ x, fl x = o.idx (ix S6144 (fun _ => 192 * wid L + 16 * g + (x 0).val))) (hfy : ∀ x, fy x = o.wy (ix S3072 (fun _ => 96 * wid L + (x 0).val)))
    (n : ℕ) (hn : n < 2048) :
    rowsVal (fetched o.img fl (128 * (o.c0 (ix S16 (fun _ => bOf L))).toNat)) (fun t => fy (ix S96 (fun _ => 8 * g + t))) o.xl o.wx (bOf L) n
      = outAt o (24576 * wid L + 2048 * g + n) := by
  have hw := wid_lt L
  have e1 : (24576 * wid L + 2048 * g + n) / 256 = 96 * wid L + 8 * g + n / 256 := by omega
  have e2 : (24576 * wid L + 2048 * g + n) % 256 = n % 256 := by omega
  have e3 : (96 * wid L + 8 * g + n / 256) / 768 = bOf L := by rw [bOf_eq]; omega
  have hx := ho.xl (ix S1024 (fun _ => 256 * bOf L + n % 256))
  have hf : ∀ e h, e < 2 → h < 2 → fetched o.img fl (128 * (o.c0 (ix S16 (fun _ => bOf L))).toNat)
      (ix S16x1024 ![2 * (n / 256) + e, (o.xl (ix S1024 (fun _ => 256 * bOf L + n % 256))).toNat + h]) = nbr o (24576 * wid L + 2048 * g + n) e h := by
    intro e h he hh
    unfold fetched nbr
    rw [e1, e2, e3]
    have r0 : ((ix S16x1024 ![2 * (n / 256) + e, (o.xl (ix S1024 (fun _ => 256 * bOf L + n % 256))).toNat + h] : S16x1024.Idx) 0).val = 2 * (n / 256) + e := by
      show (2 * (n / 256) + e) % 16 = _; omega
    have r1 : ((ix S16x1024 ![2 * (n / 256) + e, (o.xl (ix S1024 (fun _ => 256 * bOf L + n % 256))).toNat + h] : S16x1024.Idx) 1).val
        = (o.xl (ix S1024 (fun _ => 256 * bOf L + n % 256))).toNat + h := by
      show ((o.xl (ix S1024 (fun _ => 256 * bOf L + n % 256))).toNat + h) % 1024 = _
      exact Nat.mod_eq_of_lt (by omega)
    rw [r0, r1, hfl]
    have r2 : ((ix S16 (fun _ => 2 * (n / 256) + e) : S16.Idx) 0).val = 2 * (n / 256) + e := by
      show (2 * (n / 256) + e) % 16 = _; omega
    rw [r2, show 192 * wid L + 16 * g + (2 * (n / 256) + e) = 2 * (96 * wid L + 8 * g + n / 256) + e by omega]
  have w1 : fy (ix S96 (fun _ => 8 * g + n / 256)) = o.wy (ix S3072 (fun _ => 96 * wid L + 8 * g + n / 256)) := by
    rw [hfy]
    have : ((ix S96 (fun _ => 8 * g + n / 256) : S96.Idx) 0).val = 8 * g + n / 256 := by
      show (8 * g + n / 256) % 96 = _; omega
    rw [this, ← Nat.add_assoc]
  unfold rowsVal outAt
  rw [e1, e2, e3, ← hf 0 0 (by decide) (by decide), ← hf 0 1 (by decide) (by decide), ← hf 1 0 (by decide) (by decide), ← hf 1 1 (by decide) (by decide), ← w1]
  rfl

section
variable (d : Dev nD) (L : grid0.Coords)

/-- A tile's part of the result. -/
def outSet (L : grid0.Coords) : Finset S786432.Idx := Finset.univ.filter fun p => 24576 * wid L ≤ (p 0).val ∧ (p 0).val < 24576 * wid L + 24576

/-- The tile's part of the result, its first `g` groups of eight rows done. -/
def outDone (o : Ops F) (g : ℕ) : sProp (Res F) :=
  iprop(∃ f : Buf (Elt F) (resV.view.loc (thr d L)), (resV.view.loc (thr d L) ↦[outSet L]{fullShare} f)
    ∗ ⌜∀ p : S786432.Idx, 24576 * wid L ≤ (p 0).val → (p 0).val < 24576 * wid L + 2048 * g → f p = outAt o (p 0).val⌝)

/-- The tile's tables. -/
def tables (fy : S96.Idx → Elt F .f32) (o : Ops F) : sProp (Res F) :=
  iprop((wyV.view.loc (thr d L) ↦{fullShare} (fy : Buf (Elt F) (wyV.view.loc (thr d L)))) ∗ (xlV.view.loc (thr d L) ↦{fullShare} (o.xl : Buf (Elt F) (xlV.view.loc (thr d L))))
    ∗ (wxV.view.loc (thr d L) ↦{fullShare} (o.wx : Buf (Elt F) (wxV.view.loc (thr d L)))))

theorem chunk_sub (off : Fin 1 → ℕ) (hoff : ∀ a, off a + S2048.size a ≤ S786432.size a) (g : ℕ) (hg : g < 12) (he : off 0 = 24576 * wid L + 2048 * g) :
    (resV.slice (Rect.unit (s := S786432) off S2048.size hoff) (fun _ => rfl)).view.set ⊆ outSet L := by
  intro p hp
  obtain ⟨x, -, rfl⟩ := Finset.mem_map.mp hp
  have hx : (x 0).val < 2048 := (x 0).isLt
  refine Finset.mem_filter.mpr ⟨Finset.mem_univ _, ?_⟩
  show 24576 * wid L ≤ off 0 + 1 * (x 0).val ∧ off 0 + 1 * (x 0).val < 24576 * wid L + 24576
  omega

/-- What writing group `g` leaves in the result. -/
theorem chunk_at (o : Ops F) (off : Fin 1 → ℕ) (hoff : ∀ a, off a + S2048.size a ≤ S786432.size a) (g : ℕ) (he : off 0 = 24576 * wid L + 2048 * g)
    (f : S786432.Idx → Elt F .f32) (w : S2048.Idx → Elt F .f32) (hw : ∀ q : S2048.Idx, w q = outAt o (24576 * wid L + 2048 * g + (q 0).val))
    (hf : ∀ p : S786432.Idx, 24576 * wid L ≤ (p 0).val → (p 0).val < 24576 * wid L + 2048 * g → f p = outAt o (p 0).val) :
    ∀ p : S786432.Idx, 24576 * wid L ≤ (p 0).val → (p 0).val < 24576 * wid L + 2048 * (g + 1) →
      (resV.slice (Rect.unit (s := S786432) off S2048.size hoff) (fun _ => rfl)).view.write (Elt F) f w Finset.univ p = outAt o (p 0).val := by
  intro p h1 h2
  by_cases hin : 24576 * wid L + 2048 * g ≤ (p 0).val
  · let x : S2048.Idx := fun a => ⟨(p 0).val - (24576 * wid L + 2048 * g), by
      have : a = (0 : Fin 1) := Subsingleton.elim (α := Fin 1) _ _
      subst this; show _ < 2048; omega⟩
    have hx : (resV.slice (Rect.unit (s := S786432) off S2048.size hoff) (fun _ => rfl)).view.emb x = p := by
      funext a
      have : a = (0 : Fin 1) := Subsingleton.elim (α := Fin 1) _ _
      subst this
      apply Fin.ext
      show off 0 + 1 * ((p 0).val - _) = (p 0).val
      omega
    rw [← hx, View.write_emb_of_mem _ _ (Finset.mem_univ _), hx]
    refine (hw x).trans (congrArg (outAt o) ?_)
    show _ + ((p 0).val - _) = (p 0).val
    omega
  · rw [View.write_of_not_mem]
    · exact hf p h1 (by omega)
    · intro hmem
      obtain ⟨x, -, hx⟩ := Finset.mem_map.mp hmem
      have e : off 0 + 1 * (x 0).val = (p 0).val := congrArg (fun z : S786432.Idx => (z 0).val) hx
      omega

theorem eightRows_wp (o : Ops F) (ho : InRange o) (buf : Memref sig .scVector .vmem S16x1024 .f32) (gw : BitVec 32) (g : ℕ) (hgw : gw = BitVec.ofNat 32 g) (hg : g < 12)
    (off : Fin 1 → ℕ) (hoff : ∀ a, off a + S2048.size a ≤ S786432.size a) (he : off 0 = 24576 * wid L + 2048 * g) (sem : DmaSems sig S_)
    (O : CellTallies nD τ sig (HIx 1)) (W : Waits sig (HIx 1)) (fl : S16.Idx → BitVec 32) (fy : S96.Idx → Elt F .f32)
    (hfl : ∀ x, fl x = o.idx (ix S6144 (fun _ => 192 * wid L + 16 * g + (x 0).val))) (hfy : ∀ x, fy x = o.wy (ix S3072 (fun _ => 96 * wid L + (x 0).val)))
    (R : Buf (Elt F) (buf.view.loc (thr d L))) (hR : buf.view.read (Elt F) R = fetched o.img fl (128 * (o.c0 (ix S16 (fun _ => bOf L))).toNat)) :
    iprop((buf.view.loc (thr d L) ↦[buf.view.set]{fullShare} R) ∗ tables d L fy o ∗ (∃ fo, outV.view.loc (thr d L) ↦{fullShare} fo) ∗ outDone d L o g
        ∗ semVal ((thr d L), SemLoc.dma sem.sem) 0 ∗ owed d L O W : sProp 𝕄)
      ⊢ tw d L (eightRows L buf gw off hoff sem) fun _ =>
        iprop((buf.view.loc (thr d L) ↦[buf.view.set]{fullShare} R) ∗ tables d L fy o ∗ (∃ fo, outV.view.loc (thr d L) ↦{fullShare} fo) ∗ outDone d L o (g + 1)
        ∗ semVal ((thr d L), SemLoc.dma sem.sem) 0 ∗ owed d L O W) := by
  have hset : (buf.access (.whole S16x1024)).set = buf.view.set := access_set buf
  have hsety : (wyV.access (.whole S96)).set = Finset.univ := (access_set wyV).trans (View.set_whole _)
  have hread : (buf.access (.whole S16x1024)).read (Elt F) R = fetched o.img fl (128 * (o.c0 (ix S16 (fun _ => bOf L))).toNat) := by
    rw [← hR]; funext x
    show _root_.cast _ (R (buf.view.emb ((Rect.whole S16x1024).emb x))) = _root_.cast _ (R (buf.view.emb x))
    have : (Rect.whole S16x1024).emb x = x := by
      funext a; apply Fin.ext
      show 0 + 1 * (x a).val = (x a).val
      omega
    rw [this]
  unfold eightRows
  -- the weights
  refine tw_seq d L (B := fun wy => iprop((⌜∀ (t : Fin 8) (x : S16.Idx), wy t x = fy (ix S96 (fun _ => 8 * g + t.val))⌝ ∗ (wyV.view.loc (thr d L) ↦{fullShare} (fy : Buf (Elt F) (wyV.view.loc (thr d L)))))
    ∗ ((buf.view.loc (thr d L) ↦[buf.view.set]{fullShare} R) ∗ (xlV.view.loc (thr d L) ↦{fullShare} (o.xl : Buf (Elt F) (xlV.view.loc (thr d L))))
    ∗ (wxV.view.loc (thr d L) ↦{fullShare} (o.wx : Buf (Elt F) (wxV.view.loc (thr d L)))) ∗ (∃ fo, outV.view.loc (thr d L) ↦{fullShare} fo) ∗ outDone d L o g
        ∗ semVal ((thr d L), SemLoc.dma sem.sem) 0 ∗ owed d L O W))) ?_ fun wy => ?_
  · have hc := collect_wp d L iprop((wyV.access (.whole S96)).loc (thr d L) ↦[(wyV.access (.whole S96)).set]{fullShare} (fy : Buf (Elt F) (wyV.view.loc (thr d L)))) 8
      (fun t => wyRow L gw t) _ fun t => wyRow_wp d L gw g hgw hg t fy
    rw [hsety] at hc
    unfold tables
    iintro ⟨Hb, ⟨Hy, Hx, Hw⟩, Ho, Hd, Hs, HO⟩
    iapply (tw_frame d L hc)
    iframe Hb Hy Hx Hw Ho Hd Hs HO
  -- the columns
  refine tw_seq d L (B := fun _ => iprop(colsInv d L buf R o.xl o.wx (fun t => fy (ix S96 (fun _ => 8 * g + t))) 256
    ∗ ((wyV.view.loc (thr d L) ↦{fullShare} (fy : Buf (Elt F) (wyV.view.loc (thr d L)))) ∗ outDone d L o g
        ∗ semVal ((thr d L), SemLoc.dma sem.sem) 0 ∗ owed d L O W))) ?_ fun _ => ?_
  · iintro ⟨⟨%hwy, Hy⟩, Hb, Hx, Hw, ⟨%fo, Ho⟩, Hd, Hs, HO⟩
    have hc : colsInv d L buf R o.xl o.wx (fun t => fy (ix S96 (fun _ => 8 * g + t))) 0 ⊢ tw d L (Scf.Loop.for k0_t2_loop k0_t2_ok ⟨⟩ fun k _ => trip L buf wy k)
        fun _ => colsInv d L buf R o.xl o.wx (fun t => fy (ix S96 (fun _ => 8 * g + t))) 256 := cols_wp d L buf wy _ hwy R o.xl o.wx ho.xl
    iapply (tw_frame d L hc)
    iframe Hy Hd Hs HO
    unfold colsInv outState
    rw [hset]
    iframe Hb Hx Hw
    iexists fo
    isplitl [Ho]; · iexact Ho
    ipureintro
    exact fun q hq => absurd hq (Nat.not_lt_zero _)
  -- the write
  unfold colsInv outState outDone
  rw [hset, hread]
  iintro ⟨⟨Hb, Hx, Hw, %fo, Ho, %hfo⟩, Hy, ⟨%f, Hf, %hf⟩, Hs, HO⟩
  iapply (wp_wand frame _ _) $$ [Ho Hf Hs HO]
  · iapply (copyWait_wp d L outV (resV.slice (Rect.unit (s := S786432) off S2048.size hoff) (fun _ => rfl)) sem (Memref.isWhole_whole _).wordExact
      (View.wordExact_bits rfl) ⟨Or.inl rfl, trivial⟩ O W (q := fullShare) (fs := fo) (fd := f) (chunk_sub L off hoff g hg he) (View.dmaCredit_pos _ (by decide)))
    iframe Ho Hf Hs HO
  · iintro %a ⟨Ho, Hf, Hs, HO⟩
    unfold tables
    iframe Hb Hy Hx Hw Hs HO
    isplitl [Ho]
    · iexists _; iexact Ho
    iexists _
    isplitl [Hf]; · iexact Hf
    ipureintro
    refine chunk_at L o off hoff g he f _ (fun q => ?_) hf
    refine Eq.trans (hfo q ?_) ?_
    · exact Nat.mod_lt _ (by decide)
    · exact rows_out o ho L g hg fl fy hfl hfy (q 0).val (q 0).isLt

end

end Cert.Proof.Crop
-- ==== Proof.Pair.lean ====
/-
  One trip of the tile's outer loop: two groups of eight rows, each fetched while the other is worked on.
-/
module

public import proofs.«01_k».proof.Proof.Eight

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable (d : Dev nD) (L : grid0.Coords) (o : Ops F)

/-- A list of sixteen row numbers holds group `g`'s. -/
def Lists (lst : Memref sig .scVector .vmem S16 .i32) (g : ℕ) (fo : Buf (Elt F) (lst.view.loc (thr d L))) : Prop :=
  ∀ x, (lst.view.read (Elt F) fo x : BitVec 32) = o.idx (ix S6144 (fun _ => 192 * wid L + 16 * g + (x 0).val))

/-- A buffer not in use, with its list, its semaphores and its share of the image. -/
def idle (buf : Memref sig .scVector .vmem S16x1024 .f32) (lst : Memref sig .scVector .vmem S16 .i32) (sems : DmaSems sig S8) (q : PosShare TreeShare) : sProp (Res F) :=
  iprop(∃ fo fd, fetchIdle d L buf lst sems q o.img fo fd)
/-- The buffer's list holding group `g`'s row numbers. -/
def listed (buf : Memref sig .scVector .vmem S16x1024 .f32) (lst : Memref sig .scVector .vmem S16 .i32) (sems : DmaSems sig S8) (q : PosShare TreeShare) (g : ℕ) : sProp (Res F) :=
  iprop(∃ fo fd, ⌜Lists d L o lst g fo⌝ ∗ fetchIdle d L buf lst sems q o.img fo fd)
/-- Group `g`'s rows on their way into the buffer. -/
def flying (c : BitVec 32) (buf : Memref sig .scVector .vmem S16x1024 .f32) (lst : Memref sig .scVector .vmem S16 .i32) (sems : DmaSems sig S8) (q : PosShare TreeShare) (g : ℕ) : sProp (Res F) :=
  iprop(∃ fo fd, ⌜Lists d L o lst g fo⌝ ∗ fetchFlying d L c buf lst sems q o.img fo fd)
/-- Group `g`'s rows in the buffer. -/
def ready (c : BitVec 32) (buf : Memref sig .scVector .vmem S16x1024 .f32) (lst : Memref sig .scVector .vmem S16 .i32) (sems : DmaSems sig S8) (q : PosShare TreeShare) (g : ℕ) : sProp (Res F) :=
  iprop(∃ fo fd, ⌜Lists d L o lst g fo⌝
    ∗ fetchIdle d L buf lst sems q o.img fo (buf.view.write (Elt F) fd (fetched o.img (lst.view.read (Elt F) fo) (128 * c.toNat)) Finset.univ))

/-- A scoped semaphore of the tile's, at rest. -/
abbrev rest (sem : DmaSems sig S_) : sProp (Res F) := semVal ((thr d L), SemLoc.dma sem.sem) 0

variable (O : CellTallies nD τ sig (HIx 1)) (W : Waits sig (HIx 1))

theorem list_step (buf : Memref sig .scVector .vmem S16x1024 .f32) (lst : Memref sig .scVector .vmem S16 .i32) (hl : lst.IsWhole) (sems : DmaSems sig S8) (q qi : PosShare TreeShare)
    (g : ℕ) (off : Fin 1 → ℕ) (hoff : ∀ a, off a + S16.size a ≤ S6144.size a) (he : off 0 = 192 * wid L + 16 * g) (sem : DmaSems sig S_) :
    iprop(idle d L o buf lst sems q ∗ (idxV.view.loc (thr d L) ↦{qi} (o.idx : Buf (Elt F) (idxV.view.loc (thr d L)))) ∗ rest d L sem ∗ owed d L O W : sProp 𝕄)
      ⊢ tw d L (fetchList L off hoff lst hl sem) fun _ =>
        iprop(listed d L o buf lst sems q g ∗ (idxV.view.loc (thr d L) ↦{qi} (o.idx : Buf (Elt F) (idxV.view.loc (thr d L)))) ∗ rest d L sem ∗ owed d L O W) := by
  unfold idle listed fetchIdle
  iintro ⟨⟨%fo, %fd, Hb, Hi, Hl, Hq⟩, Hx, Hs, HO⟩
  iapply (wp_wand frame _ _) $$ [Hl Hx Hs HO]
  · iapply (copyWait_wp d L (idxV.slice (Rect.unit (s := S6144) off S16.size hoff) (fun _ => rfl)) lst sem (View.wordExact_bits rfl) hl.wordExact ⟨Or.inl rfl, trivial⟩ O W
      (q := qi) (fs := o.idx) (fd := fo) (Finset.Subset.refl _) (View.dmaCredit_pos _ (show 0 < S16.numel by decide)))
    iframe Hl Hx Hs HO
  · iintro %a ⟨Hx, Hl, Hs, HO⟩
    iframe Hx Hs HO
    iexists _, fd
    iframe Hb Hi Hl Hq
    ipureintro
    intro x
    rw [View.read_write_univ]
    show o.idx _ = o.idx _
    refine congrArg o.idx (ix_eq fun a => ?_).symm
    have : a = (0 : Fin 1) := Subsingleton.elim (α := Fin 1) _ _
    subst this
    show _ = off 0 + 1 * (x 0).val
    omega

theorem gather_step (ho : InRange o) {c : BitVec 32} (h : k0_chk1 c) (hc : c.toNat ≤ 8) (buf : Memref sig .scVector .vmem S16x1024 .f32) (hN : Credits buf)
    (lst : Memref sig .scVector .vmem S16 .i32) (sems : DmaSems sig S8) (q : PosShare TreeShare) (g : ℕ) :
    listed d L o buf lst sems q g ⊢ tw d L (seqM (gather L h buf lst sems) eight) fun _ => flying d L o c buf lst sems q g := by
  unfold listed flying
  iintro ⟨%fo, %fd, %hfo, H⟩
  iapply (wp_wand frame _ _) $$ [H]
  · iapply (gathers_wp d L h buf lst sems hN hc q o.img fo fd (fun x => by rw [hfo x]; exact ho.idx _)) $$ H
  · iintro %a H
    iexists fo, fd
    iframe H
    ipureintro
    exact hfo

theorem await_step {c : BitVec 32} (h : k0_chk1 c) (buf : Memref sig .scVector .vmem S16x1024 .f32)
    (lst : Memref sig .scVector .vmem S16 .i32) (sems : DmaSems sig S8) (q : PosShare TreeShare) (g : ℕ) :
    iprop(flying d L o c buf lst sems q g ∗ owed d L O W) ⊢ tw d L (seqM (await L h buf sems) eight) fun _ => iprop(ready d L o c buf lst sems q g ∗ owed d L O W) := by
  unfold flying ready
  iintro ⟨⟨%fo, %fd, %hfo, H⟩, HO⟩
  iapply (wp_wand frame _ _) $$ [H HO]
  · iapply (awaits_wp d L h buf lst sems q O W o.img fo fd)
    iframe H HO
  · iintro %a ⟨H, HO⟩
    iframe HO
    iexists fo, fd
    iframe H
    ipureintro
    exact hfo

/-- The tile's tables, the rows of eight, and the result with `g` groups done. -/
def work (fy : S96.Idx → Elt F .f32) (g : ℕ) : sProp (Res F) :=
  iprop(tables d L fy o ∗ (∃ fo, outV.view.loc (thr d L) ↦{fullShare} fo) ∗ outDone d L o g)

theorem eight_step (ho : InRange o) {c : BitVec 32} (hc : c = o.c0 (ix S16 (fun _ => bOf L))) (buf : Memref sig .scVector .vmem S16x1024 .f32)
    (lst : Memref sig .scVector .vmem S16 .i32) (sems : DmaSems sig S8) (q : PosShare TreeShare) (gw : BitVec 32) (g : ℕ) (hgw : gw = BitVec.ofNat 32 g) (hg : g < 12)
    (off : Fin 1 → ℕ) (hoff : ∀ a, off a + S2048.size a ≤ S786432.size a) (he : off 0 = 24576 * wid L + 2048 * g) (sem : DmaSems sig S_)
    (fy : S96.Idx → Elt F .f32) (hfy : ∀ x, fy x = o.wy (ix S3072 (fun _ => 96 * wid L + (x 0).val))) :
    iprop(ready d L o c buf lst sems q g ∗ work d L o fy g ∗ rest d L sem ∗ owed d L O W : sProp 𝕄)
      ⊢ tw d L (eightRows L buf gw off hoff sem) fun _ => iprop(idle d L o buf lst sems q ∗ work d L o fy (g + 1) ∗ rest d L sem ∗ owed d L O W) := by
  subst hc
  unfold ready work idle fetchIdle
  iintro ⟨⟨%fo, %fd, %hfo, Hb, Hi, Hl, Hq⟩, ⟨Ht, Ho, Hd⟩, Hs, HO⟩
  iapply (wp_wand frame _ _) $$ [Hb Ht Ho Hd Hs HO]
  · iapply (eightRows_wp d L o ho buf gw g hgw hg off hoff he sem O W (lst.view.read (Elt F) fo) fy hfo hfy _ (View.read_write_univ _ _))
    iframe Hb Ht Ho Hd Hs HO
  · iintro %a ⟨Hb, Ht, Ho, Hd, Hs, HO⟩
    iframe Ht Ho Hd Hs HO
    iexists fo, _
    iframe Hb Hi Hl Hq

/-- Before trip `i` of the outer loop. -/
def pairInv (c : BitVec 32) (q qi : PosShare TreeShare) (fy : S96.Idx → Elt F .f32) (i : ℕ) : sProp (Res F) :=
  iprop((if i < 6 then flying d L o c baV laV cc0_scratch9 q.left (2 * i) else idle d L o baV laV cc0_scratch9 q.left)
    ∗ idle d L o bbV lbV cc0_scratch10 q.right ∗ work d L o fy (2 * i)
    ∗ (idxV.view.loc (thr d L) ↦{qi} (o.idx : Buf (Elt F) (idxV.view.loc (thr d L)))) ∗ owed d L O W
    ∗ rest d L cc0_scoped5 ∗ rest d L cc0_scoped6 ∗ rest d L cc0_scoped7 ∗ rest d L cc0_scoped8)

theorem trips_outer : k0_t1_loop.trips = 6 := by decide
theorem cond_iff : ∀ k : Fin k0_t1_loop.trips, k0_cond1 k = 1#1 ↔ k.val + 1 < 6 := by decide +kernel
theorem group_even : ∀ k : Fin k0_t1_loop.trips, Scalar.muli 2#32 (Scf.iv 0#32 1#32 k) = BitVec.ofNat 32 (2 * k.val) := by decide +kernel
theorem group_odd : ∀ k : Fin k0_t1_loop.trips, Scalar.addi (Scalar.muli 2#32 (Scf.iv 0#32 1#32 k)) 1#32 = BitVec.ofNat 32 (2 * k.val + 1) := by decide +kernel

set_option maxHeartbeats 2000000 in
set_option maxRecDepth 16384 in
theorem pair_wp (ho : InRange o) {c : BitVec 32} (h : k0_chk1 c) (hc8 : c.toNat ≤ 8) (hc : c = o.c0 (ix S16 (fun _ => bOf L))) (q qi : PosShare TreeShare)
    (fy : S96.Idx → Elt F .f32) (hfy : ∀ x, fy x = o.wy (ix S3072 (fun _ => 96 * wid L + (x 0).val))) (k : Fin k0_t1_loop.trips) :
    pairInv d L o O W c q qi fy k.val ⊢ tw d L (pair L h k) fun _ => pairInv d L o O W c q qi fy (k.val + 1) := by
  have hk : k.val < 6 := lt_of_lt_of_eq k.isLt trips_outer
  have e4 : k0_off4 L k 0 = 192 * wid L + 16 * (2 * k.val + 1) := by
    rw [k0_off4_eq]; show 384 * (L 1).val + 192 * (L 0).val + 32 * k.val + 16 = _; unfold wid; omega
  have e43 : k0_off43 L k 0 = 192 * wid L + 16 * (2 * (k.val + 1)) := by
    rw [k0_off43_eq]; show 384 * (L 1).val + 192 * (L 0).val + 32 * k.val + 32 = _; unfold wid; omega
  have e42 : k0_off42 L k 0 = 24576 * wid L + 2048 * (2 * k.val) := by
    rw [k0_off42_eq]; show 49152 * (L 1).val + 24576 * (L 0).val + 4096 * k.val = _; unfold wid; omega
  have e82 : k0_off82 L k 0 = 24576 * wid L + 2048 * (2 * k.val + 1) := by
    rw [k0_off82_eq]; show 49152 * (L 1).val + 24576 * (L 0).val + 4096 * k.val + 2048 = _; unfold wid; omega
  refine (show pairInv d L o O W c q qi fy k.val ⊢ iprop(flying d L o c baV laV cc0_scratch9 q.left (2 * k.val)
    ∗ idle d L o bbV lbV cc0_scratch10 q.right ∗ work d L o fy (2 * k.val)
    ∗ (idxV.view.loc (thr d L) ↦{qi} (o.idx : Buf (Elt F) (idxV.view.loc (thr d L)))) ∗ owed d L O W
    ∗ rest d L cc0_scoped5 ∗ rest d L cc0_scoped6 ∗ rest d L cc0_scoped7 ∗ rest d L cc0_scoped8) from by
      unfold pairInv; rw [if_pos hk]).trans ?_
  unfold pair
  refine tw_seq d L (B := fun _ => iprop((listed d L o bbV lbV cc0_scratch10 q.right (2 * k.val + 1) ∗ (idxV.view.loc (thr d L) ↦{qi} (o.idx : Buf (Elt F) (idxV.view.loc (thr d L))))
      ∗ rest d L cc0_scoped5 ∗ owed d L O W) ∗ (flying d L o c baV laV cc0_scratch9 q.left (2 * k.val) ∗ work d L o fy (2 * k.val)
      ∗ rest d L cc0_scoped6 ∗ rest d L cc0_scoped7 ∗ rest d L cc0_scoped8))) ?_ fun _ => ?_
  · iintro ⟨HA, HB, HK, Hx, HO, H5, H6, H7, H8⟩
    iapply (tw_frame d L (list_step d L o O W bbV lbV (Memref.isWhole_whole _) cc0_scratch10 q.right qi (2 * k.val + 1) (k0_off4 L k) (k0_off4_inb L k) e4 cc0_scoped5))
    iframe HA HB HK Hx HO H5 H6 H7 H8
  refine tw_seq d L (B := fun _ => iprop(flying d L o c bbV lbV cc0_scratch10 q.right (2 * k.val + 1) ∗ ((idxV.view.loc (thr d L) ↦{qi} (o.idx : Buf (Elt F) (idxV.view.loc (thr d L))))
      ∗ rest d L cc0_scoped5 ∗ owed d L O W ∗ flying d L o c baV laV cc0_scratch9 q.left (2 * k.val) ∗ work d L o fy (2 * k.val)
      ∗ rest d L cc0_scoped6 ∗ rest d L cc0_scoped7 ∗ rest d L cc0_scoped8))) ?_ fun _ => ?_
  · iintro ⟨⟨HB, Hx, H5, HO⟩, HA, HK, H6, H7, H8⟩
    iapply (tw_frame d L (gather_step d L o ho h hc8 bbV credits_b lbV cc0_scratch10 q.right (2 * k.val + 1)))
    iframe HA HB HK Hx HO H5 H6 H7 H8
  refine tw_seq d L (B := fun _ => iprop((ready d L o c baV laV cc0_scratch9 q.left (2 * k.val) ∗ owed d L O W) ∗ (flying d L o c bbV lbV cc0_scratch10 q.right (2 * k.val + 1)
      ∗ (idxV.view.loc (thr d L) ↦{qi} (o.idx : Buf (Elt F) (idxV.view.loc (thr d L)))) ∗ work d L o fy (2 * k.val)
      ∗ rest d L cc0_scoped5 ∗ rest d L cc0_scoped6 ∗ rest d L cc0_scoped7 ∗ rest d L cc0_scoped8))) ?_ fun _ => ?_
  · iintro ⟨HB, Hx, H5, HO, HA, HK, H6, H7, H8⟩
    iapply (tw_frame d L (await_step d L o O W h baV laV cc0_scratch9 q.left (2 * k.val)))
    iframe HA HB HK Hx HO H5 H6 H7 H8
  refine tw_seq d L (B := fun _ => iprop((idle d L o baV laV cc0_scratch9 q.left ∗ work d L o fy (2 * k.val + 1) ∗ rest d L cc0_scoped6 ∗ owed d L O W)
      ∗ (flying d L o c bbV lbV cc0_scratch10 q.right (2 * k.val + 1)
      ∗ (idxV.view.loc (thr d L) ↦{qi} (o.idx : Buf (Elt F) (idxV.view.loc (thr d L))))
      ∗ rest d L cc0_scoped5 ∗ rest d L cc0_scoped7 ∗ rest d L cc0_scoped8))) ?_ fun _ => ?_
  · iintro ⟨⟨HA, HO⟩, HB, Hx, HK, H5, H6, H7, H8⟩
    iapply (tw_frame d L (eight_step d L o O W ho hc baV laV cc0_scratch9 q.left _ (2 * k.val) (group_even k) (by omega) (k0_off42 L k) (k0_off42_inb L k) e42 cc0_scoped6 fy hfy))
    iframe HA HB HK Hx HO H5 H6 H7 H8
  -- the odd group, whatever is on its way into the first buffer
  have htail : iprop((flying d L o c bbV lbV cc0_scratch10 q.right (2 * k.val + 1) ∗ owed d L O W)
      ∗ ((if k.val + 1 < 6 then flying d L o c baV laV cc0_scratch9 q.left (2 * (k.val + 1)) else idle d L o baV laV cc0_scratch9 q.left)
      ∗ work d L o fy (2 * k.val + 1) ∗ (idxV.view.loc (thr d L) ↦{qi} (o.idx : Buf (Elt F) (idxV.view.loc (thr d L))))
      ∗ rest d L cc0_scoped5 ∗ rest d L cc0_scoped6 ∗ rest d L cc0_scoped7 ∗ rest d L cc0_scoped8))
    ⊢ tw d L (seqM (await L h bbV cc0_scratch10) eight >>= fun _ =>
        eightRows L bbV (Scalar.addi (Scalar.muli 2#32 (Scf.iv 0#32 1#32 k)) 1#32) (k0_off82 L k) (k0_off82_inb L k) cc0_scoped8)
      fun _ => pairInv d L o O W c q qi fy (k.val + 1) := by
    unfold pairInv
    refine tw_seq d L (B := fun _ => iprop((ready d L o c bbV lbV cc0_scratch10 q.right (2 * k.val + 1) ∗ owed d L O W)
        ∗ ((if k.val + 1 < 6 then flying d L o c baV laV cc0_scratch9 q.left (2 * (k.val + 1)) else idle d L o baV laV cc0_scratch9 q.left)
        ∗ work d L o fy (2 * k.val + 1) ∗ (idxV.view.loc (thr d L) ↦{qi} (o.idx : Buf (Elt F) (idxV.view.loc (thr d L))))
        ∗ rest d L cc0_scoped5 ∗ rest d L cc0_scoped6 ∗ rest d L cc0_scoped7 ∗ rest d L cc0_scoped8))) ?_ fun _ => ?_
    · iintro ⟨HBO, HR⟩
      iapply (tw_frame d L (await_step d L o O W h bbV lbV cc0_scratch10 q.right (2 * k.val + 1)))
      iframe HBO HR
    iintro ⟨⟨HB, HO⟩, HA, HK, Hx, H5, H6, H7, H8⟩
    iapply (wp_wand frame _ _) $$ [HB HK H8 HO]
    · iapply (eight_step d L o O W ho hc bbV lbV cc0_scratch10 q.right _ (2 * k.val + 1) (group_odd k) (by omega) (k0_off82 L k) (k0_off82_inb L k) e82 cc0_scoped8 fy hfy)
      iframe HB HK H8 HO
    · iintro %a ⟨HB, HK, H8, HO⟩
      rw [show 2 * k.val + 1 + 1 = 2 * (k.val + 1) by omega]
      iframe HA HB HK Hx HO H5 H6 H7 H8
  -- the next even group's rows, unless this is the last trip
  change _ ⊢ tw d L (dite (k0_cond1 k = 1#1) (fun h1 => _) (fun _ => _)) _
  by_cases h1 : k0_cond1 k = 1#1
  · rw [dif_pos h1]
    refine tw_seq d L (B := fun _ => iprop((listed d L o baV laV cc0_scratch9 q.left (2 * (k.val + 1)) ∗ (idxV.view.loc (thr d L) ↦{qi} (o.idx : Buf (Elt F) (idxV.view.loc (thr d L))))
      ∗ rest d L cc0_scoped7 ∗ owed d L O W) ∗ (flying d L o c bbV lbV cc0_scratch10 q.right (2 * k.val + 1)
      ∗ work d L o fy (2 * k.val + 1) ∗ rest d L cc0_scoped5 ∗ rest d L cc0_scoped6 ∗ rest d L cc0_scoped8))) ?_ fun _ => ?_
    · iintro ⟨⟨HA, HK, H6, HO⟩, HB, Hx, H5, H7, H8⟩
      iapply (tw_frame d L (list_step d L o O W baV laV (Memref.isWhole_whole _) cc0_scratch9 q.left qi (2 * (k.val + 1)) (k0_off43 L k) (k0_off43_inb L k h1) e43 cc0_scoped7))
      iframe HA HB HK Hx HO H5 H6 H7 H8
    refine tw_seq d L (B := fun _ => _) ?_ fun _ => htail
    rw [if_pos ((cond_iff k).mp h1)]
    iintro ⟨⟨HA, Hx, H7, HO⟩, HB, HK, H5, H6, H8⟩
    iapply (wp_wand frame _ _) $$ [HA]
    · iapply (gather_step d L o ho h hc8 baV credits_a laV cc0_scratch9 q.left (2 * (k.val + 1))) $$ HA
    · iintro %a HA
      iframe HA HB HK Hx HO H5 H6 H7 H8
  · rw [dif_neg h1]
    rw [if_neg (fun hh => h1 ((cond_iff k).mpr hh))] at htail
    iintro ⟨⟨HA, HK, H6, HO⟩, HB, Hx, H5, H7, H8⟩
    iapply htail
    iframe HA HB HK Hx HO H5 H6 H7 H8

end

end Cert.Proof.Crop
-- ==== Proof.Body.lean ====
/-
  The tile's program: the tables copied in, the window picked, the first fetch, the six trips.
-/
module

public import proofs.«01_k».proof.Proof.Pair

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The word the tile picks out of the table of windows -/

/-- The tile's image, as the program computes it. -/
def imgWord (L : grid0.Coords) : BitVec 32 :=
  let w := Scalar.addi (Scalar.muli (BitVec.ofNat 32 (L 1).val) 2#32) (BitVec.ofNat 32 (L 0).val)
  let sg : BitVec 32 → BitVec 32 := fun x => Scalar.subi (Scalar.extui (Scalar.cmpi .sgt x 0#32)) (Scalar.extui (Scalar.cmpi .slt x 0#32))
  Scalar.select (Scalar.andi (Scalar.cmpi .ne (sg w) (sg 8#32)) (Scalar.cmpi .ne (Scalar.remsi w 8#32) 0#32))
    (Scalar.subi (Scalar.divsi w 8#32) 1#32) (Scalar.divsi w 8#32)

theorem imgWord_eq : ∀ L : grid0.Coords, imgWord L = BitVec.ofNat 32 (bOf L) := by decide +kernel

theorem bOf_lt (L : grid0.Coords) : bOf L < 4 := by
  have := wid_lt L
  rw [bOf_eq]; omega

theorem pay73_eq (L : grid0.Coords) (v : Vec F S16 .i32) :
    k0_pay73 L v = scan .sum (select (cmpi .eq (iota .scVector S16 32 [0] iota_S16_d0_w32_scVector) (broadcast S16 (imgWord L))) v (broadcast S16 0#32)) := rfl

theorem scan_lane (f : IVec S16 32) : extractAt ![15] (scan .sum f) inpos_S16_p15
    = (List.finRange 15).foldl (fun r k => r + f (ix S16 (fun _ => k.val + 1))) (f (ix S16 (fun _ => 0))) := by
  have e : (List.finRange 16).filter (fun k => decide (0 < k.val ∧ k.val ≤ 15)) = (List.finRange 15).map Fin.succ := by decide
  have key : ∀ g : Fin 16 → BitVec 32, ((List.finRange 16).filter (fun k => decide (0 < k.val ∧ k.val ≤ 15))).foldl (fun r k => r + g k) (g 0)
      = (List.finRange 15).foldl (fun r k => r + g k.succ) (g 0) := by
    intro g; rw [e, List.foldl_map]
  refine (key fun k => f (Shape.ofLane (d := S16.size) k)).trans ?_
  have h : ∀ k : Fin 16, f (Shape.ofLane (d := S16.size) k) = f (ix S16 (fun _ => k.val)) := by
    intro k
    refine congrArg f (ix_eq fun a => ?_).symm
    have : a = (0 : Fin 1) := Subsingleton.elim (α := Fin 1) _ _
    subst this; rfl
  simp only [h]
  rfl

/-- The picked word is the table's at the tile's image. -/
theorem c0Word_eq (L : grid0.Coords) (v : Vec F S16 .i32) : c0Word L v = v (ix S16 (fun _ => bOf L)) := by
  unfold c0Word
  rw [pay73_eq, imgWord_eq, scan_lane]
  have hb := bOf_lt L
  generalize bOf L = b at hb ⊢
  have hs : ∀ k < 16, select (cmpi .eq (iota .scVector S16 32 [0] iota_S16_d0_w32_scVector) (broadcast S16 (BitVec.ofNat 32 b))) v (broadcast S16 0#32) (ix S16 (fun _ => k))
      = if k = b then v (ix S16 (fun _ => b)) else 0#32 := by
    intro k hk
    show Scalar.select (IntOp.cmpi .eq (BitVec.ofNat 32 (0 * 16 + k % 16)) (BitVec.ofNat 32 b)) (v (ix S16 (fun _ => k))) 0#32 = _
    rw [show 0 * 16 + k % 16 = k by omega]
    by_cases h : k = b
    · subst h; rw [if_pos rfl]; simp [Scalar.select, IntOp.cmpi]
    · rw [if_neg h]
      have : BitVec.ofNat 32 k ≠ BitVec.ofNat 32 b := by
        intro e
        have := congrArg BitVec.toNat e
        simp only [BitVec.toNat_ofNat] at this
        omega
      show Scalar.select (BitVec.ofBool (BitVec.ofNat 32 k == BitVec.ofNat 32 b)) _ _ = _
      rw [beq_false_of_ne this]; rfl
  have hf : ∀ (l : List (Fin 15)) (r : BitVec 32), l.foldl (fun r k => r + select (cmpi .eq (iota .scVector S16 32 [0] iota_S16_d0_w32_scVector) (broadcast S16 (BitVec.ofNat 32 b))) v
        (broadcast S16 0#32) (ix S16 (fun _ => k.val + 1))) r
      = l.foldl (fun r k => r + if k.val + 1 = b then v (ix S16 (fun _ => b)) else 0#32) r := by
    intro l r
    congr 1
    funext r k
    rw [hs _ (by omega)]
  rw [hf, hs 0 (by decide)]
  generalize v (ix S16 (fun _ => b)) = z
  rw [show List.finRange 15 = [0, 1, 2, 3, 4, 5, 6, 7, 8, 9, 10, 11, 12, 13, 14] by decide]
  interval_cases b <;> simp

theorem chk_of_le {c : BitVec 32} (h : c.toNat ≤ 8) : k0_chk1 c := by
  have hc : c = BitVec.ofNat 32 c.toNat := by simp
  generalize c.toNat = n at h hc
  subst hc
  have : ∀ n : Fin 9, (∀ (r : Fin 8) (a : Fin 2), (k0_off3 (BitVec.ofNat 32 n.val) (BitVec.ofNat 32 (128 * r.val))) a + S24576x128.size a ≤ S24576x2048.size a) := by decide +kernel
  have h' := this ⟨n, by omega⟩
  exact ⟨h', h', fun _ _ => h', h'⟩

/-! ## The tile's program -/

section
variable (d : Dev nD) (L : grid0.Coords) (o : Ops F)

/-- The operands the tile reads, at a share each. -/
def ins (q : PosShare TreeShare) : sProp (Res F) :=
  iprop((imgV.view.loc (thr d L) ↦{q} (o.img : Buf (Elt F) (imgV.view.loc (thr d L)))) ∗ (idxV.view.loc (thr d L) ↦{q} (o.idx : Buf (Elt F) (idxV.view.loc (thr d L))))
    ∗ (xlHV.view.loc (thr d L) ↦{q} (o.xl : Buf (Elt F) (xlHV.view.loc (thr d L)))) ∗ (wxHV.view.loc (thr d L) ↦{q} (o.wx : Buf (Elt F) (wxHV.view.loc (thr d L))))
    ∗ (wyHV.view.loc (thr d L) ↦{q} (o.wy : Buf (Elt F) (wyHV.view.loc (thr d L)))) ∗ (c0HV.view.loc (thr d L) ↦{q} (o.c0 : Buf (Elt F) (c0HV.view.loc (thr d L)))))

/-- A buffer of the tile's own, at some contents. -/
abbrev some' {s : Shape} {e : EltTy} (b : Memref sig .scVector .vmem s e) : sProp (Res F) := iprop(∃ f, b.view.loc (thr d L) ↦{fullShare} f)

/-- The tile's memory. -/
def scratch : sProp (Res F) :=
  iprop(some' d L laV ∗ some' d L lbV ∗ some' d L xlV ∗ some' d L wxV ∗ some' d L wyV ∗ some' d L c0V ∗ some' d L baV ∗ some' d L bbV ∗ some' d L outV)

/-- Eight semaphores at rest. -/
abbrev rests (sems : DmaSems sig S8) : sProp (Res F) := bigSep Finset.univ fun j : Fin 8 => semVal ((thr d L), SemLoc.dma (semAt sems j)) 0

/-- The tile's semaphores at rest. -/
def resting : sProp (Res F) :=
  iprop(rests d L cc0_scratch9 ∗ rests d L cc0_scratch10 ∗ rest d L cc0_scoped0 ∗ rest d L cc0_scoped1 ∗ rest d L cc0_scoped2 ∗ rest d L cc0_scoped3
    ∗ rest d L cc0_scoped4 ∗ rest d L cc0_scoped5 ∗ rest d L cc0_scoped6 ∗ rest d L cc0_scoped7 ∗ rest d L cc0_scoped8)

variable (O : CellTallies nD τ sig (HIx 1)) (W : Waits sig (HIx 1))

theorem copyIn_wp {s : Shape} {e : EltTy} (src : Memref sig .scVector .hbm s e) (dst : Memref sig .scVector .vmem s e)
    (hs : src.view.WordExact) (hd : dst.IsWhole) (sem : DmaSems sig S_) (hn : 0 < s.numel) (q : PosShare TreeShare) (fs : Buf (Elt F) (src.view.loc (thr d L))) :
    iprop((src.view.loc (thr d L) ↦{q} fs) ∗ some' d L dst ∗ rest d L sem ∗ owed d L O W : sProp 𝕄)
      ⊢ tw d L (copyIn L src dst hs hd sem) fun _ =>
        iprop((src.view.loc (thr d L) ↦{q} fs) ∗ (∃ g, (dst.view.loc (thr d L) ↦{fullShare} g) ∗ ⌜dst.view.read (Elt F) g = src.view.read (Elt F) fs⌝)
          ∗ rest d L sem ∗ owed d L O W) := by
  iintro ⟨Hs, ⟨%fd, Hd⟩, Hm, HO⟩
  iapply (wp_wand frame _ _) $$ [Hs Hd Hm HO]
  · iapply (copyWait_wp d L src dst sem hs hd.wordExact ⟨Or.inl rfl, trivial⟩ O W (q := q) (fs := fs) (fd := fd) (Finset.subset_univ _) (View.dmaCredit_pos _ hn))
    iframe Hs Hd Hm HO
  · iintro %a ⟨Hs, Hd, Hm, HO⟩
    iframe Hs Hm HO
    iexists _
    isplitl [Hd]; · iexact Hd
    ipureintro
    exact View.read_write_univ _ _

omit [FloatOps F] in
theorem whole_set {sp : Space} {s : Shape} {e : EltTy} (b : Memref sig .scVector sp s e) (h : b.view.set = Finset.univ) (q : PosShare TreeShare) (f : Buf (Elt F) (b.view.loc (thr d L))) :
    (b.view.loc (thr d L) ↦[b.view.set]{q} f : sProp 𝕄) = b.view.loc (thr d L) ↦{q} f := by rw [h]

set_option maxHeartbeats 2000000 in
set_option maxRecDepth 16384 in
theorem tile_wp (ho : InRange o) (q : PosShare TreeShare) :
    iprop(ins d L o q ∗ outDone d L o 0 ∗ scratch d L ∗ resting d L ∗ owed d L O W : sProp 𝕄)
      ⊢ tw d L (tileProg L) fun _ => iprop(ins d L o q ∗ outDone d L o 12 ∗ scratch d L ∗ resting d L ∗ owed d L O W) := by
  have hc8 := ho.c0 (bOf L) (bOf_lt L)
  have e2 : k0_off2 L 0 = 192 * wid L + 16 * 0 := by
    rw [k0_off2_eq]; show 384 * (L 1).val + 192 * (L 0).val = _; unfold wid; omega
  have sA : baV.view.set = Finset.univ := View.set_whole _
  have sB : bbV.view.set = Finset.univ := View.set_whole _
  have sa : laV.view.set = Finset.univ := View.set_whole _
  have sb : lbV.view.set = Finset.univ := View.set_whole _
  unfold tileProg ins scratch resting tw
  iintro ⟨⟨Himg, Hidx, Hxl, Hwx, Hwy, Hc0⟩, Hout, ⟨Hla, Hlb, Hsx, Hsw, Hsy, Hsc, Hba, Hbb, Hob⟩, ⟨H9, H10, H0, H1, H2, H3, H4, H5, H6, H7, H8⟩, HO⟩
  -- the four tables
  rw [wp_bind]
  iapply (wp_wand frame _ _) $$ [Hxl Hsx H0 HO]
  · iapply (copyIn_wp d L O W xlHV xlV (Memref.isWhole_whole _).wordExact (Memref.isWhole_whole _) cc0_scoped0 (by decide) q o.xl)
    iframe Hxl Hsx H0 HO
  iintro %_ ⟨Hxl, ⟨%gx, Hsx, %hgx⟩, H0, HO⟩
  rw [wp_bind]
  iapply (wp_wand frame _ _) $$ [Hwx Hsw H1 HO]
  · iapply (copyIn_wp d L O W wxHV wxV (Memref.isWhole_whole _).wordExact (Memref.isWhole_whole _) cc0_scoped1 (by decide) q o.wx)
    iframe Hwx Hsw H1 HO
  iintro %_ ⟨Hwx, ⟨%gw, Hsw, %hgw⟩, H1, HO⟩
  rw [wp_bind]
  iapply (wp_wand frame _ _) $$ [Hwy Hsy H2 HO]
  · iapply (copyIn_wp d L O W (wySlice L) wyV (View.wordExact_bits rfl) (Memref.isWhole_whole _) cc0_scoped2 (by decide) q o.wy)
    iframe Hwy Hsy H2 HO
  iintro %_ ⟨Hwy, ⟨%gy, Hsy, %hgy⟩, H2, HO⟩
  rw [wp_bind]
  iapply (wp_wand frame _ _) $$ [Hc0 Hsc H3 HO]
  · iapply (copyIn_wp d L O W c0HV c0V (Memref.isWhole_whole _).wordExact (Memref.isWhole_whole _) cc0_scoped3 (by decide) q o.c0)
    iframe Hc0 Hsc H3 HO
  iintro %_ ⟨Hc0, ⟨%gc, Hsc, %hgc⟩, H3, HO⟩
  rw [View.read_whole, View.read_whole] at hgx hgw hgc
  subst hgx hgw hgc
  have hfy : ∀ x : S96.Idx, (gy : S96.Idx → Elt F .f32) x = o.wy (ix S3072 (fun _ => 96 * wid L + (x 0).val)) := by
    intro x
    rw [View.read_whole] at hgy
    rw [hgy]
    show o.wy _ = o.wy _
    refine congrArg o.wy (ix_eq fun a => ?_).symm
    have : a = (0 : Fin 1) := Subsingleton.elim (α := Fin 1) _ _
    subst this
    have : k0_off1 L 0 = 96 * wid L := by
      rw [k0_off1_eq]; show 192 * (L 1).val + 96 * (L 0).val = _; unfold wid; omega
    show _ = k0_off1 L 0 + 1 * (x 0).val
    omega
  -- the window
  rw [wp_bind]
  unfold Prog.lift
  sl_step
  have hv : c0Word L (F := F) (View.readAt (Elt F) c0V.view (Rect.unit ![0] S16.size inb_S16_S16_0).toLoadRect (o.c0 : Buf (Elt F) (c0V.view.loc (thr d L))))
      = o.c0 (ix S16 (fun _ => bOf L)) := by
    rw [c0Word_eq]
    refine congrArg o.c0 (ix_eq fun a => ?_).symm
    have : a = (0 : Fin 1) := Subsingleton.elim (α := Fin 1) _ _
    subst this
    show _ = 0 + 1 * (bOf L % 16)
    have := bOf_lt L
    omega
  have hw8 := hc8
  rw [← hv] at hw8
  have hchk := chk_of_le hw8
  sl_step
  rw [wp_bind]
  iapply (wp_assume _ _ _ _ hchk)
  sl_step
  rw [wp_bind]
  -- the first fetch
  icases Hla with ⟨%fla, Hla⟩
  icases Hlb with ⟨%flb, Hlb⟩
  icases Hba with ⟨%fba, Hba⟩
  icases Hbb with ⟨%fbb, Hbb⟩
  ihave Himg2 := ((pointsTo_share (PosShare.mem_left_op_right q)).1) $$ Himg
  icases Himg2 with ⟨HimgA, HimgB⟩
  ihave HA : (idle d L o baV laV cc0_scratch9 q.left) $$ [Hla Hba HimgA H9]
  · unfold idle fetchIdle
    iexists fla, fba
    rw [whole_set d L baV sA, whole_set d L laV sa]
    iframe Hba HimgA Hla H9
  ihave HB : (idle d L o bbV lbV cc0_scratch10 q.right) $$ [Hlb Hbb HimgB H10]
  · unfold idle fetchIdle
    iexists flb, fbb
    rw [whole_set d L bbV sB, whole_set d L lbV sb]
    iframe Hbb HimgB Hlb H10
  ihave HK : (work d L o gy 0) $$ [Hsy Hsx Hsw Hob Hout]
  · unfold work tables
    iframe Hsy Hsx Hsw Hob Hout
  iapply (wp_wand frame _ _) $$ [HA Hidx H4 HO]
  · iapply (list_step d L o O W baV laV (Memref.isWhole_whole _) cc0_scratch9 q.left q 0 (k0_off2 L) (k0_off2_inb L) e2 cc0_scoped4)
    iframe HA Hidx H4 HO
  iintro %_ ⟨HA, Hidx, H4, HO⟩
  rw [wp_bind]
  iapply (wp_wand frame _ _) $$ [HA]
  · iapply (gather_step d L o ho hchk hw8 baV credits_a laV cc0_scratch9 q.left 0) $$ HA
  iintro %_ HA
  -- the trips
  iapply (Scf.wp_for frame _ _ _ _ _ k0_t1_ok PUnit.unit _ (fun n _ => pairInv d L o O W _ q q gy n)
    (fun k _ => pair_wp d L o O W ho hchk hw8 hv q q gy hfy k))
  isplitl [HA HB HK Hidx HO H5 H6 H7 H8]
  · unfold pairInv
    rw [if_pos (by decide)]
    iframe HA HB HK Hidx HO H5 H6 H7 H8
  iintro %_ H
  rw [show Scf.trips k0_t1_loop.lb k0_t1_loop.ub k0_t1_loop.st = 6 from trips_outer]
  unfold pairInv work tables idle fetchIdle
  rw [if_neg (by decide)]
  icases H with ⟨⟨%fla, %fba, Hba, HimgA, Hla, H9⟩, ⟨%flb, %fbb, Hbb, HimgB, Hlb, H10⟩, ⟨⟨Hsy, Hsx, Hsw⟩, Hob, Hout⟩, Hidx, HO, H5, H6, H7, H8⟩
  ihave Hba := (Entails.of_eq (whole_set d L baV sA fullShare fba)) $$ Hba
  ihave Hla := (Entails.of_eq (whole_set d L laV sa fullShare fla)) $$ Hla
  ihave Hbb := (Entails.of_eq (whole_set d L bbV sB fullShare fbb)) $$ Hbb
  ihave Hlb := (Entails.of_eq (whole_set d L lbV sb fullShare flb)) $$ Hlb
  ihave Himg := ((pointsTo_share (PosShare.mem_left_op_right q)).2) $$ [HimgA HimgB]
  · iframe HimgA HimgB
  iframe Himg Hidx Hxl Hwx Hwy Hc0 Hout Hob HO H9 H10 H0 H1 H2 H3 H4 H5 H6 H7 H8
  isplitl [Hla]; · iexists _; iexact Hla
  isplitl [Hlb]; · iexists _; iexact Hlb
  isplitl [Hsx]; · iexists _; iexact Hsx
  isplitl [Hsw]; · iexists _; iexact Hsw
  isplitl [Hsy]; · iexists _; iexact Hsy
  isplitl [Hsc]; · iexists _; iexact Hsc
  isplitl [Hba]; · iexists _; iexact Hba
  iexists _; iexact Hbb

end

end Cert.Proof.Crop
-- ==== Proof.TileEq.lean ====
/-
  The printed program of a tile is the program of `Tile.lean`.
-/
module

public import proofs.«01_k».proof.Proof.Tile

@[expose] public section

noncomputable section

namespace Cert.Proof.Crop

open Cert.KernelIdeal Cert.KernelIdeal.Gen

open Idealize.ShloMosaic
open Idealize.SL Idealize.SL.Sem

variable {F : FTy → Type} [FloatOps F]

/-- Two programs that run equal steps one after the other are equal. -/
theorem seq_congr {E : Type → Type} {α β : Type} {p p' : Prog E α} {f f' : α → Prog E β} (hp : p = p') (hf : ∀ x, f x = f' x) : p >>= f = p' >>= f' := by
  rw [hp, funext hf]

set_option maxRecDepth 65536 in
set_option maxHeartbeats 4000000 in
/-- The printed trip of the outer loop is `pair`: both are the same operations, bracketed differently. -/
theorem pair_eq (L : grid0.Coords) (v2 v20 c : BitVec 32) (h : k0_chk1 c) (v30 : BitVec 32) (k : Fin k0_t1_loop.trips) (x : Unit) :
    k0_t1_body (F := F) L imgV (Memref.isWhole_whole _) idxV (Memref.isWhole_whole _) xlHV (Memref.isWhole_whole _) wxHV (Memref.isWhole_whole _) wyHV (Memref.isWhole_whole _) c0HV (Memref.isWhole_whole _) resV (Memref.isWhole_whole _)
      laV (Memref.isWhole_whole _) lbV (Memref.isWhole_whole _) xlV (Memref.isWhole_whole _) wxV (Memref.isWhole_whole _) wyV (Memref.isWhole_whole _) c0V (Memref.isWhole_whole _)
      baV (Memref.isWhole_whole _) bbV (Memref.isWhole_whole _) outV (Memref.isWhole_whole _) cc0_scratch9 cc0_scratch10
      cc0_scoped0 cc0_scoped1 cc0_scoped2 cc0_scoped3 cc0_scoped4 cc0_scoped5 cc0_scoped6 cc0_scoped7 cc0_scoped8
      v2 v20 c h v30 k x = pair L h k := by
  simp only [k0_t1_body, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    k0_part14_eq_skeleton, k0_part14_skel, k0_part15_eq_skeleton, k0_part15_skel,
    pair, fetchList, seqM, eightRows, collect, wyRow, writeRows, bind_assoc, pure_bind]
  iterate 10 refine seq_congr rfl fun _ => ?_
  iterate 8 refine seq_congr rfl fun _ => ?_
  iterate 16 refine seq_congr rfl fun _ => ?_
  refine seq_congr (congrArg (Scf.Loop.for k0_t2_loop k0_t2_ok PUnit.unit) (funext fun k => funext fun x => k0_t2_body_eq ..)) fun _ => ?_
  iterate 2 refine seq_congr rfl fun _ => ?_
  by_cases h1 : k0_cond1 k = 1#1
  · simp only [dif_pos h1, bind_assoc, pure_bind]
    iterate 10 refine seq_congr rfl fun _ => ?_
    iterate 24 refine seq_congr rfl fun _ => ?_
    refine seq_congr (congrArg (Scf.Loop.for k0_t2_loop k0_t2_ok PUnit.unit) (funext fun k => funext fun x => k0_t3_body_eq ..)) fun _ => ?_
    refine seq_congr rfl fun _ => ?_
    exact bind_pure (m := Prog _) _
  · simp only [dif_neg h1, bind_assoc, pure_bind]
    iterate 24 refine seq_congr rfl fun _ => ?_
    refine seq_congr (congrArg (Scf.Loop.for k0_t2_loop k0_t2_ok PUnit.unit) (funext fun k => funext fun x => k0_t3_body_eq ..)) fun _ => ?_
    refine seq_congr rfl fun _ => ?_
    exact bind_pure (m := Prog _) _

theorem pair_fun_eq (L : grid0.Coords) (v2 v20 c : BitVec 32) (h : k0_chk1 c) (v30 : BitVec 32) :
    k0_t1_body (F := F) L imgV (Memref.isWhole_whole _) idxV (Memref.isWhole_whole _) xlHV (Memref.isWhole_whole _) wxHV (Memref.isWhole_whole _) wyHV (Memref.isWhole_whole _) c0HV (Memref.isWhole_whole _) resV (Memref.isWhole_whole _)
      laV (Memref.isWhole_whole _) lbV (Memref.isWhole_whole _) xlV (Memref.isWhole_whole _) wxV (Memref.isWhole_whole _) wyV (Memref.isWhole_whole _) c0V (Memref.isWhole_whole _)
      baV (Memref.isWhole_whole _) bbV (Memref.isWhole_whole _) outV (Memref.isWhole_whole _) cc0_scratch9 cc0_scratch10
      cc0_scoped0 cc0_scoped1 cc0_scoped2 cc0_scoped3 cc0_scoped4 cc0_scoped5 cc0_scoped6 cc0_scoped7 cc0_scoped8
      v2 v20 c h v30 = fun k _ => pair L h k :=
  funext fun k => funext fun x => pair_eq L v2 v20 c h v30 k x

set_option maxRecDepth 65536 in
set_option maxHeartbeats 4000000 in
/-- The printed program is `tileProg`. -/
theorem tile_eq (L : grid0.Coords) :
    cc0_k (F := F) L imgV (Memref.isWhole_whole _) idxV (Memref.isWhole_whole _) xlHV (Memref.isWhole_whole _) wxHV (Memref.isWhole_whole _) wyHV (Memref.isWhole_whole _) c0HV (Memref.isWhole_whole _) resV (Memref.isWhole_whole _)
      laV (Memref.isWhole_whole _) lbV (Memref.isWhole_whole _) xlV (Memref.isWhole_whole _) wxV (Memref.isWhole_whole _) wyV (Memref.isWhole_whole _) c0V (Memref.isWhole_whole _)
      baV (Memref.isWhole_whole _) bbV (Memref.isWhole_whole _) outV (Memref.isWhole_whole _) cc0_scratch9 cc0_scratch10
      cc0_scoped0 cc0_scoped1 cc0_scoped2 cc0_scoped3 cc0_scoped4 cc0_scoped5 cc0_scoped6 cc0_scoped7 cc0_scoped8 = tileProg L := by
  simp only [cc0_k_eq_skeleton, cc0_k_skel, k0_part37_eq_skeleton, k0_part37_skel, k0_part38_eq_skeleton, k0_part38_skel, k0_part39_eq_skeleton, k0_part39_skel, tileProg, copyIn, fetchList, seqM, bind_assoc, pure_bind]
  iterate 20 refine seq_congr rfl fun _ => ?_
  refine (bind_pure (m := Prog _) _).trans ?_
  rw [pair_fun_eq]

end Cert.Proof.Crop
-- ==== Proof.Launch.lean ====
/-
  The tile's task as the launch sees it.
-/
module

public import proofs.«01_k».proof.Proof.Body
public import proofs.«01_k».proof.Proof.TileEq

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a tile owns -/

omit [FloatOps F] in
/-- A family over a set is its part at the values of an injective function and the rest. -/
theorem bigSep_part {I J : Type} [Fintype I] [DecidableEq I] [DecidableEq J] {s : Finset J} (f : I → J) (hf : Function.Injective f) (hs : ∀ i, f i ∈ s) (Φ : J → sProp 𝕄) :
    bigSep s Φ = iprop((bigSep Finset.univ fun i => Φ (f i)) ∗ bigSep (s \ Finset.univ.image f) Φ) := by
  rw [← SparseCore.bigSep_image_of_injOn hf.injOn Φ]
  exact BI.bigSep_sdiff_split (fun j hj => by
    obtain ⟨i, -, rfl⟩ := Finset.mem_image.mp hj
    exact hs i)

omit [FloatOps F] in
/-- A family over nine things is the nine. -/
theorem bigSep_fin_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  iterate 7 rw [bigSep_univ_succ]
  rw [BI.bigSep_fin_two]
  rfl

section
variable (d : Dev nD) (L : grid0.Coords)

/-- The tile's semaphores. -/
def cells : Fin 8 ⊕ Fin 8 ⊕ Fin 9 → DmaSem sig :=
  Sum.elim (semAt cc0_scratch9) (Sum.elim (semAt cc0_scratch10)
    ![cc0_scoped0.sem, cc0_scoped1.sem, cc0_scoped2.sem, cc0_scoped3.sem, cc0_scoped4.sem, cc0_scoped5.sem, cc0_scoped6.sem, cc0_scoped7.sem, cc0_scoped8.sem])

theorem cells_injective : Function.Injective cells := by
  have : ∀ a b, cells a = cells b → a = b := by decide +kernel
  exact fun a b h => this a b h

theorem cells_scoped : ∀ a, (SemLoc.dma (cells a) : SemLoc sig).isScoped .scVector = true := by decide +kernel

/-- The tile's buffers. -/
def bufs : Fin 9 → Ref sig .scVector :=
  ![cc0_scratch0, cc0_scratch1, cc0_scratch2, cc0_scratch3, cc0_scratch4, cc0_scratch5, cc0_scratch6, cc0_scratch7, cc0_scratch8]

theorem bufs_injective : Function.Injective bufs := by
  have : ∀ a b, bufs a = bufs b → a = b := by decide +kernel
  exact fun a b h => this a b h

/-- Cells of the tile's that the program doesn't name. -/
def otherCells : Finset (GSem nD τ sig) := ownCells (thr d L) \ Finset.univ.image fun a => (thr d L, SemLoc.dma (cells a))
/-- Buffers of the tile's that the program doesn't name. -/
def otherBufs : Finset (DevRef τ sig) :=
  ownRefs (τ := τ) (.scVector (cV L) (jV L)) \ Finset.univ.image fun k => (Proc.scVector (cV L) (jV L)).devRef (bufs k)

theorem ownSems0_tile : (ownSems0 (thr d L) : sProp 𝕄) = iprop(resting d L ∗ bigSep (otherCells d L) fun g => semVal g 0) := by
  have e : (bigSep Finset.univ fun a => semVal ((thr d L, SemLoc.dma (cells a)) : GSem nD τ sig) 0 : sProp 𝕄) = resting d L := by
    unfold resting rests
    rw [BI.bigSep_univ_sum, BI.bigSep_univ_sum, bigSep_fin_nine]
    rfl
  rw [← e]
  exact bigSep_part (fun a => ((thr d L, SemLoc.dma (cells a)) : GSem nD τ sig))
    (fun a b h => cells_injective (SemLoc.dma.inj (Prod.mk.inj h).2)) (fun a => mem_ownCells.mpr ⟨rfl, cells_scoped a⟩) _

theorem ownBufs_tile : (ownBufs (thr d L) : sProp 𝕄) = iprop(scratch d L ∗ bigSep (otherBufs L) fun b => iprop(∃ f, ((d, b) : Loc nD τ sig) ↦{fullShare} f)) := by
  have e : (bigSep Finset.univ fun k => iprop(∃ f, ((d, (Proc.scVector (cV L) (jV L)).devRef (bufs k)) : Loc nD τ sig) ↦{fullShare} f) : sProp 𝕄) = scratch d L := by
    unfold scratch
    rw [bigSep_fin_nine]
    rfl
  rw [← e]
  exact bigSep_part (fun k => (Proc.scVector (cV L) (jV L)).devRef (bufs k)) (fun a b h => bufs_injective (Proc.devRef_injective _ h))
    (fun k => SparseCore.Cfg.mem_ownRefs_of_owner (by fin_cases k <;> rfl)) _

/-- The tile's task as it is printed. -/
theorem tile_body (o : Ops F) (ho : InRange o) (q : PosShare TreeShare) (O : CellTallies nD τ sig (HIx 1)) (W : Waits sig (HIx 1)) (hO : ∀ g, O g none = 0) :
    iprop(levAts (K (F := F)).L (K (F := F)).lev ∗ emp ∗ (ins d L o q ∗ outDone d L o 0)
        ∗ scopedBufs (thr d L) ∗ scopedSems0 (thr d L) ∗ owes (thr d L) O W)
      ⊢ tw d L (cc0_k L imgV (Memref.isWhole_whole _) idxV (Memref.isWhole_whole _) xlHV (Memref.isWhole_whole _) wxHV (Memref.isWhole_whole _)
          wyHV (Memref.isWhole_whole _) c0HV (Memref.isWhole_whole _) resV (Memref.isWhole_whole _) laV (Memref.isWhole_whole _) lbV (Memref.isWhole_whole _)
          xlV (Memref.isWhole_whole _) wxV (Memref.isWhole_whole _) wyV (Memref.isWhole_whole _) c0V (Memref.isWhole_whole _) baV (Memref.isWhole_whole _)
          bbV (Memref.isWhole_whole _) outV (Memref.isWhole_whole _) cc0_scratch9 cc0_scratch10 cc0_scoped0 cc0_scoped1 cc0_scoped2 cc0_scoped3 cc0_scoped4
          cc0_scoped5 cc0_scoped6 cc0_scoped7 cc0_scoped8)
          fun _ => iprop((ins d L o q ∗ outDone d L o 12) ∗ scopedBufs (thr d L) ∗ scopedSems0 (thr d L)
            ∗ ∃ W', ⌜∀ p ∈ W', p ∈ W ∨ p.2 = none⌝ ∗ owes (thr d L) O W') := by
  rw [tile_eq, (K (F := F)).scopedBufs_V facts d (cV L) (jV L), SparseCore.Cfg.scopedSems0_V (Val := Elt F) d (cV L) (jV L), ownSems0_tile, ownBufs_tile]
  iintro ⟨#Hlv, -, ⟨Hi, Hd⟩, ⟨Hb, Hbs⟩, ⟨Hs, Hss⟩, HO⟩
  ihave #Hmw := (show levAts (K (F := F)).L (K (F := F)).lev ⊢ Transfers.MayWaits (thr d L) (default : HIx 1) O from
    (K (F := F)).mayWaits_none (thr := thr d L) hO) $$ Hlv
  iapply (wp_wand frame _ _) $$ [Hi Hd Hb Hs HO]
  · iapply (tile_wp d L o O W ho q)
    iframe Hi Hd Hb Hs
    unfold owed
    isplitr
    · iexact Hmw
    iexists W
    isplitr
    · ipureintro; exact fun p hp => .inl hp
    · iexact HO
  · iintro %_ ⟨Hi, Hd, Hb, Hs, HO⟩
    unfold owed
    icases HO with ⟨-, HO⟩
    iframe Hi Hd Hb Hbs Hs Hss HO

end

end Cert.Proof.Crop
-- ==== Proof.Call.lean ====
/-
  The call's operands and result over all thirty-two tiles.
-/
module

public import proofs.«01_k».proof.Proof.Launch

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The operands over the whole chip -/

/-- The coordinates of tile `i` of core `c`. -/
def tileAt (c : Fin (grid0.bound 0)) (s : Fin (grid0.bound 1)) : grid0.Coords :=
  fun | 0 => c | 1 => s | ⟨_ + 2, h⟩ => absurd h (Nat.not_lt.2 (Nat.le_add_left _ _))

/-- A tile's share of every operand. -/
def shareAt (c i : ℕ) : PosShare TreeShare := piece 4 (piece 1 fullShare c) i

omit [FloatOps F] in
/-- A buffer held whole is held at the tiles' shares at once. -/
theorem shares_eq {ℓ : Loc nD τ sig} (f : Buf (Elt F) ℓ) :
    (ℓ ↦{fullShare} f : sProp 𝕄) = bigSep Finset.univ fun c : Fin 2 => bigSep Finset.univ fun i : Fin 16 => ℓ ↦{shareAt c.val i.val} f :=
  (pointsTo_pieces Finset.univ f 1 fullShare).trans (bigSep_congr fun _ _ => pointsTo_pieces Finset.univ f 4 _)

theorem tile_disjoint : ∀ x ∈ (Finset.univ : Finset (Fin 2 × Fin 16)), ∀ y ∈ (Finset.univ : Finset (Fin 2 × Fin 16)), x ≠ y →
    Disjoint (outSet (tileAt x.1 x.2)) (outSet (tileAt y.1 y.2)) := by
  intro x _ y _ hne
  refine Finset.disjoint_left.mpr fun p hp hq => hne ?_
  have h1 := (Finset.mem_filter.mp hp).2
  have h2 := (Finset.mem_filter.mp hq).2
  have e1 : wid (tileAt x.1 x.2) = 2 * x.2.val + x.1.val := rfl
  have e2 : wid (tileAt y.1 y.2) = 2 * y.2.val + y.1.val := rfl
  rw [e1] at h1; rw [e2] at h2
  have := x.1.isLt; have := y.1.isLt
  exact Prod.ext (Fin.ext (by omega)) (Fin.ext (by omega))

theorem tile_cover : (Finset.univ : Finset (Fin 2 × Fin 16)).biUnion (fun x => outSet (tileAt x.1 x.2)) = Finset.univ := by
  refine Finset.eq_univ_of_forall fun p => Finset.mem_biUnion.mpr ?_
  have hp : (p 0).val < 786432 := (p 0).isLt
  refine ⟨(⟨(p 0).val / 24576 % 2, by omega⟩, ⟨(p 0).val / 24576 / 2, by omega⟩), Finset.mem_univ _, Finset.mem_filter.mpr ⟨Finset.mem_univ _, ?_⟩⟩
  show 24576 * (2 * ((p 0).val / 24576 / 2) + (p 0).val / 24576 % 2) ≤ (p 0).val ∧ (p 0).val < 24576 * (2 * ((p 0).val / 24576 / 2) + (p 0).val / 24576 % 2) + 24576
  omega

/-- The locations of the call's operands and of its result. -/
abbrev imgL (d : Dev nD) : Loc nD τ sig := (d, Proc.devRef .tc main_v173)
abbrev idxL (d : Dev nD) : Loc nD τ sig := (d, Proc.devRef .tc main_v157)
abbrev xlL (d : Dev nD) : Loc nD τ sig := (d, Proc.devRef .tc main_v174)
abbrev wxL (d : Dev nD) : Loc nD τ sig := (d, Proc.devRef .tc main_v175)
abbrev wyL (d : Dev nD) : Loc nD τ sig := (d, Proc.devRef .tc main_v160)
abbrev c0L (d : Dev nD) : Loc nD τ sig := (d, Proc.devRef .tc main_v167)
abbrev resL (d : Dev nD) : Loc nD τ sig := (d, Proc.devRef .tc main_v176)

/-- The result, all rows interpolated. -/
def outVal (o : Ops F) : S786432.Idx → Elt F .f32 := fun p => outAt o (p 0).val

omit [FloatOps F] in
theorem res_tiles (d : Dev nD) (f : Buf (Elt F) (resL d)) :
    (resL d ↦{fullShare} f : sProp 𝕄)
      = bigSep Finset.univ fun c : Fin 2 => bigSep Finset.univ fun i : Fin 16 => resL d ↦[outSet (tileAt c i)]{fullShare} f := by
  rw [← BI.bigSep_univ_prod (Φ := fun x : Fin 2 × Fin 16 => (resL d ↦[outSet (tileAt x.1 x.2)]{fullShare} f : sProp 𝕄)),
    ← pointsTo_biUnion Finset.univ (ℓ := resL d) (fun x : Fin 2 × Fin 16 => outSet (tileAt x.1 x.2)) tile_disjoint, tile_cover]

/-- What a tile is given and what it hands back. -/
def given (o : Ops F) (d : Dev nD) (c : Fin 2) (i : Fin 16) : sProp 𝕄 :=
  iprop(ins d (tileAt c i) o (shareAt c.val i.val) ∗ outDone d (tileAt c i) o 0)
def back (o : Ops F) (d : Dev nD) (c : Fin 2) (i : Fin 16) : sProp 𝕄 :=
  iprop(ins d (tileAt c i) o (shareAt c.val i.val) ∗ outDone d (tileAt c i) o 12)

theorem ins_storable (o : Ops F) (d : Dev nD) (L : grid0.Coords) (q : PosShare TreeShare) : BI.Storable (upEmb : UEmb _ 𝕄) (ins d L o q) := by
  unfold ins; infer_instance
set_option synthInstance.maxHeartbeats 400000 in
theorem outDone_storable (o : Ops F) (d : Dev nD) (L : grid0.Coords) (g : ℕ) : BI.Storable (upEmb : UEmb _ 𝕄) (outDone d L o g) := by
  unfold outDone; infer_instance
theorem given_storable (o : Ops F) (d : Dev nD) (c : Fin 2) (i : Fin 16) : BI.Storable (upEmb : UEmb _ 𝕄) (given o d c i) :=
  haveI := ins_storable o d (tileAt c i) (shareAt c.val i.val)
  haveI := outDone_storable o d (tileAt c i) 0
  inferInstanceAs (BI.Storable (upEmb : UEmb _ 𝕄) iprop(ins d (tileAt c i) o (shareAt c.val i.val) ∗ outDone d (tileAt c i) o 0))
theorem back_storable (o : Ops F) (d : Dev nD) (c : Fin 2) (i : Fin 16) : BI.Storable (upEmb : UEmb _ 𝕄) (back o d c i) :=
  haveI := ins_storable o d (tileAt c i) (shareAt c.val i.val)
  haveI := outDone_storable o d (tileAt c i) 12
  inferInstanceAs (BI.Storable (upEmb : UEmb _ 𝕄) iprop(ins d (tileAt c i) o (shareAt c.val i.val) ∗ outDone d (tileAt c i) o 12))

/-- The operands held whole. -/
def operands (o : Ops F) (d : Dev nD) : sProp 𝕄 :=
  iprop((imgL d ↦{fullShare} (o.img : Buf (Elt F) (imgL d))) ∗ (idxL d ↦{fullShare} (o.idx : Buf (Elt F) (idxL d)))
    ∗ (xlL d ↦{fullShare} (o.xl : Buf (Elt F) (xlL d))) ∗ (wxL d ↦{fullShare} (o.wx : Buf (Elt F) (wxL d)))
    ∗ (wyL d ↦{fullShare} (o.wy : Buf (Elt F) (wyL d))) ∗ (c0L d ↦{fullShare} (o.c0 : Buf (Elt F) (c0L d))))

theorem operands_tiles (o : Ops F) (d : Dev nD) :
    (operands o d : sProp 𝕄) = bigSep Finset.univ fun c : Fin 2 => bigSep Finset.univ fun i : Fin 16 => ins d (tileAt c i) o (shareAt c.val i.val) := by
  unfold operands
  rw [shares_eq (ℓ := imgL d), shares_eq (ℓ := idxL d), shares_eq (ℓ := xlL d), shares_eq (ℓ := wxL d), shares_eq (ℓ := wyL d), shares_eq (ℓ := c0L d)]
  simp only [← BI.bigSep_sep']
  rfl

theorem given_tile (o : Ops F) (d : Dev nD) (c : Fin 2) (i : Fin 16) (f : Buf (Elt F) (resL d)) :
    iprop(ins d (tileAt c i) o (shareAt c.val i.val) ∗ resL d ↦[outSet (tileAt c i)]{fullShare} f : sProp 𝕄) ⊢ given o d c i := by
  unfold given outDone
  iintro ⟨Hi, Hr⟩
  isplitl [Hi]; · iexact Hi
  iexists f
  isplitl [Hr]; · iexact Hr
  ipureintro
  intro p h1 h2
  omega

theorem back_tile (o : Ops F) (d : Dev nD) (c : Fin 2) (i : Fin 16) :
    (back o d c i : sProp 𝕄) ⊢ iprop(ins d (tileAt c i) o (shareAt c.val i.val) ∗ resL d ↦[outSet (tileAt c i)]{fullShare} (outVal o : Buf (Elt F) (resL d))) := by
  unfold back outDone
  iintro ⟨Hi, ⟨%f, Hr, %hf⟩⟩
  isplitl [Hi]; · iexact Hi
  ihave Hr' := (Entails.of_eq (pointsTo_congr (ℓ := resL d) (q := fullShare) (I := outSet (tileAt c i)) (f := f) (g := outVal o)
    (fun p hp => hf p (Finset.mem_filter.mp hp).2.1 (Finset.mem_filter.mp hp).2.2))) $$ Hr
  iexact Hr'

theorem given_all (o : Ops F) (d : Dev nD) (f : Buf (Elt F) (resL d)) :
    iprop(operands o d ∗ resL d ↦{fullShare} f : sProp 𝕄) ⊢ bigSep Finset.univ fun c : Fin 2 => bigSep Finset.univ fun i : Fin 16 => given o d c i := by
  rw [operands_tiles, res_tiles]
  simp only [← BI.bigSep_sep']
  exact BI.bigSep_mono fun c _ => BI.bigSep_mono fun i _ => given_tile o d c i f

theorem back_all (o : Ops F) (d : Dev nD) :
    (bigSep Finset.univ fun c : Fin 2 => bigSep Finset.univ fun i : Fin 16 => back o d c i) ⊢ (iprop(operands o d ∗ resL d ↦{fullShare} (outVal o : Buf (Elt F) (resL d))) : sProp 𝕄) := by
  rw [operands_tiles, res_tiles]
  simp only [← BI.bigSep_sep']
  exact BI.bigSep_mono fun c _ => BI.bigSep_mono fun i _ => back_tile o d c i

end Cert.Proof.Crop
-- ==== Proof.HostOps.lean ====
/-
  The host program as lists of operations.
-/
module

public import proofs.«01_k».proof.Proof.Setup
public import Idealize.ShloMosaic.Lib.StableHlo.RunHlo
public import Idealize.ShloMosaic.Lib.StableHlo.RunRead

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

abbrev HostOps (F : FTy → Type) := List (HloOp τ sig (Elt F))

/-- A buffer of the TensorCore. -/
abbrev at' (b : Ref sig .tc) : DevRef τ sig := Proc.devRef .tc b

/-- The operations of statements 1 to 60 of the host program. -/
def ops0 : HostOps F :=
  [nullary main_cst (constant S_ .f32 0x00000000#32),
   unary main_cst main_v0 (broadcastInDim S4 ![] bcast_S_S4 : (⟨S_, .f32⟩ : BufTy).Contents (Elt F) → (⟨S4, .f32⟩ : BufTy).Contents (Elt F)),
   nullary main_cst_0 (constant S_ .f32 0x3F800000#32),
   unary main_cst_0 main_v1 (broadcastInDim S4 ![] bcast_S_S4 : (⟨S_, .f32⟩ : BufTy).Contents (Elt F) → (⟨S4, .f32⟩ : BufTy).Contents (Elt F)),
   unary main_arg1 main_v2 ((extractStridedSlice S4x1 ![0, 0] · slices_S4x2_S4x1_0_0) : (⟨S4x2, .f32⟩ : BufTy).Contents (Elt F) → (⟨S4x1, .f32⟩ : BufTy).Contents (Elt F)),
   reshape main_v2 main_v3 (rfl : (.f32 : EltTy) = .f32) shapeCasts_S4x1_S4,
   unary main_arg1 main_v4 ((extractStridedSlice S4x1 ![0, 1] · slices_S4x2_S4x1_0_1) : (⟨S4x2, .f32⟩ : BufTy).Contents (Elt F) → (⟨S4x1, .f32⟩ : BufTy).Contents (Elt F)),
   reshape main_v4 main_v5 (rfl : (.f32 : EltTy) = .f32) shapeCasts_S4x1_S4,
   nullary main_cst_1 (constant S_ .f32 0x3F000000#32),
   unary main_cst_1 main_v6 (broadcastInDim S4 ![] bcast_S_S4 : (⟨S_, .f32⟩ : BufTy).Contents (Elt F) → (⟨S4, .f32⟩ : BufTy).Contents (Elt F)),
   binary main_arg2 main_v6 main_v7 (mulf : (⟨S4, .f32⟩ : BufTy).Contents (Elt F) → (⟨S4, .f32⟩ : BufTy).Contents (Elt F) → (⟨S4, .f32⟩ : BufTy).Contents (Elt F)),
   binary main_v3 main_v7 main_v8 (subf : (⟨S4, .f32⟩ : BufTy).Contents (Elt F) → (⟨S4, .f32⟩ : BufTy).Contents (Elt F) → (⟨S4, .f32⟩ : BufTy).Contents (Elt F)),
   unary main_arg2 main_v9 (broadcastInDim S4x1 ![0] bcast_S4_S4x1_0 : (⟨S4, .f32⟩ : BufTy).Contents (Elt F) → (⟨S4x1, .f32⟩ : BufTy).Contents (Elt F)),
   unary main_v0 main_v10 (broadcastInDim S4x1 ![0] bcast_S4_S4x1_0 : (⟨S4, .f32⟩ : BufTy).Contents (Elt F) → (⟨S4x1, .f32⟩ : BufTy).Contents (Elt F)),
   unary main_v8 main_v11 (broadcastInDim S4x1 ![0] bcast_S4_S4x1_0 : (⟨S4, .f32⟩ : BufTy).Contents (Elt F) → (⟨S4x1, .f32⟩ : BufTy).Contents (Elt F)),
   nary ![main_v9, main_v10, main_v11] main_v12 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   nullary main_cst_2 (constant S_ .f32 0x3F000000#32),
   unary main_cst_2 main_v13 (broadcastInDim S4 ![] bcast_S_S4 : (⟨S_, .f32⟩ : BufTy).Contents (Elt F) → (⟨S4, .f32⟩ : BufTy).Contents (Elt F)),
   binary main_arg2 main_v13 main_v14 (mulf : (⟨S4, .f32⟩ : BufTy).Contents (Elt F) → (⟨S4, .f32⟩ : BufTy).Contents (Elt F) → (⟨S4, .f32⟩ : BufTy).Contents (Elt F)),
   binary main_v5 main_v14 main_v15 (subf : (⟨S4, .f32⟩ : BufTy).Contents (Elt F) → (⟨S4, .f32⟩ : BufTy).Contents (Elt F) → (⟨S4, .f32⟩ : BufTy).Contents (Elt F)),
   unary main_v0 main_v16 (broadcastInDim S4x1 ![0] bcast_S4_S4x1_0 : (⟨S4, .f32⟩ : BufTy).Contents (Elt F) → (⟨S4x1, .f32⟩ : BufTy).Contents (Elt F)),
   unary main_arg2 main_v17 (broadcastInDim S4x1 ![0] bcast_S4_S4x1_0 : (⟨S4, .f32⟩ : BufTy).Contents (Elt F) → (⟨S4x1, .f32⟩ : BufTy).Contents (Elt F)),
   unary main_v15 main_v18 (broadcastInDim S4x1 ![0] bcast_S4_S4x1_0 : (⟨S4, .f32⟩ : BufTy).Contents (Elt F) → (⟨S4x1, .f32⟩ : BufTy).Contents (Elt F)),
   nary ![main_v16, main_v17, main_v18] main_v19 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v0 main_v20 (broadcastInDim S4x1 ![0] bcast_S4_S4x1_0 : (⟨S4, .f32⟩ : BufTy).Contents (Elt F) → (⟨S4x1, .f32⟩ : BufTy).Contents (Elt F)),
   unary main_v0 main_v21 (broadcastInDim S4x1 ![0] bcast_S4_S4x1_0 : (⟨S4, .f32⟩ : BufTy).Contents (Elt F) → (⟨S4x1, .f32⟩ : BufTy).Contents (Elt F)),
   unary main_v1 main_v22 (broadcastInDim S4x1 ![0] bcast_S4_S4x1_0 : (⟨S4, .f32⟩ : BufTy).Contents (Elt F) → (⟨S4x1, .f32⟩ : BufTy).Contents (Elt F)),
   nary ![main_v20, main_v21, main_v22] main_v23 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v12 main_v24 (broadcastInDim S4x1x3 ![0, 2] bcast_S4x3_S4x1x3_0_2 : (⟨S4x3, .f32⟩ : BufTy).Contents (Elt F) → (⟨S4x1x3, .f32⟩ : BufTy).Contents (Elt F)),
   unary main_v19 main_v25 (broadcastInDim S4x1x3 ![0, 2] bcast_S4x3_S4x1x3_0_2 : (⟨S4x3, .f32⟩ : BufTy).Contents (Elt F) → (⟨S4x1x3, .f32⟩ : BufTy).Contents (Elt F)),
   unary main_v23 main_v26 (broadcastInDim S4x1x3 ![0, 2] bcast_S4x3_S4x1x3_0_2 : (⟨S4x3, .f32⟩ : BufTy).Contents (Elt F) → (⟨S4x1x3, .f32⟩ : BufTy).Contents (Elt F)),
   nary ![main_v24, main_v25, main_v26] main_v27 (fun u => (concatenate S4x3x3 1 [⟨S4x1x3, (u 0 : (⟨S4x1x3, .f32⟩ : BufTy).Contents (Elt F))⟩, ⟨S4x1x3, (u 1 : (⟨S4x1x3, .f32⟩ : BufTy).Contents (Elt F))⟩, ⟨S4x1x3, (u 2 : (⟨S4x1x3, .f32⟩ : BufTy).Contents (Elt F))⟩] concatenates_S4x1x3_S4x1x3_S4x1x3_S4x3x3_d1 : (⟨S4x3x3, .f32⟩ : BufTy).Contents (Elt F))),
   nullary main_cst_3 (constant S_ .f32 0x43FF0000#32),
   unary main_cst_3 main_v28 (broadcastInDim S4 ![] bcast_S_S4 : (⟨S_, .f32⟩ : BufTy).Contents (Elt F) → (⟨S4, .f32⟩ : BufTy).Contents (Elt F)),
   binary main_v28 main_arg2 main_v29 (Host.divf : (⟨S4, .f32⟩ : BufTy).Contents (Elt F) → (⟨S4, .f32⟩ : BufTy).Contents (Elt F) → (⟨S4, .f32⟩ : BufTy).Contents (Elt F)),
   nullary main_cst_4 (constant S_ .f32 0x3F000000#32),
   unary main_cst_4 main_v30 (broadcastInDim S4 ![] bcast_S_S4 : (⟨S_, .f32⟩ : BufTy).Contents (Elt F) → (⟨S4, .f32⟩ : BufTy).Contents (Elt F)),
   binary main_arg2 main_v30 main_v31 (mulf : (⟨S4, .f32⟩ : BufTy).Contents (Elt F) → (⟨S4, .f32⟩ : BufTy).Contents (Elt F) → (⟨S4, .f32⟩ : BufTy).Contents (Elt F)),
   binary main_v3 main_v31 main_v32 (subf : (⟨S4, .f32⟩ : BufTy).Contents (Elt F) → (⟨S4, .f32⟩ : BufTy).Contents (Elt F) → (⟨S4, .f32⟩ : BufTy).Contents (Elt F)),
   unary main_v32 main_v33 (Host.negf : (⟨S4, .f32⟩ : BufTy).Contents (Elt F) → (⟨S4, .f32⟩ : BufTy).Contents (Elt F)),
   binary main_v33 main_v29 main_v34 (mulf : (⟨S4, .f32⟩ : BufTy).Contents (Elt F) → (⟨S4, .f32⟩ : BufTy).Contents (Elt F) → (⟨S4, .f32⟩ : BufTy).Contents (Elt F)),
   nullary main_cst_5 (constant S_ .f32 0x3F800000#32),
   unary main_cst_5 main_v35 (broadcastInDim S4 ![] bcast_S_S4 : (⟨S_, .f32⟩ : BufTy).Contents (Elt F) → (⟨S4, .f32⟩ : BufTy).Contents (Elt F)),
   binary main_v34 main_v35 main_v36 (subf : (⟨S4, .f32⟩ : BufTy).Contents (Elt F) → (⟨S4, .f32⟩ : BufTy).Contents (Elt F) → (⟨S4, .f32⟩ : BufTy).Contents (Elt F)),
   unary main_v29 main_v37 (broadcastInDim S4x1 ![0] bcast_S4_S4x1_0 : (⟨S4, .f32⟩ : BufTy).Contents (Elt F) → (⟨S4x1, .f32⟩ : BufTy).Contents (Elt F)),
   unary main_v0 main_v38 (broadcastInDim S4x1 ![0] bcast_S4_S4x1_0 : (⟨S4, .f32⟩ : BufTy).Contents (Elt F) → (⟨S4x1, .f32⟩ : BufTy).Contents (Elt F)),
   unary main_v36 main_v39 (broadcastInDim S4x1 ![0] bcast_S4_S4x1_0 : (⟨S4, .f32⟩ : BufTy).Contents (Elt F) → (⟨S4x1, .f32⟩ : BufTy).Contents (Elt F)),
   nary ![main_v37, main_v38, main_v39] main_v40 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   nullary main_cst_6 (constant S_ .f32 0x3F000000#32),
   unary main_cst_6 main_v41 (broadcastInDim S4 ![] bcast_S_S4 : (⟨S_, .f32⟩ : BufTy).Contents (Elt F) → (⟨S4, .f32⟩ : BufTy).Contents (Elt F)),
   binary main_arg2 main_v41 main_v42 (mulf : (⟨S4, .f32⟩ : BufTy).Contents (Elt F) → (⟨S4, .f32⟩ : BufTy).Contents (Elt F) → (⟨S4, .f32⟩ : BufTy).Contents (Elt F)),
   binary main_v5 main_v42 main_v43 (subf : (⟨S4, .f32⟩ : BufTy).Contents (Elt F) → (⟨S4, .f32⟩ : BufTy).Contents (Elt F) → (⟨S4, .f32⟩ : BufTy).Contents (Elt F)),
   unary main_v43 main_v44 (Host.negf : (⟨S4, .f32⟩ : BufTy).Contents (Elt F) → (⟨S4, .f32⟩ : BufTy).Contents (Elt F)),
   binary main_v44 main_v29 main_v45 (mulf : (⟨S4, .f32⟩ : BufTy).Contents (Elt F) → (⟨S4, .f32⟩ : BufTy).Contents (Elt F) → (⟨S4, .f32⟩ : BufTy).Contents (Elt F)),
   nullary main_cst_7 (constant S_ .f32 0x3F800000#32),
   unary main_cst_7 main_v46 (broadcastInDim S4 ![] bcast_S_S4 : (⟨S_, .f32⟩ : BufTy).Contents (Elt F) → (⟨S4, .f32⟩ : BufTy).Contents (Elt F)),
   binary main_v45 main_v46 main_v47 (subf : (⟨S4, .f32⟩ : BufTy).Contents (Elt F) → (⟨S4, .f32⟩ : BufTy).Contents (Elt F) → (⟨S4, .f32⟩ : BufTy).Contents (Elt F)),
   unary main_v0 main_v48 (broadcastInDim S4x1 ![0] bcast_S4_S4x1_0 : (⟨S4, .f32⟩ : BufTy).Contents (Elt F) → (⟨S4x1, .f32⟩ : BufTy).Contents (Elt F)),
   unary main_v29 main_v49 (broadcastInDim S4x1 ![0] bcast_S4_S4x1_0 : (⟨S4, .f32⟩ : BufTy).Contents (Elt F) → (⟨S4x1, .f32⟩ : BufTy).Contents (Elt F)),
   unary main_v47 main_v50 (broadcastInDim S4x1 ![0] bcast_S4_S4x1_0 : (⟨S4, .f32⟩ : BufTy).Contents (Elt F) → (⟨S4x1, .f32⟩ : BufTy).Contents (Elt F))]

/-- The operations of statements 61 to 120. -/
def ops1 : HostOps F :=
  [nary ![main_v48, main_v49, main_v50] main_v51 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v0 main_v52 (broadcastInDim S4x1 ![0] bcast_S4_S4x1_0 : (⟨S4, .f32⟩ : BufTy).Contents (Elt F) → (⟨S4x1, .f32⟩ : BufTy).Contents (Elt F)),
   unary main_v0 main_v53 (broadcastInDim S4x1 ![0] bcast_S4_S4x1_0 : (⟨S4, .f32⟩ : BufTy).Contents (Elt F) → (⟨S4x1, .f32⟩ : BufTy).Contents (Elt F)),
   unary main_v1 main_v54 (broadcastInDim S4x1 ![0] bcast_S4_S4x1_0 : (⟨S4, .f32⟩ : BufTy).Contents (Elt F) → (⟨S4x1, .f32⟩ : BufTy).Contents (Elt F)),
   nary ![main_v52, main_v53, main_v54] main_v55 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v40 main_v56 (broadcastInDim S4x1x3 ![0, 2] bcast_S4x3_S4x1x3_0_2 : (⟨S4x3, .f32⟩ : BufTy).Contents (Elt F) → (⟨S4x1x3, .f32⟩ : BufTy).Contents (Elt F)),
   unary main_v51 main_v57 (broadcastInDim S4x1x3 ![0, 2] bcast_S4x3_S4x1x3_0_2 : (⟨S4x3, .f32⟩ : BufTy).Contents (Elt F) → (⟨S4x1x3, .f32⟩ : BufTy).Contents (Elt F)),
   unary main_v55 main_v58 (broadcastInDim S4x1x3 ![0, 2] bcast_S4x3_S4x1x3_0_2 : (⟨S4x3, .f32⟩ : BufTy).Contents (Elt F) → (⟨S4x1x3, .f32⟩ : BufTy).Contents (Elt F)),
   nary ![main_v56, main_v57, main_v58] main_v59 (fun u => (concatenate S4x3x3 1 [⟨S4x1x3, (u 0 : (⟨S4x1x3, .f32⟩ : BufTy).Contents (Elt F))⟩, ⟨S4x1x3, (u 1 : (⟨S4x1x3, .f32⟩ : BufTy).Contents (Elt F))⟩, ⟨S4x1x3, (u 2 : (⟨S4x1x3, .f32⟩ : BufTy).Contents (Elt F))⟩] concatenates_S4x1x3_S4x1x3_S4x1x3_S4x3x3_d1 : (⟨S4x3x3, .f32⟩ : BufTy).Contents (Elt F))),
   nullary main_cst_8 (constant S_ .f32 0x3A801002#32),
   unary main_cst_8 main_v60 (broadcastInDim S4 ![] bcast_S_S4 : (⟨S_, .f32⟩ : BufTy).Contents (Elt F) → (⟨S4, .f32⟩ : BufTy).Contents (Elt F)),
   binary main_v60 main_v1 main_v61 (mulf : (⟨S4, .f32⟩ : BufTy).Contents (Elt F) → (⟨S4, .f32⟩ : BufTy).Contents (Elt F) → (⟨S4, .f32⟩ : BufTy).Contents (Elt F)),
   nullary main_cst_9 (constant S_ .f32 0x3A801002#32),
   unary main_cst_9 main_v62 (broadcastInDim S4 ![] bcast_S_S4 : (⟨S_, .f32⟩ : BufTy).Contents (Elt F) → (⟨S4, .f32⟩ : BufTy).Contents (Elt F)),
   binary main_v62 main_v1 main_v63 (mulf : (⟨S4, .f32⟩ : BufTy).Contents (Elt F) → (⟨S4, .f32⟩ : BufTy).Contents (Elt F) → (⟨S4, .f32⟩ : BufTy).Contents (Elt F)),
   unary main_v1 main_v64 (Host.negf : (⟨S4, .f32⟩ : BufTy).Contents (Elt F) → (⟨S4, .f32⟩ : BufTy).Contents (Elt F)),
   unary main_v61 main_v65 (broadcastInDim S4x1 ![0] bcast_S4_S4x1_0 : (⟨S4, .f32⟩ : BufTy).Contents (Elt F) → (⟨S4x1, .f32⟩ : BufTy).Contents (Elt F)),
   unary main_v0 main_v66 (broadcastInDim S4x1 ![0] bcast_S4_S4x1_0 : (⟨S4, .f32⟩ : BufTy).Contents (Elt F) → (⟨S4x1, .f32⟩ : BufTy).Contents (Elt F)),
   unary main_v64 main_v67 (broadcastInDim S4x1 ![0] bcast_S4_S4x1_0 : (⟨S4, .f32⟩ : BufTy).Contents (Elt F) → (⟨S4x1, .f32⟩ : BufTy).Contents (Elt F)),
   nary ![main_v65, main_v66, main_v67] main_v68 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v1 main_v69 (Host.negf : (⟨S4, .f32⟩ : BufTy).Contents (Elt F) → (⟨S4, .f32⟩ : BufTy).Contents (Elt F)),
   unary main_v0 main_v70 (broadcastInDim S4x1 ![0] bcast_S4_S4x1_0 : (⟨S4, .f32⟩ : BufTy).Contents (Elt F) → (⟨S4x1, .f32⟩ : BufTy).Contents (Elt F)),
   unary main_v63 main_v71 (broadcastInDim S4x1 ![0] bcast_S4_S4x1_0 : (⟨S4, .f32⟩ : BufTy).Contents (Elt F) → (⟨S4x1, .f32⟩ : BufTy).Contents (Elt F)),
   unary main_v69 main_v72 (broadcastInDim S4x1 ![0] bcast_S4_S4x1_0 : (⟨S4, .f32⟩ : BufTy).Contents (Elt F) → (⟨S4x1, .f32⟩ : BufTy).Contents (Elt F)),
   nary ![main_v70, main_v71, main_v72] main_v73 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v0 main_v74 (broadcastInDim S4x1 ![0] bcast_S4_S4x1_0 : (⟨S4, .f32⟩ : BufTy).Contents (Elt F) → (⟨S4x1, .f32⟩ : BufTy).Contents (Elt F)),
   unary main_v0 main_v75 (broadcastInDim S4x1 ![0] bcast_S4_S4x1_0 : (⟨S4, .f32⟩ : BufTy).Contents (Elt F) → (⟨S4x1, .f32⟩ : BufTy).Contents (Elt F)),
   unary main_v1 main_v76 (broadcastInDim S4x1 ![0] bcast_S4_S4x1_0 : (⟨S4, .f32⟩ : BufTy).Contents (Elt F) → (⟨S4x1, .f32⟩ : BufTy).Contents (Elt F)),
   nary ![main_v74, main_v75, main_v76] main_v77 (fun u => (concatenate S4x3 1 [⟨S4x1, (u 0 : (⟨S4x1, .f32⟩ : BufTy).Contents (Elt F))⟩, ⟨S4x1, (u 1 : (⟨S4x1, .f32⟩ : BufTy).Contents (Elt F))⟩, ⟨S4x1, (u 2 : (⟨S4x1, .f32⟩ : BufTy).Contents (Elt F))⟩] concatenates_S4x1_S4x1_S4x1_S4x3_d1 : (⟨S4x3, .f32⟩ : BufTy).Contents (Elt F))),
   unary main_v68 main_v78 (broadcastInDim S4x1x3 ![0, 2] bcast_S4x3_S4x1x3_0_2 : (⟨S4x3, .f32⟩ : BufTy).Contents (Elt F) → (⟨S4x1x3, .f32⟩ : BufTy).Contents (Elt F)),
   unary main_v73 main_v79 (broadcastInDim S4x1x3 ![0, 2] bcast_S4x3_S4x1x3_0_2 : (⟨S4x3, .f32⟩ : BufTy).Contents (Elt F) → (⟨S4x1x3, .f32⟩ : BufTy).Contents (Elt F)),
   unary main_v77 main_v80 (broadcastInDim S4x1x3 ![0, 2] bcast_S4x3_S4x1x3_0_2 : (⟨S4x3, .f32⟩ : BufTy).Contents (Elt F) → (⟨S4x1x3, .f32⟩ : BufTy).Contents (Elt F)),
   nary ![main_v78, main_v79, main_v80] main_v81 (fun u => (concatenate S4x3x3 1 [⟨S4x1x3, (u 0 : (⟨S4x1x3, .f32⟩ : BufTy).Contents (Elt F))⟩, ⟨S4x1x3, (u 1 : (⟨S4x1x3, .f32⟩ : BufTy).Contents (Elt F))⟩, ⟨S4x1x3, (u 2 : (⟨S4x1x3, .f32⟩ : BufTy).Contents (Elt F))⟩] concatenates_S4x1x3_S4x1x3_S4x1x3_S4x3x3_d1 : (⟨S4x3x3, .f32⟩ : BufTy).Contents (Elt F))),
   unary main_v81 main_v82 (broadcastInDim S4x3x3x1 ![0, 1, 2] bcast_S4x3x3_S4x3x3x1_0_1_2 : (⟨S4x3x3, .f32⟩ : BufTy).Contents (Elt F) → (⟨S4x3x3x1, .f32⟩ : BufTy).Contents (Elt F)),
   unary main_v27 main_v83 (broadcastInDim S4x1x3x3 ![0, 2, 3] bcast_S4x3x3_S4x1x3x3_0_2_3 : (⟨S4x3x3, .f32⟩ : BufTy).Contents (Elt F) → (⟨S4x1x3x3, .f32⟩ : BufTy).Contents (Elt F)),
   unary main_v82 main_v84 (broadcastInDim S4x3x3x3 ![0, 1, 2, 3] bcast_S4x3x3x1_S4x3x3x3_0_1_2_3 : (⟨S4x3x3x1, .f32⟩ : BufTy).Contents (Elt F) → (⟨S4x3x3x3, .f32⟩ : BufTy).Contents (Elt F)),
   unary main_v83 main_v85 (broadcastInDim S4x3x3x3 ![0, 1, 2, 3] bcast_S4x1x3x3_S4x3x3x3_0_1_2_3 : (⟨S4x1x3x3, .f32⟩ : BufTy).Contents (Elt F) → (⟨S4x3x3x3, .f32⟩ : BufTy).Contents (Elt F)),
   binary main_v84 main_v85 main_v86 (mulf : (⟨S4x3x3x3, .f32⟩ : BufTy).Contents (Elt F) → (⟨S4x3x3x3, .f32⟩ : BufTy).Contents (Elt F) → (⟨S4x3x3x3, .f32⟩ : BufTy).Contents (Elt F)),
   nullary main_cst_10 (constant S_ .f32 0x00000000#32),
   binary main_v86 main_cst_10 main_v87 ((fun x v => Host.reduceAdd x v reducesTo_S4x3x3x3_S4x3x3_d2 h_S_) : (⟨S4x3x3x3, .f32⟩ : BufTy).Contents (Elt F) → (⟨S_, .f32⟩ : BufTy).Contents (Elt F) → (⟨S4x3x3, .f32⟩ : BufTy).Contents (Elt F)),
   nullary main_v88 (sitofp .f32 (iotaInDim S256 32 0)),
   nullary main_cst_11 (constant S_ .f32 0x437F0000#32),
   unary main_cst_11 main_v89 (broadcastInDim S256 ![] bcast_S_S256 : (⟨S_, .f32⟩ : BufTy).Contents (Elt F) → (⟨S256, .f32⟩ : BufTy).Contents (Elt F)),
   binary main_v88 main_v89 main_v90 (Host.divf : (⟨S256, .f32⟩ : BufTy).Contents (Elt F) → (⟨S256, .f32⟩ : BufTy).Contents (Elt F) → (⟨S256, .f32⟩ : BufTy).Contents (Elt F)),
   unary main_v90 main_v91 (broadcastInDim S256x256 ![0] bcast_S256_S256x256_0 : (⟨S256, .f32⟩ : BufTy).Contents (Elt F) → (⟨S256x256, .f32⟩ : BufTy).Contents (Elt F)),
   unary main_v90 main_v92 (broadcastInDim S256x256 ![1] bcast_S256_S256x256_1 : (⟨S256, .f32⟩ : BufTy).Contents (Elt F) → (⟨S256x256, .f32⟩ : BufTy).Contents (Elt F)),
   reshape main_v91 main_v93 (rfl : (.f32 : EltTy) = .f32) shapeCasts_S256x256_S65536,
   reshape main_v92 main_v94 (rfl : (.f32 : EltTy) = .f32) shapeCasts_S256x256_S65536,
   unary main_v93 main_v95 (broadcastInDim S65536x1 ![0] bcast_S65536_S65536x1_0 : (⟨S65536, .f32⟩ : BufTy).Contents (Elt F) → (⟨S65536x1, .f32⟩ : BufTy).Contents (Elt F)),
   unary main_v94 main_v96 (broadcastInDim S65536x1 ![0] bcast_S65536_S65536x1_0 : (⟨S65536, .f32⟩ : BufTy).Contents (Elt F) → (⟨S65536x1, .f32⟩ : BufTy).Contents (Elt F)),
   binary main_v95 main_v96 main_v97 ((fun a b => concatenate S65536x2 1 [⟨S65536x1, a⟩, ⟨S65536x1, b⟩] concatenates_S65536x1_S65536x1_S65536x2_d1) : (⟨S65536x1, .f32⟩ : BufTy).Contents (Elt F) → (⟨S65536x1, .f32⟩ : BufTy).Contents (Elt F) → (⟨S65536x2, .f32⟩ : BufTy).Contents (Elt F)),
   unary main_v97 main_v98 (broadcastInDim S1x65536x2 ![1, 2] bcast_S65536x2_S1x65536x2_1_2 : (⟨S65536x2, .f32⟩ : BufTy).Contents (Elt F) → (⟨S1x65536x2, .f32⟩ : BufTy).Contents (Elt F)),
   unary main_v98 main_v99 (broadcastInDim S4x65536x2 ![0, 1, 2] bcast_S1x65536x2_S4x65536x2_0_1_2 : (⟨S1x65536x2, .f32⟩ : BufTy).Contents (Elt F) → (⟨S4x65536x2, .f32⟩ : BufTy).Contents (Elt F)),
   unary main_v87 main_v100 ((extractStridedSlice S4x2x2 ![0, 0, 0] · slices_S4x3x3_S4x2x2_0_0_0) : (⟨S4x3x3, .f32⟩ : BufTy).Contents (Elt F) → (⟨S4x2x2, .f32⟩ : BufTy).Contents (Elt F)),
   unary main_v100 main_v101 (broadcastInDim S4x1x2x2 ![0, 2, 3] bcast_S4x2x2_S4x1x2x2_0_2_3 : (⟨S4x2x2, .f32⟩ : BufTy).Contents (Elt F) → (⟨S4x1x2x2, .f32⟩ : BufTy).Contents (Elt F)),
   unary main_v99 main_v102 (broadcastInDim S4x65536x1x2 ![0, 1, 3] bcast_S4x65536x2_S4x65536x1x2_0_1_3 : (⟨S4x65536x2, .f32⟩ : BufTy).Contents (Elt F) → (⟨S4x65536x1x2, .f32⟩ : BufTy).Contents (Elt F)),
   unary main_v101 main_v103 (broadcastInDim S4x65536x2x2 ![0, 1, 2, 3] bcast_S4x1x2x2_S4x65536x2x2_0_1_2_3 : (⟨S4x1x2x2, .f32⟩ : BufTy).Contents (Elt F) → (⟨S4x65536x2x2, .f32⟩ : BufTy).Contents (Elt F)),
   unary main_v102 main_v104 (broadcastInDim S4x65536x2x2 ![0, 1, 2, 3] bcast_S4x65536x1x2_S4x65536x2x2_0_1_2_3 : (⟨S4x65536x1x2, .f32⟩ : BufTy).Contents (Elt F) → (⟨S4x65536x2x2, .f32⟩ : BufTy).Contents (Elt F)),
   binary main_v103 main_v104 main_v105 (mulf : (⟨S4x65536x2x2, .f32⟩ : BufTy).Contents (Elt F) → (⟨S4x65536x2x2, .f32⟩ : BufTy).Contents (Elt F) → (⟨S4x65536x2x2, .f32⟩ : BufTy).Contents (Elt F)),
   nullary main_cst_12 (constant S_ .f32 0x00000000#32)]

/-- The operations of statements 121 to 180. -/
def ops2 : HostOps F :=
  [binary main_v105 main_cst_12 main_v106 ((fun x v => Host.reduceAdd x v reducesTo_S4x65536x2x2_S4x65536x2_d3 h_S_) : (⟨S4x65536x2x2, .f32⟩ : BufTy).Contents (Elt F) → (⟨S_, .f32⟩ : BufTy).Contents (Elt F) → (⟨S4x65536x2, .f32⟩ : BufTy).Contents (Elt F)),
   unary main_v87 main_v107 ((extractStridedSlice S4x2x1 ![0, 0, 2] · slices_S4x3x3_S4x2x1_0_0_2) : (⟨S4x3x3, .f32⟩ : BufTy).Contents (Elt F) → (⟨S4x2x1, .f32⟩ : BufTy).Contents (Elt F)),
   reshape main_v107 main_v108 (rfl : (.f32 : EltTy) = .f32) shapeCasts_S4x2x1_S4x2,
   unary main_v108 main_v109 (broadcastInDim S4x1x2 ![0, 2] bcast_S4x2_S4x1x2_0_2 : (⟨S4x2, .f32⟩ : BufTy).Contents (Elt F) → (⟨S4x1x2, .f32⟩ : BufTy).Contents (Elt F)),
   unary main_v109 main_v110 (broadcastInDim S4x65536x2 ![0, 1, 2] bcast_S4x1x2_S4x65536x2_0_1_2 : (⟨S4x1x2, .f32⟩ : BufTy).Contents (Elt F) → (⟨S4x65536x2, .f32⟩ : BufTy).Contents (Elt F)),
   binary main_v106 main_v110 main_v111 (addf : (⟨S4x65536x2, .f32⟩ : BufTy).Contents (Elt F) → (⟨S4x65536x2, .f32⟩ : BufTy).Contents (Elt F) → (⟨S4x65536x2, .f32⟩ : BufTy).Contents (Elt F)),
   reshape main_v111 main_v112 (rfl : (.f32 : EltTy) = .f32) shapeCasts_S4x65536x2_S4x256x256x2,
   unary main_v112 main_v113 ((transpose S4x256x256x2 [0, 2, 1, 3] · transposes_S4x256x256x2_S4x256x256x2_0_2_1_3) : (⟨S4x256x256x2, .f32⟩ : BufTy).Contents (Elt F) → (⟨S4x256x256x2, .f32⟩ : BufTy).Contents (Elt F)),
   unary main_v113 main_v114 ((extractStridedSlice S4x1x256x1 ![0, 0, 0, 0] · slices_S4x256x256x2_S4x1x256x1_0_0_0_0) : (⟨S4x256x256x2, .f32⟩ : BufTy).Contents (Elt F) → (⟨S4x1x256x1, .f32⟩ : BufTy).Contents (Elt F)),
   reshape main_v114 main_v115 (rfl : (.f32 : EltTy) = .f32) shapeCasts_S4x1x256x1_S4x256,
   unary main_v113 main_v116 ((extractStridedSlice S4x256x1x1 ![0, 0, 0, 1] · slices_S4x256x256x2_S4x256x1x1_0_0_0_1) : (⟨S4x256x256x2, .f32⟩ : BufTy).Contents (Elt F) → (⟨S4x256x1x1, .f32⟩ : BufTy).Contents (Elt F)),
   reshape main_v116 main_v117 (rfl : (.f32 : EltTy) = .f32) shapeCasts_S4x256x1x1_S4x256,
   nullary main_cst_13 (constant S_ .f32 0x3F800000#32),
   unary main_cst_13 main_v118 (broadcastInDim S4x256 ![] bcast_S_S4x256 : (⟨S_, .f32⟩ : BufTy).Contents (Elt F) → (⟨S4x256, .f32⟩ : BufTy).Contents (Elt F)),
   binary main_v115 main_v118 main_v119 (addf : (⟨S4x256, .f32⟩ : BufTy).Contents (Elt F) → (⟨S4x256, .f32⟩ : BufTy).Contents (Elt F) → (⟨S4x256, .f32⟩ : BufTy).Contents (Elt F)),
   nullary main_cst_14 (constant S_ .f32 0x44FFE000#32),
   unary main_cst_14 main_v120 (broadcastInDim S4x256 ![] bcast_S_S4x256 : (⟨S_, .f32⟩ : BufTy).Contents (Elt F) → (⟨S4x256, .f32⟩ : BufTy).Contents (Elt F)),
   binary main_v119 main_v120 main_v121 (mulf : (⟨S4x256, .f32⟩ : BufTy).Contents (Elt F) → (⟨S4x256, .f32⟩ : BufTy).Contents (Elt F) → (⟨S4x256, .f32⟩ : BufTy).Contents (Elt F)),
   nullary main_cst_15 (constant S_ .f32 0x40000000#32),
   unary main_cst_15 main_v122 (broadcastInDim S4x256 ![] bcast_S_S4x256 : (⟨S_, .f32⟩ : BufTy).Contents (Elt F) → (⟨S4x256, .f32⟩ : BufTy).Contents (Elt F)),
   binary main_v121 main_v122 main_v123 (Host.divf : (⟨S4x256, .f32⟩ : BufTy).Contents (Elt F) → (⟨S4x256, .f32⟩ : BufTy).Contents (Elt F) → (⟨S4x256, .f32⟩ : BufTy).Contents (Elt F)),
   nullary main_cst_16 (constant S_ .f32 0x3F800000#32),
   unary main_cst_16 main_v124 (broadcastInDim S4x256 ![] bcast_S_S4x256 : (⟨S_, .f32⟩ : BufTy).Contents (Elt F) → (⟨S4x256, .f32⟩ : BufTy).Contents (Elt F)),
   binary main_v117 main_v124 main_v125 (addf : (⟨S4x256, .f32⟩ : BufTy).Contents (Elt F) → (⟨S4x256, .f32⟩ : BufTy).Contents (Elt F) → (⟨S4x256, .f32⟩ : BufTy).Contents (Elt F)),
   nullary main_cst_17 (constant S_ .f32 0x44FFE000#32),
   unary main_cst_17 main_v126 (broadcastInDim S4x256 ![] bcast_S_S4x256 : (⟨S_, .f32⟩ : BufTy).Contents (Elt F) → (⟨S4x256, .f32⟩ : BufTy).Contents (Elt F)),
   binary main_v125 main_v126 main_v127 (mulf : (⟨S4x256, .f32⟩ : BufTy).Contents (Elt F) → (⟨S4x256, .f32⟩ : BufTy).Contents (Elt F) → (⟨S4x256, .f32⟩ : BufTy).Contents (Elt F)),
   nullary main_cst_18 (constant S_ .f32 0x40000000#32),
   unary main_cst_18 main_v128 (broadcastInDim S4x256 ![] bcast_S_S4x256 : (⟨S_, .f32⟩ : BufTy).Contents (Elt F) → (⟨S4x256, .f32⟩ : BufTy).Contents (Elt F)),
   binary main_v127 main_v128 main_v129 (Host.divf : (⟨S4x256, .f32⟩ : BufTy).Contents (Elt F) → (⟨S4x256, .f32⟩ : BufTy).Contents (Elt F) → (⟨S4x256, .f32⟩ : BufTy).Contents (Elt F)),
   unary main_v123 main_v130 (Host.floor : (⟨S4x256, .f32⟩ : BufTy).Contents (Elt F) → (⟨S4x256, .f32⟩ : BufTy).Contents (Elt F)),
   unary main_v129 main_v131 (Host.floor : (⟨S4x256, .f32⟩ : BufTy).Contents (Elt F) → (⟨S4x256, .f32⟩ : BufTy).Contents (Elt F)),
   unary main_v130 main_v132 (fptosi 32 : (⟨S4x256, .f32⟩ : BufTy).Contents (Elt F) → (⟨S4x256, .i32⟩ : BufTy).Contents (Elt F)),
   unary main_v131 main_v133 (fptosi 32 : (⟨S4x256, .f32⟩ : BufTy).Contents (Elt F) → (⟨S4x256, .i32⟩ : BufTy).Contents (Elt F)),
   binary main_v123 main_v130 main_v134 (subf : (⟨S4x256, .f32⟩ : BufTy).Contents (Elt F) → (⟨S4x256, .f32⟩ : BufTy).Contents (Elt F) → (⟨S4x256, .f32⟩ : BufTy).Contents (Elt F)),
   binary main_v129 main_v131 main_v135 (subf : (⟨S4x256, .f32⟩ : BufTy).Contents (Elt F) → (⟨S4x256, .f32⟩ : BufTy).Contents (Elt F) → (⟨S4x256, .f32⟩ : BufTy).Contents (Elt F)),
   nullary main_v136 (iotaInDim S4 32 0),
   unary main_v136 main_v137 (broadcastInDim S4x1 ![0] bcast_S4_S4x1_0 : (⟨S4, .i32⟩ : BufTy).Contents (Elt F) → (⟨S4x1, .i32⟩ : BufTy).Contents (Elt F)),
   nullary main_c (constantI S_ 32 3#32),
   unary main_c main_v138 (broadcastInDim S4x1 ![] bcast_S_S4x1 : (⟨S_, .i32⟩ : BufTy).Contents (Elt F) → (⟨S4x1, .i32⟩ : BufTy).Contents (Elt F)),
   binary main_v137 main_v138 main_v139 (muli : (⟨S4x1, .i32⟩ : BufTy).Contents (Elt F) → (⟨S4x1, .i32⟩ : BufTy).Contents (Elt F) → (⟨S4x1, .i32⟩ : BufTy).Contents (Elt F)),
   nullary main_v140 (iotaInDim S3 32 0),
   unary main_v140 main_v141 (broadcastInDim S1x3 ![1] bcast_S3_S1x3_1 : (⟨S3, .i32⟩ : BufTy).Contents (Elt F) → (⟨S1x3, .i32⟩ : BufTy).Contents (Elt F)),
   unary main_v139 main_v142 (broadcastInDim S4x3 ![0, 1] bcast_S4x1_S4x3_0_1 : (⟨S4x1, .i32⟩ : BufTy).Contents (Elt F) → (⟨S4x3, .i32⟩ : BufTy).Contents (Elt F)),
   unary main_v141 main_v143 (broadcastInDim S4x3 ![0, 1] bcast_S1x3_S4x3_0_1 : (⟨S1x3, .i32⟩ : BufTy).Contents (Elt F) → (⟨S4x3, .i32⟩ : BufTy).Contents (Elt F)),
   binary main_v142 main_v143 main_v144 (addi : (⟨S4x3, .i32⟩ : BufTy).Contents (Elt F) → (⟨S4x3, .i32⟩ : BufTy).Contents (Elt F) → (⟨S4x3, .i32⟩ : BufTy).Contents (Elt F)),
   unary main_v144 main_v145 (broadcastInDim S4x3x1 ![0, 1] bcast_S4x3_S4x3x1_0_1 : (⟨S4x3, .i32⟩ : BufTy).Contents (Elt F) → (⟨S4x3x1, .i32⟩ : BufTy).Contents (Elt F)),
   nullary main_c_19 (constantI S_ 32 2048#32),
   unary main_c_19 main_v146 (broadcastInDim S4x3x1 ![] bcast_S_S4x3x1 : (⟨S_, .i32⟩ : BufTy).Contents (Elt F) → (⟨S4x3x1, .i32⟩ : BufTy).Contents (Elt F)),
   binary main_v145 main_v146 main_v147 (muli : (⟨S4x3x1, .i32⟩ : BufTy).Contents (Elt F) → (⟨S4x3x1, .i32⟩ : BufTy).Contents (Elt F) → (⟨S4x3x1, .i32⟩ : BufTy).Contents (Elt F)),
   unary main_v133 main_v148 (broadcastInDim S4x1x256 ![0, 2] bcast_S4x256_S4x1x256_0_2 : (⟨S4x256, .i32⟩ : BufTy).Contents (Elt F) → (⟨S4x1x256, .i32⟩ : BufTy).Contents (Elt F)),
   unary main_v147 main_v149 (broadcastInDim S4x3x256 ![0, 1, 2] bcast_S4x3x1_S4x3x256_0_1_2 : (⟨S4x3x1, .i32⟩ : BufTy).Contents (Elt F) → (⟨S4x3x256, .i32⟩ : BufTy).Contents (Elt F)),
   unary main_v148 main_v150 (broadcastInDim S4x3x256 ![0, 1, 2] bcast_S4x1x256_S4x3x256_0_1_2 : (⟨S4x1x256, .i32⟩ : BufTy).Contents (Elt F) → (⟨S4x3x256, .i32⟩ : BufTy).Contents (Elt F)),
   binary main_v149 main_v150 main_v151 (addi : (⟨S4x3x256, .i32⟩ : BufTy).Contents (Elt F) → (⟨S4x3x256, .i32⟩ : BufTy).Contents (Elt F) → (⟨S4x3x256, .i32⟩ : BufTy).Contents (Elt F)),
   nullary main_c_20 (constantI S_ 32 1#32),
   unary main_c_20 main_v152 (broadcastInDim S4x3x256 ![] bcast_S_S4x3x256 : (⟨S_, .i32⟩ : BufTy).Contents (Elt F) → (⟨S4x3x256, .i32⟩ : BufTy).Contents (Elt F)),
   binary main_v151 main_v152 main_v153 (addi : (⟨S4x3x256, .i32⟩ : BufTy).Contents (Elt F) → (⟨S4x3x256, .i32⟩ : BufTy).Contents (Elt F) → (⟨S4x3x256, .i32⟩ : BufTy).Contents (Elt F)),
   unary main_v151 main_v154 (broadcastInDim S4x3x256x1 ![0, 1, 2] bcast_S4x3x256_S4x3x256x1_0_1_2 : (⟨S4x3x256, .i32⟩ : BufTy).Contents (Elt F) → (⟨S4x3x256x1, .i32⟩ : BufTy).Contents (Elt F)),
   unary main_v153 main_v155 (broadcastInDim S4x3x256x1 ![0, 1, 2] bcast_S4x3x256_S4x3x256x1_0_1_2 : (⟨S4x3x256, .i32⟩ : BufTy).Contents (Elt F) → (⟨S4x3x256x1, .i32⟩ : BufTy).Contents (Elt F)),
   binary main_v154 main_v155 main_v156 ((fun a b => concatenate S4x3x256x2 3 [⟨S4x3x256x1, a⟩, ⟨S4x3x256x1, b⟩] concatenates_S4x3x256x1_S4x3x256x1_S4x3x256x2_d3) : (⟨S4x3x256x1, .i32⟩ : BufTy).Contents (Elt F) → (⟨S4x3x256x1, .i32⟩ : BufTy).Contents (Elt F) → (⟨S4x3x256x2, .i32⟩ : BufTy).Contents (Elt F))]

/-- The operations of statements after these and before the call. -/
def ops3 : HostOps F :=
  [reshape main_v156 main_v157 (rfl : (.i32 : EltTy) = .i32) shapeCasts_S4x3x256x2_S6144,
   unary main_v135 main_v158 (broadcastInDim S4x1x256 ![0, 2] bcast_S4x256_S4x1x256_0_2 : (⟨S4x256, .f32⟩ : BufTy).Contents (Elt F) → (⟨S4x1x256, .f32⟩ : BufTy).Contents (Elt F)),
   unary main_v158 main_v159 (broadcastInDim S4x3x256 ![0, 1, 2] bcast_S4x1x256_S4x3x256_0_1_2 : (⟨S4x1x256, .f32⟩ : BufTy).Contents (Elt F) → (⟨S4x3x256, .f32⟩ : BufTy).Contents (Elt F)),
   reshape main_v159 main_v160 (rfl : (.f32 : EltTy) = .f32) shapeCasts_S4x3x256_S3072,
   unary main_v132 main_v161 ((extractStridedSlice S4x1 ![0, 0] · slices_S4x256_S4x1_0_0) : (⟨S4x256, .i32⟩ : BufTy).Contents (Elt F) → (⟨S4x1, .i32⟩ : BufTy).Contents (Elt F)),
   reshape main_v161 main_v162 (rfl : (.i32 : EltTy) = .i32) shapeCasts_S4x1_S4,
   nullary main_c_21 (constantI S_ 32 7#32),
   unary main_c_21 main_v163 (broadcastInDim S4 ![] bcast_S_S4 : (⟨S_, .i32⟩ : BufTy).Contents (Elt F) → (⟨S4, .i32⟩ : BufTy).Contents (Elt F)),
   binary main_v162 main_v163 main_v164 (Host.shrsi : (⟨S4, .i32⟩ : BufTy).Contents (Elt F) → (⟨S4, .i32⟩ : BufTy).Contents (Elt F) → (⟨S4, .i32⟩ : BufTy).Contents (Elt F)),
   nullary main_c_22 (constantI S_ 32 8#32),
   unary main_c_22 main_v165 (broadcastInDim S4 ![] bcast_S_S4 : (⟨S_, .i32⟩ : BufTy).Contents (Elt F) → (⟨S4, .i32⟩ : BufTy).Contents (Elt F)),
   binary main_v164 main_v165 main_v166 (minsi : (⟨S4, .i32⟩ : BufTy).Contents (Elt F) → (⟨S4, .i32⟩ : BufTy).Contents (Elt F) → (⟨S4, .i32⟩ : BufTy).Contents (Elt F)),
   nullary main_c_23 (constantI S_ 32 0#32),
   unary main_c_23 main_call0_v0 (id : (⟨S_, .i32⟩ : BufTy).Contents (Elt F) → (⟨S_, .i32⟩ : BufTy).Contents (Elt F)),
   binary main_v166 main_call0_v0 main_v167 ((fun x v => pad S16 ![0] ![12] ![0] x v pads_S4_S16_0120 h_S_) : (⟨S4, .i32⟩ : BufTy).Contents (Elt F) → (⟨S_, .i32⟩ : BufTy).Contents (Elt F) → (⟨S16, .i32⟩ : BufTy).Contents (Elt F)),
   nullary main_c_24 (constantI S_ 32 7#32),
   unary main_c_24 main_v168 (broadcastInDim S4 ![] bcast_S_S4 : (⟨S_, .i32⟩ : BufTy).Contents (Elt F) → (⟨S4, .i32⟩ : BufTy).Contents (Elt F)),
   binary main_v166 main_v168 main_v169 (Host.shli : (⟨S4, .i32⟩ : BufTy).Contents (Elt F) → (⟨S4, .i32⟩ : BufTy).Contents (Elt F) → (⟨S4, .i32⟩ : BufTy).Contents (Elt F)),
   unary main_v169 main_v170 (broadcastInDim S4x1 ![0] bcast_S4_S4x1_0 : (⟨S4, .i32⟩ : BufTy).Contents (Elt F) → (⟨S4x1, .i32⟩ : BufTy).Contents (Elt F)),
   unary main_v170 main_v171 (broadcastInDim S4x256 ![0, 1] bcast_S4x1_S4x256_0_1 : (⟨S4x1, .i32⟩ : BufTy).Contents (Elt F) → (⟨S4x256, .i32⟩ : BufTy).Contents (Elt F)),
   binary main_v132 main_v171 main_v172 (subi : (⟨S4x256, .i32⟩ : BufTy).Contents (Elt F) → (⟨S4x256, .i32⟩ : BufTy).Contents (Elt F) → (⟨S4x256, .i32⟩ : BufTy).Contents (Elt F)),
   reshape main_arg0 main_v173 (rfl : (.f32 : EltTy) = .f32) shapeCasts_S4x3x2048x2048_S24576x2048,
   reshape main_v172 main_v174 (rfl : (.i32 : EltTy) = .i32) shapeCasts_S4x256_S1024,
   reshape main_v134 main_v175 (rfl : (.f32 : EltTy) = .f32) shapeCasts_S4x256_S1024]

/-- The operations of the statements after the call. -/
def ops4 : HostOps F :=
  [reshape main_v176 main_v177 (rfl : (.f32 : EltTy) = .f32) shapeCasts_S786432_S4x3x256x256,
   reshape main_v113 main_v178 (rfl : (.f32 : EltTy) = .f32) shapeCasts_S4x256x256x2_S4x65536x2]

set_option maxRecDepth 16384 in
theorem part0_eq (d : Dev nD) : main_part0 (F := F) d = seq ops0 := rfl
set_option maxRecDepth 16384 in
theorem part1_eq (d : Dev nD) : main_part1 (F := F) d = seq ops1 := rfl
set_option maxRecDepth 16384 in
theorem part2_eq (d : Dev nD) : main_part2 (F := F) d = seq ops2 := rfl
set_option maxRecDepth 16384 in
theorem part3_eq (d : Dev nD) : main_part3 (F := F) d = (seq ops3 >>= fun _ => sc.run d 0 >>= fun _ => seq ops4) := rfl

/-- The host program: a line of operations, the call, a line of operations. -/
theorem main_eq (d : Dev nD) :
    main (F := F) d = (seq (ops0 ++ ops1 ++ ops2 ++ ops3) >>= fun _ => sc.run d 0 >>= fun _ => seq ops4) := by
  simp only [main, part0_eq, part1_eq, part2_eq, part3_eq, seq_append, bind_assoc]

end Cert.Proof.Crop
-- ==== Proof.Tidy.lean ====
/-
  The host operations touch the TensorCore's buffers alone.
-/
module

public import proofs.«01_k».proof.Proof.HostOps

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

/-- An operation that touches the TensorCore's buffers alone and creates none. -/
def Tidy (op : HloOp τ sig (Elt F)) : Prop := op.bufs ⊆ tcRefs τ sig ∧ op.fresh = ∅

def AllTidy (l : HostOps F) : Prop := ∀ op ∈ l, Tidy op

theorem AllTidy.nil : AllTidy (F := F) [] := fun _ h => absurd h List.not_mem_nil
theorem AllTidy.cons {op : HloOp τ sig (Elt F)} {l : HostOps F} (h : Tidy op) (hl : AllTidy l) : AllTidy (op :: l) :=
  List.forall_mem_cons.mpr ⟨h, hl⟩
theorem AllTidy.append {l l' : HostOps F} (h : AllTidy l) (h' : AllTidy l') : AllTidy (l ++ l') :=
  List.forall_mem_append.mpr ⟨h, h'⟩

section
variable {x y a b : Ref sig .tc} {l : HostOps F}

theorem AllTidy.nullary (v : y.ty.Contents (Elt F)) (hy) (hl : AllTidy l) : AllTidy (StableHlo.nullary y v hy :: l) :=
  .cons ⟨nullary_bufs_sub .., rfl⟩ hl
theorem AllTidy.unary (f : x.ty.Contents (Elt F) → y.ty.Contents (Elt F)) (hx hy) (hl : AllTidy l) : AllTidy (StableHlo.unary x y f hx hy :: l) :=
  .cons ⟨unary_bufs_sub .., rfl⟩ hl
theorem AllTidy.binary (f : a.ty.Contents (Elt F) → b.ty.Contents (Elt F) → y.ty.Contents (Elt F)) (ha hb hy) (hl : AllTidy l) :
    AllTidy (StableHlo.binary a b y f ha hb hy :: l) :=
  .cons ⟨binary_bufs_sub .., rfl⟩ hl
theorem AllTidy.nary {n : Nat} (xs : Fin n → Ref sig .tc) (f : ((k : Fin n) → (xs k).ty.Contents (Elt F)) → y.ty.Contents (Elt F)) (hxs hy) (hl : AllTidy l) :
    AllTidy (StableHlo.nary xs y f hxs hy :: l) :=
  .cons ⟨nary_bufs_sub .., rfl⟩ hl
theorem AllTidy.reshape (he hn hx hy) (hl : AllTidy l) : AllTidy (StableHlo.reshape x y he hn hx hy :: l) :=
  .cons ⟨reshape_bufs_sub .., rfl⟩ hl
end

theorem tidy0 : AllTidy (F := F) ops0 := by
  unfold ops0
  repeat with_reducible first | refine AllTidy.nullary _ _ ?_ | refine AllTidy.unary _ _ _ ?_ | refine AllTidy.binary _ _ _ _ ?_ | refine AllTidy.reshape _ _ _ _ ?_ | refine AllTidy.nary _ _ _ _ ?_
  exact AllTidy.nil
theorem tidy1 : AllTidy (F := F) ops1 := by
  unfold ops1
  repeat with_reducible first | refine AllTidy.nullary _ _ ?_ | refine AllTidy.unary _ _ _ ?_ | refine AllTidy.binary _ _ _ _ ?_ | refine AllTidy.reshape _ _ _ _ ?_ | refine AllTidy.nary _ _ _ _ ?_
  exact AllTidy.nil
theorem tidy2 : AllTidy (F := F) ops2 := by
  unfold ops2
  repeat with_reducible first | refine AllTidy.nullary _ _ ?_ | refine AllTidy.unary _ _ _ ?_ | refine AllTidy.binary _ _ _ _ ?_ | refine AllTidy.reshape _ _ _ _ ?_ | refine AllTidy.nary _ _ _ _ ?_
  exact AllTidy.nil
theorem tidy3 : AllTidy (F := F) ops3 := by
  unfold ops3
  repeat with_reducible first | refine AllTidy.nullary _ _ ?_ | refine AllTidy.unary _ _ _ ?_ | refine AllTidy.binary _ _ _ _ ?_ | refine AllTidy.reshape _ _ _ _ ?_ | refine AllTidy.nary _ _ _ _ ?_
  exact AllTidy.nil
theorem tidy4 : AllTidy (F := F) ops4 := by
  unfold ops4
  repeat with_reducible first | refine AllTidy.nullary _ _ ?_ | refine AllTidy.unary _ _ _ ?_ | refine AllTidy.binary _ _ _ _ ?_ | refine AllTidy.reshape _ _ _ _ ?_ | refine AllTidy.nary _ _ _ _ ?_
  exact AllTidy.nil

/-- The operations before the call. -/
def before : HostOps F := ops0 ++ ops1 ++ ops2 ++ ops3

theorem before_tidy : AllTidy (F := F) before := by
  unfold before
  exact (((tidy0 (F := F)).append tidy1).append tidy2).append tidy3

end Cert.Proof.Crop
-- ==== Proof.Main.lean ====
/-
  The whole program's run.
-/
module

public import proofs.«01_k».proof.Proof.Call
public import proofs.«01_k».proof.Proof.Tidy

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

/-! ## What passes between the TensorCore and the tiles -/

/-- A tile's work sends the operands' share and its part of the result both ways; a core's is its tiles'. -/
def P (o : Dev nD → Ops F) : (K (F := F)).Pay (nD := nD) (Val := Elt F) (Name := ℕ) (U := UU) where
  st := fun q d c => match q with | 0 => bigSep Finset.univ fun i : Fin 16 => given (o d) d c i
  dn := fun q d c => match q with | 0 => bigSep Finset.univ fun i : Fin 16 => back (o d) d c i
  go := fun q d c i => match q with | 0 => given (o d) d c i
  td := fun q d c i => match q with | 0 => back (o d) d c i
  x := fun _ _ => iprop(emp)

instance P_storable (o : Dev nD → Ops F) : (P o).IsStorable where
  st q d c := match q with
    | 0 => haveI := fun i => given_storable (o d) d c i
      (inferInstance : BI.Storable (upEmb : UEmb _ 𝕄) (bigSep Finset.univ fun i : Fin 16 => given (o d) d c i))
  dn q d c := match q with
    | 0 => haveI := fun i => back_storable (o d) d c i
      (inferInstance : BI.Storable (upEmb : UEmb _ 𝕄) (bigSep Finset.univ fun i : Fin 16 => back (o d) d c i))
  go q d c i := match q with | 0 => given_storable (o d) d c i
  td q d c i := match q with | 0 => back_storable (o d) d c i

theorem defs_vector (c : Fin τ.nSC) (s : Fin τ.nSub) :
    defs₀ (F := F) (.scVector c s) 0 ()
      = SparseCore.onTile hcore0 hsub0 (fun c s => cc0_k (tileAt c s) imgV (Memref.isWhole_whole _) idxV (Memref.isWhole_whole _) xlHV (Memref.isWhole_whole _) wxHV (Memref.isWhole_whole _)
          wyHV (Memref.isWhole_whole _) c0HV (Memref.isWhole_whole _) resV (Memref.isWhole_whole _) laV (Memref.isWhole_whole _) lbV (Memref.isWhole_whole _)
          xlV (Memref.isWhole_whole _) wxV (Memref.isWhole_whole _) wyV (Memref.isWhole_whole _) c0V (Memref.isWhole_whole _) baV (Memref.isWhole_whole _)
          bbV (Memref.isWhole_whole _) outV (Memref.isWhole_whole _) cc0_scratch9 cc0_scratch10 cc0_scoped0 cc0_scoped1 cc0_scoped2 cc0_scoped3 cc0_scoped4
          cc0_scoped5 cc0_scoped6 cc0_scoped7 cc0_scoped8) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  iexact HO

set_option maxRecDepth 16384 in
theorem tileObl (o : Dev nD → Ops F) (ho : ∀ d, InRange (o d)) : (K (F := F)).TileObl (D (F := F)) 𝒱 (P o) v₀ 0 := by
  intro d c i O W hO _ _
  simp only [show (P o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_vector]
  simp only [SparseCore.onTile, hci, and_self, ↓reduceDIte]
  exact (tile_body d (tileAt ⟨_, hci.1⟩ ⟨_, hci.2⟩) (o d) (ho d) _ O W hO).trans (wp_mono frame _ _ fun _ => waits_weaken)

theorem vecSplit (o : Dev nD → Ops F) : (K (F := F)).VecSplit' (P o) 0 := by
  intro d c
  show (bigSep Finset.univ fun i : Fin 16 => given (o d) d c i) ⊢ |={Set.univ}=> iprop(
      (bigSep Finset.univ fun i : Fin 16 => given (o d) d c i)
      ∗ ((bigSep Finset.univ fun i : Fin 16 => back (o d) d c i) -∗ (bigSep Finset.univ fun i : Fin 16 => back (o d) d c i)))
  iintro H; imodintro
  isplitl [H]; · iexact H
  iintro H; iexact H

/-! ## The launch's ghost state -/

omit [FloatOps F] in
theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ (o : Dev nD → Ops F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) o).x q thr) = bigSep Finset.univ fun _ => iprop(emp) from
    bigSep_congr fun _ _ => bigSep_univ_of_subsingleton (0 : Fin 1), bigSep_nothing]
  iempintro

/-! ## The contents of the TensorCore's buffers -/

variable (m : (ℓ : Loc nD τ sig) → Buf (Elt F) ℓ) (ρ : Dev nD → PrngReg)

/-- At the start. -/
def val0 (d : Dev nD) : Valuation τ sig (Elt F) := fun b => m (d, b)
/-- At the call. -/
def val1 (d : Dev nD) : Valuation τ sig (Elt F) := after before (val0 m d)
/-- The call's operands. -/
def opsAt (d : Dev nD) : Ops F where
  img := val1 m d (at' main_v173)
  idx := val1 m d (at' main_v157)
  xl := val1 m d (at' main_v174)
  wx := val1 m d (at' main_v175)
  wy := val1 m d (at' main_v160)
  c0 := val1 m d (at' main_v167)
/-- After the call. -/
def val2 (d : Dev nD) : Valuation τ sig (Elt F) := Function.update (val1 m d) (at' main_v176) (outVal (opsAt m d))
/-- At the end. -/
def val3 (d : Dev nD) : Valuation τ sig (Elt F) := after ops4 (val2 m d)

/-- The buffers of the call. -/
def callBufs : Finset (DevRef τ sig) :=
  {at' main_v173, at' main_v157, at' main_v174, at' main_v175, at' main_v160, at' main_v167, at' main_v176}

theorem callBufs_sub : callBufs ⊆ tcRefs τ sig := by
  intro b hb
  simp only [callBufs, Finset.mem_insert, Finset.mem_singleton] at hb
  rcases hb with rfl | rfl | rfl | rfl | rfl | rfl | rfl <;> exact devRef_mem_tcRefs _

omit [FloatOps F] in
theorem held_call (d : Dev nD) (V : Valuation τ sig (Elt F)) :
    (held (T d) callBufs V : sProp 𝕄) = iprop((imgL d ↦{fullShare} V (at' main_v173)) ∗ (idxL d ↦{fullShare} V (at' main_v157))
      ∗ (xlL d ↦{fullShare} V (at' main_v174)) ∗ (wxL d ↦{fullShare} V (at' main_v175)) ∗ (wyL d ↦{fullShare} V (at' main_v160))
      ∗ (c0L d ↦{fullShare} V (at' main_v167)) ∗ resL d ↦{fullShare} V (at' main_v176)) := by
  unfold held callBufs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem held_given (d : Dev nD) : (held (T d) callBufs (val1 m d) : sProp 𝕄) ⊢ iprop(operands (opsAt m d) d ∗ resL d ↦{fullShare} val1 m d (at' main_v176)) := by
  rw [held_call]
  unfold operands
  iintro ⟨H1, H2, H3, H4, H5, H6, H7⟩
  isplitr [H7]
  · isplitl [H1]; · iexact H1
    isplitl [H2]; · iexact H2
    isplitl [H3]; · iexact H3
    isplitl [H4]; · iexact H4
    isplitl [H5]; · iexact H5
    iexact H6
  iexact H7

theorem val2_res (d : Dev nD) : val2 m d (at' main_v176) = outVal (opsAt m d) := Function.update_self ..
theorem val2_ne (d : Dev nD) {b : DevRef τ sig} (h : b ≠ at' main_v176) : val2 m d b = val1 m d b := Function.update_of_ne h ..

theorem held_back (d : Dev nD) : iprop(operands (opsAt m d) d ∗ resL d ↦{fullShare} (outVal (opsAt m d) : Buf (Elt F) (resL d)))
    ⊢ (held (T d) callBufs (val2 m d) : sProp 𝕄) := by
  rw [held_call, val2_res, val2_ne m d (show at' main_v173 ≠ at' main_v176 by decide), val2_ne m d (show at' main_v157 ≠ at' main_v176 by decide),
    val2_ne m d (show at' main_v174 ≠ at' main_v176 by decide), val2_ne m d (show at' main_v175 ≠ at' main_v176 by decide),
    val2_ne m d (show at' main_v160 ≠ at' main_v176 by decide), val2_ne m d (show at' main_v167 ≠ at' main_v176 by decide)]
  unfold operands
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H6]; · iexact H6
  iexact H7

theorem rest_same (d : Dev nD) : (held (T d) (tcRefs τ sig \ callBufs) (val1 m d) : sProp 𝕄) = held (T d) (tcRefs τ sig \ callBufs) (val2 m d) := by
  refine held_congr _ fun b hb => (val2_ne m d fun e => ?_).symm
  subst e
  exact (Finset.mem_sdiff.mp hb).2 (by simp [callBufs])

omit [FloatOps F] in
theorem unscoped_held (d : Dev nD) :
    (unscopedBufs d (fun b => m ((SparseCore.T d).loc b)) : sProp 𝕄) = held (T d) (tcRefs τ sig) (val0 m d) := by
  unfold unscopedBufs held tcRefs
  rw [BI.bigSep_map, show (Finset.univ.filter fun b : Ref sig .tc => ¬ b.isScoped) = Finset.univ by decide]
  rfl

/-! ## The host program -/

/-- What the host program leaves: every buffer of the TensorCore at its last contents. -/
abbrev FIN (d : Dev nD) : sProp 𝕄 := held (T d) (tcRefs τ sig) (val3 m d)

theorem hmain (κ : GSem nD τ sig → ℕ) (d : Dev nD) :
    iprop((K (F := F)).ctx EH (P (opsAt m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq (defs := (K (F := F)).defs (D (F := F))) 𝒱 none Set.univ d (tcRefs τ sig) _ before (fun op h => (before_tidy op h).1) (fun op h => (before_tidy op h).2) (val0 m d)) $$ [Hb Hheld]
  · isplitl [Hb]; · iexact Hb
    iexact Hheld
  iintro ⟨Hb, Hheld⟩
  ihave Hh := (Entails.of_eq (show (held (d.tc : Thread nD τ) (tcRefs τ sig) (after before (val0 m d)) : sProp 𝕄) = _ from held_sub_split (T d) callBufs_sub (val1 m d))) $$ Hheld
  icases Hh with ⟨Hcall, Hrest⟩
  ihave Hg := (held_given m d) $$ Hcall
  rw [wp_bind]
  iapply ((K (F := F)).wp_run (D (F := F)) 𝒱 (EH := EH) (P := P (opsAt m)) κ d 0) $$ [Hst Hg Hrest Hb Hts]
  isplitr; · iexact Hctx
  isplitl [Hst]; · iexact Hst
  isplitl [Hg]
  · iapply (given_all (opsAt m d) d (val1 m d (at' main_v176))); iexact Hg
  iintro ⟨Hst, Hdn⟩
  ihave Hdn' := (Entails.of_eq (show (bigSep Finset.univ fun c : Fin ((K (F := F)).nCore 0) => (P (opsAt m)).dn 0 d c)
    = bigSep Finset.univ fun c : Fin 2 => bigSep Finset.univ fun i : Fin 16 => back (opsAt m d) d c i from rfl)) $$ Hdn
  ihave Hbk := (back_all (opsAt m d) d) $$ Hdn'
  ihave Hcall := (held_back m d) $$ Hbk
  ihave Hrest' := (Entails.of_eq (rest_same m d)) $$ Hrest
  ihave Hheld := (Entails.of_eq (held_sub_split (T d) callBufs_sub (val2 m d)).symm) $$ [Hcall Hrest']
  · isplitl [Hcall]; · iexact Hcall
    iexact Hrest'
  rw [← bind_pure (seq ops4)]
  iapply (wp_seq (defs := (K (F := F)).defs (D (F := F))) 𝒱 none Set.univ d (tcRefs τ sig) _ ops4 (fun op h => (tidy4 op h).1) (fun op h => (tidy4 op h).2) (val2 m d)) $$ [Hb Hheld]
  · isplitl [Hb]; · iexact Hb
    iexact Hheld
  iintro ⟨Hb, Hheld⟩
  rw [wp_pure]
  imodintro
  isplitl [Hst]; · iexact Hst
  isplitl [Hheld]; · iexact Hheld
  isplitl [Hb]; · iexact Hb
  iexact Hts

def fq (d : Dev nD) (s' : Phys nD τ sig (Elt F)) : Prop := ∀ b : Ref sig .tc, s'.mem.mem (d, at' b) = val3 m d (at' b)

theorem hfin_one (d : Dev nD) (s' : Phys nD τ sig (Elt F)) (b : Ref sig .tc) :
    iprop(FIN m d ∗ SI s') ⊢ (⌜s'.mem.mem (d, at' b) = val3 m d (at' b)⌝ : sProp 𝕄) := by
  have hb : {at' b} ⊆ tcRefs τ sig := Finset.singleton_subset_iff.mpr (devRef_mem_tcRefs b)
  have e : (held (T d) {at' b} (val3 m d) : sProp 𝕄) = (((d, at' b) : Loc nD τ sig) ↦{fullShare} val3 m d (at' b)) := by
    unfold held; exact bigSep_singleton
  unfold FIN
  rw [held_sub_split (T d) hb, e]
  iintro ⟨⟨Hx, -⟩, HSI⟩
  ihave H := (SI_pointsTo_agree (st := s') (ℓ := (d, at' b)) (I := Finset.univ) (q := fullShare) (f := val3 m d (at' b))) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold fq
  exact (forall_intro fun b => hfin_one m d s' b).trans (pure_forall (PROP := sProp 𝕄) (φ := fun b : Ref sig .tc => s'.mem.mem (d, at' b) = val3 m d (at' b))).2

/-- What a run leaves: every buffer of the TensorCore at its last contents, every semaphore at zero. -/
def QC : PUnit × MemSt nD τ sig (Elt F) → Prop :=
  fun r => (∀ (d : Dev nD) (b : Ref sig .tc), r.2.mem (d, at' b) = val3 m d (at' b)) ∧ r.2.sem = fun _ => 0

/-- The whole run, where the call's operands are in range. -/
theorem run_main [∀ e, Nonempty (Elt F e)] (ho : ∀ d, InRange (opsAt m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (opsAt m)) (A := ∅) facts v₀
    (fun q hq => match q with | 0 => nomatch hq)
    (fun q _ => match q with | 0 => tileObl (opsAt m) ho)
    (fun q _ => match q with | 0 => SparseCore.Cfg.VecSplit.of_plain (vecSplit (opsAt m)))
    m ρ main (fun _ => iprop(emp)) (FIN m) (u₀ (F := F)) (sep_elim_left.trans (hu₀ (opsAt m))) (hmain m ρ) (fq m) (hfin m) (QC m) (fun _ h hz => ⟨h, hz⟩)

end Cert.Proof.Crop
-- ==== Proof.Host.lean ====
/-
  The arrays the host program computes, as functions of its arguments.
-/
module

public import proofs.«01_k».proof.Proof.Setup

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Affine maps of the plane, four at a time -/

/-- Four numbers as a column. -/
def col (v : FVec F S4 .f32) : FVec F S4x1 .f32 := broadcastInDim S4x1 ![0] bcast_S4_S4x1_0 v
/-- One number, four times. -/
def four (bits : BitVec 32) : FVec F S4 .f32 := broadcastInDim S4 ![] bcast_S_S4 (constant S_ .f32 bits)
def zeros : FVec F S4 .f32 := four 0x00000000#32
def ones : FVec F S4 .f32 := four 0x3F800000#32
/-- Three columns side by side: a row of each matrix. -/
def cols3 (a b c : FVec F S4x1 .f32) : FVec F S4x3 .f32 := concatenate S4x3 1 [⟨S4x1, a⟩, ⟨S4x1, b⟩, ⟨S4x1, c⟩] concatenates_S4x1_S4x1_S4x1_S4x3_d1
def row3 (a b c : FVec F S4 .f32) : FVec F S4x3 .f32 := cols3 (col a) (col b) (col c)
/-- A matrix of three rows. -/
def mat3 (a b c : FVec F S4x3 .f32) : FVec F S4x3x3 .f32 :=
  concatenate S4x3x3 1 [⟨S4x1x3, broadcastInDim S4x1x3 ![0, 2] bcast_S4x3_S4x1x3_0_2 a⟩, ⟨S4x1x3, broadcastInDim S4x1x3 ![0, 2] bcast_S4x3_S4x1x3_0_2 b⟩,
    ⟨S4x1x3, broadcastInDim S4x1x3 ![0, 2] bcast_S4x3_S4x1x3_0_2 c⟩] concatenates_S4x1x3_S4x1x3_S4x1x3_S4x3x3_d1

/-- The centres' two coordinates. -/
def centreX (c : FVec F S4x2 .f32) : FVec F S4 .f32 := shapeCast S4 (extractStridedSlice S4x1 ![0, 0] c slices_S4x2_S4x1_0_0) shapeCasts_S4x1_S4
def centreY (c : FVec F S4x2 .f32) : FVec F S4 .f32 := shapeCast S4 (extractStridedSlice S4x1 ![0, 1] c slices_S4x2_S4x1_0_1) shapeCasts_S4x1_S4
/-- A box's first coordinate: the centre less half the size. -/
def corner (x s : FVec F S4 .f32) : FVec F S4 .f32 := subf x (mulf s (four 0x3F000000#32))

/-- From the unit square to the box. -/
def boxMap (c : FVec F S4x2 .f32) (s : FVec F S4 .f32) : FVec F S4x3x3 .f32 :=
  mat3 (row3 s zeros (corner (centreX c) s)) (row3 zeros s (corner (centreY c) s)) (row3 zeros zeros ones)

/-- The scale from the box to the crop, and a coordinate's offset. -/
def cropScale (s : FVec F S4 .f32) : FVec F S4 .f32 := Host.divf (four 0x43FF0000#32) s
def cropOff (x s : FVec F S4 .f32) : FVec F S4 .f32 := subf (mulf (Host.negf (corner x s)) (cropScale s)) ones
/-- From the image to the crop. -/
def cropMap (c : FVec F S4x2 .f32) (s : FVec F S4 .f32) : FVec F S4x3x3 .f32 :=
  mat3 (row3 (cropScale s) zeros (cropOff (centreX c) s)) (row3 zeros (cropScale s) (cropOff (centreY c) s)) (row3 zeros zeros ones)

/-- From pixels to the image's own coordinates, between minus one and one; `z` are zeros and `o` ones. -/
def pixelMap (z o : FVec F S4 .f32) : FVec F S4x3x3 .f32 :=
  mat3 (row3 (mulf (four 0x3A801002#32) o) z (Host.negf o)) (row3 z (mulf (four 0x3A801002#32) o) (Host.negf o)) (row3 z z o)
/-- The two maps composed. -/
def fullMap (z o : FVec F S4 .f32) (t : FVec F S4x3x3 .f32) : FVec F S4x3x3 .f32 :=
  Host.reduceAdd (mulf (broadcastInDim S4x3x3x3 ![0, 1, 2, 3] bcast_S4x3x3x1_S4x3x3x3_0_1_2_3 (broadcastInDim S4x3x3x1 ![0, 1, 2] bcast_S4x3x3_S4x3x3x1_0_1_2 (pixelMap z o)))
      (broadcastInDim S4x3x3x3 ![0, 1, 2, 3] bcast_S4x1x3x3_S4x3x3x3_0_1_2_3 (broadcastInDim S4x1x3x3 ![0, 2, 3] bcast_S4x3x3_S4x1x3x3_0_2_3 t)))
    (constant S_ .f32 0x00000000#32) reducesTo_S4x3x3x3_S4x3x3_d2 h_S_

/-! ## The sampling grid -/

/-- The 256 points of a side of the unit square. -/
def side : FVec F S256 .f32 := Host.divf (sitofp .f32 (iotaInDim S256 32 0)) (broadcastInDim S256 ![] bcast_S_S256 (constant S_ .f32 0x437F0000#32))
/-- The square's points, four times. -/
def points : FVec F S4x65536x2 .f32 :=
  broadcastInDim S4x65536x2 ![0, 1, 2] bcast_S1x65536x2_S4x65536x2_0_1_2 (broadcastInDim S1x65536x2 ![1, 2] bcast_S65536x2_S1x65536x2_1_2
    (concatenate S65536x2 1 [⟨S65536x1, broadcastInDim S65536x1 ![0] bcast_S65536_S65536x1_0 (shapeCast S65536 (broadcastInDim S256x256 ![0] bcast_S256_S256x256_0 side) shapeCasts_S256x256_S65536)⟩,
      ⟨S65536x1, broadcastInDim S65536x1 ![0] bcast_S65536_S65536x1_0 (shapeCast S65536 (broadcastInDim S256x256 ![1] bcast_S256_S256x256_1 side) shapeCasts_S256x256_S65536)⟩]
      concatenates_S65536x1_S65536x1_S65536x2_d1))
/-- The map's matrix part times every point. -/
def products (t : FVec F S4x3x3 .f32) : FVec F S4x65536x2x2 .f32 :=
  mulf (broadcastInDim S4x65536x2x2 ![0, 1, 2, 3] bcast_S4x1x2x2_S4x65536x2x2_0_1_2_3 (broadcastInDim S4x1x2x2 ![0, 2, 3] bcast_S4x2x2_S4x1x2x2_0_2_3
      (extractStridedSlice S4x2x2 ![0, 0, 0] t slices_S4x3x3_S4x2x2_0_0_0)))
    (broadcastInDim S4x65536x2x2 ![0, 1, 2, 3] bcast_S4x65536x1x2_S4x65536x2x2_0_1_2_3 (broadcastInDim S4x65536x1x2 ![0, 1, 3] bcast_S4x65536x2_S4x65536x1x2_0_1_3 points))
/-- The map at every point, the sums starting from `z`. -/
def moved (z : FVec F S_ .f32) (t : FVec F S4x3x3 .f32) (p : FVec F S4x65536x2x2 .f32) : FVec F S4x65536x2 .f32 :=
  addf (Host.reduceAdd p z reducesTo_S4x65536x2x2_S4x65536x2_d3 h_S_)
    (broadcastInDim S4x65536x2 ![0, 1, 2] bcast_S4x1x2_S4x65536x2_0_1_2 (broadcastInDim S4x1x2 ![0, 2] bcast_S4x2_S4x1x2_0_2
      (shapeCast S4x2 (extractStridedSlice S4x2x1 ![0, 0, 2] t slices_S4x3x3_S4x2x1_0_0_2) shapeCasts_S4x2x1_S4x2)))
/-- The grid, rows of the crop first. -/
def gridOf (p : FVec F S4x65536x2 .f32) : FVec F S4x256x256x2 .f32 :=
  transpose S4x256x256x2 [0, 2, 1, 3] (shapeCast S4x256x256x2 p shapeCasts_S4x65536x2_S4x256x256x2) transposes_S4x256x256x2_S4x256x256x2_0_2_1_3

/-! ## Taps and weights -/

def wide (bits : BitVec 32) : FVec F S4x256 .f32 := broadcastInDim S4x256 ![] bcast_S_S4x256 (constant S_ .f32 bits)
/-- A grid coordinate in pixels. -/
def pixel (g : FVec F S4x256 .f32) : FVec F S4x256 .f32 := Host.divf (mulf (addf g (wide 0x3F800000#32)) (wide 0x44FFE000#32)) (wide 0x40000000#32)
def pixelX (g : FVec F S4x256x256x2 .f32) : FVec F S4x256 .f32 :=
  pixel (shapeCast S4x256 (extractStridedSlice S4x1x256x1 ![0, 0, 0, 0] g slices_S4x256x256x2_S4x1x256x1_0_0_0_0) shapeCasts_S4x1x256x1_S4x256)
def pixelY (g : FVec F S4x256x256x2 .f32) : FVec F S4x256 .f32 :=
  pixel (shapeCast S4x256 (extractStridedSlice S4x256x1x1 ![0, 0, 0, 1] g slices_S4x256x256x2_S4x256x1x1_0_0_0_1) shapeCasts_S4x256x1x1_S4x256)
/-- A coordinate's first tap and its weight past it. -/
def tap (x : FVec F S4x256 .f32) : IVec S4x256 32 := fptosi 32 (Host.floor x)
def part (x : FVec F S4x256 .f32) : FVec F S4x256 .f32 := subf x (Host.floor x)

/-- The row of channel `c` of image `b` where a line's first tap lies, in the images laid out row by row. -/
def rowOf (y : IVec S4x256 32) : IVec S4x3x256 32 :=
  addi (broadcastInDim S4x3x256 ![0, 1, 2] bcast_S4x3x1_S4x3x256_0_1_2
      (muli (broadcastInDim S4x3x1 ![0, 1] bcast_S4x3_S4x3x1_0_1
        (addi (broadcastInDim S4x3 ![0, 1] bcast_S4x1_S4x3_0_1 (muli (broadcastInDim S4x1 ![0] bcast_S4_S4x1_0 (iotaInDim S4 32 0)) (broadcastInDim S4x1 ![] bcast_S_S4x1 (constantI S_ 32 3#32))))
          (broadcastInDim S4x3 ![0, 1] bcast_S1x3_S4x3_0_1 (broadcastInDim S1x3 ![1] bcast_S3_S1x3_1 (iotaInDim S3 32 0)))))
        (broadcastInDim S4x3x1 ![] bcast_S_S4x3x1 (constantI S_ 32 2048#32))))
    (broadcastInDim S4x3x256 ![0, 1, 2] bcast_S4x1x256_S4x3x256_0_1_2 (broadcastInDim S4x1x256 ![0, 2] bcast_S4x256_S4x1x256_0_2 y))
/-- Each line's two rows. -/
def rowPairs (y : IVec S4x256 32) : IVec S4x3x256x2 32 :=
  concatenate S4x3x256x2 3 [⟨S4x3x256x1, broadcastInDim S4x3x256x1 ![0, 1, 2] bcast_S4x3x256_S4x3x256x1_0_1_2 (rowOf y)⟩,
    ⟨S4x3x256x1, broadcastInDim S4x3x256x1 ![0, 1, 2] bcast_S4x3x256_S4x3x256x1_0_1_2 (addi (rowOf y) (broadcastInDim S4x3x256 ![] bcast_S_S4x3x256 (constantI S_ 32 1#32)))⟩]
    concatenates_S4x3x256x1_S4x3x256x1_S4x3x256x2_d3
def rowList (p : IVec S4x3x256x2 32) : IVec S6144 32 := shapeCast S6144 p shapeCasts_S4x3x256x2_S6144
/-- The weights down, once for each channel. -/
def weightList (w : FVec F S4x256 .f32) : FVec F S3072 .f32 :=
  shapeCast S3072 (broadcastInDim S4x3x256 ![0, 1, 2] bcast_S4x1x256_S4x3x256_0_1_2 (broadcastInDim S4x1x256 ![0, 2] bcast_S4x256_S4x1x256_0_2 w)) shapeCasts_S4x3x256_S3072
/-- The first block of columns that each image's taps need. -/
def firstBlock (x : IVec S4x256 32) : IVec S4 32 :=
  minsi (Host.shrsi (shapeCast S4 (extractStridedSlice S4x1 ![0, 0] x slices_S4x256_S4x1_0_0) shapeCasts_S4x1_S4) (broadcastInDim S4 ![] bcast_S_S4 (constantI S_ 32 7#32)))
    (broadcastInDim S4 ![] bcast_S_S4 (constantI S_ 32 8#32))
def blockTable (b : IVec S4 32) : IVec S16 32 := pad S16 ![0] ![12] ![0] b (constantI S_ 32 0#32) pads_S4_S16_0120 h_S_
/-- The taps counted from that block's first column. -/
def inWindow (x : IVec S4x256 32) : IVec S4x256 32 :=
  subi x (broadcastInDim S4x256 ![0, 1] bcast_S4x1_S4x256_0_1 (broadcastInDim S4x1 ![0] bcast_S4_S4x1_0
    (Host.shli (firstBlock x) (broadcastInDim S4 ![] bcast_S_S4 (constantI S_ 32 7#32)))))

/-! ## From the arguments -/

/-- The composed map of the arguments. -/
def fullAt (c : FVec F S4x2 .f32) (s : FVec F S4 .f32) : FVec F S4x3x3 .f32 := fullMap zeros ones (boxMap c s)
/-- The grid of the arguments. -/
def flatAt (c : FVec F S4x2 .f32) (s : FVec F S4 .f32) : FVec F S4x65536x2 .f32 := moved (constant S_ .f32 0x00000000#32) (fullAt c s) (products (fullAt c s))
def gridAt (c : FVec F S4x2 .f32) (s : FVec F S4 .f32) : FVec F S4x256x256x2 .f32 := gridOf (flatAt c s)
/-- The pixel coordinates of the arguments. -/
def xAt (c : FVec F S4x2 .f32) (s : FVec F S4 .f32) : FVec F S4x256 .f32 := pixelX (gridAt c s)
def yAt (c : FVec F S4x2 .f32) (s : FVec F S4 .f32) : FVec F S4x256 .f32 := pixelY (gridAt c s)

end Cert.Proof.Crop
-- ==== Proof.Reads.lean ====
/-
  What each line of host operations leaves in the buffers read later.
-/
module

public import proofs.«01_k».proof.Proof.Host
public import proofs.«01_k».proof.Proof.Tidy

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo

variable (V : Valuation τ sig (Elt F))

set_option maxRecDepth 16384

theorem read0_arg0 : after ops0 V (Proc.devRef .tc main_arg0) = V (Proc.devRef .tc main_arg0) := by
  unfold ops0; after_reads_simp
theorem read0_arg1 : after ops0 V (Proc.devRef .tc main_arg1) = V (Proc.devRef .tc main_arg1) := by
  unfold ops0; after_reads_simp
theorem read0_arg2 : after ops0 V (Proc.devRef .tc main_arg2) = V (Proc.devRef .tc main_arg2) := by
  unfold ops0; after_reads_simp
theorem read0_v0 : after ops0 V (Proc.devRef .tc main_v0) = zeros := by
  unfold ops0; after_reads_simp; rfl
theorem read0_v1 : after ops0 V (Proc.devRef .tc main_v1) = ones := by
  unfold ops0; after_reads_simp; rfl
theorem read0_v27 : after ops0 V (Proc.devRef .tc main_v27) = boxMap (V (Proc.devRef .tc main_arg1)) (V (Proc.devRef .tc main_arg2)) := by
  unfold ops0; after_reads_simp; rfl
theorem read0_v40 : after ops0 V (Proc.devRef .tc main_v40) = row3 (cropScale (V (Proc.devRef .tc main_arg2))) zeros (cropOff (centreX (V (Proc.devRef .tc main_arg1))) (V (Proc.devRef .tc main_arg2))) := by
  unfold ops0; after_reads_simp; rfl
theorem read0_v48 : after ops0 V (Proc.devRef .tc main_v48) = col zeros := by
  unfold ops0; after_reads_simp; rfl
theorem read0_v49 : after ops0 V (Proc.devRef .tc main_v49) = col (cropScale (V (Proc.devRef .tc main_arg2))) := by
  unfold ops0; after_reads_simp; rfl
theorem read0_v50 : after ops0 V (Proc.devRef .tc main_v50) = col (cropOff (centreY (V (Proc.devRef .tc main_arg1))) (V (Proc.devRef .tc main_arg2))) := by
  unfold ops0; after_reads_simp; rfl
theorem read1_arg0 : after ops1 V (Proc.devRef .tc main_arg0) = V (Proc.devRef .tc main_arg0) := by
  unfold ops1; after_reads_simp
theorem read1_arg1 : after ops1 V (Proc.devRef .tc main_arg1) = V (Proc.devRef .tc main_arg1) := by
  unfold ops1; after_reads_simp
theorem read1_arg2 : after ops1 V (Proc.devRef .tc main_arg2) = V (Proc.devRef .tc main_arg2) := by
  unfold ops1; after_reads_simp
theorem read1_v27 : after ops1 V (Proc.devRef .tc main_v27) = V (Proc.devRef .tc main_v27) := by
  unfold ops1; after_reads_simp
theorem read1_v59 : after ops1 V (Proc.devRef .tc main_v59) = mat3 (V (Proc.devRef .tc main_v40)) (cols3 (V (Proc.devRef .tc main_v48)) (V (Proc.devRef .tc main_v49)) (V (Proc.devRef .tc main_v50))) (row3 (V (Proc.devRef .tc main_v0)) (V (Proc.devRef .tc main_v0)) (V (Proc.devRef .tc main_v1))) := by
  unfold ops1; after_reads_simp; rfl
theorem read1_v87 : after ops1 V (Proc.devRef .tc main_v87) = fullMap (V (Proc.devRef .tc main_v0)) (V (Proc.devRef .tc main_v1)) (V (Proc.devRef .tc main_v27)) := by
  unfold ops1; after_reads_simp; rfl
theorem read1_v105 : after ops1 V (Proc.devRef .tc main_v105) = products (fullMap (V (Proc.devRef .tc main_v0)) (V (Proc.devRef .tc main_v1)) (V (Proc.devRef .tc main_v27))) := by
  unfold ops1; after_reads_simp; rfl
theorem read1_cst_12 : after ops1 V (Proc.devRef .tc main_cst_12) = constant S_ .f32 0x00000000#32 := by
  unfold ops1; after_reads_simp
theorem read2_arg0 : after ops2 V (Proc.devRef .tc main_arg0) = V (Proc.devRef .tc main_arg0) := by
  unfold ops2; after_reads_simp
theorem read2_arg1 : after ops2 V (Proc.devRef .tc main_arg1) = V (Proc.devRef .tc main_arg1) := by
  unfold ops2; after_reads_simp
theorem read2_arg2 : after ops2 V (Proc.devRef .tc main_arg2) = V (Proc.devRef .tc main_arg2) := by
  unfold ops2; after_reads_simp
theorem read2_v27 : after ops2 V (Proc.devRef .tc main_v27) = V (Proc.devRef .tc main_v27) := by
  unfold ops2; after_reads_simp
theorem read2_v59 : after ops2 V (Proc.devRef .tc main_v59) = V (Proc.devRef .tc main_v59) := by
  unfold ops2; after_reads_simp
theorem read2_v113 : after ops2 V (Proc.devRef .tc main_v113) = gridOf (moved (V (Proc.devRef .tc main_cst_12)) (V (Proc.devRef .tc main_v87)) (V (Proc.devRef .tc main_v105))) := by
  unfold ops2; after_reads_simp; rfl
theorem read2_v132 : after ops2 V (Proc.devRef .tc main_v132) = tap (pixelX (gridOf (moved (V (Proc.devRef .tc main_cst_12)) (V (Proc.devRef .tc main_v87)) (V (Proc.devRef .tc main_v105))))) := by
  unfold ops2; after_reads_simp; rfl
theorem read2_v134 : after ops2 V (Proc.devRef .tc main_v134) = part (pixelX (gridOf (moved (V (Proc.devRef .tc main_cst_12)) (V (Proc.devRef .tc main_v87)) (V (Proc.devRef .tc main_v105))))) := by
  unfold ops2; after_reads_simp; rfl
theorem read2_v135 : after ops2 V (Proc.devRef .tc main_v135) = part (pixelY (gridOf (moved (V (Proc.devRef .tc main_cst_12)) (V (Proc.devRef .tc main_v87)) (V (Proc.devRef .tc main_v105))))) := by
  unfold ops2; after_reads_simp; rfl
theorem read2_v156 : after ops2 V (Proc.devRef .tc main_v156) = rowPairs (tap (pixelY (gridOf (moved (V (Proc.devRef .tc main_cst_12)) (V (Proc.devRef .tc main_v87)) (V (Proc.devRef .tc main_v105)))))) := by
  unfold ops2; after_reads_simp; rfl
theorem read3_arg0 : after ops3 V (Proc.devRef .tc main_arg0) = V (Proc.devRef .tc main_arg0) := by
  unfold ops3; after_reads_simp
theorem read3_arg1 : after ops3 V (Proc.devRef .tc main_arg1) = V (Proc.devRef .tc main_arg1) := by
  unfold ops3; after_reads_simp
theorem read3_arg2 : after ops3 V (Proc.devRef .tc main_arg2) = V (Proc.devRef .tc main_arg2) := by
  unfold ops3; after_reads_simp
theorem read3_v27 : after ops3 V (Proc.devRef .tc main_v27) = V (Proc.devRef .tc main_v27) := by
  unfold ops3; after_reads_simp
theorem read3_v59 : after ops3 V (Proc.devRef .tc main_v59) = V (Proc.devRef .tc main_v59) := by
  unfold ops3; after_reads_simp
theorem read3_v113 : after ops3 V (Proc.devRef .tc main_v113) = V (Proc.devRef .tc main_v113) := by
  unfold ops3; after_reads_simp
theorem read3_v157 : after ops3 V (Proc.devRef .tc main_v157) = rowList (V (Proc.devRef .tc main_v156)) := by
  unfold ops3; after_reads_simp; rfl
theorem read3_v160 : after ops3 V (Proc.devRef .tc main_v160) = weightList (V (Proc.devRef .tc main_v135)) := by
  unfold ops3; after_reads_simp; rfl
theorem read3_v167 : after ops3 V (Proc.devRef .tc main_v167) = blockTable (firstBlock (V (Proc.devRef .tc main_v132))) := by
  unfold ops3; after_reads_simp; rfl
theorem read3_v173 : after ops3 V (Proc.devRef .tc main_v173) = shapeCast S24576x2048 (V (Proc.devRef .tc main_arg0)) shapeCasts_S4x3x2048x2048_S24576x2048 := by
  unfold ops3; after_reads_simp; rfl
theorem read3_v174 : after ops3 V (Proc.devRef .tc main_v174) = shapeCast S1024 (inWindow (V (Proc.devRef .tc main_v132))) shapeCasts_S4x256_S1024 := by
  unfold ops3; after_reads_simp; rfl
theorem read3_v175 : after ops3 V (Proc.devRef .tc main_v175) = shapeCast S1024 (V (Proc.devRef .tc main_v134)) shapeCasts_S4x256_S1024 := by
  unfold ops3; after_reads_simp; rfl
theorem read4_arg0 : after ops4 V (Proc.devRef .tc main_arg0) = V (Proc.devRef .tc main_arg0) := by
  unfold ops4; after_reads_simp
theorem read4_arg1 : after ops4 V (Proc.devRef .tc main_arg1) = V (Proc.devRef .tc main_arg1) := by
  unfold ops4; after_reads_simp
theorem read4_arg2 : after ops4 V (Proc.devRef .tc main_arg2) = V (Proc.devRef .tc main_arg2) := by
  unfold ops4; after_reads_simp
theorem read4_v27 : after ops4 V (Proc.devRef .tc main_v27) = V (Proc.devRef .tc main_v27) := by
  unfold ops4; after_reads_simp
theorem read4_v59 : after ops4 V (Proc.devRef .tc main_v59) = V (Proc.devRef .tc main_v59) := by
  unfold ops4; after_reads_simp
theorem read4_v177 : after ops4 V (Proc.devRef .tc main_v177) = shapeCast S4x3x256x256 (V (Proc.devRef .tc main_v176)) shapeCasts_S786432_S4x3x256x256 := by
  unfold ops4; after_reads_simp; rfl
theorem read4_v178 : after ops4 V (Proc.devRef .tc main_v178) = shapeCast S4x65536x2 (V (Proc.devRef .tc main_v113)) shapeCasts_S4x256x256x2_S4x65536x2 := by
  unfold ops4; after_reads_simp; rfl

/-! ## At the call -/

omit [FloatOps F] in
theorem after_two (l₁ l₂ : HostOps F) : after (l₁ ++ l₂) V = after l₂ (after l₁ V) := by
  induction l₁ generalizing V with
  | nil => rfl
  | cons op l ih => exact ih _

theorem before_arg0 : after before V (Proc.devRef .tc main_arg0) = V (Proc.devRef .tc main_arg0) := by
  unfold before
  rw [after_two, after_two, after_two, read3_arg0, read2_arg0, read1_arg0, read0_arg0]
theorem before_arg1 : after before V (Proc.devRef .tc main_arg1) = V (Proc.devRef .tc main_arg1) := by
  unfold before
  rw [after_two, after_two, after_two, read3_arg1, read2_arg1, read1_arg1, read0_arg1]
theorem before_arg2 : after before V (Proc.devRef .tc main_arg2) = V (Proc.devRef .tc main_arg2) := by
  unfold before
  rw [after_two, after_two, after_two, read3_arg2, read2_arg2, read1_arg2, read0_arg2]
theorem before_v27 : after before V (Proc.devRef .tc main_v27) = boxMap (V (Proc.devRef .tc main_arg1)) (V (Proc.devRef .tc main_arg2)) := by
  unfold before
  rw [after_two, after_two, after_two, read3_v27, read2_v27, read1_v27, read0_v27]
theorem before_v59 : after before V (Proc.devRef .tc main_v59) = cropMap (V (Proc.devRef .tc main_arg1)) (V (Proc.devRef .tc main_arg2)) := by
  unfold before
  rw [after_two, after_two, after_two, read3_v59, read2_v59, read1_v59, read0_v0, read0_v1, read0_v40, read0_v48, read0_v49, read0_v50]
  rfl
theorem before_v113 : after before V (Proc.devRef .tc main_v113) = gridAt (V (Proc.devRef .tc main_arg1)) (V (Proc.devRef .tc main_arg2)) := by
  unfold before
  rw [after_two, after_two, after_two, read3_v113, read2_v113, read1_cst_12, read1_v87, read1_v105, read0_v0, read0_v1, read0_v27]
  rfl
theorem before_v157 : after before V (Proc.devRef .tc main_v157) = rowList (rowPairs (tap (yAt (V (Proc.devRef .tc main_arg1)) (V (Proc.devRef .tc main_arg2))))) := by
  unfold before
  rw [after_two, after_two, after_two, read3_v157, read2_v156, read1_cst_12, read1_v87, read1_v105, read0_v0, read0_v1, read0_v27]
  rfl
theorem before_v160 : after before V (Proc.devRef .tc main_v160) = weightList (part (yAt (V (Proc.devRef .tc main_arg1)) (V (Proc.devRef .tc main_arg2)))) := by
  unfold before
  rw [after_two, after_two, after_two, read3_v160, read2_v135, read1_cst_12, read1_v87, read1_v105, read0_v0, read0_v1, read0_v27]
  rfl
theorem before_v167 : after before V (Proc.devRef .tc main_v167) = blockTable (firstBlock (tap (xAt (V (Proc.devRef .tc main_arg1)) (V (Proc.devRef .tc main_arg2))))) := by
  unfold before
  rw [after_two, after_two, after_two, read3_v167, read2_v132, read1_cst_12, read1_v87, read1_v105, read0_v0, read0_v1, read0_v27]
  rfl
theorem before_v173 : after before V (Proc.devRef .tc main_v173) = shapeCast S24576x2048 (V (Proc.devRef .tc main_arg0)) shapeCasts_S4x3x2048x2048_S24576x2048 := by
  unfold before
  rw [after_two, after_two, after_two, read3_v173, read2_arg0, read1_arg0, read0_arg0]
theorem before_v174 : after before V (Proc.devRef .tc main_v174) = shapeCast S1024 (inWindow (tap (xAt (V (Proc.devRef .tc main_arg1)) (V (Proc.devRef .tc main_arg2))))) shapeCasts_S4x256_S1024 := by
  unfold before
  rw [after_two, after_two, after_two, read3_v174, read2_v132, read1_cst_12, read1_v87, read1_v105, read0_v0, read0_v1, read0_v27]
  rfl
theorem before_v175 : after before V (Proc.devRef .tc main_v175) = shapeCast S1024 (part (xAt (V (Proc.devRef .tc main_arg1)) (V (Proc.devRef .tc main_arg2)))) shapeCasts_S4x256_S1024 := by
  unfold before
  rw [after_two, after_two, after_two, read3_v175, read2_v134, read1_cst_12, read1_v87, read1_v105, read0_v0, read0_v1, read0_v27]
  rfl

end Cert.Proof.Crop
-- ==== Proof.Inside.lean ====
/-
The precondition read: the taps lie inside the images and their windows.
-/
module

public import proofs.«01_k».proof.Proof.Host
public import proofs.«01_k».proof.Proof.Eight
public import proofs.«01_k».proof.Proof.Gen.Pre_taps_inside
public import proofs.«01_k».proof.Proof.Gen.Pre_finite_taps_inside
public import Idealize.ShloMosaic.Lib.ReduceAll
public import Idealize.ShloMosaic.Lib.Pointwise

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The condition's word -/

/-- Every element of `x` at least `lo`, as a word. -/
def allGe {s : Shape} (hs : S_.BroadcastsInDim s ![]) (ax : List (Fin s.rank)) (hr : s.ReducesTo ax S_) (x : IVec s 32) (lo : BitVec 32) : IVec S_ 1 :=
  Host.reduce IntOp.andi (cmpi .sge x (broadcastInDim s ![] hs (constantI S_ 32 lo))) (constantI S_ 1 1#1) hr h_S_
/-- Every element of `x` at most `hi`, as a word. -/
def allLe {s : Shape} (hs : S_.BroadcastsInDim s ![]) (ax : List (Fin s.rank)) (hr : s.ReducesTo ax S_) (x : IVec s 32) (hi : BitVec 32) : IVec S_ 1 :=
  Host.reduce IntOp.andi (cmpi .sle x (broadcastInDim s ![] hs (constantI S_ 32 hi))) (constantI S_ 1 1#1) hr h_S_

theorem allGe_one {s : Shape} (hs : S_.BroadcastsInDim s ![]) (ax : List (Fin s.rank)) (hr : s.ReducesTo ax S_) (x : IVec s 32) (lo : BitVec 32) (j : S_.Idx)
    (e : allGe hs ax hr x lo j = 1#1) (i : s.Idx) : lo.toInt ≤ (x i).toInt :=
  haveI : Subsingleton S_.Idx := ⟨fun a b => funext fun k => k.elim0⟩
  IntOp.cmpi_sge.1 (Host.reduce_andi_all _ _ _ _ j e i)
theorem allLe_one {s : Shape} (hs : S_.BroadcastsInDim s ![]) (ax : List (Fin s.rank)) (hr : s.ReducesTo ax S_) (x : IVec s 32) (hi : BitVec 32) (j : S_.Idx)
    (e : allLe hs ax hr x hi j = 1#1) (i : s.Idx) : (x i).toInt ≤ hi.toInt :=
  haveI : Subsingleton S_.Idx := ⟨fun a b => funext fun k => k.elim0⟩
  IntOp.cmpi_sle.1 (Host.reduce_andi_all _ _ _ _ j e i)

/-- The word that says the taps lie inside the images and inside their windows. -/
def insideWord (b : IVec S4 32) (y x : IVec S4x256 32) : IVec S_ 1 :=
  andi (andi (andi (andi (allGe bcast_S_S4 [0] Cert.Pre_taps_inside.Gen.reducesTo_S4_S_d0 b 0#32)
    (allGe bcast_S_S4x256 [0, 1] Cert.Pre_taps_inside.Gen.reducesTo_S4x256_S_d0_1 y 0#32))
    (allLe bcast_S_S4x256 [0, 1] Cert.Pre_taps_inside.Gen.reducesTo_S4x256_S_d0_1 y 2046#32))
    (allGe bcast_S_S4x256 [0, 1] Cert.Pre_taps_inside.Gen.reducesTo_S4x256_S_d0_1 x 0#32))
    (allLe bcast_S_S4x256 [0, 1] Cert.Pre_taps_inside.Gen.reducesTo_S4x256_S_d0_1 x 1022#32)

/-- What the proof asks of the arguments: the taps' rows lie inside the images, the taps' columns inside their windows,
    and the windows start inside the images. -/
structure Inside (c : FVec F S4x2 .f32) (s : FVec F S4 .f32) : Prop where
  block : ∀ i, 0 ≤ (firstBlock (tap (xAt c s)) i).toInt
  rowLo : ∀ i, 0 ≤ (tap (yAt c s) i).toInt
  rowHi : ∀ i, (tap (yAt c s) i).toInt ≤ 2046
  winLo : ∀ i, 0 ≤ (inWindow (tap (xAt c s)) i).toInt
  winHi : ∀ i, (inWindow (tap (xAt c s)) i).toInt ≤ 1022

theorem inside_of_word (c : FVec F S4x2 .f32) (s : FVec F S4 .f32) (j : S_.Idx)
    (h : insideWord (firstBlock (tap (xAt c s))) (tap (yAt c s)) (inWindow (tap (xAt c s))) j = 1#1) : Inside c s := by
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨allGe_one _ _ _ _ _ _ h1, allGe_one _ _ _ _ _ _ h2, allLe_one _ _ _ _ _ _ h3, allGe_one _ _ _ _ _ _ h4, allLe_one _ _ _ _ _ _ h5⟩

set_option maxHeartbeats 4000000 in
/-- The precondition of the taps is that word. -/
theorem taps_word (a : FVec F S4x3x2048x2048 .f32) (c : FVec F S4x2 .f32) (s : FVec F S4 .f32) :
    Cert.Pre_taps_inside.fn a c s = insideWord (firstBlock (tap (xAt c s))) (tap (yAt c s)) (inWindow (tap (xAt c s))) := rfl

/-- Every element finite, as a word. -/
def allFinite {s : Shape} (hs : S_.BroadcastsInDim s ![]) (ax : List (Fin s.rank)) (hr : s.ReducesTo ax S_) (x : FVec F s .f32) : IVec S_ 1 :=
  Host.reduce IntOp.andi (cmpf .olt (Host.absf x) (broadcastInDim s ![] hs (constant S_ .f32 0x7F800000#32))) (constantI S_ 1 1#1) hr h_S_
theorem allFinite_one {s : Shape} (hs : S_.BroadcastsInDim s ![]) (ax : List (Fin s.rank)) (hr : s.ReducesTo ax S_) (x : FVec F s .f32) (j : S_.Idx)
    (e : allFinite hs ax hr x j = 1#1) (i : s.Idx) : cmpf .olt (Host.absf x) (broadcastInDim s ![] hs (constant S_ .f32 0x7F800000#32)) i = 1#1 :=
  haveI : Subsingleton S_.Idx := ⟨fun a b => funext fun k => k.elim0⟩
  Host.reduce_andi_all _ _ _ _ j e i

set_option maxHeartbeats 4000000 in
/-- The precondition with finite images is that word and the one of finiteness. -/
theorem finite_word (a : FVec F S4x3x2048x2048 .f32) (c : FVec F S4x2 .f32) (s : FVec F S4 .f32) :
    Cert.Pre_finite_taps_inside.fn a c s = andi (insideWord (firstBlock (tap (xAt c s))) (tap (yAt c s)) (inWindow (tap (xAt c s))))
      (allFinite Cert.Pre_finite_taps_inside.Gen.bcast_S_S4x3x2048x2048 [0, 1, 2, 3] Cert.Pre_finite_taps_inside.Gen.reducesTo_S4x3x2048x2048_S_d0_1_2_3 a) := rfl

/-! ## The operands in range -/

/-- A word at least zero and at most a bound is its own number. -/
theorem toNat_le {x : BitVec 32} {n : Nat} (h0 : 0 ≤ x.toInt) (h : x.toInt ≤ n) : x.toNat ≤ n := by
  rw [BitVec.toInt_eq_toNat_cond] at h0 h
  have := x.isLt
  split at h0 <;> omega

/-- A table of first blocks holds no word past 8. -/
theorem firstBlock_le (x : IVec S4x256 32) (i : S4.Idx) : (firstBlock x i).toInt ≤ 8 := by
  show (IntOp.minsi _ 8#32).toInt ≤ 8
  generalize Host.shrsi _ _ i = z
  unfold IntOp.minsi
  split
  · rename_i h
    simp only [BitVec.slt_eq_decide, decide_eq_true_eq] at h
    have : (8#32 : BitVec 32).toInt = 8 := by decide
    omega
  · decide

theorem blockTable_at (b : IVec S4 32) (i : Fin 16) (h : i.val < 4) : blockTable b (ix1 i) = b (ix1 ⟨i.val, h⟩) := by
  unfold blockTable
  pointwise
  simp [h]

/-- The word of a row, as a number. -/
theorem rowWord (b k : ℕ) (hb : b < 4) (hk : k < 3) (z : BitVec 32) (hz : z.toNat ≤ 2046) :
    (IntOp.addi (IntOp.muli (IntOp.addi (IntOp.muli (BitVec.ofNat 32 b) 3#32) (BitVec.ofNat 32 k)) 2048#32) z).toNat = (b * 3 + k) * 2048 + z.toNat := by
  simp only [IntOp.addi, IntOp.muli, BitVec.toNat_add, BitVec.toNat_mul, BitVec.toNat_ofNat, Nat.reducePow]
  omega

theorem succWord (z : BitVec 32) (hz : z.toNat < 24576) : (IntOp.addi z 1#32).toNat = z.toNat + 1 := by
  simp only [IntOp.addi, BitVec.toNat_add, BitVec.toNat_ofNat, Nat.reducePow]
  omega

/-- An entry of the list, as a word. -/
theorem rowList_word (y : IVec S4x256 32) (i : Fin 6144) :
    rowList (rowPairs y) (ix1 i) = if i.val % 2 < 1
      then IntOp.addi (IntOp.muli (IntOp.addi (IntOp.muli (BitVec.ofNat 32 (i.val / 1536)) 3#32) (BitVec.ofNat 32 (i.val / 512 % 3))) 2048#32)
        (y (ix2 ⟨i.val / 1536, by omega⟩ ⟨i.val / 2 % 256, by omega⟩))
      else IntOp.addi (IntOp.addi (IntOp.muli (IntOp.addi (IntOp.muli (BitVec.ofNat 32 (i.val / 1536)) 3#32) (BitVec.ofNat 32 (i.val / 512 % 3))) 2048#32)
        (y (ix2 ⟨i.val / 1536, by omega⟩ ⟨i.val / 2 % 256, by omega⟩))) 1#32 := by
  unfold rowList rowPairs rowOf
  pointwise
  split <;> rfl

/-- The row that an entry of the list names. -/
theorem rowList_at (y : IVec S4x256 32) (h0 : ∀ i, 0 ≤ (y i).toInt) (h1 : ∀ i, (y i).toInt ≤ 2046) (i : Fin 6144) :
    (rowList (rowPairs y) (ix1 i)).toNat
      = (i.val / 1536 * 3 + i.val / 512 % 3) * 2048 + ((y (ix2 ⟨i.val / 1536, by omega⟩ ⟨i.val / 2 % 256, by omega⟩)).toNat + i.val % 2) := by
  have hy : (y (ix2 ⟨i.val / 1536, by omega⟩ ⟨i.val / 2 % 256, by omega⟩)).toNat ≤ 2046 := toNat_le (h0 _) (h1 _)
  rw [rowList_word]
  revert hy
  generalize y (ix2 ⟨i.val / 1536, _⟩ ⟨i.val / 2 % 256, _⟩) = z
  intro hy
  have hw := rowWord (i.val / 1536) (i.val / 512 % 3) (by omega) (by omega) z hy
  by_cases h : i.val % 2 < 1
  · rw [if_pos h, hw]; omega
  · rw [if_neg h, succWord _ (by omega), hw]; omega

theorem ix1_eta {n : ℕ} (q : (⟨1, ![n]⟩ : Shape).Idx) : q = ix1 (q 0) := by
  funext a; fin_cases a; rfl

/-- The operands that the arguments give. -/
def argOps (a : FVec F S4x3x2048x2048 .f32) (c : FVec F S4x2 .f32) (s : FVec F S4 .f32) : Ops F where
  img := shapeCast S24576x2048 a shapeCasts_S4x3x2048x2048_S24576x2048
  idx := rowList (rowPairs (tap (yAt c s)))
  xl := shapeCast S1024 (inWindow (tap (xAt c s))) shapeCasts_S4x256_S1024
  wx := shapeCast S1024 (part (xAt c s)) shapeCasts_S4x256_S1024
  wy := weightList (part (yAt c s))
  c0 := blockTable (firstBlock (tap (xAt c s)))

theorem argOps_inRange (a : FVec F S4x3x2048x2048 .f32) (c : FVec F S4x2 .f32) (s : FVec F S4 .f32) (h : Inside c s) : InRange (argOps a c s) where
  idx q := by
    have hq : (q 0).val < 6144 := (q 0).isLt
    rw [ix1_eta q]
    show (rowList (rowPairs (tap (yAt c s))) (ix1 (q 0))).toNat < 24576
    rw [rowList_at _ h.rowLo h.rowHi (q 0)]
    have hy := toNat_le (h.rowLo (ix2 ⟨(q 0).val / 1536, by omega⟩ ⟨(q 0).val / 2 % 256, by omega⟩)) (n := 2046) (h.rowHi _)
    omega
  xl q := toNat_le (h.winLo _) (h.winHi _)
  c0 b hb := by
    have e : ix S16 (fun _ => b) = ix1 (⟨b, by omega⟩ : Fin 16) := ix_eq fun k => by fin_cases k; rfl
    rw [e]
    show (blockTable (firstBlock (tap (xAt c s))) (ix1 (⟨b, by omega⟩ : Fin 16))).toNat ≤ 8
    rw [blockTable_at _ _ hb]
    exact toNat_le (h.block _) (firstBlock_le _ _)

end Cert.Proof.Crop
-- ==== Proof.Frames.lean ====
/-
The run at the arguments, and the frames.
-/
module

public import proofs.«01_k».proof.Defs
public import proofs.«01_k».proof.Proof.Main
public import proofs.«01_k».proof.Proof.Reads
public import proofs.«01_k».proof.Proof.Inside
public import proofs.«01_k».proof.Proof.Gen.Kernel
public import proofs.«01_k».proof.Proof.Gen.ReferenceIdeal.Run

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The run at the arguments -/

variable (m : (ℓ : Loc nD τ sig) → Buf (Elt F) ℓ) (ρ : Dev nD → PrngReg)

/-- The arguments. -/
def imgs (d : Dev nD) : FVec F S4x3x2048x2048 .f32 := val0 m d (Proc.devRef .tc main_arg0)
def cen (d : Dev nD) : FVec F S4x2 .f32 := val0 m d (Proc.devRef .tc main_arg1)
def box (d : Dev nD) : FVec F S4 .f32 := val0 m d (Proc.devRef .tc main_arg2)

theorem opsAt_eq (d : Dev nD) : opsAt m d = argOps (imgs m d) (cen m d) (box m d) := by
  unfold opsAt argOps val1
  rw [show StableHlo.after before (val0 m d) (at' main_v173) = _ from before_v173 _, show StableHlo.after before (val0 m d) (at' main_v157) = _ from before_v157 _,
    show StableHlo.after before (val0 m d) (at' main_v174) = _ from before_v174 _, show StableHlo.after before (val0 m d) (at' main_v175) = _ from before_v175 _,
    show StableHlo.after before (val0 m d) (at' main_v160) = _ from before_v160 _, show StableHlo.after before (val0 m d) (at' main_v167) = _ from before_v167 _]
  rfl

theorem end_arg0 (d : Dev nD) : val3 m d (at' main_arg0) = imgs m d :=
  (read4_arg0 _).trans ((val2_ne m d (by decide)).trans (before_arg0 _))
theorem end_arg1 (d : Dev nD) : val3 m d (at' main_arg1) = cen m d :=
  (read4_arg1 _).trans ((val2_ne m d (by decide)).trans (before_arg1 _))
theorem end_arg2 (d : Dev nD) : val3 m d (at' main_arg2) = box m d :=
  (read4_arg2 _).trans ((val2_ne m d (by decide)).trans (before_arg2 _))
theorem end_v27 (d : Dev nD) : val3 m d (at' main_v27) = boxMap (cen m d) (box m d) :=
  (read4_v27 _).trans ((val2_ne m d (by decide)).trans (before_v27 _))
theorem end_v59 (d : Dev nD) : val3 m d (at' main_v59) = cropMap (cen m d) (box m d) :=
  (read4_v59 _).trans ((val2_ne m d (by decide)).trans (before_v59 _))
theorem end_v178 (d : Dev nD) : val3 m d (at' main_v178) = shapeCast S4x65536x2 (gridAt (cen m d) (box m d)) shapeCasts_S4x256x256x2_S4x65536x2 :=
  (read4_v178 _).trans (congrArg (fun g => shapeCast S4x65536x2 g shapeCasts_S4x256x256x2_S4x65536x2) ((val2_ne m d (by decide)).trans (before_v113 _)))
theorem end_v177 (d : Dev nD) : val3 m d (at' main_v177) = shapeCast S4x3x256x256 (outVal (argOps (imgs m d) (cen m d) (box m d))) shapeCasts_S786432_S4x3x256x256 :=
  (read4_v177 _).trans (congrArg (fun g => shapeCast S4x3x256x256 g shapeCasts_S786432_S4x3x256x256) ((val2_res m d).trans (congrArg outVal (opsAt_eq m d))))

/-- Arguments inside make every index inside. -/
theorem ops_inRange (h : ∀ d, Inside (cen m d) (box m d)) (d : Dev nD) : InRange (opsAt m d) := by
  rw [opsAt_eq]; exact argOps_inRange _ _ _ (h d)

/-- The whole run: the arguments unchanged, each result its function of the arguments, every semaphore at zero. -/
theorem run_at [∀ e, Nonempty (Elt F e)] (h : ∀ d, Inside (cen m d) (box m d)) :
    θ_run (Cert.KernelIdeal.defs (F := F)) (Cert.KernelIdeal.threads (F := F)) ⟨m, fun _ => 0, ρ⟩ fun r =>
      (∀ d, r.2.mem (d, at' main_v177) = shapeCast S4x3x256x256 (outVal (argOps (imgs m d) (cen m d) (box m d))) shapeCasts_S786432_S4x3x256x256
        ∧ r.2.mem (d, at' main_v178) = shapeCast S4x65536x2 (gridAt (cen m d) (box m d)) shapeCasts_S4x256x256x2_S4x65536x2
        ∧ r.2.mem (d, at' main_v27) = boxMap (cen m d) (box m d)
        ∧ r.2.mem (d, at' main_v59) = cropMap (cen m d) (box m d)
        ∧ r.2.mem (d, at' main_arg0) = imgs m d ∧ r.2.mem (d, at' main_arg1) = cen m d ∧ r.2.mem (d, at' main_arg2) = box m d)
      ∧ r.2.sem = fun _ => 0 :=
  (θ_run Cert.KernelIdeal.defs _ _).mono
    (fun _ e => ⟨fun d => ⟨(e.1 d _).trans (end_v177 m d), (e.1 d _).trans (end_v178 m d), (e.1 d _).trans (end_v27 m d), (e.1 d _).trans (end_v59 m d),
      (e.1 d _).trans (end_arg0 m d), (e.1 d _).trans (end_arg1 m d), (e.1 d _).trans (end_arg2 m d)⟩, e.2⟩)
    (run_main m ρ (ops_inRange m h))

/-! ## The frames -/

theorem frame_kernel : Cert.quiescent_Kernel := fun m ρ h =>
  (θ_run Cert.KernelIdeal.defs _ _).mono (fun _ e => ⟨fun d => (e.1 d).2.2.2.2, e.2⟩)
    (run_at (F := Bits) m ρ fun d => inside_of_word _ _ ix0 ((congrFun (taps_word _ _ _) ix0).symm.trans (congrFun (h d) ix0)))

theorem frame_ideal : Cert.quiescent_KernelIdeal := fun m ρ h =>
  (θ_run Cert.KernelIdeal.defs _ _).mono (fun _ e => ⟨fun d => (e.1 d).2.2.2.2, e.2⟩)
    (run_at (F := Ideal) m ρ fun d => inside_of_word _ _ ix0 ((congrFun (taps_word _ _ _) ix0).symm.trans (congrFun (h d) ix0)))

theorem inside_of_finite (a : FVec F S4x3x2048x2048 .f32) (c : FVec F S4x2 .f32) (s : FVec F S4 .f32)
    (h : Cert.Pre_finite_taps_inside.fn a c s = fun _ => 1#1) : Inside c s := by
  have e := (congrFun (finite_word a c s) ix0).symm.trans (congrFun h ix0)
  exact inside_of_word c s ix0 (IntOp.andi_eq_one.1 e).1

theorem frame_ideal_finite : Cert.quiescent_KernelIdeal_pre_finite_taps_inside := fun m ρ h =>
  (θ_run Cert.KernelIdeal.defs _ _).mono (fun _ e => ⟨fun d => (e.1 d).2.2.2.2, e.2⟩)
    (run_at (F := Ideal) m ρ fun d => inside_of_finite _ _ _ (h d))

theorem frame_reference : Cert.quiescent_ReferenceIdeal := fun m ρ _ =>
  (θ_run Cert.ReferenceIdeal.defs _ _).mono (fun r e => ⟨fun d => (e d).2.2.2.2, sem_eq_zero_of_no_sems (by decide) r.2⟩)
    (Cert.ReferenceIdeal.Value.run (F := Ideal) m ρ)

theorem frame_reference_finite : Cert.quiescent_ReferenceIdeal_pre_finite_taps_inside := fun m ρ _ =>
  (θ_run Cert.ReferenceIdeal.defs _ _).mono (fun r e => ⟨fun d => (e d).2.2.2.2, sem_eq_zero_of_no_sems (by decide) r.2⟩)
    (Cert.ReferenceIdeal.Value.run (F := Ideal) m ρ)

end Cert.Proof.Crop
-- ==== Proof.Taps.lean ====
/-
The crop that the kernel writes, a number at a time, over the extended reals.
-/
module

public import proofs.«01_k».proof.Proof.Inside
public import proofs.«01_k».proof.Proof.Call

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A coordinate whose tap is small is a real number -/

/-- A number in the range of a word, read back from its word. -/
theorem toInt_ofInt_small (z : ℤ) (h0 : -(2 ^ 31) ≤ z) (h1 : z < 2 ^ 31) : (BitVec.ofInt 32 z).toInt = z := by
  rw [BitVec.toInt_ofInt]
  exact Int.bmod_eq_of_le (by omega) (by omega)

/-- A value whose floor makes a word between 0 and 2046 is a real number with that floor. -/
theorem tap_real (v : EReal) (h0 : 0 ≤ (Ideal.fptosi 32 (Ideal.liftRound Int.floor v)).toInt)
    (h1 : (Ideal.fptosi 32 (Ideal.liftRound Int.floor v)).toInt ≤ 2046) :
    ∃ (x : ℝ) (n : ℕ), v = (x : EReal) ∧ n ≤ 2046 ∧ ⌊x⌋ = (n : ℤ) ∧ (Ideal.fptosi 32 (Ideal.liftRound Int.floor v)).toNat = n := by
  induction v with
  | bot =>
    exfalso
    revert h0
    simp only [Ideal.liftRound_bot, Ideal.fptosi, Ideal.toIntClamped_bot]
    decide
  | top =>
    exfalso
    revert h1
    simp only [Ideal.liftRound_top, Ideal.fptosi, Ideal.toIntClamped_top]
    decide
  | coe x =>
    have e : Ideal.fptosi 32 (Ideal.liftRound Int.floor (x : EReal))
        = BitVec.ofInt 32 (max (-(2 ^ (32 - 1) : Nat) : Int) (min ((2 ^ (32 - 1) : Nat) - 1) ⌊x⌋)) := by
      rw [Ideal.liftRound_coe]
      unfold Ideal.fptosi
      rw [Ideal.toIntClamped_coe]
      simp
    rw [e] at h0 h1 ⊢
    generalize hz : max (-(2 ^ (32 - 1) : Nat) : Int) (min ((2 ^ (32 - 1) : Nat) - 1) ⌊x⌋) = z at h0 h1 ⊢
    rw [toInt_ofInt_small z (by omega) (by omega)] at h0 h1
    refine ⟨x, z.toNat, rfl, by omega, by omega, ?_⟩
    have := toInt_ofInt_small z (by omega) (by omega)
    rw [BitVec.toInt_eq_toNat_cond] at this
    have := (BitVec.ofInt 32 z).isLt
    split at * <;> omega

/-! ## A column's tap, from its block and its place in the window -/

/-- A tap is its place in the window past the window's first column. -/
theorem windowWord (t c : BitVec 32) (hc : c.toNat ≤ 8) (h : (IntOp.subi t (c <<< 7)).toNat ≤ 1022) :
    t.toNat = 128 * c.toNat + (IntOp.subi t (c <<< 7)).toNat := by
  have e : (c <<< 7).toNat = 128 * c.toNat := by
    rw [BitVec.toNat_shiftLeft, Nat.shiftLeft_eq, Nat.mod_eq_of_lt (by omega)]
    omega
  have := t.isLt
  simp only [IntOp.subi, BitVec.toNat_sub, e] at *
  omega

/-- The same of every column of the crop. -/
theorem col_tap (t : IVec S4x256 32) (b : Fin 4) (q : Fin 256) (h0 : 0 ≤ (firstBlock t (ix1 b)).toInt)
    (h1 : 0 ≤ (inWindow t (ix2 b q)).toInt) (h2 : (inWindow t (ix2 b q)).toInt ≤ 1022) :
    (t (ix2 b q)).toNat = 128 * (firstBlock t (ix1 b)).toNat + (inWindow t (ix2 b q)).toNat := by
  have hc : (firstBlock t (ix1 b)).toNat ≤ 8 := toNat_le h0 (firstBlock_le t _)
  have hw : (inWindow t (ix2 b q)).toNat ≤ 1022 := toNat_le h1 h2
  have e : inWindow t (ix2 b q) = IntOp.subi (t (ix2 b q)) (firstBlock t (ix1 b) <<< 7) := by
    unfold inWindow
    generalize firstBlock t = w
    pointwise
    rfl
  rw [e] at hw ⊢
  exact windowWord _ _ hc hw

/-! ## The operands at a place of the crop -/

section
variable (a : FVec F S4x3x2048x2048 .f32) (c : FVec F S4x2 .f32) (s : FVec F S4 .f32)
  (b : Fin 4) (k : Fin 3) (r q : Fin 256)

/-- A number's place in the flat crop. -/
def place : ℕ := ((b.val * 3 + k.val) * 256 + r.val) * 256 + q.val

/-- The row, the image and the column of a place. -/
theorem place_row : place b k r q / 256 = (b.val * 3 + k.val) * 256 + r.val := by unfold place; omega
theorem place_img : place b k r q / 256 / 768 = b.val := by unfold place; omega
theorem place_col : place b k r q % 256 = q.val := by unfold place; omega

/-- The tables at a place: the tap in the window, the two weights, the block and the rows. -/
theorem xl_at : (argOps a c s).xl (ix S1024 (fun _ => 256 * (place b k r q / 256 / 768) + place b k r q % 256)) = inWindow (tap (xAt c s)) (ix2 b q) := by
  rw [place_img, place_col, ix_eq (q := ix1 ⟨256 * b.val + q.val, by omega⟩) (fun i => by fin_cases i; rfl)]
  show shapeCast S1024 (inWindow (tap (xAt c s))) shapeCasts_S4x256_S1024 (ix1 _) = _
  generalize inWindow (tap (xAt c s)) = w
  pointwise

theorem wx_at : (argOps a c s).wx (ix S1024 (fun _ => 256 * (place b k r q / 256 / 768) + place b k r q % 256)) = part (xAt c s) (ix2 b q) := by
  rw [place_img, place_col, ix_eq (q := ix1 ⟨256 * b.val + q.val, by omega⟩) (fun i => by fin_cases i; rfl)]
  show shapeCast S1024 (part (xAt c s)) shapeCasts_S4x256_S1024 (ix1 _) = _
  generalize part (xAt c s) = w
  pointwise

theorem wy_at : (argOps a c s).wy (ix S3072 (fun _ => place b k r q / 256)) = part (yAt c s) (ix2 b r) := by
  rw [place_row, ix_eq (q := ix1 ⟨(b.val * 3 + k.val) * 256 + r.val, by omega⟩) (fun i => by fin_cases i; rfl)]
  show weightList (part (yAt c s)) (ix1 _) = _
  generalize part (yAt c s) = w
  unfold weightList
  pointwise

theorem c0_at : (argOps a c s).c0 (ix S16 (fun _ => place b k r q / 256 / 768)) = firstBlock (tap (xAt c s)) (ix1 b) := by
  rw [place_img, ix_eq (q := ix1 ⟨b.val, by omega⟩) (fun i => by fin_cases i; rfl)]
  exact blockTable_at _ _ b.isLt

theorem idx_at (h : Inside c s) (e : ℕ) (he : e < 2) :
    ((argOps a c s).idx (ix S6144 (fun _ => 2 * (place b k r q / 256) + e))).toNat
      = (b.val * 3 + k.val) * 2048 + ((tap (yAt c s) (ix2 b r)).toNat + e) := by
  rw [place_row, ix_eq (q := ix1 ⟨2 * ((b.val * 3 + k.val) * 256 + r.val) + e, by omega⟩) (fun i => by fin_cases i; rfl)]
  show (rowList (rowPairs (tap (yAt c s))) (ix1 _)).toNat = _
  rw [rowList_at _ h.rowLo h.rowHi]
  have e0 : (2 * ((b.val * 3 + k.val) * 256 + r.val) + e) / 1536 = b.val := by omega
  have e1 : (2 * ((b.val * 3 + k.val) * 256 + r.val) + e) / 512 % 3 = k.val := by omega
  have e2 : (2 * ((b.val * 3 + k.val) * 256 + r.val) + e) / 2 % 256 = r.val := by omega
  have e3 : (2 * ((b.val * 3 + k.val) * 256 + r.val) + e) % 2 = e := by omega
  simp only [e0, e1, e2, e3]

/-- A neighbour of a place's tap. -/
theorem nbr_at (h : Inside c s) (e f Y X : ℕ) (he : e < 2) (hf : f < 2) (hY : Y ≤ 2046) (hX : X ≤ 2046)
    (eY : (tap (yAt c s) (ix2 b r)).toNat = Y) (eX : (tap (xAt c s) (ix2 b q)).toNat = X) :
    nbr (argOps a c s) (place b k r q) e f = a (ix4 b k ⟨Y + e, by omega⟩ ⟨X + f, by omega⟩) := by
  have hx := col_tap (tap (xAt c s)) b q (h.block _) (h.winLo _) (h.winHi _)
  have hc : 128 * (firstBlock (tap (xAt c s)) (ix1 b)).toNat + ((inWindow (tap (xAt c s)) (ix2 b q)).toNat + f) = X + f := by omega
  unfold nbr
  rw [idx_at a c s b k r q h e he, c0_at, xl_at, eY,
    ix_eq (q := ix2 ⟨(b.val * 3 + k.val) * 2048 + (Y + e), by omega⟩ ⟨X + f, by omega⟩)
      (fun i => match i with | ⟨0, _⟩ => rfl | ⟨1, _⟩ => hc)]
  show shapeCast S24576x2048 a shapeCasts_S4x3x2048x2048_S24576x2048 (ix2 _ _) = _
  pointwise
  refine congrArg a (congr (congr (congr (congrArg ix4 ?_) ?_) ?_) ?_) <;> refine Fin.ext ?_ <;> simp only [] <;> omega

/-- The crop at a place: the weighted sum of the four pixels around its tap. -/
theorem crop_at (h : Inside c s) (Y X : ℕ) (hY : Y ≤ 2046) (hX : X ≤ 2046)
    (eY : (tap (yAt c s) (ix2 b r)).toNat = Y) (eX : (tap (xAt c s) (ix2 b q)).toNat = X) :
    shapeCast S4x3x256x256 (outVal (argOps a c s)) shapeCasts_S786432_S4x3x256x256 (ix4 b k r q)
      = lerp4 (part (yAt c s) (ix2 b r)) (part (xAt c s) (ix2 b q))
          (a (ix4 b k ⟨Y, by omega⟩ ⟨X, by omega⟩)) (a (ix4 b k ⟨Y, by omega⟩ ⟨X + 1, by omega⟩))
          (a (ix4 b k ⟨Y + 1, by omega⟩ ⟨X, by omega⟩)) (a (ix4 b k ⟨Y + 1, by omega⟩ ⟨X + 1, by omega⟩)) := by
  have e : shapeCast S4x3x256x256 (outVal (argOps a c s)) shapeCasts_S786432_S4x3x256x256 (ix4 b k r q) = outAt (argOps a c s) (place b k r q) := by
    have ho : ∀ p : Fin 786432, outVal (argOps a c s) (ix1 p) = outAt (argOps a c s) p.val := fun p => rfl
    generalize outVal (argOps a c s) = w at ho ⊢
    pointwise
    rw [ho]
    refine congrArg (outAt _) ?_
    unfold place
    simp only []
    try omega
  rw [e]
  unfold outAt
  rw [wx_at, wy_at, nbr_at a c s b k r q h 0 0 Y X (by omega) (by omega) hY hX eY eX, nbr_at a c s b k r q h 0 1 Y X (by omega) (by omega) hY hX eY eX,
    nbr_at a c s b k r q h 1 0 Y X (by omega) (by omega) hY hX eY eX, nbr_at a c s b k r q h 1 1 Y X (by omega) (by omega) hY hX eY eX]
  rfl
end

end Cert.Proof.Crop
-- ==== Proof.Grid.lean ====
/-
The sampling grid over the extended reals.
-/
module

public import proofs.«01_k».proof.Proof.Host
public import proofs.«01_k».proof.Proof.Gen.ReferenceIdeal.Run
public import Idealize.ShloMosaic.Lib.Pointwise

@[expose] public section

noncomputable section

namespace Cert.Proof.Crop

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The reference's maps and grid are the kernel's -/

section
variable (V : Valuation Cert.ReferenceIdeal.τ Cert.ReferenceIdeal.sig (Elt Ideal))

/-- The reference's arguments. -/
def refCen : FVec Ideal S4x2 .f32 := V (Proc.devRef .tc Cert.ReferenceIdeal.main_arg1)
def refBox : FVec Ideal S4 .f32 := V (Proc.devRef .tc Cert.ReferenceIdeal.main_arg2)
def refImg : FVec Ideal S4x3x2048x2048 .f32 := V (Proc.devRef .tc Cert.ReferenceIdeal.main_arg0)

theorem ref_full : Cert.ReferenceIdeal.Value.res_main_v82 V = fullAt (refCen V) (refBox V) := by
  have e : Cert.ReferenceIdeal.Value.res_main_v82 V = Host.dotGeneral Cert.ReferenceIdeal.dot_S4x3x3_S4x3x3_S4x3x3_2_1_1_2_0_0 none
      (pixelMap zeros ones) (boxMap (refCen V) (refBox V)) := rfl
  rw [e]
  unfold fullAt fullMap
  generalize pixelMap (F := Ideal) zeros ones = p
  generalize boxMap (refCen V) (refBox V) = t
  funext j
  idx_vars j
  pointwise

theorem ref_grid : Cert.ReferenceIdeal.Value.res_main_v103 V = gridAt (refCen V) (refBox V) := by
  have e : Cert.ReferenceIdeal.Value.res_main_v103 V = gridOf (addf (Host.dotGeneral Cert.ReferenceIdeal.dot_S4x65536x2_S4x2x2_S4x65536x2_2_2_1_1_0_0 none points
        (extractStridedSlice S4x2x2 ![0, 0, 0] (Cert.ReferenceIdeal.Value.res_main_v82 V) slices_S4x3x3_S4x2x2_0_0_0))
      (broadcastInDim S4x65536x2 ![0, 1, 2] bcast_S4x1x2_S4x65536x2_0_1_2 (broadcastInDim S4x1x2 ![0, 2] bcast_S4x2_S4x1x2_0_2
        (shapeCast S4x2 (extractStridedSlice S4x2x1 ![0, 0, 2] (Cert.ReferenceIdeal.Value.res_main_v82 V) slices_S4x3x3_S4x2x1_0_0_2) shapeCasts_S4x2x1_S4x2)))) := rfl
  rw [e, ref_full]
  unfold gridAt flatAt moved products
  generalize fullAt (refCen V) (refBox V) = t
  refine congrArg gridOf ?_
  generalize points (F := Ideal) = p
  funext j
  idx_vars j
  pointwise
  exact congrArg (· + _) (Finset.sum_congr rfl fun _ _ => mul_comm _ _)
end

/-! ## Each coordinate depends on one side -/

/-- The composed map does not mix the coordinates. -/
theorem full_01 (c : FVec Ideal S4x2 .f32) (s : FVec Ideal S4 .f32) (b : Fin 4) : fullAt c s (ix3 b 0 1) = (0 : EReal) := by
  unfold fullAt fullMap pixelMap boxMap mat3 row3 cols3 col zeros ones four
  pointwise
  simp [Fin.sum_univ_succ]
theorem full_10 (c : FVec Ideal S4x2 .f32) (s : FVec Ideal S4 .f32) (b : Fin 4) : fullAt c s (ix3 b 1 0) = (0 : EReal) := by
  unfold fullAt fullMap pixelMap boxMap mat3 row3 cols3 col zeros ones four
  pointwise
  simp [Fin.sum_univ_succ]

theorem grid_at (c : FVec Ideal S4x2 .f32) (s : FVec Ideal S4 .f32) (b : Fin 4) (r r' q : Fin 256) : gridAt c s (ix4 b r q 0) = gridAt c s (ix4 b r' q 0) := by
  unfold gridAt gridOf flatAt moved products points
  generalize side (F := Ideal) = w
  pointwise
  simp only [full_01, zero_mul, Finset.sum_const_zero]
theorem grid_at' (c : FVec Ideal S4x2 .f32) (s : FVec Ideal S4 .f32) (b : Fin 4) (r q q' : Fin 256) : gridAt c s (ix4 b r q 1) = gridAt c s (ix4 b r q' 1) := by
  unfold gridAt gridOf flatAt moved products points
  generalize side (F := Ideal) = w
  pointwise
  simp only [full_10, zero_mul, Finset.sum_const_zero]

end Cert.Proof.Crop
-- ==== Proof.Picture.lean ====
/-
The reference's picture over the extended reals.
-/
module

public import proofs.«01_k».proof.Proof.Grid
public import proofs.«01_k».proof.Proof.Inside

@[expose] public section

noncomputable section

namespace Cert.Proof.Crop

open Cert.ReferenceIdeal Cert.ReferenceIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A word or a number at every point of the crop. -/
def all3 (bits : BitVec 32) : FVec Ideal S4x256x256 .f32 := broadcastInDim S4x256x256 ![] bcast_S_S4x256x256 (constant S_ .f32 bits)
def allW (w : BitVec 32) : IVec S4x256x256 32 := broadcastInDim S4x256x256 ![] bcast_S_S4x256x256 (constantI S_ 32 w)
/-- A coordinate moved into the image and made a word. -/
def clipped (x : FVec Ideal S4x256x256 .f32) : IVec S4x256x256 32 :=
  fptosi 32 (minimumf (broadcastInDim S4x256x256 ![] bcast_S_S4x256x256 (sitofp .f32 (constantI S_ 32 2047#32)))
    (maximumf (broadcastInDim S4x256x256 ![] bcast_S_S4x256x256 (sitofp .f32 (constantI S_ 32 0#32))) x))
/-- A word that counts from the end where it is negative. -/
def wrapped (w : IVec S4x256x256 32) : IVec S4x256x256 32 := select (cmpi .slt w (allW 0#32)) (addi w (allW 2048#32)) w
/-- The images' numbers. -/
def batch : IVec S4x1x1 32 := broadcastInDim S4x1x1 ![0] bcast_S4_S4x1x1_0 (iotaInDim S4 32 0)
def batchWrapped : IVec S4x256x256 32 := broadcastInDim S4x256x256 ![0, 1, 2] bcast_S4x1x1_S4x256x256_0_1_2
  (select (cmpi .slt batch (broadcastInDim S4x1x1 ![] bcast_S_S4x1x1 (constantI S_ 32 0#32)))
    (addi batch (broadcastInDim S4x1x1 ![] bcast_S_S4x1x1 (constantI S_ 32 4#32))) batch)
def last (w : IVec S4x256x256 32) : IVec S4x256x256x1 32 := broadcastInDim S4x256x256x1 ![0, 1, 2] bcast_S4x256x256_S4x256x256x1_0_1_2 w
/-- The three coordinates of each point's pixel. -/
def triples (yi xi : FVec Ideal S4x256x256 .f32) : IVec S4x256x256x3 32 :=
  concatenate S4x256x256x3 3 [⟨S4x256x256x1, last batchWrapped⟩, ⟨S4x256x256x1, last (wrapped (clipped yi))⟩, ⟨S4x256x256x1, last (wrapped (clipped xi))⟩]
    concatenates_S4x256x256x1_S4x256x256x1_S4x256x256x1_S4x256x256x3_d3
/-- Whether a pixel lies in the image. -/
def valid (xi yi : FVec Ideal S4x256x256 .f32) : IVec S4x256x256 1 :=
  andi (andi (andi (cmpf .oge xi (all3 0x00000000#32)) (cmpf .ole xi (all3 0x44FFE000#32))) (cmpf .oge yi (all3 0x00000000#32))) (cmpf .ole yi (all3 0x44FFE000#32))
/-- The same at every channel. -/
def chan {α : Type} (x : S4x256x256.Idx → α) : S4x256x256x3.Idx → α :=
  broadcastInDim S4x256x256x3 ![0, 1, 2, 3] bcast_S4x256x256x1_S4x256x256x3_0_1_2_3 (broadcastInDim S4x256x256x1 ![0, 1, 2] bcast_S4x256x256_S4x256x256x1_0_1_2 x)
/-- The image at the pixels, zero outside. -/
def pixels (img : FVec Ideal S4x3x2048x2048 .f32) (xi yi : FVec Ideal S4x256x256 .f32) : FVec Ideal S4x256x256x3 .f32 :=
  select (chan (valid xi yi)) (Host.gather gather_S4x3x2048x2048_S4x256x256x3_S4x256x256x3_3_023_n_n_023_3_1311 img (triples yi xi))
    (broadcastInDim S4x256x256x3 ![] bcast_S_S4x256x256x3 (id (constant S_ .f32 0x00000000#32)))

/-- How the reference reads the image. -/
abbrev GD := gather_S4x3x2048x2048_S4x256x256x3_S4x256x256x3_3_023_n_n_023_3_1311

/-- Where the reference finds the coordinate `c` of a point's pixel. -/
theorem gd_word (b : Fin 4) (r q : Fin 256) (k : Fin 3) (n : Fin GD.startIndexMap.length) (c : Fin 3) (h : n.val = c.val) :
    GD.siIdx (ix4 b r q k) n = ix4 b r q c := by
  funext a
  refine Fin.ext ?_
  match a with
  | ⟨0, _⟩ => rfl
  | ⟨1, _⟩ => rfl
  | ⟨2, _⟩ => rfl
  | ⟨3, _⟩ => exact h

/-- An axis of the image that the coordinates index. -/
theorem gd_start (t : IVec S4x256x256x3 32) (b : Fin 4) (r q : Fin 256) (k : Fin 3) (a : Fin 4) (ha : a ∈ GD.startIndexMap) (c : Fin 3)
    (hc : GD.startIndexMap.idxOf a = c.val) (hs : a ∉ GD.sKept) :
    (GD.operandIdx (ix4 b r q k) t a).val = min (t (ix4 b r q c)).toInt.toNat (S4x3x2048x2048.size a - GD.sliceSizes a) := by
  show GD.start (ix4 b r q k) t a + GD.batchCoord (ix4 b r q k) a + GD.offCoord (ix4 b r q k) a = _
  rw [GatherDims.batchCoord_eq_zero _ _ _ (List.not_mem_nil), GatherDims.offCoord_eq_zero _ _ _ hs]
  unfold GatherDims.start
  rw [dif_pos ha, gd_word b r q k _ c hc]
  rfl

/-- The reading at a point: the pixel of its three coordinates, each held inside the image. -/
theorem gather_at (img : FVec Ideal S4x3x2048x2048 .f32) (t : IVec S4x256x256x3 32) (b : Fin 4) (r q : Fin 256) (k : Fin 3) :
    Host.gather GD img t (ix4 b r q k)
      = img (ix4 ⟨min (t (ix4 b r q 0)).toInt.toNat 3, by omega⟩ k ⟨min (t (ix4 b r q 1)).toInt.toNat 2047, by omega⟩
          ⟨min (t (ix4 b r q 2)).toInt.toNat 2047, by omega⟩) := by
  unfold Host.gather
  congr 1
  funext a
  refine Fin.ext ?_
  match a with
  | ⟨0, _⟩ => exact gd_start t b r q k 0 (by decide) 0 (by decide) (by decide)
  | ⟨1, _⟩ =>
    show GD.start (ix4 b r q k) t 1 + GD.batchCoord (ix4 b r q k) 1 + GD.offCoord (ix4 b r q k) 1 = _
    rw [GatherDims.batchCoord_eq_zero _ _ _ (List.not_mem_nil)]
    unfold GatherDims.start GatherDims.offCoord
    rw [dif_neg (by decide), dif_pos (by decide)]
    simp only [Nat.zero_add]
    rfl
  | ⟨2, _⟩ => exact gd_start t b r q k 2 (by decide) 1 (by decide) (by decide)
  | ⟨3, _⟩ => exact gd_start t b r q k 3 (by decide) 2 (by decide) (by decide)

/-! ## The pixels at a point -/

/-- A natural number below 2048, read back from its word. -/
theorem small_toInt (n : ℕ) (h : n ≤ 2047) : (BitVec.ofNat 32 n).toInt = n := by
  rw [BitVec.toInt_eq_toNat_cond, BitVec.toNat_ofNat, Nat.mod_eq_of_lt (by omega), if_pos (by omega)]

/-- A natural number below 2048 as an extended real is its own word. -/
theorem word_nat (n : ℕ) (h : n ≤ 2047) : Ideal.fptosi 32 ((n : ℝ) : EReal) = BitVec.ofNat 32 n := by
  unfold Ideal.fptosi
  rw [Ideal.toIntClamped_coe, if_pos (by positivity), Int.floor_natCast]
  rw [show max (-(2 ^ (32 - 1) : Nat) : Int) (min ((2 ^ (32 - 1) : Nat) - 1) (n : Int)) = (n : Int) by omega]
  rfl

/-- A coordinate inside the image keeps its value. -/
theorem clipped_at (x : FVec Ideal S4x256x256 .f32) (j : S4x256x256.Idx) (n : ℕ) (h : n ≤ 2047) (e : x j = ((n : ℝ) : EReal)) :
    clipped x j = BitVec.ofNat 32 n := by
  have c0 : (FloatOps.sitofp .f32 0#32 : Ideal .f32) = ((0 : ℝ) : EReal) := by
    show (((0#32 : BitVec 32).toInt : ℝ) : EReal) = _
    norm_num
  have c1 : (FloatOps.sitofp .f32 2047#32 : Ideal .f32) = ((2047 : ℝ) : EReal) := by
    show (((2047#32 : BitVec 32).toInt : ℝ) : EReal) = _
    rw [show (2047#32 : BitVec 32).toInt = 2047 by decide]
    norm_num
  unfold clipped
  pointwise
  rw [c0, c1, e]
  have h0 : (n : ℝ) ≤ 2047 := by exact_mod_cast h
  have h1 : max ((0 : ℝ) : EReal) ((n : ℝ) : EReal) = ((n : ℝ) : EReal) := max_eq_right (EReal.coe_le_coe_iff.mpr (by positivity))
  have h2 : min ((2047 : ℝ) : EReal) ((n : ℝ) : EReal) = ((n : ℝ) : EReal) := min_eq_right (EReal.coe_le_coe_iff.mpr h0)
  exact (congrArg (Ideal.fptosi 32) ((congrArg (min ((2047 : ℝ) : EReal)) h1).trans h2)).trans (word_nat n h)

/-- A word that is not negative stays. -/
theorem wrapped_at (w : IVec S4x256x256 32) (j : S4x256x256.Idx) (n : ℕ) (h : n ≤ 2047) (e : w j = BitVec.ofNat 32 n) :
    wrapped w j = BitVec.ofNat 32 n := by
  have hc : IntOp.cmpi .slt (BitVec.ofNat 32 n) 0#32 = 0#1 := by
    show BitVec.ofBool ((BitVec.ofNat 32 n).slt 0#32) = _
    rw [BitVec.slt, small_toInt n h, decide_eq_false (by simp)]
    rfl
  unfold wrapped allW
  pointwise
  rw [e, hc]
  rfl

/-- An image's number. -/
theorem batch_at (b : Fin 4) (r q : Fin 256) : batchWrapped (ix3 b r q) = BitVec.ofNat 32 b.val := by
  unfold batchWrapped batch
  pointwise
  fin_cases b <;> rfl

/-- A pixel with both coordinates inside is in the image. -/
theorem valid_at (xi yi : FVec Ideal S4x256x256 .f32) (j : S4x256x256.Idx) (n l : ℕ) (hn : n ≤ 2047) (hl : l ≤ 2047)
    (ex : xi j = ((n : ℝ) : EReal)) (ey : yi j = ((l : ℝ) : EReal)) : valid xi yi j = 1#1 := by
  unfold valid all3
  pointwise
  rw [ex, ey]
  have hc : Ideal.ofBits .f32 1157619712#32 = ((2047 : ℝ) : EReal) := by
    simp [Ideal.ofBits, Ideal.ieee, -EReal.coe_mul]
    norm_num
  have z : ∀ m : ℕ, (0 : EReal) ≤ ((m : ℝ) : EReal) := fun m => EReal.coe_nonneg.mpr (by positivity)
  have t : ∀ m : ℕ, m ≤ 2047 → ((m : ℝ) : EReal) ≤ ((2047 : ℝ) : EReal) := fun m hm =>
    EReal.coe_le_coe_iff.mpr (by exact_mod_cast hm)
  rw [hc, decide_eq_true (z n), decide_eq_true (z l), decide_eq_true (t n hn), decide_eq_true (t l hl)]
  rfl

/-- The pixel at a point whose coordinates are the natural numbers `n` and `l`. -/
theorem pixels_at (img : FVec Ideal S4x3x2048x2048 .f32) (xi yi : FVec Ideal S4x256x256 .f32) (b : Fin 4) (r q : Fin 256) (k : Fin 3) (n l : Fin 2048)
    (ex : xi (ix3 b r q) = ((n.val : ℝ) : EReal)) (ey : yi (ix3 b r q) = ((l.val : ℝ) : EReal)) :
    pixels img xi yi (ix4 b r q k) = img (ix4 b k l n) := by
  have hv := valid_at xi yi (ix3 b r q) n.val l.val (by omega) (by omega) ex ey
  have hx := wrapped_at _ _ _ (by omega) (clipped_at xi (ix3 b r q) n.val (by omega) ex)
  have hy := wrapped_at _ _ _ (by omega) (clipped_at yi (ix3 b r q) l.val (by omega) ey)
  have hb := batch_at b r q
  unfold pixels
  have e : chan (valid xi yi) (ix4 b r q k) = 1#1 := by
    unfold chan; pointwise; exact hv
  have e0 : triples yi xi (ix4 b r q 0) = BitVec.ofNat 32 b.val := by
    unfold triples last; pointwise; exact hb
  have e1 : triples yi xi (ix4 b r q 1) = BitVec.ofNat 32 l.val := by
    unfold triples last; pointwise; exact hy
  have e2 : triples yi xi (ix4 b r q 2) = BitVec.ofNat 32 n.val := by
    unfold triples last; pointwise; exact hx
  show Scalar.select (chan (valid xi yi) (ix4 b r q k)) (Host.gather GD img (triples yi xi) (ix4 b r q k)) _ = _
  rw [e, gather_at]
  have w : ∀ m : ℕ, m ≤ 2047 → (BitVec.ofNat 32 m).toInt.toNat = m := by
    intro m hm
    rw [small_toInt m hm, Int.toNat_natCast]
  refine congrArg img (congr (congr (congrFun (congrArg ix4 ?_) k) ?_) ?_)
  · refine Fin.ext ?_
    show min (triples yi xi (ix4 b r q 0)).toInt.toNat 3 = _
    rw [e0, w _ (by omega)]
    omega
  · refine Fin.ext ?_
    show min (triples yi xi (ix4 b r q 1)).toInt.toNat 2047 = _
    rw [e1, w _ (by omega)]
    omega
  · refine Fin.ext ?_
    show min (triples yi xi (ix4 b r q 2)).toInt.toNat 2047 = _
    rw [e2, w _ (by omega)]
    omega

section
variable (V : Valuation Cert.ReferenceIdeal.τ Cert.ReferenceIdeal.sig (Elt Ideal))

/-- The reference's picture, term by term. -/
theorem ref_out : Value.res_main_v306 V
    = addf (addf (addf (mulf (chan (mulf (subf (Value.res_main_v123 V) (Value.res_main_v113 V)) (subf (Value.res_main_v125 V) (Value.res_main_v119 V)))) (pixels (refImg V) (Value.res_main_v120 V) (Value.res_main_v121 V)))
      (mulf (chan (mulf (subf (Value.res_main_v113 V) (Value.res_main_v120 V)) (subf (Value.res_main_v125 V) (Value.res_main_v119 V)))) (pixels (refImg V) (Value.res_main_v123 V) (Value.res_main_v121 V))))
      (mulf (chan (mulf (subf (Value.res_main_v123 V) (Value.res_main_v113 V)) (subf (Value.res_main_v119 V) (Value.res_main_v121 V)))) (pixels (refImg V) (Value.res_main_v120 V) (Value.res_main_v125 V))))
      (mulf (chan (mulf (subf (Value.res_main_v113 V) (Value.res_main_v120 V)) (subf (Value.res_main_v119 V) (Value.res_main_v121 V)))) (pixels (refImg V) (Value.res_main_v123 V) (Value.res_main_v125 V))) := rfl
end

end Cert.Proof.Crop
-- ==== Proof.Equal.lean ====
/-
The two programs' results are the same over the extended reals.
-/
module

public import proofs.«01_k».proof.Proof.Taps
public import proofs.«01_k».proof.Proof.Picture
public import proofs.«01_k».proof.Proof.Frames

@[expose] public section

noncomputable section

namespace Cert.Proof.Crop

open Cert.ReferenceIdeal Cert.ReferenceIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The weighted sum of four pixels, written twice -/

/-- The sum of four weighted pixels is the one that goes along the two rows and then down. -/
theorem weigh (x y : ℝ) (n l : ℤ) (a0 a1 b0 b1 : ℝ) :
    ((((n : ℝ) : EReal) + 1 - (x : EReal)) * (((l : ℝ) : EReal) + 1 - (y : EReal))) * (a0 : EReal)
      + (((x : EReal) - ((n : ℝ) : EReal)) * (((l : ℝ) : EReal) + 1 - (y : EReal))) * (a1 : EReal)
      + ((((n : ℝ) : EReal) + 1 - (x : EReal)) * ((y : EReal) - ((l : ℝ) : EReal))) * (b0 : EReal)
      + (((x : EReal) - ((n : ℝ) : EReal)) * ((y : EReal) - ((l : ℝ) : EReal))) * (b1 : EReal)
      = lerp4 (F := Ideal) ((y : EReal) - ((l : ℝ) : EReal)) ((x : EReal) - ((n : ℝ) : EReal)) (a0 : EReal) (a1 : EReal) (b0 : EReal) (b1 : EReal) := by
  simp only [lerp4, Ideal.addf_def, Ideal.subf_def, Ideal.mulf_def]
  rw [← EReal.coe_one]
  simp only [← EReal.coe_add, ← EReal.coe_sub, ← EReal.coe_mul]
  refine congrArg _ ?_
  ring

/-! ## The reference at a point -/

section
variable (V : Valuation Cert.ReferenceIdeal.τ Cert.ReferenceIdeal.sig (Elt Ideal)) (b : Fin 4) (k : Fin 3) (r q : Fin 256)

/-- The reference's coordinate across is the kernel's: it is the same in every row. -/
theorem ref_x : Value.res_main_v113 V (ix3 b r q) = xAt (refCen V) (refBox V) (ix2 b q) := by
  unfold Value.res_main_v113 xAt pixelX pixel wide
  rw [ref_grid]
  have e := grid_at (refCen V) (refBox V) b r 0 q
  generalize gridAt (refCen V) (refBox V) = g at e ⊢
  pointwise
  rw [e]

/-- The reference's coordinate down is the kernel's: it is the same in every column. -/
theorem ref_y : Value.res_main_v119 V (ix3 b r q) = yAt (refCen V) (refBox V) (ix2 b r) := by
  unfold Value.res_main_v119 yAt pixelY pixel wide
  rw [ref_grid]
  have e := grid_at' (refCen V) (refBox V) b r q 0
  generalize gridAt (refCen V) (refBox V) = g at e ⊢
  pointwise
  rw [e]

/-- The reference's crop where the taps are `n` and `l` and the coordinates `x` and `y`. -/
theorem ref_at (x y : ℝ) (n l : ℕ) (hn : n ≤ 2046) (hl : l ≤ 2046)
    (ex : xAt (refCen V) (refBox V) (ix2 b q) = (x : EReal)) (ey : yAt (refCen V) (refBox V) (ix2 b r) = (y : EReal))
    (fx : ⌊x⌋ = (n : ℤ)) (fy : ⌊y⌋ = (l : ℤ)) :
    transpose S4x3x256x256 [0, 3, 1, 2] (Value.res_main_v306 V) transposes_S4x256x256x3_S4x3x256x256_0_3_1_2 (ix4 b k r q)
      = ((((n : ℤ) : ℝ) : EReal) + 1 - (x : EReal)) * ((((l : ℤ) : ℝ) : EReal) + 1 - (y : EReal)) * refImg V (ix4 b k ⟨l, by omega⟩ ⟨n, by omega⟩)
      + ((x : EReal) - (((n : ℤ) : ℝ) : EReal)) * ((((l : ℤ) : ℝ) : EReal) + 1 - (y : EReal)) * refImg V (ix4 b k ⟨l, by omega⟩ ⟨n + 1, by omega⟩)
      + ((((n : ℤ) : ℝ) : EReal) + 1 - (x : EReal)) * ((y : EReal) - (((l : ℤ) : ℝ) : EReal)) * refImg V (ix4 b k ⟨l + 1, by omega⟩ ⟨n, by omega⟩)
      + ((x : EReal) - (((n : ℤ) : ℝ) : EReal)) * ((y : EReal) - (((l : ℤ) : ℝ) : EReal)) * refImg V (ix4 b k ⟨l + 1, by omega⟩ ⟨n + 1, by omega⟩) := by
  have e113 := (ref_x V b r q).trans ex
  have e119 := (ref_y V b r q).trans ey
  have e120 : Value.res_main_v120 V (ix3 b r q) = (((n : ℤ) : ℝ) : EReal) := by
    show Ideal.liftRound Int.floor (Value.res_main_v113 V (ix3 b r q)) = _
    rw [e113, Ideal.liftRound_coe, fx]
  have e121 : Value.res_main_v121 V (ix3 b r q) = (((l : ℤ) : ℝ) : EReal) := by
    show Ideal.liftRound Int.floor (Value.res_main_v119 V (ix3 b r q)) = _
    rw [e119, Ideal.liftRound_coe, fy]
  have e123 : Value.res_main_v123 V (ix3 b r q) = (((n : ℤ) : ℝ) : EReal) + 1 := by
    unfold Value.res_main_v123
    generalize Value.res_main_v120 V = w at e120 ⊢
    pointwise
    rw [e120]
  have e125 : Value.res_main_v125 V (ix3 b r q) = (((l : ℤ) : ℝ) : EReal) + 1 := by
    unfold Value.res_main_v125
    generalize Value.res_main_v121 V = w at e121 ⊢
    pointwise
    rw [e121]
  have s : ∀ z : ℕ, (((z : ℤ) : ℝ) : EReal) + 1 = (((z + 1 : ℕ) : ℝ) : EReal) := by
    intro z
    push_cast
    rfl
  have p00 := pixels_at (refImg V) (Value.res_main_v120 V) (Value.res_main_v121 V) b r q k ⟨n, by omega⟩ ⟨l, by omega⟩ (by rw [e120]; rfl) (by rw [e121]; rfl)
  have p01 := pixels_at (refImg V) (Value.res_main_v123 V) (Value.res_main_v121 V) b r q k ⟨n + 1, by omega⟩ ⟨l, by omega⟩ (by rw [e123, s]) (by rw [e121]; rfl)
  have p10 := pixels_at (refImg V) (Value.res_main_v120 V) (Value.res_main_v125 V) b r q k ⟨n, by omega⟩ ⟨l + 1, by omega⟩ (by rw [e120]; rfl) (by rw [e125, s])
  have p11 := pixels_at (refImg V) (Value.res_main_v123 V) (Value.res_main_v125 V) b r q k ⟨n + 1, by omega⟩ ⟨l + 1, by omega⟩ (by rw [e123, s]) (by rw [e125, s])
  rw [ref_out]
  generalize pixels (refImg V) (Value.res_main_v120 V) (Value.res_main_v121 V) = w00 at p00 ⊢
  generalize pixels (refImg V) (Value.res_main_v123 V) (Value.res_main_v121 V) = w01 at p01 ⊢
  generalize pixels (refImg V) (Value.res_main_v120 V) (Value.res_main_v125 V) = w10 at p10 ⊢
  generalize pixels (refImg V) (Value.res_main_v123 V) (Value.res_main_v125 V) = w11 at p11 ⊢
  generalize Value.res_main_v113 V = v113 at e113 ⊢
  generalize Value.res_main_v119 V = v119 at e119 ⊢
  generalize Value.res_main_v120 V = v120 at e120 ⊢
  generalize Value.res_main_v121 V = v121 at e121 ⊢
  generalize Value.res_main_v123 V = v123 at e123 ⊢
  generalize Value.res_main_v125 V = v125 at e125 ⊢
  unfold chan
  pointwise
  rw [e113, e119, e120, e121, e123, e125, p00, p01, p10, p11]
end

/-! ## The results -/

/-- A value whose absolute value is below infinity is a real number. -/
theorem real_of_abs (v : EReal) (f : BitVec.ofBool (decide (max v (-v) < ⊤)) = 1#1) : ∃ z : ℝ, v = (z : EReal) := by
  induction v with
  | bot => simp at f
  | top => simp at f
  | coe z => exact ⟨z, rfl⟩

/-- A finite float is a real number. -/
theorem finite_real (a : FVec Ideal S4x3x2048x2048 .f32) (c : FVec Ideal S4x2 .f32) (s : FVec Ideal S4 .f32)
    (h : Cert.Pre_finite_taps_inside.fn a c s = fun _ => 1#1) (i : S4x3x2048x2048.Idx) : ∃ z : ℝ, a i = (z : EReal) := by
  have e := (congrFun (finite_word a c s) ix0).symm.trans (congrFun h ix0)
  have f := allFinite_one _ _ _ a ix0 (IntOp.andi_eq_one.1 e).2 i
  have t : Ideal.ofBits .f32 0x7F800000#32 = ⊤ := by simp [Ideal.ofBits, Ideal.ieee]
  replace f : BitVec.ofBool (decide (max (a i) (-(a i)) < Ideal.ofBits .f32 0x7F800000#32)) = 1#1 := f
  rw [t] at f
  exact real_of_abs _ f

/-- The reference's crop is the kernel's. -/
theorem same_crop (V : Valuation Cert.ReferenceIdeal.τ Cert.ReferenceIdeal.sig (Elt Ideal))
    (h : Cert.Pre_finite_taps_inside.fn (refImg V) (refCen V) (refBox V) = fun _ => 1#1) :
    transpose S4x3x256x256 [0, 3, 1, 2] (Value.res_main_v306 V) transposes_S4x256x256x3_S4x3x256x256_0_3_1_2
      = shapeCast S4x3x256x256 (outVal (argOps (refImg V) (refCen V) (refBox V))) Cert.KernelIdeal.Gen.shapeCasts_S786432_S4x3x256x256 := by
  have hi := inside_of_finite _ _ _ h
  funext j
  idx_vars j
  rename' j0 => b, j1 => k, j2 => r, j3 => q
  have hx := col_tap (tap (xAt (refCen V) (refBox V))) b q (hi.block _) (hi.winLo _) (hi.winHi _)
  have h8 : (firstBlock (tap (xAt (refCen V) (refBox V))) (ix1 b)).toNat ≤ 8 := toNat_le (hi.block _) (firstBlock_le _ _)
  have hw : (inWindow (tap (xAt (refCen V) (refBox V))) (ix2 b q)).toNat ≤ 1022 := toNat_le (hi.winLo _) (hi.winHi _)
  have hx' : 0 ≤ (tap (xAt (refCen V) (refBox V)) (ix2 b q)).toInt ∧ (tap (xAt (refCen V) (refBox V)) (ix2 b q)).toInt ≤ 2046 := by
    rw [BitVec.toInt_eq_toNat_cond, if_pos (by omega)]
    omega
  obtain ⟨x, n, ex, hn, fx, tx⟩ := tap_real (xAt (refCen V) (refBox V) (ix2 b q)) hx'.1 hx'.2
  obtain ⟨y, l, ey, hl, fy, ty⟩ := tap_real (yAt (refCen V) (refBox V) (ix2 b r)) (hi.rowLo _) (hi.rowHi _)
  have px : part (xAt (refCen V) (refBox V)) (ix2 b q) = (x : EReal) - (((n : ℤ) : ℝ) : EReal) := by
    show xAt (refCen V) (refBox V) (ix2 b q) - Ideal.liftRound Int.floor (xAt (refCen V) (refBox V) (ix2 b q)) = _
    rw [ex, Ideal.liftRound_coe, fx]
  have py : part (yAt (refCen V) (refBox V)) (ix2 b r) = (y : EReal) - (((l : ℤ) : ℝ) : EReal) := by
    show yAt (refCen V) (refBox V) (ix2 b r) - Ideal.liftRound Int.floor (yAt (refCen V) (refBox V) (ix2 b r)) = _
    rw [ey, Ideal.liftRound_coe, fy]
  rw [ref_at V b k r q x y n l hn hl ex ey fx fy, crop_at _ _ _ b k r q hi l n hl hn ty tx, px, py]
  obtain ⟨a0, h0⟩ := finite_real _ _ _ h (ix4 b k ⟨l, by omega⟩ ⟨n, by omega⟩)
  obtain ⟨a1, h1⟩ := finite_real _ _ _ h (ix4 b k ⟨l, by omega⟩ ⟨n + 1, by omega⟩)
  obtain ⟨b0, h2⟩ := finite_real _ _ _ h (ix4 b k ⟨l + 1, by omega⟩ ⟨n, by omega⟩)
  obtain ⟨b1, h3⟩ := finite_real _ _ _ h (ix4 b k ⟨l + 1, by omega⟩ ⟨n + 1, by omega⟩)
  rw [h0, h1, h2, h3]
  exact weigh x y n l a0 a1 b0 b1

/-- Both programs end with the same four results. -/
theorem equal_results : Cert.algebraic_KernelIdeal_ReferenceIdeal_pre_finite_taps_inside := by
  intro m g m' g' h e
  have ec : ∀ d, refCen (StableHlo.launchContents m' d) = cen m d := fun d => (e d).2.1
  have es : ∀ d, refBox (StableHlo.launchContents m' d) = box m d := fun d => (e d).2.2
  have ea : ∀ d, refImg (StableHlo.launchContents m' d) = imgs m d := fun d => (e d).1
  refine ⟨_, _, _, _, (θ_run Cert.KernelIdeal.defs _ _).mono (fun _ z => z.1) (run_at (F := Ideal) m g fun d => inside_of_finite _ _ _ (h d)),
    (θ_run Cert.ReferenceIdeal.defs _ _).mono (fun r z d => ⟨?_, ?_, ?_, ?_, (z d).2.2.2.2⟩) (Cert.ReferenceIdeal.Value.run (F := Ideal) m' g')⟩
  · refine (z d).1.trans ((same_crop _ ?_).trans ?_)
    · rw [ec, es, ea]
      exact h d
    · rw [ec, es, ea]
  · refine (z d).2.1.trans ?_
    rw [ref_grid, ec, es]
  · rw [← ec, ← es]
    exact (z d).2.2.1
  · rw [← ec, ← es]
    exact (z d).2.2.2.1

end Cert.Proof.Crop
-- ==== Proof.lean ====
/-
  The certificate of the crop kernel: its claims, each from the module that proves it.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_taps_inside
public import proofs.«01_k».proof.Proof.Gen.Pre_finite_taps_inside
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Pre_taps_inside.Gen.facts, Cert.Pre_finite_taps_inside.Gen.facts,
    Crop.frame_kernel, Crop.frame_ideal, Crop.frame_ideal_finite, Crop.frame_reference, Crop.frame_reference_finite, trivial,
    Crop.equal_results⟩

end Cert.Proof

end
